-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def preserves_Kernel_KernelIdeal : Prop :=
  IdealRules.named_const.Statement Cert.KernelIdeal.κ "scale_log2e" .f32 0x3E38AA3B#32 (((8 * (Real.log 2))⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_v98) = v1 c
          ∧ r.2.mem ((c.tc : Thread Cert.ReferenceIdeal.nD Cert.ReferenceIdeal.τ).loc Cert.ReferenceIdeal.main_v95) = v2 c
          ∧ r.2.mem ((c.tc : Thread Cert.ReferenceIdeal.nD Cert.ReferenceIdeal.τ).loc Cert.ReferenceIdeal.main_v99) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)) (v2 : (c : Dev Cert.Kernel2Ideal.nD) → Buf (Elt Ideal) ((c.tc : Thread Cert.Kernel2Ideal.nD Cert.Kernel2Ideal.τ).loc Cert.Kernel2Ideal.main_v3_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_v3_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_v22) = v1 c
          ∧ r.2.mem ((c.tc : Thread Cert.Reference2Ideal.nD Cert.Reference2Ideal.τ).loc Cert.Reference2Ideal.main_v23) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v3_1)) (v1 : (c : Dev Cert.Kernel4Ideal.nD) → Buf (Elt Ideal) ((c.tc : Thread Cert.Kernel4Ideal.nD Cert.Kernel4Ideal.τ).loc Cert.Kernel4Ideal.main_v3_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_1) = v0 c
          ∧ r.2.mem ((c.tc : Thread Cert.Kernel4Ideal.nD Cert.Kernel4Ideal.τ).loc Cert.Kernel4Ideal.main_v3_2) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_v9) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)) →
    ∃ (v0 : (c : Dev Cert.Kernel5Ideal.nD) → Buf (Elt Ideal) ((c.tc : Thread Cert.Kernel5Ideal.nD Cert.Kernel5Ideal.τ).loc Cert.Kernel5Ideal.main_v18_1)) (v1 : (c : Dev Cert.Kernel5Ideal.nD) → Buf (Elt Ideal) ((c.tc : Thread Cert.Kernel5Ideal.nD Cert.Kernel5Ideal.τ).loc Cert.Kernel5Ideal.main_v18_2)) (v2 : (c : Dev Cert.Kernel5Ideal.nD) → Buf (Elt Ideal) ((c.tc : Thread Cert.Kernel5Ideal.nD Cert.Kernel5Ideal.τ).loc Cert.Kernel5Ideal.main_v18_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v18_1) = v0 c
          ∧ r.2.mem ((c.tc : Thread Cert.Kernel5Ideal.nD Cert.Kernel5Ideal.τ).loc Cert.Kernel5Ideal.main_v18_2) = v1 c
          ∧ r.2.mem ((c.tc : Thread Cert.Kernel5Ideal.nD Cert.Kernel5Ideal.τ).loc Cert.Kernel5Ideal.main_v18_3) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_v3) = v1 c
          ∧ r.2.mem ((c.tc : Thread Cert.Reference5Ideal.nD Cert.Reference5Ideal.τ).loc Cert.Reference5Ideal.main_v4) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite_scores.lean ====
abbrev S16x2048x4096 : Shape := ⟨3, ![16, 2048, 4096]⟩
abbrev S16x2048x512 : Shape := ⟨3, ![16, 2048, 512]⟩
abbrev S16x2048x2048 : Shape := ⟨3, ![16, 2048, 2048]⟩
abbrev S2048x9760 : Shape := ⟨2, ![2048, 9760]⟩
abbrev S32 : Shape := ⟨1, ![32]⟩
abbrev S2048 : Shape := ⟨1, ![2048]⟩
abbrev S_ : Shape := ⟨0, ![]⟩
abbrev S16x2048x256 : Shape := ⟨3, ![16, 2048, 256]⟩

class Facts : Prop where
  bitsLt_bf16_f32 : FTy.bits .bf16 < FTy.bits .f32
  slices_S16x2048x4096_S16x2048x2048_0_0_0 : S16x2048x4096.Slices ![0, 0, 0] S16x2048x2048
  bcast_S_S16x2048x2048 : S_.BroadcastsInDim S16x2048x2048 (![] : Fin 0 → Fin S16x2048x2048.rank)
  reducesTo_S16x2048x2048_S_d0_1_2 : S16x2048x2048.ReducesTo [0, 1, 2] S_
  h_S_ : 0 < S_.numel
  slices_S16x2048x512_S16x2048x256_0_0_0 : S16x2048x512.Slices ![0, 0, 0] S16x2048x256
  bcast_S_S16x2048x256 : S_.BroadcastsInDim S16x2048x256 (![] : Fin 0 → Fin S16x2048x256.rank)
  reducesTo_S16x2048x256_S_d0_1_2 : S16x2048x256.ReducesTo [0, 1, 2] S_
  bcast_S_S32 : S_.BroadcastsInDim S32 (![] : Fin 0 → Fin S32.rank)
  reducesTo_S32_S_d0 : S32.ReducesTo [0] S_
  slices_S16x2048x4096_S16x2048x2048_0_0_2048 : S16x2048x4096.Slices ![0, 0, 2048] S16x2048x2048

variable [Facts]

def fn_part1 {F : FTy → Type} [FloatOps F] (main_v15 : IVec S_ 1) (main_v16 : FVec F S16x2048x2048 .f32) (main_cst_4 : FVec F S_ .f32) : IVec S_ 1 :=
  let main_v17 : FVec F S16x2048x2048 .f32 := broadcastInDim S16x2048x2048 ![] bcast_S_S16x2048x2048 main_cst_4
  let main_v18 : IVec S16x2048x2048 1 := cmpf .ogt main_v16 main_v17
  let main_c_5 : IVec S_ 1 := constantI S_ 1 1#1
  let main_v19 : IVec S_ 1 := (fun x v => Host.reduce IntOp.andi x v reducesTo_S16x2048x2048_S_d0_1_2 h_S_) main_v18 main_c_5
  let main_v20 : IVec S_ 1 := andi main_v15 main_v19
  main_v20

def fn {F : FTy → Type} [FloatOps F] (main_arg0 : FVec F S16x2048x4096 .bf16) (main_arg1 : FVec F S16x2048x512 .f32) (main_arg2 : FVec F S16x2048x2048 .bf16) (main_arg3 : FVec F S2048x9760 .f32) (main_arg4 : FVec F S32 .f32) (main_arg5 : FVec F S2048 .f32) : IVec S_ 1 :=
  let main_v0 : FVec F S16x2048x4096 .f32 := (extf .f32 · bitsLt_bf16_f32) main_arg0
  let main_v1 : FVec F S16x2048x2048 .f32 := (extractStridedSlice S16x2048x2048 ![0, 0, 0] · slices_S16x2048x4096_S16x2048x2048_0_0_0) main_v0
  let main_v2 : FVec F S16x2048x2048 .f32 := Host.absf main_v1
  let main_cst : FVec F S_ .f32 := constant S_ .f32 0x7F800000#32
  let main_v3 : FVec F S16x2048x2048 .f32 := broadcastInDim S16x2048x2048 ![] bcast_S_S16x2048x2048 main_cst
  let main_v4 : IVec S16x2048x2048 1 := cmpf .olt main_v2 main_v3
  let main_c : IVec S_ 1 := constantI S_ 1 1#1
  let main_v5 : IVec S_ 1 := (fun x v => Host.reduce IntOp.andi x v reducesTo_S16x2048x2048_S_d0_1_2 h_S_) main_v4 main_c
  let main_v6 : FVec F S16x2048x256 .f32 := (extractStridedSlice S16x2048x256 ![0, 0, 0] · slices_S16x2048x512_S16x2048x256_0_0_0) main_arg1
  let main_v7 : FVec F S16x2048x256 .f32 := Host.absf main_v6
  let main_cst_0 : FVec F S_ .f32 := constant S_ .f32 0x7F800000#32
  let main_v8 : FVec F S16x2048x256 .f32 := broadcastInDim S16x2048x256 ![] bcast_S_S16x2048x256 main_cst_0
  let main_v9 : IVec S16x2048x256 1 := cmpf .olt main_v7 main_v8
  let main_c_1 : IVec S_ 1 := constantI S_ 1 1#1
  let main_v10 : IVec S_ 1 := (fun x v => Host.reduce IntOp.andi x v reducesTo_S16x2048x256_S_d0_1_2 h_S_) main_v9 main_c_1
  let main_v11 : IVec S_ 1 := andi main_v5 main_v10
  let main_cst_2 : FVec F S_ .f32 := constant S_ .f32 0x7F800000#32
  let main_v12 : FVec F S32 .f32 := broadcastInDim S32 ![] bcast_S_S32 main_cst_2
  let main_v13 : IVec S32 1 := cmpf .olt main_arg4 main_v12
  let main_c_3 : IVec S_ 1 := constantI S_ 1 1#1
  let main_v14 : IVec S_ 1 := (fun x v => Host.reduce IntOp.andi x v reducesTo_S32_S_d0 h_S_) main_v13 main_c_3
  let main_v15 : IVec S_ 1 := andi main_v11 main_v14
  let main_v16 : FVec F S16x2048x2048 .f32 := (extractStridedSlice S16x2048x2048 ![0, 0, 2048] · slices_S16x2048x4096_S16x2048x2048_0_0_2048) main_v0
  let main_cst_4 : FVec F S_ .f32 := constant S_ .f32 0xFF800000#32
  fn_part1 (F := F) main_v15 main_v16 main_cst_4
-- ==== Kernel.lean ====
abbrev S16x2048x4096 : Shape := ⟨3, ![16, 2048, 4096]⟩
abbrev S16x2048x512 : Shape := ⟨3, ![16, 2048, 512]⟩
abbrev S16x2048x2048 : Shape := ⟨3, ![16, 2048, 2048]⟩
abbrev S2048x9760 : Shape := ⟨2, ![2048, 9760]⟩
abbrev S32 : Shape := ⟨1, ![32]⟩
abbrev S2048 : Shape := ⟨1, ![2048]⟩
abbrev S2048x544 : Shape := ⟨2, ![2048, 544]⟩
abbrev S_ : Shape := ⟨0, ![]⟩
abbrev S2048x640 : Shape := ⟨2, ![2048, 640]⟩
abbrev S1x2048 : Shape := ⟨2, ![1, 2048]⟩
abbrev S16x2048x3072 : Shape := ⟨3, ![16, 2048, 3072]⟩
abbrev S16x2048x128 : Shape := ⟨3, ![16, 2048, 128]⟩
abbrev S1x256x2048 : Shape := ⟨3, ![1, 256, 2048]⟩
abbrev S1x128x256 : Shape := ⟨3, ![1, 128, 256]⟩
abbrev S1x256x256 : Shape := ⟨3, ![1, 256, 256]⟩
abbrev S2048x4608 : Shape := ⟨2, ![2048, 4608]⟩
abbrev S1x256x3072 : Shape := ⟨3, ![1, 256, 3072]⟩
abbrev S1x256x128 : Shape := ⟨3, ![1, 256, 128]⟩
abbrev S2x128x2048 : Shape := ⟨3, ![2, 128, 2048]⟩
abbrev S128x256 : Shape := ⟨2, ![128, 256]⟩
abbrev S256x2048 : Shape := ⟨2, ![256, 2048]⟩
abbrev S1x128x2048 : Shape := ⟨3, ![1, 128, 2048]⟩
abbrev S128x2048 : Shape := ⟨2, ![128, 2048]⟩
abbrev S256x256 : Shape := ⟨2, ![256, 256]⟩
abbrev S256x128 : Shape := ⟨2, ![256, 128]⟩
abbrev S512x128 : Shape := ⟨2, ![512, 128]⟩
abbrev S128x128 : Shape := ⟨2, ![128, 128]⟩
abbrev S512x512 : Shape := ⟨2, ![512, 512]⟩
abbrev S1 : Shape := ⟨1, ![1]⟩
abbrev S128 : Shape := ⟨1, ![128]⟩
abbrev S128x1 : Shape := ⟨2, ![128, 1]⟩
abbrev S128x512 : Shape := ⟨2, ![128, 512]⟩
abbrev S2048x256 : Shape := ⟨2, ![2048, 256]⟩
abbrev S2048x128 : Shape := ⟨2, ![2048, 128]⟩

abbrev nBuf : Space → Nat
  | .hbm => 16
  | .vmem => 26
  | .smem => 1
  | _ => 0

abbrev bufTy : (tb : Table) → Fin (tcTables nBuf tb) → BufTy
  | .hbm, ⟨0, _⟩ => ⟨S16x2048x4096, .bf16⟩
  | .hbm, ⟨1, _⟩ => ⟨S16x2048x512, .f32⟩
  | .hbm, ⟨2, _⟩ => ⟨S16x2048x2048, .bf16⟩
  | .hbm, ⟨3, _⟩ => ⟨S2048x9760, .f32⟩
  | .hbm, ⟨4, _⟩ => ⟨S32, .f32⟩
  | .hbm, ⟨5, _⟩ => ⟨S2048, .f32⟩
  | .hbm, ⟨6, _⟩ => ⟨S2048x9760, .bf16⟩
  | .hbm, ⟨7, _⟩ => ⟨S2048x544, .bf16⟩
  | .hbm, ⟨8, _⟩ => ⟨S_, .i32⟩
  | .hbm, ⟨9, _⟩ => ⟨S_, .bf16⟩
  | .hbm, ⟨10, _⟩ => ⟨S2048x640, .bf16⟩
  | .hbm, ⟨11, _⟩ => ⟨S1x2048, .f32⟩
  | .hbm, ⟨12, _⟩ => ⟨S16x2048x2048, .bf16⟩
  | .hbm, ⟨13, _⟩ => ⟨S16x2048x2048, .bf16⟩
  | .hbm, ⟨14, _⟩ => ⟨S16x2048x3072, .f32⟩
  | .hbm, ⟨15, _⟩ => ⟨S16x2048x128, .f32⟩
  | .local _ .vmem, ⟨0, _⟩ => ⟨S1x256x2048, .bf16⟩
  | .local _ .vmem, ⟨1, _⟩ => ⟨S1x256x2048, .bf16⟩
  | .local _ .vmem, ⟨2, _⟩ => ⟨S1x256x2048, .bf16⟩
  | .local _ .vmem, ⟨3, _⟩ => ⟨S1x256x2048, .bf16⟩
  | .local _ .vmem, ⟨4, _⟩ => ⟨S1x128x256, .f32⟩
  | .local _ .vmem, ⟨5, _⟩ => ⟨S1x128x256, .f32⟩
  | .local _ .vmem, ⟨6, _⟩ => ⟨S1x256x256, .f32⟩
  | .local _ .vmem, ⟨7, _⟩ => ⟨S1x256x256, .f32⟩
  | .local _ .vmem, ⟨8, _⟩ => ⟨S1x128x256, .f32⟩
  | .local _ .vmem, ⟨9, _⟩ => ⟨S1x128x256, .f32⟩
  | .local _ .vmem, ⟨10, _⟩ => ⟨S1x256x256, .f32⟩
  | .local _ .vmem, ⟨11, _⟩ => ⟨S1x256x256, .f32⟩
  | .local _ .vmem, ⟨12, _⟩ => ⟨S1x2048, .f32⟩
  | .local _ .vmem, ⟨13, _⟩ => ⟨S1x256x2048, .bf16⟩
  | .local _ .vmem, ⟨14, _⟩ => ⟨S1x256x2048, .bf16⟩
  | .local _ .vmem, ⟨15, _⟩ => ⟨S2048x4608, .bf16⟩
  | .local _ .vmem, ⟨16, _⟩ => ⟨S2048x640, .bf16⟩
  | .local _ .vmem, ⟨17, _⟩ => ⟨S1x256x2048, .bf16⟩
  | .local _ .vmem, ⟨18, _⟩ => ⟨S1x256x2048, .bf16⟩
  | .local _ .vmem, ⟨19, _⟩ => ⟨S1x256x2048, .bf16⟩
  | .local _ .vmem, ⟨20, _⟩ => ⟨S1x256x2048, .bf16⟩
  | .local _ .vmem, ⟨21, _⟩ => ⟨S1x256x3072, .f32⟩
  | .local _ .vmem, ⟨22, _⟩ => ⟨S1x256x3072, .f32⟩
  | .local _ .vmem, ⟨23, _⟩ => ⟨S1x256x128, .f32⟩
  | .local _ .vmem, ⟨24, _⟩ => ⟨S1x256x128, .f32⟩
  | .local _ .vmem, ⟨25, _⟩ => ⟨S2x128x2048, .f32⟩
  | .local _ .smem, ⟨0, _⟩ => ⟨S32, .f32⟩
  | _, _ => ⟨S16x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_scratch0 : Ref sig .tc := ⟨.vmem, 25, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨2, ![16, 8], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![arg0.toNat, v2.toNat, c1_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S2048x4608 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2048x640 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x3072 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== KernelIdeal.lean ====
variable {F : FTy → Type} [FloatOps F] [Named F]
def κ : String → Option EReal := fun
  | "log2e" => some (((Real.log 2)⁻¹ : ℝ) : EReal)
  | "scale_log2e" => some (((8 * (Real.log 2))⁻¹ : ℝ) : EReal)
  | _ => none
-- ==== ReferenceIdeal.lean ====
abbrev S16x2048x4096 : Shape := ⟨3, ![16, 2048, 4096]⟩
abbrev S16x2048x512 : Shape := ⟨3, ![16, 2048, 512]⟩
abbrev S16x2048x2048 : Shape := ⟨3, ![16, 2048, 2048]⟩
abbrev S2048x9760 : Shape := ⟨2, ![2048, 9760]⟩
abbrev S32 : Shape := ⟨1, ![32]⟩
abbrev S2048 : Shape := ⟨1, ![2048]⟩
abbrev S16x2048x256 : Shape := ⟨3, ![16, 2048, 256]⟩
abbrev S16x2048x4x64 : Shape := ⟨4, ![16, 2048, 4, 64]⟩
abbrev S16x16x128x4x8x64 : Shape := ⟨6, ![16, 16, 128, 4, 8, 64]⟩
abbrev S16x16x128x4x64 : Shape := ⟨5, ![16, 16, 128, 4, 64]⟩
abbrev S16x1x128x4x64 : Shape := ⟨5, ![16, 1, 128, 4, 64]⟩
abbrev S_ : Shape := ⟨0, ![]⟩
abbrev S16x15x128x4x64 : Shape := ⟨5, ![16, 15, 128, 4, 64]⟩
abbrev S16x16x256x4x64 : Shape := ⟨5, ![16, 16, 256, 4, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16 : Shape := ⟨1, ![16]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S16x1x1x128x256 : Shape := ⟨5, ![16, 1, 1, 128, 256]⟩
abbrev S16x16x4x256x128x8 : Shape := ⟨6, ![16, 16, 4, 256, 128, 8]⟩
abbrev S16x16x4x8x128x256 : Shape := ⟨6, ![16, 16, 4, 8, 128, 256]⟩
abbrev S4x8x1x1 : Shape := ⟨4, ![4, 8, 1, 1]⟩
abbrev S16x16x4x8x128 : Shape := ⟨5, ![16, 16, 4, 8, 128]⟩
abbrev S16x16x4x8x128x1 : Shape := ⟨6, ![16, 16, 4, 8, 128, 1]⟩
abbrev S1x1x4x8x1x1 : Shape := ⟨6, ![1, 1, 4, 8, 1, 1]⟩
abbrev S16x16x4x64x8x128 : Shape := ⟨6, ![16, 16, 4, 64, 8, 128]⟩
abbrev S16x2048 : Shape := ⟨2, ![16, 2048]⟩
abbrev S16x2048x1 : Shape := ⟨3, ![16, 2048, 1]⟩
abbrev S1x1x2048 : Shape := ⟨3, ![1, 1, 2048]⟩
abbrev S2048x5152 : Shape := ⟨2, ![2048, 5152]⟩
abbrev S16x2048x5152 : Shape := ⟨3, ![16, 2048, 5152]⟩
abbrev S16x2048x3072 : Shape := ⟨3, ![16, 2048, 3072]⟩
abbrev S16x2048x32 : Shape := ⟨3, ![16, 2048, 32]⟩
abbrev S16x2048x128 : Shape := ⟨3, ![16, 2048, 128]⟩

abbrev nBuf : Space → Nat
  | .hbm => 133
  | .vmem => 0
  | .smem => 0
  | _ => 0

abbrev hbmTy0_0 (i : Nat) : BufTy := match i % 128 with
  | 0 => ⟨S16x2048x4096, .bf16⟩
  | 1 => ⟨S16x2048x512, .f32⟩
  | 2 => ⟨S16x2048x2048, .bf16⟩
  | 3 => ⟨S2048x9760, .f32⟩
  | 4 => ⟨S32, .f32⟩
  | 5 => ⟨S2048, .f32⟩
  | 6 => ⟨S16x2048x4096, .f32⟩
  | 7 => ⟨S16x2048x2048, .f32⟩
  | 8 => ⟨S16x2048x2048, .f32⟩
  | 9 => ⟨S16x2048x256, .f32⟩
  | 10 => ⟨S16x2048x4x64, .f32⟩
  | 11 => ⟨S16x2048x256, .f32⟩
  | 12 => ⟨S16x2048x4x64, .f32⟩
  | 13 => ⟨S16x16x128x4x8x64, .f32⟩
  | 14 => ⟨S16x16x128x4x64, .f32⟩
  | 15 => ⟨S16x16x128x4x64, .f32⟩
  | 16 => ⟨S16x1x128x4x64, .f32⟩
  | 17 => ⟨S_, .f32⟩
  | 18 => ⟨S16x1x128x4x64, .f32⟩
  | 19 => ⟨S16x15x128x4x64, .f32⟩
  | 20 => ⟨S16x16x128x4x64, .f32⟩
  | 21 => ⟨S16x16x256x4x64, .f32⟩
  | 22 => ⟨S16x1x128x4x64, .f32⟩
  | 23 => ⟨S_, .f32⟩
  | 24 => ⟨S16x1x128x4x64, .f32⟩
  | 25 => ⟨S16x15x128x4x64, .f32⟩
  | 26 => ⟨S16x16x128x4x64, .f32⟩
  | 27 => ⟨S16x16x256x4x64, .f32⟩
  | 28 => ⟨S128, .i32⟩
  | 29 => ⟨S128x1, .i32⟩
  | 30 => ⟨S_, .i32⟩
  | 31 => ⟨S128x1, .i32⟩
  | 32 => ⟨S128x1, .i32⟩
  | 33 => ⟨S256, .i32⟩
  | 34 => ⟨S1x256, .i32⟩
  | 35 => ⟨S128x256, .i32⟩
  | 36 => ⟨S128x256, .i32⟩
  | 37 => ⟨S128x256, .i32⟩
  | 38 => ⟨S16, .i32⟩
  | 39 => ⟨S16x1x1, .i32⟩
  | 40 => ⟨S_, .i32⟩
  | 41 => ⟨S16x1x1, .i32⟩
  | 42 => ⟨S16x1x1, .i1⟩
  | 43 => ⟨S256, .i32⟩
  | 44 => ⟨S1x1x256, .i32⟩
  | 45 => ⟨S_, .i32⟩
  | 46 => ⟨S1x1x256, .i32⟩
  | 47 => ⟨S1x1x256, .i1⟩
  | 48 => ⟨S16x1x256, .i1⟩
  | 49 => ⟨S16x1x256, .i1⟩
  | 50 => ⟨S16x1x256, .i1⟩
  | 51 => ⟨S_, .i32⟩
  | 52 => ⟨S128x256, .i32⟩
  | 53 => ⟨S128x256, .i1⟩
  | 54 => ⟨S_, .i32⟩
  | 55 => ⟨S128x256, .i32⟩
  | 56 => ⟨S128x256, .i1⟩
  | 57 => ⟨S128x256, .i1⟩
  | 58 => ⟨S1x128x256, .i1⟩
  | 59 => ⟨S16x128x256, .i1⟩
  | 60 => ⟨S16x128x256, .i1⟩
  | 61 => ⟨S16x128x256, .i1⟩
  | 62 => ⟨S16x1x1x128x256, .i1⟩
  | 63 => ⟨S16x16x4x256x128x8, .f32⟩
  | 64 => ⟨S16x16x4x8x128x256, .f32⟩
  | 65 => ⟨S_, .f32⟩
  | 66 => ⟨S16x16x4x8x128x256, .f32⟩
  | 67 => ⟨S16x16x4x8x128x256, .f32⟩
  | 68 => ⟨S_, .f32⟩
  | 69 => ⟨S_, .f32⟩
  | 70 => ⟨S16x16x4x8x128x256, .i1⟩
  | 71 => ⟨S16x16x4x8x128x256, .f32⟩
  | 72 => ⟨S16x16x4x8x128x256, .f32⟩
  | 73 => ⟨S4x8x1x1, .f32⟩
  | 74 => ⟨S_, .f32⟩
  | 75 => ⟨S16x16x4x8x128, .f32⟩
  | 76 => ⟨S16x16x4x8x128x1, .f32⟩
  | 77 => ⟨S1x1x4x8x1x1, .f32⟩
  | 78 => ⟨S16x16x4x8x128x1, .f32⟩
  | 79 => ⟨S16x16x4x8x128x1, .f32⟩
  | 80 => ⟨S16x16x4x8x128x256, .f32⟩
  | 81 => ⟨S16x16x4x8x128x256, .f32⟩
  | 82 => ⟨S16x16x4x8x128x256, .f32⟩
  | 83 => ⟨S_, .f32⟩
  | 84 => ⟨S16x16x4x8x128, .f32⟩
  | 85 => ⟨S16x16x4x8x128x1, .f32⟩
  | 86 => ⟨S1x1x4x8x1x1, .f32⟩
  | 87 => ⟨S16x16x4x8x128x1, .f32⟩
  | 88 => ⟨S16x16x4x8x128x1, .f32⟩
  | 89 => ⟨S16x16x4x8x128x1, .f32⟩
  | 90 => ⟨S16x16x4x8x128x1, .f32⟩
  | 91 => ⟨S16x16x4x8x128x256, .f32⟩
  | 92 => ⟨S16x16x4x8x128x256, .f32⟩
  | 93 => ⟨S16x16x4x64x8x128, .f32⟩
  | 94 => ⟨S16x16x128x4x8x64, .f32⟩
  | 95 => ⟨S16x2048x2048, .f32⟩
  | 96 => ⟨S16x2048x2048, .f32⟩
  | 97 => ⟨S16x2048x2048, .f32⟩
  | 98 => ⟨S_, .f32⟩
  | 99 => ⟨S16x2048x2048, .f32⟩
  | 100 => ⟨S16x2048x2048, .f32⟩
  | 101 => ⟨S_, .f32⟩
  | 102 => ⟨S16x2048x2048, .f32⟩
  | 103 => ⟨S16x2048x2048, .f32⟩
  | 104 => ⟨S16x2048x2048, .f32⟩
  | 105 => ⟨S16x2048x2048, .f32⟩
  | 106 => ⟨S16x2048x2048, .f32⟩
  | 107 => ⟨S_, .f32⟩
  | 108 => ⟨S16x2048, .f32⟩
  | 109 => ⟨S16x2048x1, .f32⟩
  | 110 => ⟨S_, .f32⟩
  | 111 => ⟨S16x2048x1, .f32⟩
  | 112 => ⟨S16x2048x1, .f32⟩
  | 113 => ⟨S_, .f32⟩
  | 114 => ⟨S16x2048x1, .f32⟩
  | 115 => ⟨S16x2048x1, .f32⟩
  | 116 => ⟨S16x2048x1, .f32⟩
  | 117 => ⟨S16x2048x2048, .f32⟩
  | 118 => ⟨S16x2048x2048, .f32⟩
  | 119 => ⟨S1x1x2048, .f32⟩
  | 120 => ⟨S16x2048x2048, .f32⟩
  | 121 => ⟨S16x2048x2048, .f32⟩
  | 122 => ⟨S16x2048x2048, .f32⟩
  | 123 => ⟨S2048x5152, .f32⟩
  | 124 => ⟨S16x2048x5152, .f32⟩
  | 125 => ⟨S16x2048x2048, .f32⟩
  | 126 => ⟨S16x2048x3072, .f32⟩
  | 127 => ⟨S16x2048x32, .f32⟩
  | _ => ⟨S16x2048x4096, .bf16⟩

abbrev hbmTy0_1 (i : Nat) : BufTy := match i % 128 with
  | 0 => ⟨S16x2048x2048, .bf16⟩
  | 1 => ⟨S16x2048x2048, .bf16⟩
  | 2 => ⟨S_, .i32⟩
  | 3 => ⟨S_, .f32⟩
  | 4 => ⟨S16x2048x128, .f32⟩
  | _ => ⟨S16x2048x4096, .bf16⟩

abbrev hbmTy (i : Nat) : BufTy := match i / 128 with
  | 0 => hbmTy0_0 i
  | 1 => hbmTy0_1 i
  | _ => ⟨S16x2048x4096, .bf16⟩

abbrev bufTy : (tb : Table) → Fin (tcTables nBuf tb) → BufTy
  | .hbm, ⟨i, _⟩ => hbmTy i
  | _, _ => ⟨S16x2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_c_1 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c_2 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_c_3 : Ref sig .tc := ⟨.hbm, 51, rfl⟩
abbrev main_v40 : Ref sig .tc := ⟨.hbm, 52, rfl⟩
abbrev main_v41 : Ref sig .tc := ⟨.hbm, 53, rfl⟩
abbrev main_c_4 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_5 : Ref sig .tc := ⟨.hbm, 65, rfl⟩
abbrev main_v52 : Ref sig .tc := ⟨.hbm, 66, rfl⟩
abbrev main_v53 : Ref sig .tc := ⟨.hbm, 67, rfl⟩
abbrev main_cst_6 : Ref sig .tc := ⟨.hbm, 68, rfl⟩
abbrev main_call0_v0 : Ref sig .tc := ⟨.hbm, 69, rfl⟩
abbrev main_call0_v1 : Ref sig .tc := ⟨.hbm, 70, rfl⟩
abbrev main_call0_v2 : Ref sig .tc := ⟨.hbm, 71, rfl⟩
abbrev main_v54 : Ref sig .tc := ⟨.hbm, 72, rfl⟩
abbrev main_v55 : Ref sig .tc := ⟨.hbm, 73, rfl⟩
abbrev main_cst_7 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_8 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_call1_v0 : Ref sig .tc := ⟨.hbm, 96, rfl⟩
abbrev main_call1_v1 : Ref sig .tc := ⟨.hbm, 97, rfl⟩
abbrev main_call1_cst : Ref sig .tc := ⟨.hbm, 98, rfl⟩
abbrev main_call1_v2 : Ref sig .tc := ⟨.hbm, 99, rfl⟩
abbrev main_call1_v3 : Ref sig .tc := ⟨.hbm, 100, rfl⟩
abbrev main_call1_cst_0 : Ref sig .tc := ⟨.hbm, 101, rfl⟩
abbrev main_call1_v4 : Ref sig .tc := ⟨.hbm, 102, rfl⟩
abbrev main_call1_v5 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_9 : Ref sig .tc := ⟨.hbm, 107, rfl⟩
abbrev main_v79 : Ref sig .tc := ⟨.hbm, 108, rfl⟩
abbrev main_v80 : Ref sig .tc := ⟨.hbm, 109, rfl⟩
abbrev main_cst_10 : Ref sig .tc := ⟨.hbm, 110, rfl⟩
abbrev main_v81 : Ref sig .tc := ⟨.hbm, 111, rfl⟩
abbrev main_v82 : Ref sig .tc := ⟨.hbm, 112, rfl⟩
abbrev main_cst_11 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_c_12 : Ref sig .tc := ⟨.hbm, 130, rfl⟩
abbrev main_call2_v0 : Ref sig .tc := ⟨.hbm, 131, rfl⟩
abbrev main_v99 : Ref sig .tc := ⟨.hbm, 132, rfl⟩

abbrev nD : Nat := 1
abbrev τ : Topo := Topo.v7x

variable {F : FTy → Type} [FloatOps F]
-- ==== Kernel2.lean ====
abbrev S16x2048x2048 : Shape := ⟨3, ![16, 2048, 2048]⟩
abbrev S2048 : Shape := ⟨1, ![2048]⟩
abbrev S2048x9760 : Shape := ⟨2, ![2048, 9760]⟩
abbrev S32768x2048 : Shape := ⟨2, ![32768, 2048]⟩
abbrev S1x2048 : Shape := ⟨2, ![1, 2048]⟩
abbrev S32768x4096 : Shape := ⟨2, ![32768, 4096]⟩
abbrev S32768x512 : Shape := ⟨2, ![32768, 512]⟩
abbrev S512x2048 : Shape := ⟨2, ![512, 2048]⟩
abbrev S2048x4608 : Shape := ⟨2, ![2048, 4608]⟩
abbrev S512x4096 : Shape := ⟨2, ![512, 4096]⟩
abbrev S512x512 : Shape := ⟨2, ![512, 512]⟩
abbrev S2x512x2048 : Shape := ⟨3, ![2, 512, 2048]⟩
abbrev S128x2048 : Shape := ⟨2, ![128, 2048]⟩
abbrev S128 : Shape := ⟨1, ![128]⟩
abbrev S128x1 : Shape := ⟨2, ![128, 1]⟩
abbrev S1x128x2048 : Shape := ⟨3, ![1, 128, 2048]⟩
abbrev S1x512x2048 : Shape := ⟨3, ![1, 512, 2048]⟩
abbrev S2048x512 : Shape := ⟨2, ![2048, 512]⟩

abbrev nBuf : Space → Nat
  | .hbm => 9
  | .vmem => 13
  | .smem => 0
  | _ => 0

abbrev bufTy : (tb : Table) → Fin (tcTables nBuf tb) → BufTy
  | .hbm, ⟨0, _⟩ => ⟨S16x2048x2048, .f32⟩
  | .hbm, ⟨1, _⟩ => ⟨S2048, .f32⟩
  | .hbm, ⟨2, _⟩ => ⟨S2048x9760, .f32⟩
  | .hbm, ⟨3, _⟩ => ⟨S32768x2048, .f32⟩
  | .hbm, ⟨4, _⟩ => ⟨S1x2048, .f32⟩
  | .hbm, ⟨5, _⟩ => ⟨S2048x9760, .bf16⟩
  | .hbm, ⟨6, _⟩ => ⟨S32768x2048, .bf16⟩
  | .hbm, ⟨7, _⟩ => ⟨S32768x4096, .bf16⟩
  | .hbm, ⟨8, _⟩ => ⟨S32768x512, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S2048x4608, .bf16⟩
  | .local _ .vmem, ⟨6, _⟩ => ⟨S512x2048, .bf16⟩
  | .local _ .vmem, ⟨7, _⟩ => ⟨S512x2048, .bf16⟩
  | .local _ .vmem, ⟨8, _⟩ => ⟨S512x4096, .bf16⟩
  | .local _ .vmem, ⟨9, _⟩ => ⟨S512x4096, .bf16⟩
  | .local _ .vmem, ⟨10, _⟩ => ⟨S512x512, .f32⟩
  | .local _ .vmem, ⟨11, _⟩ => ⟨S512x512, .f32⟩
  | .local _ .vmem, ⟨12, _⟩ => ⟨S2x512x2048, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def k0_off1 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v13 : Index := Scalar.indexCast v9
  let c0 : Index := 0#32
  let c0_5 : Index := 0#32
  ![v13.toNat, 0, 0]
def k0_off2 (i : grid0.Coords) : Fin 3 → Nat :=
  let c1_i32_8 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v17 : BitVec 32 := Scalar.subi c1_i32_8 v9
  let v53 : Index := Scalar.indexCast v17
  let c0_31 : Index := 0#32
  let c0_32 : Index := 0#32
  ![v53.toNat, 0, 0]
def k0_off3 (i : grid0.Coords) : Fin 3 → Nat :=
  let c1_i32_9 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v18 : BitVec 32 := Scalar.subi c1_i32_9 v9
  let v83 : Index := Scalar.indexCast v18
  let c128_47 : Index := 128#32
  let c0_48 : Index := 0#32
  ![v83.toNat, 128, 0]
def k0_off4 (i : grid0.Coords) : Fin 3 → Nat :=
  let c1_i32_10 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v19 : BitVec 32 := Scalar.subi c1_i32_10 v9
  let v114 : Index := Scalar.indexCast v19
  let c256_63 : Index := 256#32
  let c0_64 : Index := 0#32
  ![v114.toNat, 256, 0]
def k0_off5 (i : grid0.Coords) : Fin 3 → Nat :=
  let c1_i32_11 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v20 : BitVec 32 := Scalar.subi c1_i32_11 v9
  let v145 : Index := Scalar.indexCast v20
  let c384_79 : Index := 384#32
  let c0_80 : Index := 0#32
  ![v145.toNat, 384, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c63_i32 : BitVec 32 := 63#32
  let v1 : BitVec 32 := Scalar.minsi v0 c63_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x4608 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S16x2048x2048 : Shape := ⟨3, ![16, 2048, 2048]⟩
abbrev S2048 : Shape := ⟨1, ![2048]⟩
abbrev S2048x9760 : Shape := ⟨2, ![2048, 9760]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩
abbrev S2048x4608 : Shape := ⟨2, ![2048, 4608]⟩
abbrev S16x2048x4608 : Shape := ⟨3, ![16, 2048, 4608]⟩
abbrev S16x2048x512 : Shape := ⟨3, ![16, 2048, 512]⟩
abbrev S16x2048x4096 : Shape := ⟨3, ![16, 2048, 4096]⟩
abbrev S32768x2048 : Shape := ⟨2, ![32768, 2048]⟩
abbrev S32768x4096 : Shape := ⟨2, ![32768, 4096]⟩
abbrev S32768x512 : Shape := ⟨2, ![32768, 512]⟩

abbrev nBuf : Space → Nat
  | .hbm => 30
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S2048, .f32⟩
  | .hbm, ⟨2, _⟩ => ⟨S2048x9760, .f32⟩
  | .hbm, ⟨3, _⟩ => ⟨S16x2048x2048, .f32⟩
  | .hbm, ⟨4, _⟩ => ⟨S_, .f32⟩
  | .hbm, ⟨5, _⟩ => ⟨S16x2048, .f32⟩
  | .hbm, ⟨6, _⟩ => ⟨S16x2048x1, .f32⟩
  | .hbm, ⟨7, _⟩ => ⟨S_, .f32⟩
  | .hbm, ⟨8, _⟩ => ⟨S16x2048x1, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S16x2048x1, .f32⟩
  | .hbm, ⟨14, _⟩ => ⟨S16x2048x2048, .f32⟩
  | .hbm, ⟨15, _⟩ => ⟨S16x2048x2048, .f32⟩
  | .hbm, ⟨16, _⟩ => ⟨S1x1x2048, .f32⟩
  | .hbm, ⟨17, _⟩ => ⟨S16x2048x2048, .f32⟩
  | .hbm, ⟨18, _⟩ => ⟨S16x2048x2048, .f32⟩
  | .hbm, ⟨19, _⟩ => ⟨S2048x4608, .f32⟩
  | .hbm, ⟨20, _⟩ => ⟨S16x2048x4608, .f32⟩
  | .hbm, ⟨21, _⟩ => ⟨S16x2048x2048, .f32⟩
  | .hbm, ⟨22, _⟩ => ⟨S16x2048x512, .f32⟩
  | .hbm, ⟨23, _⟩ => ⟨S16x2048x2048, .f32⟩
  | .hbm, ⟨24, _⟩ => ⟨S16x2048x4096, .f32⟩
  | .hbm, ⟨25, _⟩ => ⟨S32768x2048, .f32⟩
  | .hbm, ⟨26, _⟩ => ⟨S32768x2048, .bf16⟩
  | .hbm, ⟨27, _⟩ => ⟨S32768x4096, .f32⟩
  | .hbm, ⟨28, _⟩ => ⟨S32768x4096, .bf16⟩
  | .hbm, ⟨29, _⟩ => ⟨S32768x512, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== Kernel3.lean ====
abbrev S128x8x2048 : Shape := ⟨3, ![128, 8, 2048]⟩
abbrev S4096x2048 : Shape := ⟨2, ![4096, 2048]⟩
abbrev S2048 : Shape := ⟨1, ![2048]⟩
abbrev S1024x2048 : Shape := ⟨2, ![1024, 2048]⟩
abbrev S1x2048 : Shape := ⟨2, ![1, 2048]⟩
abbrev S512x2048 : Shape := ⟨2, ![512, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 11
  | .vmem => 11
  | .smem => 0
  | _ => 0

abbrev bufTy : (tb : Table) → Fin (tcTables nBuf tb) → BufTy
  | .hbm, ⟨0, _⟩ => ⟨S128x8x2048, .f32⟩
  | .hbm, ⟨1, _⟩ => ⟨S128x8x2048, .f32⟩
  | .hbm, ⟨2, _⟩ => ⟨S128x8x2048, .f32⟩
  | .hbm, ⟨3, _⟩ => ⟨S4096x2048, .f32⟩
  | .hbm, ⟨4, _⟩ => ⟨S2048, .f32⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S4096x2048, .bf16⟩
  | .hbm, ⟨9, _⟩ => ⟨S1x2048, .f32⟩
  | .hbm, ⟨10, _⟩ => ⟨S1024x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S2048x2048, .bf16⟩
  | .local _ .vmem, ⟨7, _⟩ => ⟨S2048x2048, .bf16⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | _, _ => ⟨S128x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S128x8x2048 : Shape := ⟨3, ![128, 8, 2048]⟩
abbrev S4096x2048 : Shape := ⟨2, ![4096, 2048]⟩
abbrev S2048 : Shape := ⟨1, ![2048]⟩
abbrev S128x8x4096 : Shape := ⟨3, ![128, 8, 4096]⟩
abbrev S_ : Shape := ⟨0, ![]⟩
abbrev S128x8 : Shape := ⟨2, ![128, 8]⟩
abbrev S128x8x1 : Shape := ⟨3, ![128, 8, 1]⟩
abbrev S1x1x2048 : Shape := ⟨3, ![1, 1, 2048]⟩
abbrev S1024x2048 : Shape := ⟨2, ![1024, 2048]⟩

abbrev nBuf : Space → Nat
  | .hbm => 25
  | .vmem => 0
  | .smem => 0
  | _ => 0

abbrev bufTy : (tb : Table) → Fin (tcTables nBuf tb) → BufTy
  | .hbm, ⟨0, _⟩ => ⟨S128x8x2048, .f32⟩
  | .hbm, ⟨1, _⟩ => ⟨S128x8x2048, .f32⟩
  | .hbm, ⟨2, _⟩ => ⟨S128x8x2048, .f32⟩
  | .hbm, ⟨3, _⟩ => ⟨S4096x2048, .f32⟩
  | .hbm, ⟨4, _⟩ => ⟨S2048, .f32⟩
  | .hbm, ⟨5, _⟩ => ⟨S128x8x4096, .f32⟩
  | .hbm, ⟨6, _⟩ => ⟨S128x8x2048, .f32⟩
  | .hbm, ⟨7, _⟩ => ⟨S128x8x2048, .f32⟩
  | .hbm, ⟨8, _⟩ => ⟨S_, .f32⟩
  | .hbm, ⟨9, _⟩ => ⟨S128x8, .f32⟩
  | .hbm, ⟨10, _⟩ => ⟨S128x8x1, .f32⟩
  | .hbm, ⟨11, _⟩ => ⟨S_, .f32⟩
  | .hbm, ⟨12, _⟩ => ⟨S128x8x1, .f32⟩
  | .hbm, ⟨13, _⟩ => ⟨S128x8x1, .f32⟩
  | .hbm, ⟨14, _⟩ => ⟨S_, .f32⟩
  | .hbm, ⟨15, _⟩ => ⟨S128x8x1, .f32⟩
  | .hbm, ⟨16, _⟩ => ⟨S128x8x1, .f32⟩
  | .hbm, ⟨17, _⟩ => ⟨S128x8x1, .f32⟩
  | .hbm, ⟨18, _⟩ => ⟨S128x8x2048, .f32⟩
  | .hbm, ⟨19, _⟩ => ⟨S128x8x2048, .f32⟩
  | .hbm, ⟨20, _⟩ => ⟨S1x1x2048, .f32⟩
  | .hbm, ⟨21, _⟩ => ⟨S128x8x2048, .f32⟩
  | .hbm, ⟨22, _⟩ => ⟨S128x8x2048, .f32⟩
  | .hbm, ⟨23, _⟩ => ⟨S128x8x2048, .f32⟩
  | .hbm, ⟨24, _⟩ => ⟨S1024x2048, .f32⟩
  | _, _ => ⟨S128x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Kernel4.lean ====
abbrev S128x8x4096 : Shape := ⟨3, ![128, 8, 4096]⟩
abbrev S128x8x512 : Shape := ⟨3, ![128, 8, 512]⟩
abbrev S128x128x4x64 : Shape := ⟨4, ![128, 128, 4, 64]⟩
abbrev S32 : Shape := ⟨1, ![32]⟩
abbrev S2048 : Shape := ⟨1, ![2048]⟩
abbrev S128x128x256 : Shape := ⟨3, ![128, 128, 256]⟩
abbrev S1x2048 : Shape := ⟨2, ![1, 2048]⟩
abbrev S128x8x2048 : Shape := ⟨3, ![128, 8, 2048]⟩
abbrev S16x8x2048 : Shape := ⟨3, ![16, 8, 2048]⟩
abbrev S16x8x256 : Shape := ⟨3, ![16, 8, 256]⟩
abbrev S16x128x256 : Shape := ⟨3, ![16, 128, 256]⟩
abbrev S16x16x2048 : Shape := ⟨3, ![16, 16, 2048]⟩
abbrev S16x256 : Shape := ⟨2, ![16, 256]⟩
abbrev S120x256 : Shape := ⟨2, ![120, 256]⟩
abbrev S8x2048 : Shape := ⟨2, ![8, 2048]⟩
abbrev S1x128x256 : Shape := ⟨3, ![1, 128, 256]⟩
abbrev S128x256 : Shape := ⟨2, ![128, 256]⟩
abbrev S1x8x256 : Shape := ⟨3, ![1, 8, 256]⟩
abbrev S8x256 : Shape := ⟨2, ![8, 256]⟩
abbrev S256x256 : Shape := ⟨2, ![256, 256]⟩
abbrev S1x8x2048 : Shape := ⟨3, ![1, 8, 2048]⟩
abbrev S16x2048 : Shape := ⟨2, ![16, 2048]⟩
abbrev S256x128 : Shape := ⟨2, ![256, 128]⟩
abbrev S512x128 : Shape := ⟨2, ![512, 128]⟩
abbrev S16x128 : Shape := ⟨2, ![16, 128]⟩
abbrev S64x128 : Shape := ⟨2, ![64, 128]⟩
abbrev S64x512 : Shape := ⟨2, ![64, 512]⟩
abbrev S1 : Shape := ⟨1, ![1]⟩
abbrev S16 : Shape := ⟨1, ![16]⟩
abbrev S16x1 : Shape := ⟨2, ![16, 1]⟩
abbrev S16x512 : Shape := ⟨2, ![16, 512]⟩
abbrev S1x16x2048 : Shape := ⟨3, ![1, 16, 2048]⟩
abbrev S8 : Shape := ⟨1, ![8]⟩
abbrev S8x1 : Shape := ⟨2, ![8, 1]⟩

abbrev nBuf : Space → Nat
  | .hbm => 12
  | .vmem => 20
  | .smem => 1
  | _ => 0

abbrev bufTy : (tb : Table) → Fin (tcTables nBuf tb) → BufTy
  | .hbm, ⟨0, _⟩ => ⟨S128x8x4096, .f32⟩
  | .hbm, ⟨1, _⟩ => ⟨S128x8x512, .f32⟩
  | .hbm, ⟨2, _⟩ => ⟨S128x128x4x64, .f32⟩
  | .hbm, ⟨3, _⟩ => ⟨S128x128x4x64, .f32⟩
  | .hbm, ⟨4, _⟩ => ⟨S32, .f32⟩
  | .hbm, ⟨5, _⟩ => ⟨S2048, .f32⟩
  | .hbm, ⟨6, _⟩ => ⟨S128x128x256, .f32⟩
  | .hbm, ⟨7, _⟩ => ⟨S128x128x256, .f32⟩
  | .hbm, ⟨8, _⟩ => ⟨S1x2048, .f32⟩
  | .hbm, ⟨9, _⟩ => ⟨S128x8x2048, .f32⟩
  | .hbm, ⟨10, _⟩ => ⟨S128x128x256, .f32⟩
  | .hbm, ⟨11, _⟩ => ⟨S128x128x256, .f32⟩
  | .local _ .vmem, ⟨0, _⟩ => ⟨S16x8x2048, .f32⟩
  | .local _ .vmem, ⟨1, _⟩ => ⟨S16x8x2048, .f32⟩
  | .local _ .vmem, ⟨2, _⟩ => ⟨S16x8x2048, .f32⟩
  | .local _ .vmem, ⟨3, _⟩ => ⟨S16x8x2048, .f32⟩
  | .local _ .vmem, ⟨4, _⟩ => ⟨S16x8x256, .f32⟩
  | .local _ .vmem, ⟨5, _⟩ => ⟨S16x8x256, .f32⟩
  | .local _ .vmem, ⟨6, _⟩ => ⟨S16x8x256, .f32⟩
  | .local _ .vmem, ⟨7, _⟩ => ⟨S16x8x256, .f32⟩
  | .local _ .vmem, ⟨8, _⟩ => ⟨S16x128x256, .f32⟩
  | .local _ .vmem, ⟨9, _⟩ => ⟨S16x128x256, .f32⟩
  | .local _ .vmem, ⟨10, _⟩ => ⟨S16x128x256, .f32⟩
  | .local _ .vmem, ⟨11, _⟩ => ⟨S16x128x256, .f32⟩
  | .local _ .vmem, ⟨12, _⟩ => ⟨S1x2048, .f32⟩
  | .local _ .vmem, ⟨13, _⟩ => ⟨S16x8x2048, .f32⟩
  | .local _ .vmem, ⟨14, _⟩ => ⟨S16x8x2048, .f32⟩
  | .local _ .vmem, ⟨15, _⟩ => ⟨S16x128x256, .f32⟩
  | .local _ .vmem, ⟨16, _⟩ => ⟨S16x128x256, .f32⟩
  | .local _ .vmem, ⟨17, _⟩ => ⟨S16x128x256, .f32⟩
  | .local _ .vmem, ⟨18, _⟩ => ⟨S16x128x256, .f32⟩
  | .local _ .vmem, ⟨19, _⟩ => ⟨S16x16x2048, .f32⟩
  | .local _ .smem, ⟨0, _⟩ => ⟨S32, .f32⟩
  | _, _ => ⟨S128x8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![arg0.toNat, c0_i32.toNat, c1_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S16x8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S16x8x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference4Ideal.lean ====
abbrev S128x8x4096 : Shape := ⟨3, ![128, 8, 4096]⟩
abbrev S128x8x512 : Shape := ⟨3, ![128, 8, 512]⟩
abbrev S128x128x4x64 : Shape := ⟨4, ![128, 128, 4, 64]⟩
abbrev S32 : Shape := ⟨1, ![32]⟩
abbrev S2048 : Shape := ⟨1, ![2048]⟩
abbrev S128x8x256 : Shape := ⟨3, ![128, 8, 256]⟩
abbrev S128x8x4x64 : Shape := ⟨4, ![128, 8, 4, 64]⟩
abbrev S128x136x4x64 : Shape := ⟨4, ![128, 136, 4, 64]⟩
abbrev S128x128x256 : Shape := ⟨3, ![128, 128, 256]⟩

abbrev nBuf : Space → Nat
  | .hbm => 16
  | .vmem => 0
  | .smem => 0
  | _ => 0

abbrev bufTy : (tb : Table) → Fin (tcTables nBuf tb) → BufTy
  | .hbm, ⟨0, _⟩ => ⟨S128x8x4096, .f32⟩
  | .hbm, ⟨1, _⟩ => ⟨S128x8x512, .f32⟩
  | .hbm, ⟨2, _⟩ => ⟨S128x128x4x64, .f32⟩
  | .hbm, ⟨3, _⟩ => ⟨S128x128x4x64, .f32⟩
  | .hbm, ⟨4, _⟩ => ⟨S32, .f32⟩
  | .hbm, ⟨5, _⟩ => ⟨S2048, .f32⟩
  | .hbm, ⟨6, _⟩ => ⟨S128x8x256, .f32⟩
  | .hbm, ⟨7, _⟩ => ⟨S128x8x4x64, .f32⟩
  | .hbm, ⟨8, _⟩ => ⟨S128x8x256, .f32⟩
  | .hbm, ⟨9, _⟩ => ⟨S128x8x4x64, .f32⟩
  | .hbm, ⟨10, _⟩ => ⟨S128x136x4x64, .f32⟩
  | .hbm, ⟨11, _⟩ => ⟨S128x136x4x64, .f32⟩
  | .hbm, ⟨12, _⟩ => ⟨S128x128x4x64, .f32⟩
  | .hbm, ⟨13, _⟩ => ⟨S128x128x256, .f32⟩
  | .hbm, ⟨14, _⟩ => ⟨S128x128x4x64, .f32⟩
  | .hbm, ⟨15, _⟩ => ⟨S128x128x256, .f32⟩
  | _, _ => ⟨S128x8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Kernel5.lean ====
abbrev S128x8x2048 : Shape := ⟨3, ![128, 8, 2048]⟩
abbrev S128x8x3072 : Shape := ⟨3, ![128, 8, 3072]⟩
abbrev S128x8x128 : Shape := ⟨3, ![128, 8, 128]⟩
abbrev S128x3x3072 : Shape := ⟨3, ![128, 3, 3072]⟩
abbrev S128x32x64x128 : Shape := ⟨4, ![128, 32, 64, 128]⟩
abbrev S4x3072 : Shape := ⟨2, ![4, 3072]⟩
abbrev S3072 : Shape := ⟨1, ![3072]⟩
abbrev S32 : Shape := ⟨1, ![32]⟩
abbrev S2048 : Shape := ⟨1, ![2048]⟩
abbrev S4x2048 : Shape := ⟨2, ![4, 2048]⟩
abbrev S4x512 : Shape := ⟨2, ![4, 512]⟩
abbrev S1x2048 : Shape := ⟨2, ![1, 2048]⟩
abbrev S512 : Shape := ⟨1, ![512]⟩
abbrev S1x512 : Shape := ⟨2, ![1, 512]⟩
abbrev S_ : Shape := ⟨0, ![]⟩
abbrev S128 : Shape := ⟨1, ![128]⟩
abbrev S1x128 : Shape := ⟨2, ![1, 128]⟩
abbrev S32x1 : Shape := ⟨2, ![32, 1]⟩
abbrev S32x64 : Shape := ⟨2, ![32, 64]⟩
abbrev S128x2048x128 : Shape := ⟨3, ![128, 2048, 128]⟩
abbrev S128x3x2048 : Shape := ⟨3, ![128, 3, 2048]⟩
abbrev S128x3x512 : Shape := ⟨3, ![128, 3, 512]⟩
abbrev S8x8x2048 : Shape := ⟨3, ![8, 8, 2048]⟩
abbrev S8x8x512 : Shape := ⟨3, ![8, 8, 512]⟩
abbrev S8x8x128 : Shape := ⟨3, ![8, 8, 128]⟩
abbrev S8x3x2048 : Shape := ⟨3, ![8, 3, 2048]⟩
abbrev S8x3x512 : Shape := ⟨3, ![8, 3, 512]⟩
abbrev S8x2048x128 : Shape := ⟨3, ![8, 2048, 128]⟩
abbrev S8x16x2048 : Shape := ⟨3, ![8, 16, 2048]⟩
abbrev S8x16x512 : Shape := ⟨3, ![8, 16, 512]⟩
abbrev S128x2048 : Shape := ⟨2, ![128, 2048]⟩
abbrev S128x512 : Shape := ⟨2, ![128, 512]⟩
abbrev S2048x128 : Shape := ⟨2, ![2048, 128]⟩
abbrev S64x2048 : Shape := ⟨2, ![64, 2048]⟩
abbrev S64x512 : Shape := ⟨2, ![64, 512]⟩
abbrev S64x128 : Shape := ⟨2, ![64, 128]⟩
abbrev S128x128 : Shape := ⟨2, ![128, 128]⟩
abbrev S128x1 : Shape := ⟨2, ![128, 1]⟩
abbrev S128x256 : Shape := ⟨2, ![128, 256]⟩
abbrev S256x128 : Shape := ⟨2, ![256, 128]⟩
abbrev S1x512x128 : Shape := ⟨3, ![1, 512, 128]⟩
abbrev S512x128 : Shape := ⟨2, ![512, 128]⟩
abbrev S16x128 : Shape := ⟨2, ![16, 128]⟩
abbrev S16x512 : Shape := ⟨2, ![16, 512]⟩
abbrev S8x512 : Shape := ⟨2, ![8, 512]⟩
abbrev S512x1 : Shape := ⟨2, ![512, 1]⟩
abbrev S64 : Shape := ⟨1, ![64]⟩
abbrev S64x1 : Shape := ⟨2, ![64, 1]⟩

abbrev nBuf : Space → Nat
  | .hbm => 38
  | .vmem => 46
  | .smem => 0
  | _ => 0

abbrev bufTy : (tb : Table) → Fin (tcTables nBuf tb) → BufTy
  | .hbm, ⟨0, _⟩ => ⟨S128x8x2048, .f32⟩
  | .hbm, ⟨1, _⟩ => ⟨S128x8x3072, .f32⟩
  | .hbm, ⟨2, _⟩ => ⟨S128x8x128, .f32⟩
  | .hbm, ⟨3, _⟩ => ⟨S128x3x3072, .f32⟩
  | .hbm, ⟨4, _⟩ => ⟨S128x32x64x128, .f32⟩
  | .hbm, ⟨5, _⟩ => ⟨S4x3072, .f32⟩
  | .hbm, ⟨6, _⟩ => ⟨S3072, .f32⟩
  | .hbm, ⟨7, _⟩ => ⟨S32, .f32⟩
  | .hbm, ⟨8, _⟩ => ⟨S32, .f32⟩
  | .hbm, ⟨9, _⟩ => ⟨S32, .f32⟩
  | .hbm, ⟨10, _⟩ => ⟨S2048, .f32⟩
  | .hbm, ⟨11, _⟩ => ⟨S4x2048, .f32⟩
  | .hbm, ⟨12, _⟩ => ⟨S4x512, .f32⟩
  | .hbm, ⟨13, _⟩ => ⟨S4x512, .f32⟩
  | .hbm, ⟨14, _⟩ => ⟨S2048, .f32⟩
  | .hbm, ⟨15, _⟩ => ⟨S1x2048, .f32⟩
  | .hbm, ⟨16, _⟩ => ⟨S512, .f32⟩
  | .hbm, ⟨17, _⟩ => ⟨S1x512, .f32⟩
  | .hbm, ⟨18, _⟩ => ⟨S512, .f32⟩
  | .hbm, ⟨19, _⟩ => ⟨S1x512, .f32⟩
  | .hbm, ⟨20, _⟩ => ⟨S_, .i32⟩
  | .hbm, ⟨21, _⟩ => ⟨S_, .f32⟩
  | .hbm, ⟨22, _⟩ => ⟨S128, .f32⟩
  | .hbm, ⟨23, _⟩ => ⟨S1x128, .f32⟩
  | .hbm, ⟨24, _⟩ => ⟨S_, .i32⟩
  | .hbm, ⟨25, _⟩ => ⟨S_, .f32⟩
  | .hbm, ⟨26, _⟩ => ⟨S128, .f32⟩
  | .hbm, ⟨27, _⟩ => ⟨S1x128, .f32⟩
  | .hbm, ⟨28, _⟩ => ⟨S32x1, .f32⟩
  | .hbm, ⟨29, _⟩ => ⟨S32x64, .f32⟩
  | .hbm, ⟨30, _⟩ => ⟨S1x2048, .f32⟩
  | .hbm, ⟨31, _⟩ => ⟨S1x2048, .f32⟩
  | .hbm, ⟨32, _⟩ => ⟨S128x2048x128, .f32⟩
  | .hbm, ⟨33, _⟩ => ⟨S128x8x2048, .f32⟩
  | .hbm, ⟨34, _⟩ => ⟨S128x3x2048, .f32⟩
  | .hbm, ⟨35, _⟩ => ⟨S128x3x512, .f32⟩
  | .hbm, ⟨36, _⟩ => ⟨S128x3x512, .f32⟩
  | .hbm, ⟨37, _⟩ => ⟨S128x2048x128, .f32⟩
  | .local _ .vmem, ⟨0, _⟩ => ⟨S8x8x2048, .f32⟩
  | .local _ .vmem, ⟨1, _⟩ => ⟨S8x8x2048, .f32⟩
  | .local _ .vmem, ⟨2, _⟩ => ⟨S8x8x2048, .f32⟩
  | .local _ .vmem, ⟨3, _⟩ => ⟨S8x8x2048, .f32⟩
  | .local _ .vmem, ⟨4, _⟩ => ⟨S8x8x512, .f32⟩
  | .local _ .vmem, ⟨5, _⟩ => ⟨S8x8x512, .f32⟩
  | .local _ .vmem, ⟨6, _⟩ => ⟨S8x8x512, .f32⟩
  | .local _ .vmem, ⟨7, _⟩ => ⟨S8x8x512, .f32⟩
  | .local _ .vmem, ⟨8, _⟩ => ⟨S8x8x128, .f32⟩
  | .local _ .vmem, ⟨9, _⟩ => ⟨S8x8x128, .f32⟩
  | .local _ .vmem, ⟨10, _⟩ => ⟨S8x3x2048, .f32⟩
  | .local _ .vmem, ⟨11, _⟩ => ⟨S8x3x2048, .f32⟩
  | .local _ .vmem, ⟨12, _⟩ => ⟨S8x3x512, .f32⟩
  | .local _ .vmem, ⟨13, _⟩ => ⟨S8x3x512, .f32⟩
  | .local _ .vmem, ⟨14, _⟩ => ⟨S8x3x512, .f32⟩
  | .local _ .vmem, ⟨15, _⟩ => ⟨S8x3x512, .f32⟩
  | .local _ .vmem, ⟨16, _⟩ => ⟨S8x2048x128, .f32⟩
  | .local _ .vmem, ⟨17, _⟩ => ⟨S8x2048x128, .f32⟩
  | .local _ .vmem, ⟨18, _⟩ => ⟨S4x2048, .f32⟩
  | .local _ .vmem, ⟨19, _⟩ => ⟨S4x512, .f32⟩
  | .local _ .vmem, ⟨20, _⟩ => ⟨S4x512, .f32⟩
  | .local _ .vmem, ⟨21, _⟩ => ⟨S1x2048, .f32⟩
  | .local _ .vmem, ⟨22, _⟩ => ⟨S1x512, .f32⟩
  | .local _ .vmem, ⟨23, _⟩ => ⟨S1x512, .f32⟩
  | .local _ .vmem, ⟨24, _⟩ => ⟨S1x128, .f32⟩
  | .local _ .vmem, ⟨25, _⟩ => ⟨S1x128, .f32⟩
  | .local _ .vmem, ⟨26, _⟩ => ⟨S1x2048, .f32⟩
  | .local _ .vmem, ⟨27, _⟩ => ⟨S1x2048, .f32⟩
  | .local _ .vmem, ⟨28, _⟩ => ⟨S8x8x2048, .f32⟩
  | .local _ .vmem, ⟨29, _⟩ => ⟨S8x8x2048, .f32⟩
  | .local _ .vmem, ⟨30, _⟩ => ⟨S8x3x2048, .f32⟩
  | .local _ .vmem, ⟨31, _⟩ => ⟨S8x3x2048, .f32⟩
  | .local _ .vmem, ⟨32, _⟩ => ⟨S8x3x512, .f32⟩
  | .local _ .vmem, ⟨33, _⟩ => ⟨S8x3x512, .f32⟩
  | .local _ .vmem, ⟨34, _⟩ => ⟨S8x3x512, .f32⟩
  | .local _ .vmem, ⟨35, _⟩ => ⟨S8x3x512, .f32⟩
  | .local _ .vmem, ⟨36, _⟩ => ⟨S8x2048x128, .f32⟩
  | .local _ .vmem, ⟨37, _⟩ => ⟨S8x2048x128, .f32⟩
  | .local _ .vmem, ⟨38, _⟩ => ⟨S8x16x2048, .f32⟩
  | .local _ .vmem, ⟨39, _⟩ => ⟨S8x16x512, .f32⟩
  | .local _ .vmem, ⟨40, _⟩ => ⟨S8x16x512, .f32⟩
  | .local _ .vmem, ⟨41, _⟩ => ⟨S128x2048, .f32⟩
  | .local _ .vmem, ⟨42, _⟩ => ⟨S128x512, .f32⟩
  | .local _ .vmem, ⟨43, _⟩ => ⟨S128x2048, .f32⟩
  | .local _ .vmem, ⟨44, _⟩ => ⟨S2048x128, .f32⟩
  | .local _ .vmem, ⟨45, _⟩ => ⟨S2048x128, .bf16⟩
  | _, _ => ⟨S128x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_call0_v0 : Ref sig .tc := ⟨.hbm, 21, rfl⟩
abbrev main_v9 : Ref sig .tc := ⟨.hbm, 22, rfl⟩
abbrev main_v10 : Ref sig .tc := ⟨.hbm, 23, rfl⟩
abbrev main_c_0 : Ref sig .tc := ⟨.hbm, 24, rfl⟩
abbrev main_call1_v0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18_0 : Ref sig .tc := ⟨.hbm, 33, rfl⟩
abbrev main_v18_1 : Ref sig .tc := ⟨.hbm, 34, rfl⟩
abbrev main_v18_2 : Ref sig .tc := ⟨.hbm, 35, rfl⟩
abbrev main_v18_3 : Ref sig .tc := ⟨.hbm, 36, rfl⟩
abbrev main_v18_4 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_stg21_0 : Ref sig .tc := ⟨.vmem, 32, rfl⟩
abbrev cc0_stg21_1 : Ref sig .tc := ⟨.vmem, 33, rfl⟩
abbrev cc0_stg22_0 : Ref sig .tc := ⟨.vmem, 34, rfl⟩
abbrev cc0_stg22_1 : Ref sig .tc := ⟨.vmem, 35, rfl⟩
abbrev cc0_stg23_0 : Ref sig .tc := ⟨.vmem, 36, rfl⟩
abbrev cc0_stg23_1 : Ref sig .tc := ⟨.vmem, 37, rfl⟩
abbrev cc0_scratch0 : Ref sig .tc := ⟨.vmem, 38, rfl⟩
abbrev cc0_scratch1 : Ref sig .tc := ⟨.vmem, 39, rfl⟩
abbrev cc0_scratch2 : Ref sig .tc := ⟨.vmem, 40, rfl⟩
abbrev cc0_scratch3 : Ref sig .tc := ⟨.vmem, 41, rfl⟩
abbrev cc0_scratch4 : Ref sig .tc := ⟨.vmem, 42, rfl⟩
abbrev cc0_scratch5 : Ref sig .tc := ⟨.vmem, 43, rfl⟩
abbrev cc0_scratch6 : Ref sig .tc := ⟨.vmem, 44, rfl⟩
abbrev cc0_scratch7 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem19_0 : DmaSem sig := 28
abbrev cc0_sem19_1 : DmaSem sig := 29
abbrev cc0_sem20_0 : DmaSem sig := 30
abbrev cc0_sem20_1 : DmaSem sig := 31
abbrev cc0_sem21_0 : DmaSem sig := 32
abbrev cc0_sem21_1 : DmaSem sig := 33
abbrev cc0_sem22_0 : DmaSem sig := 34
abbrev cc0_sem22_1 : DmaSem sig := 35
abbrev cc0_sem23_0 : DmaSem sig := 36
abbrev cc0_sem23_1 : DmaSem sig := 37

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c4_i32 : BitVec 32 := 4#32
  let c0_i32_0 : BitVec 32 := 0#32
  ![arg0.toNat, c0_i32.toNat, c4_i32.toNat]

def cc0_transform_3 (i : grid0.Coords) : Fin 3 → Nat :=
  let arg0 : BitVec 32 := BitVec.ofNat 32 (i 0).val
  let c0_i32 : BitVec 32 := 0#32
  let c5_i32 : BitVec 32 := 5#32
  let c0_i32_0 : BitVec 32 := 0#32
  ![arg0.toNat, c0_i32.toNat, c5_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c4_i32 : BitVec 32 := 4#32
  let c0_i32_0 : BitVec 32 := 0#32
  ![arg0.toNat, c0_i32.toNat, c4_i32.toNat]

def cc0_transform_7 (i : grid0.Coords) : Fin 3 → Nat :=
  let arg0 : BitVec 32 := BitVec.ofNat 32 (i 0).val
  let c0_i32 : BitVec 32 := 0#32
  let c5_i32 : BitVec 32 := 5#32
  let c0_i32_0 : BitVec 32 := 0#32
  ![arg0.toNat, c0_i32.toNat, c5_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x3x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x3x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x3x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S4x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x2048 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x2048 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S8x8x2048 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S8x3x2048 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S8x3x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S8x3x512 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S8x2048x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== Reference5Ideal.lean ====
abbrev S128x8x2048 : Shape := ⟨3, ![128, 8, 2048]⟩
abbrev S128x8x3072 : Shape := ⟨3, ![128, 8, 3072]⟩
abbrev S128x8x128 : Shape := ⟨3, ![128, 8, 128]⟩
abbrev S128x3x3072 : Shape := ⟨3, ![128, 3, 3072]⟩
abbrev S128x32x64x128 : Shape := ⟨4, ![128, 32, 64, 128]⟩
abbrev S4x3072 : Shape := ⟨2, ![4, 3072]⟩
abbrev S3072 : Shape := ⟨1, ![3072]⟩
abbrev S32 : Shape := ⟨1, ![32]⟩
abbrev S2048 : Shape := ⟨1, ![2048]⟩
abbrev S128x11x3072 : Shape := ⟨3, ![128, 11, 3072]⟩
abbrev S128x3x2048 : Shape := ⟨3, ![128, 3, 2048]⟩
abbrev S128x3x512 : Shape := ⟨3, ![128, 3, 512]⟩

abbrev nBuf : Space → Nat
  | .hbm => 16
  | .vmem => 0
  | .smem => 0
  | _ => 0

abbrev bufTy : (tb : Table) → Fin (tcTables nBuf tb) → BufTy
  | .hbm, ⟨0, _⟩ => ⟨S128x8x2048, .f32⟩
  | .hbm, ⟨1, _⟩ => ⟨S128x8x3072, .f32⟩
  | .hbm, ⟨2, _⟩ => ⟨S128x8x128, .f32⟩
  | .hbm, ⟨3, _⟩ => ⟨S128x3x3072, .f32⟩
  | .hbm, ⟨4, _⟩ => ⟨S128x32x64x128, .f32⟩
  | .hbm, ⟨5, _⟩ => ⟨S4x3072, .f32⟩
  | .hbm, ⟨6, _⟩ => ⟨S3072, .f32⟩
  | .hbm, ⟨7, _⟩ => ⟨S32, .f32⟩
  | .hbm, ⟨8, _⟩ => ⟨S32, .f32⟩
  | .hbm, ⟨9, _⟩ => ⟨S32, .f32⟩
  | .hbm, ⟨10, _⟩ => ⟨S2048, .f32⟩
  | .hbm, ⟨11, _⟩ => ⟨S128x11x3072, .f32⟩
  | .hbm, ⟨12, _⟩ => ⟨S128x3x3072, .f32⟩
  | .hbm, ⟨13, _⟩ => ⟨S128x3x2048, .f32⟩
  | .hbm, ⟨14, _⟩ => ⟨S128x3x512, .f32⟩
  | .hbm, ⟨15, _⟩ => ⟨S128x3x512, .f32⟩
  | _, _ => ⟨S128x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Proof.Ref.lean ====
/- The reference's values, stage by stage. -/
module

public import proofs.«01_k».proof.Proof.Gen.ReferenceIdeal.Run
public import Idealize.ShloMosaic.Lib.Pointwise
public import Idealize.ShloMosaic.Lib.Pipeline.ValueKit
public import Idealize.ShloMosaic.Lib.Tactic.CleanTypes
public import Idealize.ShloMosaic.Lib.Tactic.IndexArith

@[expose] public section

set_option maxRecDepth 16384

noncomputable section

namespace Cert.ReferenceIdeal.Attend

open Cert.ReferenceIdeal Cert.ReferenceIdeal.Gen Idealize.ShloMosaic Idealize.ShloMosaic.Tactic

/-- A token's keys or values split into blocks of rows and heads. -/
def blocked (a : FVec Ideal S16x2048x256 .f32) : FVec Ideal S16x16x128x4x64 .f32 :=
  shapeCast _ (shapeCast _ a shapeCasts_S16x2048x256_S16x2048x4x64) shapeCasts_S16x2048x4x64_S16x16x128x4x64

/-- Each block behind the one before it, the first behind zeros. -/
def window (a : FVec Ideal S16x2048x256 .f32) : FVec Ideal S16x16x256x4x64 .f32 :=
  concatenate S16x16x256x4x64 2 [⟨S16x16x128x4x64, concatenate S16x16x128x4x64 1 [⟨S16x1x128x4x64, broadcastInDim S16x1x128x4x64 ![] bcast_S_S16x1x128x4x64 (constant S_ .f32 0x00000000#32)⟩,
      ⟨S16x15x128x4x64, extractStridedSlice S16x15x128x4x64 ![0, 0, 0, 0, 0] (blocked a) slices_S16x16x128x4x64_S16x15x128x4x64_0_0_0_0_0⟩] concatenates_S16x1x128x4x64_S16x15x128x4x64_S16x16x128x4x64_d1⟩,
    ⟨S16x16x128x4x64, blocked a⟩] concatenates_S16x16x128x4x64_S16x16x128x4x64_S16x16x256x4x64_d2

def distance : IVec S128x256 32 :=
  subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32))))
    (broadcastInDim S128x256 ![0, 1] bcast_S1x256_S128x256_0_1 (broadcastInDim S1x256 ![1] bcast_S256_S1x256_1 (iotaInDim S256 32 0)))

def band : IVec S16x1x1x128x256 1 :=
  broadcastInDim S16x1x1x128x256 ![0, 3, 4] bcast_S16x128x256_S16x1x1x128x256_0_3_4
    (andi (broadcastInDim S16x128x256 ![0, 1, 2] bcast_S1x128x256_S16x128x256_0_1_2 (broadcastInDim S1x128x256 ![1, 2] bcast_S128x256_S1x128x256_1_2
        (andi (cmpi .sge distance (broadcastInDim S128x256 ![] bcast_S_S128x256 (constantI S_ 32 0#32))) (cmpi .slt distance (broadcastInDim S128x256 ![] bcast_S_S128x256 (constantI S_ 32 128#32))))))
      (broadcastInDim S16x128x256 ![0, 1, 2] bcast_S16x1x256_S16x128x256_0_1_2
        (ori (broadcastInDim S16x1x256 ![0, 1, 2] bcast_S16x1x1_S16x1x256_0_1_2 (cmpi .sgt (broadcastInDim S16x1x1 ![0] bcast_S16_S16x1x1_0 (iotaInDim S16 32 0)) (broadcastInDim S16x1x1 ![] bcast_S_S16x1x1 (constantI S_ 32 0#32))))
          (broadcastInDim S16x1x256 ![0, 1, 2] bcast_S1x1x256_S16x1x256_0_1_2 (cmpi .sge (broadcastInDim S1x1x256 ![2] bcast_S256_S1x1x256_2 (iotaInDim S256 32 0)) (broadcastInDim S1x1x256 ![] bcast_S_S1x1x256 (constantI S_ 32 128#32)))))))

def scores (k : FVec Ideal S16x16x256x4x64 .f32) (q : FVec Ideal S16x16x128x4x8x64 .f32) : FVec Ideal S16x16x4x8x128x256 .f32 :=
  select (broadcastInDim S16x16x4x8x128x256 ![1, 2, 3, 4, 5] bcast_S16x1x1x128x256_S16x16x4x8x128x256_1_2_3_4_5 band)
    (mulf (transpose S16x16x4x8x128x256 [0, 1, 2, 5, 4, 3] (Host.dotGeneral dot_S16x16x256x4x64_S16x16x128x4x8x64_S16x16x4x256x128x8_4_5_2_24_013_013 none k q) transposes_S16x16x4x256x128x8_S16x16x4x8x128x256_0_1_2_5_4_3)
      (broadcastInDim S16x16x4x8x128x256 ![] bcast_S_S16x16x4x8x128x256 (constant S_ .f32 0x3E000000#32)))
    (broadcastInDim S16x16x4x8x128x256 ![] bcast_S_S16x16x4x8x128x256 (constant S_ .f32 0xFF800000#32))

def sinks (x : FVec Ideal S32 .f32) : FVec Ideal S16x16x4x8x128x1 .f32 :=
  broadcastInDim S16x16x4x8x128x1 ![0, 1, 2, 3, 4, 5] bcast_S1x1x4x8x1x1_S16x16x4x8x128x1_0_1_2_3_4_5 (broadcastInDim S1x1x4x8x1x1 ![2, 3, 4, 5] bcast_S4x8x1x1_S1x1x4x8x1x1_2_3_4_5 (shapeCast _ x shapeCasts_S32_S4x8x1x1))

def rowMax (s : FVec Ideal S16x16x4x8x128x256 .f32) : FVec Ideal S16x16x4x8x128 .f32 :=
  Host.reduce FloatOps.maximumf s (constant S_ .f32 0xFF800000#32) reducesTo_S16x16x4x8x128x256_S16x16x4x8x128_d5 h_S_

def rowSum (p : FVec Ideal S16x16x4x8x128x256 .f32) : FVec Ideal S16x16x4x8x128 .f32 :=
  Host.reduceAdd p (constant S_ .f32 0x00000000#32) reducesTo_S16x16x4x8x128x256_S16x16x4x8x128_d5 h_S_

def top (s : FVec Ideal S16x16x4x8x128x256 .f32) (x : FVec Ideal S16x16x4x8x128x1 .f32) : FVec Ideal S16x16x4x8x128x1 .f32 :=
  maximumf (broadcastInDim S16x16x4x8x128x1 ![0, 1, 2, 3, 4] bcast_S16x16x4x8x128_S16x16x4x8x128x1_0_1_2_3_4 (rowMax s)) x

def weights (s : FVec Ideal S16x16x4x8x128x256 .f32) (t : FVec Ideal S16x16x4x8x128x1 .f32) : FVec Ideal S16x16x4x8x128x256 .f32 :=
  Host.exp (subf s (broadcastInDim S16x16x4x8x128x256 ![0, 1, 2, 3, 4, 5] bcast_S16x16x4x8x128x1_S16x16x4x8x128x256_0_1_2_3_4_5 t))

def shares (p : FVec Ideal S16x16x4x8x128x256 .f32) (t x : FVec Ideal S16x16x4x8x128x1 .f32) : FVec Ideal S16x16x4x8x128x256 .f32 :=
  Host.divf p (broadcastInDim S16x16x4x8x128x256 ![0, 1, 2, 3, 4, 5] bcast_S16x16x4x8x128x1_S16x16x4x8x128x256_0_1_2_3_4_5
    (addf (broadcastInDim S16x16x4x8x128x1 ![0, 1, 2, 3, 4] bcast_S16x16x4x8x128_S16x16x4x8x128x1_0_1_2_3_4 (rowSum p))
      (Host.exp (subf x t))))

def attended (v : FVec Ideal S16x16x256x4x64 .f32) (p : FVec Ideal S16x16x4x8x128x256 .f32) : FVec Ideal S16x2048x2048 .f32 :=
  shapeCast _ (transpose S16x16x128x4x8x64 [0, 1, 5, 2, 4, 3] (Host.dotGeneral dot_S16x16x256x4x64_S16x16x4x8x128x256_S16x16x4x64x8x128_2_5_4_34_013_012 none v p) transposes_S16x16x4x64x8x128_S16x16x128x4x8x64_0_1_5_2_4_3)
    shapeCasts_S16x16x128x4x8x64_S16x2048x2048

def gatedBy (o g : FVec Ideal S16x2048x2048 .f32) : FVec Ideal S16x2048x2048 .f32 :=
  mulf o (mulf g (Host.divf (broadcastInDim S16x2048x2048 ![] bcast_S_S16x2048x2048 (constant S_ .f32 0x3F800000#32))
    (addf (broadcastInDim S16x2048x2048 ![] bcast_S_S16x2048x2048 (constant S_ .f32 0x3F800000#32)) (Host.exp (Host.negf g)))))

def normed (y : FVec Ideal S16x2048x2048 .f32) (w : FVec Ideal S2048 .f32) : FVec Ideal S16x2048x2048 .f32 :=
  mulf (mulf y (broadcastInDim S16x2048x2048 ![0, 1, 2] bcast_S16x2048x1_S16x2048x2048_0_1_2 (Host.rsqrt (addf
      (Host.divf (broadcastInDim S16x2048x1 ![0, 1] bcast_S16x2048_S16x2048x1_0_1 (Host.reduceAdd (mulf y y) (constant S_ .f32 0x00000000#32) reducesTo_S16x2048x2048_S16x2048_d2 h_S_))
        (broadcastInDim S16x2048x1 ![] bcast_S_S16x2048x1 (constant S_ .f32 0x45000000#32)))
      (broadcastInDim S16x2048x1 ![] bcast_S_S16x2048x1 (constant S_ .f32 0x358637BD#32))))))
    (broadcastInDim S16x2048x2048 ![0, 1, 2] bcast_S1x1x2048_S16x2048x2048_0_1_2 (broadcastInDim S1x1x2048 ![2] bcast_S2048_S1x1x2048_2 w))

def queries (x : FVec Ideal S16x2048x4096 .bf16) : FVec Ideal S16x16x128x4x8x64 .f32 :=
  shapeCast _ (extractStridedSlice S16x2048x2048 ![0, 0, 0] (extf .f32 x bitsLt_bf16_f32) slices_S16x2048x4096_S16x2048x2048_0_0_0) shapeCasts_S16x2048x2048_S16x16x128x4x8x64

def gates (x : FVec Ideal S16x2048x4096 .bf16) : FVec Ideal S16x2048x2048 .f32 :=
  extractStridedSlice S16x2048x2048 ![0, 0, 2048] (extf .f32 x bitsLt_bf16_f32) slices_S16x2048x4096_S16x2048x2048_0_0_2048

def keys (x : FVec Ideal S16x2048x512 .f32) : FVec Ideal S16x16x256x4x64 .f32 :=
  window (extractStridedSlice S16x2048x256 ![0, 0, 0] x slices_S16x2048x512_S16x2048x256_0_0_0)

def vals (x : FVec Ideal S16x2048x512 .f32) : FVec Ideal S16x16x256x4x64 .f32 :=
  window (extractStridedSlice S16x2048x256 ![0, 0, 256] x slices_S16x2048x512_S16x2048x256_0_0_256)

/-- The whole attention of queries, keys and values. -/
def attention (qg : FVec Ideal S16x2048x4096 .bf16) (kv : FVec Ideal S16x2048x512 .f32) (x : FVec Ideal S32 .f32) : FVec Ideal S16x2048x2048 .f32 :=
  attended (vals kv) (shares (weights (scores (keys kv) (queries qg)) (top (scores (keys kv) (queries qg)) (sinks x)))
    (top (scores (keys kv) (queries qg)) (sinks x)) (sinks x))

set_option maxHeartbeats 2000000 in
theorem res_eq (m : (ℓ : Loc nD τ sig) → Buf (Elt Ideal) ℓ) (c : Dev nD) :
    Value.res_main_v97 (F := Ideal) m c = truncf .bf16 (normed (gatedBy (attention (m ((c.tc : Thread nD τ).loc main_arg0)) (m ((c.tc : Thread nD τ).loc main_arg1)) (m ((c.tc : Thread nD τ).loc main_arg4)))
      (gates (m ((c.tc : Thread nD τ).loc main_arg0)))) (m ((c.tc : Thread nD τ).loc main_arg5))) bitsLt_bf16_f32 := rfl

end Cert.ReferenceIdeal.Attend
-- ==== Proof.Band.lean ====
/- The band of keys a row attends to, as the comparisons of index words that both programs make. -/
module

public import Idealize.ShloMosaic.Lib.Pointwise
public import Idealize.ShloMosaic.Lib.Pipeline.ValueKit

@[expose] public section

namespace Cert.Band

open Idealize.ShloMosaic

theorem toInt_small (n : ℕ) (h : n < 1024) : (BitVec.ofNat 32 n).toInt = n := by
  rw [BitVec.toInt_eq_toNat_of_lt (by rw [BitVec.toNat_ofNat]; omega), BitVec.toNat_ofNat]
  omega

/-- The key is at most a window behind the row and not past it. -/
theorem near (r : Fin 128) (n : Fin 256) :
    IntOp.andi (IntOp.cmpi CmpIPredicate.sge (IntOp.subi (IntOp.addi (BitVec.ofNat 32 r.val) 128#32) (BitVec.ofNat 32 n.val)) 0#32)
      (IntOp.cmpi CmpIPredicate.slt (IntOp.subi (IntOp.addi (BitVec.ofNat 32 r.val) 128#32) (BitVec.ofNat 32 n.val)) 128#32)
    = BitVec.ofBool (decide (r.val < n.val ∧ n.val ≤ r.val + 128)) := by
  obtain ⟨r, hr⟩ := r
  obtain ⟨n, hn⟩ := n
  dsimp only
  have e : (IntOp.subi (IntOp.addi (BitVec.ofNat 32 r) 128#32) (BitVec.ofNat 32 n)).toInt = (r : Int) + 128 - n := by
    show (BitVec.ofNat 32 r + 128#32 - BitVec.ofNat 32 n).toInt = _
    rw [BitVec.toInt_sub, BitVec.toInt_add, toInt_small r (by omega), toInt_small n (by omega), toInt_small 128 (by omega)]
    simp only [Int.bmod]
    omega
  generalize IntOp.subi (IntOp.addi (BitVec.ofNat 32 r) 128#32) (BitVec.ofNat 32 n) = w at e
  show BitVec.ofBool (BitVec.sle 0#32 w) &&& BitVec.ofBool (BitVec.slt w 128#32) = _
  have h1 : BitVec.sle 0#32 w = decide (n ≤ r + 128) := by
    rw [BitVec.sle_eq_decide, e]
    exact decide_eq_decide.mpr (by simp; omega)
  have h2 : BitVec.slt w 128#32 = decide (r < n) := by
    rw [BitVec.slt_eq_decide, e]
    exact decide_eq_decide.mpr (by simp; omega)
  rw [h1, h2]
  by_cases c1 : r < n <;> by_cases c2 : n ≤ r + 128 <;> simp [c1, c2]

/-- A small word compared with a small bound. -/
theorem past (n k : ℕ) (hn : n < 1024) (hk : k < 1024) : IntOp.cmpi CmpIPredicate.sge (BitVec.ofNat 32 n) (BitVec.ofNat 32 k) = BitVec.ofBool (decide (k ≤ n)) := by
  show BitVec.ofBool (BitVec.sle (BitVec.ofNat 32 k) (BitVec.ofNat 32 n)) = _
  rw [BitVec.sle_eq_decide, toInt_small n hn, toInt_small k hk]
  refine congrArg BitVec.ofBool (decide_eq_decide.mpr ?_)
  omega

theorem positive (n : ℕ) (hn : n < 1024) : IntOp.cmpi CmpIPredicate.sgt (BitVec.ofNat 32 n) 0#32 = BitVec.ofBool (decide (0 < n)) := by
  show BitVec.ofBool (BitVec.slt (BitVec.ofNat 32 0) (BitVec.ofNat 32 n)) = _
  rw [BitVec.slt_eq_decide, toInt_small n hn, toInt_small 0 (by omega)]
  refine congrArg BitVec.ofBool (decide_eq_decide.mpr ?_)
  omega

theorem select_bit {α : Type} (b : Bool) (x y : α) : Scalar.select (BitVec.ofBool b) x y = if b then x else y := by
  cases b <;> rfl

end Cert.Band
-- ==== Proof.RefAt.lean ====
/- The reference's stages at an index. -/
module

public import proofs.«01_k».proof.Proof.Ref
public import proofs.«01_k».proof.Proof.Band

@[expose] public section

set_option maxRecDepth 16384

noncomputable section

namespace Cert.ReferenceIdeal.Attend

open Cert.ReferenceIdeal Cert.ReferenceIdeal.Gen Idealize.ShloMosaic Idealize.ShloMosaic.Tactic

def eighth : EReal := Ideal.ofBits .f32 0x3E000000#32
def negInf : EReal := Ideal.ofBits .f32 0xFF800000#32
def width : EReal := Ideal.ofBits .f32 0x45000000#32
def eps : EReal := Ideal.ofBits .f32 0x358637BD#32

theorem band_at (i : Fin 16) (r : Fin 128) (n : Fin 256) :
    band (ix5 i 0 0 r n) = BitVec.ofBool (decide ((r.val < n.val ∧ n.val ≤ r.val + 128) ∧ (0 < i.val ∨ 128 ≤ n.val))) := by
  pointwise [band, distance]
  rw [Cert.Band.near, Cert.Band.positive _ (by omega), Cert.Band.past n.val 128 (by omega) (by omega)]
  by_cases c1 : r.val < n.val ∧ n.val ≤ r.val + 128 <;> by_cases c2 : 0 < i.val <;> by_cases c3 : 128 ≤ n.val <;> simp [c1, c2, c3, IntOp.andi, IntOp.ori]

theorem scores_at (k : FVec Ideal S16x16x256x4x64 .f32) (q : FVec Ideal S16x16x128x4x8x64 .f32) (b i : Fin 16) (g : Fin 4) (h : Fin 8) (r : Fin 128) (n : Fin 256) :
    scores k q (ix6 b i g h r n) = if ((r.val < n.val ∧ n.val ≤ r.val + 128) ∧ (0 < i.val ∨ 128 ≤ n.val)) then (∑ d : Fin 64, k (ix5 b i n g d) * q (ix6 b i r g h d)) * eighth else negInf := by
  pointwise [scores]
  rw [band_at, Cert.Band.select_bit]
  simp only [decide_eq_true_eq]
  rfl

theorem blocked_at (a : FVec Ideal S16x2048x256 .f32) (b i : Fin 16) (r : Fin 128) (g : Fin 4) (d : Fin 64) :
    blocked a (ix5 b i r g d) = a (ix3 b (⟨i.val * 128 + r.val, by omega⟩ : Fin 2048) (⟨g.val * 64 + d.val, by omega⟩ : Fin 256)) := by
  pointwise [blocked]

theorem window_at (a : FVec Ideal S16x2048x256 .f32) (b i : Fin 16) (r : Fin 256) (g : Fin 4) (d : Fin 64) :
    window a (ix5 b i r g d) = if h : i.val * 128 + r.val < 128 then 0
      else a (ix3 b (⟨i.val * 128 + r.val - 128, by omega⟩ : Fin 2048) (⟨g.val * 64 + d.val, by omega⟩ : Fin 256)) := by
  pointwise [window]
  by_cases h1 : r.val < 128
  · rw [dif_pos h1]
    by_cases h2 : i.val < 1
    · rw [dif_pos h2, dif_pos (by omega)]
    · rw [dif_neg h2, dif_neg (by omega), blocked_at]
      refine congrArg a (congrArg₂ (ix3 b) (Fin.ext ?_) rfl)
      show (i.val - 1) * 128 + r.val = i.val * 128 + r.val - 128
      omega
  · rw [dif_neg h1, dif_neg (by omega), blocked_at]
    refine congrArg a (congrArg₂ (ix3 b) (Fin.ext ?_) rfl)
    show i.val * 128 + (r.val - 128) = i.val * 128 + r.val - 128
    omega

theorem lift_eq (b i : Fin 16) (g : Fin 4) (h : Fin 8) (r : Fin 128) (n : Fin 256) (w : S16x16x4x8x128x256.Reduces [5] S16x16x4x8x128) :
    w.lift (ix5 b i g h r) n = ix6 b i g h r n := by
  funext a
  fin_cases a <;> rfl

theorem rowMax_at (s : FVec Ideal S16x16x4x8x128x256 .f32) (b i : Fin 16) (g : Fin 4) (h : Fin 8) (r : Fin 128) :
    rowMax s (ix5 b i g h r) = Finset.fold max negInf (fun n => s (ix6 b i g h r n)) Finset.univ := by
  unfold rowMax
  refine (Host.reduce_eq_fold_single (a := 5) (FloatOps.maximumf (F := Ideal) (φ := .f32)) s _ reducesTo_S16x16x4x8x128x256_S16x16x4x8x128_d5 (by decide) h_S_ (ix5 b i g h r)).trans ?_
  exact congrArg (fun f => Finset.fold max negInf f (Finset.univ : Finset (Fin 256))) (funext fun n => congrArg s (lift_eq b i g h r n _))

theorem rowSum_at (s : FVec Ideal S16x16x4x8x128x256 .f32) (b i : Fin 16) (g : Fin 4) (h : Fin 8) (r : Fin 128) :
    rowSum s (ix5 b i g h r) = ∑ n : Fin 256, s (ix6 b i g h r n) := by
  unfold rowSum
  refine (Ideal.hostReduceAdd_single (a := 5) reducesTo_S16x16x4x8x128x256_S16x16x4x8x128_d5 (by decide) s _ (ix5 b i g h r)).trans ?_
  have z : (constant S_ .f32 0x00000000#32 : FVec Ideal S_ .f32) (Shape.Idx.first h_S_) = 0 := by pointwise
  refine (congrArg (· + _) z).trans ((zero_add _).trans ?_)
  exact Finset.sum_congr rfl fun n _ => congrArg s (lift_eq b i g h r n _)

theorem row_at (y : FVec Ideal S16x16x4x8x128 .f32) (b i : Fin 16) (g : Fin 4) (h : Fin 8) (r : Fin 128) :
    broadcastInDim S16x16x4x8x128x1 ![0, 1, 2, 3, 4] bcast_S16x16x4x8x128_S16x16x4x8x128x1_0_1_2_3_4 y (ix6 b i g h r 0) = y (ix5 b i g h r) := by
  pointwise

theorem max_at (a x : FVec Ideal S16x16x4x8x128x1 .f32) (j) : maximumf a x j = max (a j) (x j) := rfl

theorem top_at (s : FVec Ideal S16x16x4x8x128x256 .f32) (x : FVec Ideal S16x16x4x8x128x1 .f32) (b i : Fin 16) (g : Fin 4) (h : Fin 8) (r : Fin 128) :
    top s x (ix6 b i g h r 0) = max (Finset.fold max negInf (fun n => s (ix6 b i g h r n)) Finset.univ) (x (ix6 b i g h r 0)) := by
  unfold top
  rw [max_at, row_at, rowMax_at]

theorem shares_at (p : FVec Ideal S16x16x4x8x128x256 .f32) (t x : FVec Ideal S16x16x4x8x128x1 .f32) (b i : Fin 16) (g : Fin 4) (h : Fin 8) (r : Fin 128) (n : Fin 256) :
    shares p t x (ix6 b i g h r n) = Ideal.div (p (ix6 b i g h r n))
      ((∑ n : Fin 256, p (ix6 b i g h r n)) + Ideal.exp (x (ix6 b i g h r 0) - t (ix6 b i g h r 0))) := by
  pointwise [shares]
  rw [rowSum_at]

theorem weights_at (s : FVec Ideal S16x16x4x8x128x256 .f32) (t : FVec Ideal S16x16x4x8x128x1 .f32) (b i : Fin 16) (g : Fin 4) (h : Fin 8) (r : Fin 128) (n : Fin 256) :
    weights s t (ix6 b i g h r n) = Ideal.exp (s (ix6 b i g h r n) - t (ix6 b i g h r 0)) := by
  pointwise [weights]

theorem sinks_at (x : FVec Ideal S32 .f32) (b i : Fin 16) (g : Fin 4) (h : Fin 8) (r : Fin 128) :
    sinks x (ix6 b i g h r 0) = x (ix1 (⟨g.val * 8 + h.val, by omega⟩ : Fin 32)) := by
  pointwise [sinks]

theorem attended_at (v : FVec Ideal S16x16x256x4x64 .f32) (p : FVec Ideal S16x16x4x8x128x256 .f32) (b : Fin 16) (t l : Fin 2048) :
    attended v p (ix3 b t l) = ∑ n : Fin 256, v (ix5 b (⟨t.val / 128, by omega⟩ : Fin 16) n (⟨l.val / 512, by omega⟩ : Fin 4) (⟨l.val % 64, by omega⟩ : Fin 64))
      * p (ix6 b (⟨t.val / 128, by omega⟩ : Fin 16) (⟨l.val / 512, by omega⟩ : Fin 4) (⟨l.val / 64 % 8, by omega⟩ : Fin 8) (⟨t.val % 128, by omega⟩ : Fin 128) n) := by
  pointwise [attended]

theorem gated_at (o g : FVec Ideal S16x2048x2048 .f32) (b : Fin 16) (t l : Fin 2048) :
    gatedBy o g (ix3 b t l) = o (ix3 b t l) * (g (ix3 b t l) * Ideal.div 1 (1 + Ideal.exp (-g (ix3 b t l)))) := by
  pointwise [gatedBy]

theorem normed_at (o : FVec Ideal S16x2048x2048 .f32) (w : FVec Ideal S2048 .f32) (b : Fin 16) (t l : Fin 2048) :
    normed o w (ix3 b t l) = o (ix3 b t l) * Ideal.rsqrt (Ideal.div (∑ x : Fin 2048, o (ix3 b t x) * o (ix3 b t x)) width + eps) * w (ix1 l) := by
  pointwise [normed]
  rfl

theorem queries_at (x : FVec Ideal S16x2048x4096 .bf16) (b i : Fin 16) (r : Fin 128) (g : Fin 4) (h : Fin 8) (d : Fin 64) :
    queries x (ix6 b i r g h d) = x (ix3 b (⟨i.val * 128 + r.val, by omega⟩ : Fin 2048) (⟨g.val * 512 + h.val * 64 + d.val, by omega⟩ : Fin 4096)) := by
  pointwise [queries]

theorem gates_at (x : FVec Ideal S16x2048x4096 .bf16) (b : Fin 16) (t l : Fin 2048) :
    gates x (ix3 b t l) = x (ix3 b t (⟨2048 + l.val, by omega⟩ : Fin 4096)) := by
  pointwise [gates]

theorem keys_at (x : FVec Ideal S16x2048x512 .f32) (b i : Fin 16) (r : Fin 256) (g : Fin 4) (d : Fin 64) :
    keys x (ix5 b i r g d) = if h : i.val * 128 + r.val < 128 then 0
      else x (ix3 b (⟨i.val * 128 + r.val - 128, by omega⟩ : Fin 2048) (⟨g.val * 64 + d.val, by omega⟩ : Fin 512)) := by
  unfold keys
  rw [window_at]
  split
  · rfl
  · pointwise

theorem vals_at (x : FVec Ideal S16x2048x512 .f32) (b i : Fin 16) (r : Fin 256) (g : Fin 4) (d : Fin 64) :
    vals x (ix5 b i r g d) = if h : i.val * 128 + r.val < 128 then 0
      else x (ix3 b (⟨i.val * 128 + r.val - 128, by omega⟩ : Fin 2048) (⟨256 + (g.val * 64 + d.val), by omega⟩ : Fin 512)) := by
  unfold vals
  rw [window_at]
  split
  · rfl
  · pointwise

end Cert.ReferenceIdeal.Attend
-- ==== Proof.Attend.lean ====
/- What the kernel's body leaves in its scratch, head pair by head pair, as one function of the loaded blocks: the
   products of a stack of query slices with a pair of keys laid out block-diagonally, the masked softmax with a sink of
   each half, the product with the values laid out likewise, and the reciprocal of the softmax's denominator. The
   names the body's run gives its values are these functions, checked by unfolding. -/
module

public import proofs.«01_k».proof.Proof.Gen.KernelIdeal.Frame

@[expose] public section

set_option maxRecDepth 16384

noncomputable section

namespace Cert.KernelIdeal.Attend

open Cert.KernelIdeal Cert.KernelIdeal.Gen Idealize.ShloMosaic Idealize.ShloMosaic.Tactic

variable {F : FTy → Type} [FloatOps F] [Named F]

/-- The lanes of the first head of a pair. -/
def lowKey : IVec S256x128 1 := cmpi .slt (iota .tc S256x128 32 [1] iota_S256x128_d1_w32) (broadcast S256x128 64#32)

def zeroKey : FVec F S256x128 .f32 := broadcast S256x128 (Scalar.ofBits .f32 0x00000000#32)

def turned (x : FVec F S256x128 .f32) : FVec F S256x128 .f32 := dynamicRotate 1 64#32 none x rotates_S256x128_d1

/-- The first head of a pair of heads, twice on the diagonal. -/
def diagFst (x : FVec F S256x128 .f32) : FVec F S512x128 .bf16 :=
  truncf .bf16 (concatenate S512x128 0 [⟨S256x128, select lowKey x zeroKey⟩, ⟨S256x128, select lowKey zeroKey (turned x)⟩]
    concatenates_S256x128_S256x128_S512x128_d0) bitsLt_bf16_f32

/-- The second head of a pair of heads, twice on the diagonal. -/
def diagSnd (x : FVec F S256x128 .f32) : FVec F S512x128 .bf16 :=
  truncf .bf16 (concatenate S512x128 0 [⟨S256x128, select lowKey (turned x) zeroKey⟩, ⟨S256x128, select lowKey zeroKey x⟩]
    concatenates_S256x128_S256x128_S512x128_d0) bitsLt_bf16_f32

/-- The keys, scaled by an eighth of the base-two logarithm of `e`. -/
def scaled (k : FVec F S256x256 .f32) : FVec F S256x256 .f32 :=
  mulf k (broadcast S256x256 (Named.named κ "scale_log2e" 0x3E38AA3B#32))

/-- Four column slices of the queries, one below the other. -/
def stack (q : FVec F S128x2048 .bf16) (a b c d : ℕ) (ha : S128x2048.Slices ![0, a] S128x128) (hb : S128x2048.Slices ![0, b] S128x128)
    (hc : S128x2048.Slices ![0, c] S128x128) (hd : S128x2048.Slices ![0, d] S128x128) : FVec F S512x128 .bf16 :=
  concatenate S512x128 0 [⟨S128x128, extractStridedSlice S128x128 ![0, a] q ha⟩, ⟨S128x128, extractStridedSlice S128x128 ![0, b] q hb⟩,
    ⟨S128x128, extractStridedSlice S128x128 ![0, c] q hc⟩, ⟨S128x128, extractStridedSlice S128x128 ![0, d] q hd⟩]
    concatenates_S128x128_S128x128_S128x128_S128x128_S512x128_d0

def scores (q k : FVec F S512x128 .bf16) : FVec F S512x512 .f32 :=
  matmul dot_S512x128_S512x128_S512x512_1_1_0_0_n_n none q k (constant S512x512 .f32 0x00000000#32)

/-- One head's scores, minus infinity where the mask is off. -/
def masked (mask : IVec S128x256 1) (s : FVec F S512x512 .f32) (r c : ℕ) (h : S512x512.Slices ![r, c] S128x256) : FVec F S128x256 .f32 :=
  select mask (extractStridedSlice S128x256 ![r, c] s h) (broadcast S128x256 (Scalar.ofBits .f32 0xFF800000#32))

def sink2 (x : Elt F .f32) : F .f32 := Scalar.mulf x (Named.named κ "log2e" 0x3FB8AA3B#32)

/-- The largest score of a row, the sink among them. -/
def top (se : FVec F S128x256 .f32) (x : Elt F .f32) : FVec F S128x1 .f32 :=
  maximumf (shapeCast S128x1 (multiReduction .maximumf [1] S128 se 0xFF800000#32 reduces_S128x256_S128 (.inl rfl) rfl) shapeCasts_S128_S128x1)
    (broadcast S128x1 (sink2 x))

def weight (se : FVec F S128x256 .f32) (x : Elt F .f32) : FVec F S128x256 .f32 :=
  exp2 (subf se (broadcastTo S128x256 (top se x) broadcasts_S128x1_S128x256))

def recip (se : FVec F S128x256 .f32) (x : Elt F .f32) : FVec F S128x1 .f32 :=
  divf (broadcast S128x1 (Scalar.ofBits .f32 0x3F800000#32))
    (addf (shapeCast S128x1 (multiReduction .add [1] S128 (weight se x) 0x00000000#32 reduces_S128x256_S128 (.inl rfl) rfl) shapeCasts_S128_S128x1)
      (exp2 (subf (broadcast S128x1 (sink2 x)) (top se x))))

/-- Both heads' weights, side by side. -/
def weights (se se' : FVec F S128x256 .f32) (x x' : Elt F .f32) : FVec F S128x512 .bf16 :=
  truncf .bf16 (concatenate S128x512 1 [⟨S128x256, weight se x⟩, ⟨S128x256, weight se' x'⟩] concatenates_S128x256_S128x256_S128x512_d1) bitsLt_bf16_f32

def lowLane : IVec S128x128 1 := cmpi .slt (iota .tc S128x128 32 [1] iota_S128x128_d1_w32) (broadcast S128x128 64#32)

def recips (se se' : FVec F S128x256 .f32) (x x' : Elt F .f32) : FVec F S128x128 .f32 :=
  select lowLane (broadcastTo S128x128 (shapeCast S128x1 (recip se x) shapeCasts_S128x1_S128x1) broadcasts_S128x1_S128x128)
    (broadcastTo S128x128 (shapeCast S128x1 (recip se' x') shapeCasts_S128x1_S128x1) broadcasts_S128x1_S128x128)

/-- The weighted sums of the values, before the division: the four head pairs of a group one below the other. -/
def sums (mask : IVec S128x256 1) (s : FVec F S512x512 .f32) (v : FVec F S512x128 .bf16) (x : Fin 8 → Elt F .f32) : FVec F S512x128 .f32 :=
  matmul dot_S512x512_S512x128_S512x128_1_0_0_1_n_n none
    (concatenate S512x512 0
      [⟨S128x512, weights (masked mask s 0 0 slices_S512x512_o0_0_S128x256) (masked mask s 0 256 slices_S512x512_o0_256_S128x256) (x 0) (x 1)⟩,
       ⟨S128x512, weights (masked mask s 128 0 slices_S512x512_o128_0_S128x256) (masked mask s 128 256 slices_S512x512_o128_256_S128x256) (x 2) (x 3)⟩,
       ⟨S128x512, weights (masked mask s 256 0 slices_S512x512_o256_0_S128x256) (masked mask s 256 256 slices_S512x512_o256_256_S128x256) (x 4) (x 5)⟩,
       ⟨S128x512, weights (masked mask s 384 0 slices_S512x512_o384_0_S128x256) (masked mask s 384 256 slices_S512x512_o384_256_S128x256) (x 6) (x 7)⟩]
      concatenates_S128x512_S128x512_S128x512_S128x512_S512x512_d0)
    v (constant S512x128 .f32 0x00000000#32)

/-- One head pair's attention output: rows `r ..` of the sums, times the reciprocals. -/
def pair (mask : IVec S128x256 1) (s : FVec F S512x512 .f32) (v : FVec F S512x128 .bf16) (x : Fin 8 → Elt F .f32) (r : ℕ) (a b : Fin 8)
    (h : S512x128.Slices ![r, 0] S128x128) (h0 : S512x512.Slices ![r, 0] S128x256) (h1 : S512x512.Slices ![r, 256] S128x256) : FVec F S128x128 .f32 :=
  mulf (extractStridedSlice S128x128 ![r, 0] (sums mask s v x) h)
    (recips (masked mask s r 0 h0) (masked mask s r 256 h1) (x a) (x b))

def half0 (k : FVec F S256x256 .f32) : FVec F S256x128 .f32 := extractStridedSlice S256x128 ![0, 0] k slices_S256x256_o0_0_S256x128
def half1 (k : FVec F S256x256 .f32) : FVec F S256x128 .f32 := extractStridedSlice S256x128 ![0, 128] k slices_S256x256_o0_128_S256x128

end Cert.KernelIdeal.Attend

end
-- ==== Proof.Index.lean ====
/- The head pair's function of the loaded blocks, at an index, on the extended reals. -/
module

public import proofs.«01_k».proof.Proof.Attend
public import Idealize.ShloMosaic.Lib.Pointwise
public import Idealize.ShloMosaic.Lib.Pipeline.ValueKit
public import Idealize.ShloMosaic.Lib.Tactic.CleanTypes

@[expose] public section

set_option maxRecDepth 16384

noncomputable section

namespace Cert.KernelIdeal.Attend

open Cert.KernelIdeal Cert.KernelIdeal.Gen Idealize.ShloMosaic Idealize.ShloMosaic.Tactic

/-- The score a row's softmax is taken against: the largest, the sink among them. -/
def rowTop (se : Fin 256 → EReal) (x : EReal) : EReal := max (Finset.fold max ⊥ se Finset.univ) x

def rowWeight (se : Fin 256 → EReal) (x : EReal) (k : Fin 256) : EReal := Ideal.exp2 (se k - rowTop se x)

def rowRecip (se : Fin 256 → EReal) (x : EReal) : EReal :=
  Ideal.div 1 ((∑ k : Fin 256, rowWeight se x k) + Ideal.exp2 (x - rowTop se x))

theorem neg_inf : Ideal.ofBits .f32 0xFF800000#32 = ⊥ := by
  simp only [Ideal.ofBits]
  unfold Ideal.ieee
  rw [if_pos (by decide +kernel), if_pos (by decide +kernel), if_pos (by decide +kernel)]

theorem below {l : ℕ} (hl : l < 128) (a b : EReal) :
    Scalar.select (IntOp.cmpi CmpIPredicate.slt (BitVec.ofNat 32 l) 64#32) a b = if l < 64 then a else b := by
  have h : ∀ l : Fin 128, (IntOp.cmpi CmpIPredicate.slt (BitVec.ofNat 32 l.val) 64#32) = BitVec.ofBool (decide (l.val < 64)) := by
    decide +kernel
  have h := h ⟨l, hl⟩
  simp only at h
  rw [h]
  by_cases hl : l < 64 <;> simp [hl, Scalar.select]

/-- A pair of heads of one group laid out on the diagonal: rows of the first head in the first lanes, of the second in the last. -/
def IsDiag (K : FVec Ideal S512x128 .bf16) (V : Fin 256 → Fin 64 → EReal) : Prop :=
  (∀ (k : Fin 256) (l : Fin 128), K (ix2 (⟨k.val, by omega⟩ : Fin 512) l) = if h : l.val < 64 then V k ⟨l.val, h⟩ else 0)
  ∧ ∀ (k : Fin 256) (l : Fin 128), K (ix2 (⟨256 + k.val, by omega⟩ : Fin 512) l) = if h : l.val < 64 then 0 else V k ⟨l.val - 64, by omega⟩

theorem isDiag_0 (x : FVec Ideal S256x256 .f32) : IsDiag (diagFst (half0 x)) fun k d => x (ix2 k ⟨0 + d.val, by omega⟩) := by
  constructor <;> intro k l <;> by_cases hl : l.val < 64
  all_goals
    pointwise [diagFst, half0, lowKey, zeroKey, turned]
    simp only [Fin.is_lt, ↓reduceDIte, ↓reduceIte, below l.isLt, hl, Nat.not_lt.2 (Nat.le_add_right 256 _), Nat.add_sub_cancel_left]
    first | done | (congr 2; apply Fin.ext; simp only; omega) | skip
theorem isDiag_1 (x : FVec Ideal S256x256 .f32) : IsDiag (diagSnd (half0 x)) fun k d => x (ix2 k ⟨64 + d.val, by omega⟩) := by
  constructor <;> intro k l <;> by_cases hl : l.val < 64
  all_goals
    pointwise [diagSnd, half0, lowKey, zeroKey, turned]
    simp only [Fin.is_lt, ↓reduceDIte, ↓reduceIte, below l.isLt, hl, Nat.not_lt.2 (Nat.le_add_right 256 _), Nat.add_sub_cancel_left]
    first | done | (congr 2; apply Fin.ext; simp only; omega) | skip
theorem isDiag_2 (x : FVec Ideal S256x256 .f32) : IsDiag (diagFst (half1 x)) fun k d => x (ix2 k ⟨128 + d.val, by omega⟩) := by
  constructor <;> intro k l <;> by_cases hl : l.val < 64
  all_goals
    pointwise [diagFst, half1, lowKey, zeroKey, turned]
    simp only [Fin.is_lt, ↓reduceDIte, ↓reduceIte, below l.isLt, hl, Nat.not_lt.2 (Nat.le_add_right 256 _), Nat.add_sub_cancel_left]
    first | done | (congr 2; apply Fin.ext; simp only; omega) | skip
theorem isDiag_3 (x : FVec Ideal S256x256 .f32) : IsDiag (diagSnd (half1 x)) fun k d => x (ix2 k ⟨192 + d.val, by omega⟩) := by
  constructor <;> intro k l <;> by_cases hl : l.val < 64
  all_goals
    pointwise [diagSnd, half1, lowKey, zeroKey, turned]
    simp only [Fin.is_lt, ↓reduceDIte, ↓reduceIte, below l.isLt, hl, Nat.not_lt.2 (Nat.le_add_right 256 _), Nat.add_sub_cancel_left]
    first | done | (congr 2; apply Fin.ext; simp only; omega) | skip

theorem sum_halves (f : Fin 128 → EReal) : ∑ l : Fin 128, f l = (∑ d : Fin 64, f ⟨d.val, by omega⟩) + ∑ d : Fin 64, f ⟨64 + d.val, by omega⟩ :=
  Fin.sum_univ_two_halves 64 64 rfl f

theorem scores_fst {Q K : FVec Ideal S512x128 .bf16} {V : Fin 256 → Fin 64 → EReal} (hK : IsDiag K V) (a : Fin 512) (k : Fin 256) :
    scores Q K (ix2 a (⟨k.val, by omega⟩ : Fin 512)) = ∑ d : Fin 64, Q (ix2 a ⟨d.val, by omega⟩) * V k d := by
  pointwise [scores]
  rw [sum_halves]
  simp only [hK.1]
  simp

theorem scores_snd {Q K : FVec Ideal S512x128 .bf16} {V : Fin 256 → Fin 64 → EReal} (hK : IsDiag K V) (a : Fin 512) (k : Fin 256) :
    scores Q K (ix2 a (⟨256 + k.val, by omega⟩ : Fin 512)) = ∑ d : Fin 64, Q (ix2 a ⟨64 + d.val, by omega⟩) * V k d := by
  pointwise [scores]
  rw [sum_halves]
  simp only [hK.2]
  simp

theorem top_at (se : FVec Ideal S128x256 .f32) (x : EReal) (r : Fin 128) :
    top se x (ix2 r 0) = rowTop (fun k => se (ix2 r k)) (x * Named.named (F := Ideal) κ "log2e" (φ := .f32) 0x3FB8AA3B#32) := by
  pointwise [top, sink2, rowTop, neg_inf]

theorem weight_at (se : FVec Ideal S128x256 .f32) (x : EReal) (r : Fin 128) (k : Fin 256) :
    weight se x (ix2 r k) = rowWeight (fun k => se (ix2 r k)) (x * Named.named (F := Ideal) κ "log2e" (φ := .f32) 0x3FB8AA3B#32) k := by
  pointwise [weight, rowWeight]
  rw [top_at]; rfl

theorem recip_at (se : FVec Ideal S128x256 .f32) (x : EReal) (r : Fin 128)  :
    recip se x (ix2 r 0) = rowRecip (fun k => se (ix2 r k)) (x * Named.named (F := Ideal) κ "log2e" (φ := .f32) 0x3FB8AA3B#32) := by
  pointwise [recip]
  rw [top_at]; simp only [weight_at]; rfl

/-- One head's output at a row and a lane: the weighted values, times the reciprocal. -/
def headOut (se : Fin 256 → EReal) (x : EReal) (v : Fin 256 → EReal) : EReal :=
  (∑ k : Fin 256, rowWeight se x k * v k) * rowRecip se x

set_option maxHeartbeats 2000000 in
theorem pair_0_0 (mask : IVec S128x256 1) (s : FVec Ideal S512x512 .f32) {v : FVec Ideal S512x128 .bf16} {V : Fin 256 → Fin 64 → EReal}
    (hv : IsDiag v V) (x : Fin 8 → Elt Ideal .f32) (r : Fin 128) (d : Fin 64) :
    pair mask s v x 0 0 1 slices_S512x128_o0_0_S128x128 slices_S512x512_o0_0_S128x256 slices_S512x512_o0_256_S128x256
        (ix2 r (⟨d.val, by omega⟩ : Fin 128))
      = headOut (fun k => Scalar.select (mask (ix2 r k)) (s (ix2 (⟨0 + r.val, by omega⟩ : Fin 512) ⟨k.val, by omega⟩)) ⊥)
          (x 0 * Named.named (F := Ideal) κ "log2e" (φ := .f32) 0x3FB8AA3B#32) fun k => V k d := by
  have hd : ¬ 64 + d.val < 64 := by omega
  pointwise [pair, sums, recips, lowLane, weights]
  clean_types
  rw [below (by omega)]
  simp only [weight_at, recip_at, hv.1, hv.2, Fin.is_lt, hd, ↓reduceDIte, ↓reduceIte, mul_zero, Finset.sum_const_zero, add_zero, zero_add, headOut]
  pointwise [masked, neg_inf]
set_option maxHeartbeats 2000000 in
theorem pair_0_1 (mask : IVec S128x256 1) (s : FVec Ideal S512x512 .f32) {v : FVec Ideal S512x128 .bf16} {V : Fin 256 → Fin 64 → EReal}
    (hv : IsDiag v V) (x : Fin 8 → Elt Ideal .f32) (r : Fin 128) (d : Fin 64) :
    pair mask s v x 0 0 1 slices_S512x128_o0_0_S128x128 slices_S512x512_o0_0_S128x256 slices_S512x512_o0_256_S128x256
        (ix2 r (⟨64 + d.val, by omega⟩ : Fin 128))
      = headOut (fun k => Scalar.select (mask (ix2 r k)) (s (ix2 (⟨0 + r.val, by omega⟩ : Fin 512) ⟨256 + k.val, by omega⟩)) ⊥)
          (x 1 * Named.named (F := Ideal) κ "log2e" (φ := .f32) 0x3FB8AA3B#32) fun k => V k d := by
  have hd : ¬ 64 + d.val < 64 := by omega
  pointwise [pair, sums, recips, lowLane, weights]
  clean_types
  rw [below (by omega)]
  simp only [weight_at, recip_at, hv.1, hv.2, Fin.is_lt, hd, ↓reduceDIte, ↓reduceIte, mul_zero, Finset.sum_const_zero, add_zero, zero_add, headOut]
  pointwise [masked, neg_inf]
set_option maxHeartbeats 2000000 in
theorem pair_1_0 (mask : IVec S128x256 1) (s : FVec Ideal S512x512 .f32) {v : FVec Ideal S512x128 .bf16} {V : Fin 256 → Fin 64 → EReal}
    (hv : IsDiag v V) (x : Fin 8 → Elt Ideal .f32) (r : Fin 128) (d : Fin 64) :
    pair mask s v x 128 2 3 slices_S512x128_o128_0_S128x128 slices_S512x512_o128_0_S128x256 slices_S512x512_o128_256_S128x256
        (ix2 r (⟨d.val, by omega⟩ : Fin 128))
      = headOut (fun k => Scalar.select (mask (ix2 r k)) (s (ix2 (⟨128 + r.val, by omega⟩ : Fin 512) ⟨k.val, by omega⟩)) ⊥)
          (x 2 * Named.named (F := Ideal) κ "log2e" (φ := .f32) 0x3FB8AA3B#32) fun k => V k d := by
  have hd : ¬ 64 + d.val < 64 := by omega
  pointwise [pair, sums, recips, lowLane, weights]
  clean_types
  rw [below (by omega)]
  simp only [weight_at, recip_at, hv.1, hv.2, Fin.is_lt, hd, ↓reduceDIte, ↓reduceIte, mul_zero, Finset.sum_const_zero, add_zero, zero_add, headOut]
  pointwise [masked, neg_inf]
set_option maxHeartbeats 2000000 in
theorem pair_1_1 (mask : IVec S128x256 1) (s : FVec Ideal S512x512 .f32) {v : FVec Ideal S512x128 .bf16} {V : Fin 256 → Fin 64 → EReal}
    (hv : IsDiag v V) (x : Fin 8 → Elt Ideal .f32) (r : Fin 128) (d : Fin 64) :
    pair mask s v x 128 2 3 slices_S512x128_o128_0_S128x128 slices_S512x512_o128_0_S128x256 slices_S512x512_o128_256_S128x256
        (ix2 r (⟨64 + d.val, by omega⟩ : Fin 128))
      = headOut (fun k => Scalar.select (mask (ix2 r k)) (s (ix2 (⟨128 + r.val, by omega⟩ : Fin 512) ⟨256 + k.val, by omega⟩)) ⊥)
          (x 3 * Named.named (F := Ideal) κ "log2e" (φ := .f32) 0x3FB8AA3B#32) fun k => V k d := by
  have hd : ¬ 64 + d.val < 64 := by omega
  pointwise [pair, sums, recips, lowLane, weights]
  clean_types
  rw [below (by omega)]
  simp only [weight_at, recip_at, hv.1, hv.2, Fin.is_lt, hd, ↓reduceDIte, ↓reduceIte, mul_zero, Finset.sum_const_zero, add_zero, zero_add, headOut]
  pointwise [masked, neg_inf]
set_option maxHeartbeats 2000000 in
theorem pair_2_0 (mask : IVec S128x256 1) (s : FVec Ideal S512x512 .f32) {v : FVec Ideal S512x128 .bf16} {V : Fin 256 → Fin 64 → EReal}
    (hv : IsDiag v V) (x : Fin 8 → Elt Ideal .f32) (r : Fin 128) (d : Fin 64) :
    pair mask s v x 256 4 5 slices_S512x128_o256_0_S128x128 slices_S512x512_o256_0_S128x256 slices_S512x512_o256_256_S128x256
        (ix2 r (⟨d.val, by omega⟩ : Fin 128))
      = headOut (fun k => Scalar.select (mask (ix2 r k)) (s (ix2 (⟨256 + r.val, by omega⟩ : Fin 512) ⟨k.val, by omega⟩)) ⊥)
          (x 4 * Named.named (F := Ideal) κ "log2e" (φ := .f32) 0x3FB8AA3B#32) fun k => V k d := by
  have hd : ¬ 64 + d.val < 64 := by omega
  pointwise [pair, sums, recips, lowLane, weights]
  clean_types
  rw [below (by omega)]
  simp only [weight_at, recip_at, hv.1, hv.2, Fin.is_lt, hd, ↓reduceDIte, ↓reduceIte, mul_zero, Finset.sum_const_zero, add_zero, zero_add, headOut]
  pointwise [masked, neg_inf]
  refine congrArg (· * _) (Finset.sum_congr rfl fun k _ => congrArg (· * _) ?_)
  rw [dif_neg (by omega), dif_neg (by omega), dif_pos (by omega)]
  simp only [(by omega : 256 + r.val - 128 - 128 = r.val), Fin.eta]
set_option maxHeartbeats 2000000 in
theorem pair_2_1 (mask : IVec S128x256 1) (s : FVec Ideal S512x512 .f32) {v : FVec Ideal S512x128 .bf16} {V : Fin 256 → Fin 64 → EReal}
    (hv : IsDiag v V) (x : Fin 8 → Elt Ideal .f32) (r : Fin 128) (d : Fin 64) :
    pair mask s v x 256 4 5 slices_S512x128_o256_0_S128x128 slices_S512x512_o256_0_S128x256 slices_S512x512_o256_256_S128x256
        (ix2 r (⟨64 + d.val, by omega⟩ : Fin 128))
      = headOut (fun k => Scalar.select (mask (ix2 r k)) (s (ix2 (⟨256 + r.val, by omega⟩ : Fin 512) ⟨256 + k.val, by omega⟩)) ⊥)
          (x 5 * Named.named (F := Ideal) κ "log2e" (φ := .f32) 0x3FB8AA3B#32) fun k => V k d := by
  have hd : ¬ 64 + d.val < 64 := by omega
  pointwise [pair, sums, recips, lowLane, weights]
  clean_types
  rw [below (by omega)]
  simp only [weight_at, recip_at, hv.1, hv.2, Fin.is_lt, hd, ↓reduceDIte, ↓reduceIte, mul_zero, Finset.sum_const_zero, add_zero, zero_add, headOut]
  pointwise [masked, neg_inf]
  refine congrArg (· * _) (Finset.sum_congr rfl fun k _ => congrArg (· * _) ?_)
  rw [dif_neg (by omega), dif_neg (by omega), dif_pos (by omega)]
  simp only [(by omega : 256 + r.val - 128 - 128 = r.val), Fin.eta]
set_option maxHeartbeats 2000000 in
theorem pair_3_0 (mask : IVec S128x256 1) (s : FVec Ideal S512x512 .f32) {v : FVec Ideal S512x128 .bf16} {V : Fin 256 → Fin 64 → EReal}
    (hv : IsDiag v V) (x : Fin 8 → Elt Ideal .f32) (r : Fin 128) (d : Fin 64) :
    pair mask s v x 384 6 7 slices_S512x128_o384_0_S128x128 slices_S512x512_o384_0_S128x256 slices_S512x512_o384_256_S128x256
        (ix2 r (⟨d.val, by omega⟩ : Fin 128))
      = headOut (fun k => Scalar.select (mask (ix2 r k)) (s (ix2 (⟨384 + r.val, by omega⟩ : Fin 512) ⟨k.val, by omega⟩)) ⊥)
          (x 6 * Named.named (F := Ideal) κ "log2e" (φ := .f32) 0x3FB8AA3B#32) fun k => V k d := by
  have hd : ¬ 64 + d.val < 64 := by omega
  pointwise [pair, sums, recips, lowLane, weights]
  clean_types
  rw [below (by omega)]
  simp only [weight_at, recip_at, hv.1, hv.2, Fin.is_lt, hd, ↓reduceDIte, ↓reduceIte, mul_zero, Finset.sum_const_zero, add_zero, zero_add, headOut]
  pointwise [masked, neg_inf]
  refine congrArg (· * _) (Finset.sum_congr rfl fun k _ => congrArg (· * _) ?_)
  rw [dif_neg (by omega), dif_neg (by omega), dif_neg (by omega)]
  simp only [(by omega : 384 + r.val - 128 - 128 - 128 = r.val), Fin.eta]
set_option maxHeartbeats 2000000 in
theorem pair_3_1 (mask : IVec S128x256 1) (s : FVec Ideal S512x512 .f32) {v : FVec Ideal S512x128 .bf16} {V : Fin 256 → Fin 64 → EReal}
    (hv : IsDiag v V) (x : Fin 8 → Elt Ideal .f32) (r : Fin 128) (d : Fin 64) :
    pair mask s v x 384 6 7 slices_S512x128_o384_0_S128x128 slices_S512x512_o384_0_S128x256 slices_S512x512_o384_256_S128x256
        (ix2 r (⟨64 + d.val, by omega⟩ : Fin 128))
      = headOut (fun k => Scalar.select (mask (ix2 r k)) (s (ix2 (⟨384 + r.val, by omega⟩ : Fin 512) ⟨256 + k.val, by omega⟩)) ⊥)
          (x 7 * Named.named (F := Ideal) κ "log2e" (φ := .f32) 0x3FB8AA3B#32) fun k => V k d := by
  have hd : ¬ 64 + d.val < 64 := by omega
  pointwise [pair, sums, recips, lowLane, weights]
  clean_types
  rw [below (by omega)]
  simp only [weight_at, recip_at, hv.1, hv.2, Fin.is_lt, hd, ↓reduceDIte, ↓reduceIte, mul_zero, Finset.sum_const_zero, add_zero, zero_add, headOut]
  pointwise [masked, neg_inf]
  refine congrArg (· * _) (Finset.sum_congr rfl fun k _ => congrArg (· * _) ?_)
  rw [dif_neg (by omega), dif_neg (by omega), dif_neg (by omega)]
  simp only [(by omega : 384 + r.val - 128 - 128 - 128 = r.val), Fin.eta]

end Cert.KernelIdeal.Attend

end
-- ==== Proof.Heads.lean ====
/- Each head pair's value at a row and a lane, all thirty-two heads by one formula. -/
module

public import proofs.«01_k».proof.Proof.Index

@[expose] public section

set_option maxRecDepth 16384

noncomputable section

namespace Cert.KernelIdeal.Attend

open Cert.KernelIdeal Cert.KernelIdeal.Gen Idealize.ShloMosaic Idealize.ShloMosaic.Tactic

def log2e : EReal := Named.named (F := Ideal) κ "log2e" (φ := .f32) 0x3FB8AA3B#32

def scaleLog2e : EReal := Named.named (F := Ideal) κ "scale_log2e" (φ := .f32) 0x3E38AA3B#32

/-- One head's masked scores against a row of queries. -/
def headScores (mask : IVec S128x256 1) (q : FVec Ideal S128x2048 .bf16) (k : FVec Ideal S256x256 .f32) (h : Fin 32) (r : Fin 128) (n : Fin 256) : EReal :=
  Scalar.select (mask (ix2 r n))
    (∑ d : Fin 64, q (ix2 r ⟨64 * h.val + d.val, by omega⟩) * (k (ix2 n ⟨64 * (h.val / 8) + d.val, by omega⟩) * scaleLog2e)) ⊥

/-- One head's attention at a row and a lane. -/
def headAt (mask : IVec S128x256 1) (q : FVec Ideal S128x2048 .bf16) (k v : FVec Ideal S256x256 .f32) (x : Fin 32 → EReal) (h : Fin 32)
    (r : Fin 128) (d : Fin 64) : EReal :=
  headOut (headScores mask q k h r) (x h * log2e) fun n => v (ix2 n ⟨64 * (h.val / 8) + d.val, by omega⟩)

theorem scaled_at (k : FVec Ideal S256x256 .f32) (a b : Fin 256) : scaled k (ix2 a b) = k (ix2 a b) * scaleLog2e := rfl

theorem stack_0 (q : FVec Ideal S128x2048 .bf16) (a b c d : ℕ) (ha : S128x2048.Slices ![0, a] S128x128) (hb : S128x2048.Slices ![0, b] S128x128)
    (hc : S128x2048.Slices ![0, c] S128x128) (hd : S128x2048.Slices ![0, d] S128x128) (r l : Fin 128) (m : Fin 2048) (hm : m.val = a + l.val) :
    stack q a b c d ha hb hc hd (ix2 (⟨0 + r.val, by omega⟩ : Fin 512) l) = q (ix2 r m) := by
  pointwise [stack]
  refine congrArg q (congrArg₂ ix2 (Fin.ext ?_) (Fin.ext ?_)) <;> simp [hm] <;> omega

theorem stack_1 (q : FVec Ideal S128x2048 .bf16) (a b c d : ℕ) (ha : S128x2048.Slices ![0, a] S128x128) (hb : S128x2048.Slices ![0, b] S128x128)
    (hc : S128x2048.Slices ![0, c] S128x128) (hd : S128x2048.Slices ![0, d] S128x128) (r l : Fin 128) (m : Fin 2048) (hm : m.val = b + l.val) :
    stack q a b c d ha hb hc hd (ix2 (⟨128 + r.val, by omega⟩ : Fin 512) l) = q (ix2 r m) := by
  pointwise [stack]
  refine congrArg q (congrArg₂ ix2 (Fin.ext ?_) (Fin.ext ?_)) <;> simp [hm] <;> omega

theorem stack_2 (q : FVec Ideal S128x2048 .bf16) (a b c d : ℕ) (ha : S128x2048.Slices ![0, a] S128x128) (hb : S128x2048.Slices ![0, b] S128x128)
    (hc : S128x2048.Slices ![0, c] S128x128) (hd : S128x2048.Slices ![0, d] S128x128) (r l : Fin 128) (m : Fin 2048) (hm : m.val = c + l.val) :
    stack q a b c d ha hb hc hd (ix2 (⟨256 + r.val, by omega⟩ : Fin 512) l) = q (ix2 r m) := by
  pointwise [stack]
  rw [dif_neg (by omega), dif_neg (by omega), dif_pos (by omega)]
  refine congrArg q (congrArg₂ ix2 (Fin.ext ?_) (Fin.ext ?_)) <;> simp [hm] <;> omega

theorem stack_3 (q : FVec Ideal S128x2048 .bf16) (a b c d : ℕ) (ha : S128x2048.Slices ![0, a] S128x128) (hb : S128x2048.Slices ![0, b] S128x128)
    (hc : S128x2048.Slices ![0, c] S128x128) (hd : S128x2048.Slices ![0, d] S128x128) (r l : Fin 128) (m : Fin 2048) (hm : m.val = d + l.val) :
    stack q a b c d ha hb hc hd (ix2 (⟨384 + r.val, by omega⟩ : Fin 512) l) = q (ix2 r m) := by
  pointwise [stack]
  rw [dif_neg (by omega), dif_neg (by omega), dif_neg (by omega)]
  refine congrArg q (congrArg₂ ix2 (Fin.ext ?_) (Fin.ext ?_)) <;> simp [hm] <;> omega

theorem head_0 (mask : IVec S128x256 1) (q : FVec Ideal S128x2048 .bf16) (k v : FVec Ideal S256x256 .f32) (x : Fin 8 → Elt Ideal .f32) (X : Fin 32 → EReal)
    (hx : x 0 = X 0) (r : Fin 128) (d : Fin 64) :
    pair mask (scores (stack q 0 128 256 384 slices_S128x2048_o0_0_S128x128 slices_S128x2048_o0_128_S128x128 slices_S128x2048_o0_256_S128x128 slices_S128x2048_o0_384_S128x128) (diagFst (half0 (scaled k)))) (diagFst (half0 v)) x 0 0 1
        slices_S512x128_o0_0_S128x128 slices_S512x512_o0_0_S128x256 slices_S512x512_o0_256_S128x256 (ix2 r (⟨d.val, by omega⟩ : Fin 128))
      = headAt mask q k v X 0 r d := by
  refine (pair_0_0 mask _ (isDiag_0 v) x r d).trans ?_
  rw [hx]
  refine congrArg₂ (fun a b => headOut a (X 0 * log2e) b) (funext fun n => ?_) (funext fun n => rfl)
  rw [scores_fst (isDiag_0 (scaled k))]
  refine congrArg (fun z => Scalar.select (mask (ix2 r n)) z ⊥) (Finset.sum_congr rfl fun d _ => ?_)
  rw [stack_0 q 0 128 256 384 slices_S128x2048_o0_0_S128x128 slices_S128x2048_o0_128_S128x128 slices_S128x2048_o0_256_S128x128 slices_S128x2048_o0_384_S128x128 r _ ⟨64 * 0 + d.val, by omega⟩ (by show 64 * 0 + d.val = 0 + (d.val); omega), scaled_at]
  rfl

theorem head_1 (mask : IVec S128x256 1) (q : FVec Ideal S128x2048 .bf16) (k v : FVec Ideal S256x256 .f32) (x : Fin 8 → Elt Ideal .f32) (X : Fin 32 → EReal)
    (hx : x 1 = X 1) (r : Fin 128) (d : Fin 64) :
    pair mask (scores (stack q 0 128 256 384 slices_S128x2048_o0_0_S128x128 slices_S128x2048_o0_128_S128x128 slices_S128x2048_o0_256_S128x128 slices_S128x2048_o0_384_S128x128) (diagFst (half0 (scaled k)))) (diagFst (half0 v)) x 0 0 1
        slices_S512x128_o0_0_S128x128 slices_S512x512_o0_0_S128x256 slices_S512x512_o0_256_S128x256 (ix2 r (⟨64 + d.val, by omega⟩ : Fin 128))
      = headAt mask q k v X 1 r d := by
  refine (pair_0_1 mask _ (isDiag_0 v) x r d).trans ?_
  rw [hx]
  refine congrArg₂ (fun a b => headOut a (X 1 * log2e) b) (funext fun n => ?_) (funext fun n => rfl)
  rw [scores_snd (isDiag_0 (scaled k))]
  refine congrArg (fun z => Scalar.select (mask (ix2 r n)) z ⊥) (Finset.sum_congr rfl fun d _ => ?_)
  rw [stack_0 q 0 128 256 384 slices_S128x2048_o0_0_S128x128 slices_S128x2048_o0_128_S128x128 slices_S128x2048_o0_256_S128x128 slices_S128x2048_o0_384_S128x128 r _ ⟨64 * 1 + d.val, by omega⟩ (by show 64 * 1 + d.val = 0 + (64 + d.val); omega), scaled_at]
  rfl

theorem head_2 (mask : IVec S128x256 1) (q : FVec Ideal S128x2048 .bf16) (k v : FVec Ideal S256x256 .f32) (x : Fin 8 → Elt Ideal .f32) (X : Fin 32 → EReal)
    (hx : x 2 = X 2) (r : Fin 128) (d : Fin 64) :
    pair mask (scores (stack q 0 128 256 384 slices_S128x2048_o0_0_S128x128 slices_S128x2048_o0_128_S128x128 slices_S128x2048_o0_256_S128x128 slices_S128x2048_o0_384_S128x128) (diagFst (half0 (scaled k)))) (diagFst (half0 v)) x 128 2 3
        slices_S512x128_o128_0_S128x128 slices_S512x512_o128_0_S128x256 slices_S512x512_o128_256_S128x256 (ix2 r (⟨d.val, by omega⟩ : Fin 128))
      = headAt mask q k v X 2 r d := by
  refine (pair_1_0 mask _ (isDiag_0 v) x r d).trans ?_
  rw [hx]
  refine congrArg₂ (fun a b => headOut a (X 2 * log2e) b) (funext fun n => ?_) (funext fun n => rfl)
  rw [scores_fst (isDiag_0 (scaled k))]
  refine congrArg (fun z => Scalar.select (mask (ix2 r n)) z ⊥) (Finset.sum_congr rfl fun d _ => ?_)
  rw [stack_1 q 0 128 256 384 slices_S128x2048_o0_0_S128x128 slices_S128x2048_o0_128_S128x128 slices_S128x2048_o0_256_S128x128 slices_S128x2048_o0_384_S128x128 r _ ⟨64 * 2 + d.val, by omega⟩ (by show 64 * 2 + d.val = 128 + (d.val); omega), scaled_at]
  rfl

theorem head_3 (mask : IVec S128x256 1) (q : FVec Ideal S128x2048 .bf16) (k v : FVec Ideal S256x256 .f32) (x : Fin 8 → Elt Ideal .f32) (X : Fin 32 → EReal)
    (hx : x 3 = X 3) (r : Fin 128) (d : Fin 64) :
    pair mask (scores (stack q 0 128 256 384 slices_S128x2048_o0_0_S128x128 slices_S128x2048_o0_128_S128x128 slices_S128x2048_o0_256_S128x128 slices_S128x2048_o0_384_S128x128) (diagFst (half0 (scaled k)))) (diagFst (half0 v)) x 128 2 3
        slices_S512x128_o128_0_S128x128 slices_S512x512_o128_0_S128x256 slices_S512x512_o128_256_S128x256 (ix2 r (⟨64 + d.val, by omega⟩ : Fin 128))
      = headAt mask q k v X 3 r d := by
  refine (pair_1_1 mask _ (isDiag_0 v) x r d).trans ?_
  rw [hx]
  refine congrArg₂ (fun a b => headOut a (X 3 * log2e) b) (funext fun n => ?_) (funext fun n => rfl)
  rw [scores_snd (isDiag_0 (scaled k))]
  refine congrArg (fun z => Scalar.select (mask (ix2 r n)) z ⊥) (Finset.sum_congr rfl fun d _ => ?_)
  rw [stack_1 q 0 128 256 384 slices_S128x2048_o0_0_S128x128 slices_S128x2048_o0_128_S128x128 slices_S128x2048_o0_256_S128x128 slices_S128x2048_o0_384_S128x128 r _ ⟨64 * 3 + d.val, by omega⟩ (by show 64 * 3 + d.val = 128 + (64 + d.val); omega), scaled_at]
  rfl

theorem head_4 (mask : IVec S128x256 1) (q : FVec Ideal S128x2048 .bf16) (k v : FVec Ideal S256x256 .f32) (x : Fin 8 → Elt Ideal .f32) (X : Fin 32 → EReal)
    (hx : x 4 = X 4) (r : Fin 128) (d : Fin 64) :
    pair mask (scores (stack q 0 128 256 384 slices_S128x2048_o0_0_S128x128 slices_S128x2048_o0_128_S128x128 slices_S128x2048_o0_256_S128x128 slices_S128x2048_o0_384_S128x128) (diagFst (half0 (scaled k)))) (diagFst (half0 v)) x 256 4 5
        slices_S512x128_o256_0_S128x128 slices_S512x512_o256_0_S128x256 slices_S512x512_o256_256_S128x256 (ix2 r (⟨d.val, by omega⟩ : Fin 128))
      = headAt mask q k v X 4 r d := by
  refine (pair_2_0 mask _ (isDiag_0 v) x r d).trans ?_
  rw [hx]
  refine congrArg₂ (fun a b => headOut a (X 4 * log2e) b) (funext fun n => ?_) (funext fun n => rfl)
  rw [scores_fst (isDiag_0 (scaled k))]
  refine congrArg (fun z => Scalar.select (mask (ix2 r n)) z ⊥) (Finset.sum_congr rfl fun d _ => ?_)
  rw [stack_2 q 0 128 256 384 slices_S128x2048_o0_0_S128x128 slices_S128x2048_o0_128_S128x128 slices_S128x2048_o0_256_S128x128 slices_S128x2048_o0_384_S128x128 r _ ⟨64 * 4 + d.val, by omega⟩ (by show 64 * 4 + d.val = 256 + (d.val); omega), scaled_at]
  rfl

theorem head_5 (mask : IVec S128x256 1) (q : FVec Ideal S128x2048 .bf16) (k v : FVec Ideal S256x256 .f32) (x : Fin 8 → Elt Ideal .f32) (X : Fin 32 → EReal)
    (hx : x 5 = X 5) (r : Fin 128) (d : Fin 64) :
    pair mask (scores (stack q 0 128 256 384 slices_S128x2048_o0_0_S128x128 slices_S128x2048_o0_128_S128x128 slices_S128x2048_o0_256_S128x128 slices_S128x2048_o0_384_S128x128) (diagFst (half0 (scaled k)))) (diagFst (half0 v)) x 256 4 5
        slices_S512x128_o256_0_S128x128 slices_S512x512_o256_0_S128x256 slices_S512x512_o256_256_S128x256 (ix2 r (⟨64 + d.val, by omega⟩ : Fin 128))
      = headAt mask q k v X 5 r d := by
  refine (pair_2_1 mask _ (isDiag_0 v) x r d).trans ?_
  rw [hx]
  refine congrArg₂ (fun a b => headOut a (X 5 * log2e) b) (funext fun n => ?_) (funext fun n => rfl)
  rw [scores_snd (isDiag_0 (scaled k))]
  refine congrArg (fun z => Scalar.select (mask (ix2 r n)) z ⊥) (Finset.sum_congr rfl fun d _ => ?_)
  rw [stack_2 q 0 128 256 384 slices_S128x2048_o0_0_S128x128 slices_S128x2048_o0_128_S128x128 slices_S128x2048_o0_256_S128x128 slices_S128x2048_o0_384_S128x128 r _ ⟨64 * 5 + d.val, by omega⟩ (by show 64 * 5 + d.val = 256 + (64 + d.val); omega), scaled_at]
  rfl

theorem head_6 (mask : IVec S128x256 1) (q : FVec Ideal S128x2048 .bf16) (k v : FVec Ideal S256x256 .f32) (x : Fin 8 → Elt Ideal .f32) (X : Fin 32 → EReal)
    (hx : x 6 = X 6) (r : Fin 128) (d : Fin 64) :
    pair mask (scores (stack q 0 128 256 384 slices_S128x2048_o0_0_S128x128 slices_S128x2048_o0_128_S128x128 slices_S128x2048_o0_256_S128x128 slices_S128x2048_o0_384_S128x128) (diagFst (half0 (scaled k)))) (diagFst (half0 v)) x 384 6 7
        slices_S512x128_o384_0_S128x128 slices_S512x512_o384_0_S128x256 slices_S512x512_o384_256_S128x256 (ix2 r (⟨d.val, by omega⟩ : Fin 128))
      = headAt mask q k v X 6 r d := by
  refine (pair_3_0 mask _ (isDiag_0 v) x r d).trans ?_
  rw [hx]
  refine congrArg₂ (fun a b => headOut a (X 6 * log2e) b) (funext fun n => ?_) (funext fun n => rfl)
  rw [scores_fst (isDiag_0 (scaled k))]
  refine congrArg (fun z => Scalar.select (mask (ix2 r n)) z ⊥) (Finset.sum_congr rfl fun d _ => ?_)
  rw [stack_3 q 0 128 256 384 slices_S128x2048_o0_0_S128x128 slices_S128x2048_o0_128_S128x128 slices_S128x2048_o0_256_S128x128 slices_S128x2048_o0_384_S128x128 r _ ⟨64 * 6 + d.val, by omega⟩ (by show 64 * 6 + d.val = 384 + (d.val); omega), scaled_at]
  rfl

theorem head_7 (mask : IVec S128x256 1) (q : FVec Ideal S128x2048 .bf16) (k v : FVec Ideal S256x256 .f32) (x : Fin 8 → Elt Ideal .f32) (X : Fin 32 → EReal)
    (hx : x 7 = X 7) (r : Fin 128) (d : Fin 64) :
    pair mask (scores (stack q 0 128 256 384 slices_S128x2048_o0_0_S128x128 slices_S128x2048_o0_128_S128x128 slices_S128x2048_o0_256_S128x128 slices_S128x2048_o0_384_S128x128) (diagFst (half0 (scaled k)))) (diagFst (half0 v)) x 384 6 7
        slices_S512x128_o384_0_S128x128 slices_S512x512_o384_0_S128x256 slices_S512x512_o384_256_S128x256 (ix2 r (⟨64 + d.val, by omega⟩ : Fin 128))
      = headAt mask q k v X 7 r d := by
  refine (pair_3_1 mask _ (isDiag_0 v) x r d).trans ?_
  rw [hx]
  refine congrArg₂ (fun a b => headOut a (X 7 * log2e) b) (funext fun n => ?_) (funext fun n => rfl)
  rw [scores_snd (isDiag_0 (scaled k))]
  refine congrArg (fun z => Scalar.select (mask (ix2 r n)) z ⊥) (Finset.sum_congr rfl fun d _ => ?_)
  rw [stack_3 q 0 128 256 384 slices_S128x2048_o0_0_S128x128 slices_S128x2048_o0_128_S128x128 slices_S128x2048_o0_256_S128x128 slices_S128x2048_o0_384_S128x128 r _ ⟨64 * 7 + d.val, by omega⟩ (by show 64 * 7 + d.val = 384 + (64 + d.val); omega), scaled_at]
  rfl

theorem head_8 (mask : IVec S128x256 1) (q : FVec Ideal S128x2048 .bf16) (k v : FVec Ideal S256x256 .f32) (x : Fin 8 → Elt Ideal .f32) (X : Fin 32 → EReal)
    (hx : x 0 = X 8) (r : Fin 128) (d : Fin 64) :
    pair mask (scores (stack q 512 640 768 896 slices_S128x2048_o0_512_S128x128 slices_S128x2048_o0_640_S128x128 slices_S128x2048_o0_768_S128x128 slices_S128x2048_o0_896_S128x128) (diagSnd (half0 (scaled k)))) (diagSnd (half0 v)) x 0 0 1
        slices_S512x128_o0_0_S128x128 slices_S512x512_o0_0_S128x256 slices_S512x512_o0_256_S128x256 (ix2 r (⟨d.val, by omega⟩ : Fin 128))
      = headAt mask q k v X 8 r d := by
  refine (pair_0_0 mask _ (isDiag_1 v) x r d).trans ?_
  rw [hx]
  refine congrArg₂ (fun a b => headOut a (X 8 * log2e) b) (funext fun n => ?_) (funext fun n => rfl)
  rw [scores_fst (isDiag_1 (scaled k))]
  refine congrArg (fun z => Scalar.select (mask (ix2 r n)) z ⊥) (Finset.sum_congr rfl fun d _ => ?_)
  rw [stack_0 q 512 640 768 896 slices_S128x2048_o0_512_S128x128 slices_S128x2048_o0_640_S128x128 slices_S128x2048_o0_768_S128x128 slices_S128x2048_o0_896_S128x128 r _ ⟨64 * 8 + d.val, by omega⟩ (by show 64 * 8 + d.val = 512 + (d.val); omega), scaled_at]
  rfl

theorem head_9 (mask : IVec S128x256 1) (q : FVec Ideal S128x2048 .bf16) (k v : FVec Ideal S256x256 .f32) (x : Fin 8 → Elt Ideal .f32) (X : Fin 32 → EReal)
    (hx : x 1 = X 9) (r : Fin 128) (d : Fin 64) :
    pair mask (scores (stack q 512 640 768 896 slices_S128x2048_o0_512_S128x128 slices_S128x2048_o0_640_S128x128 slices_S128x2048_o0_768_S128x128 slices_S128x2048_o0_896_S128x128) (diagSnd (half0 (scaled k)))) (diagSnd (half0 v)) x 0 0 1
        slices_S512x128_o0_0_S128x128 slices_S512x512_o0_0_S128x256 slices_S512x512_o0_256_S128x256 (ix2 r (⟨64 + d.val, by omega⟩ : Fin 128))
      = headAt mask q k v X 9 r d := by
  refine (pair_0_1 mask _ (isDiag_1 v) x r d).trans ?_
  rw [hx]
  refine congrArg₂ (fun a b => headOut a (X 9 * log2e) b) (funext fun n => ?_) (funext fun n => rfl)
  rw [scores_snd (isDiag_1 (scaled k))]
  refine congrArg (fun z => Scalar.select (mask (ix2 r n)) z ⊥) (Finset.sum_congr rfl fun d _ => ?_)
  rw [stack_0 q 512 640 768 896 slices_S128x2048_o0_512_S128x128 slices_S128x2048_o0_640_S128x128 slices_S128x2048_o0_768_S128x128 slices_S128x2048_o0_896_S128x128 r _ ⟨64 * 9 + d.val, by omega⟩ (by show 64 * 9 + d.val = 512 + (64 + d.val); omega), scaled_at]
  rfl

theorem head_10 (mask : IVec S128x256 1) (q : FVec Ideal S128x2048 .bf16) (k v : FVec Ideal S256x256 .f32) (x : Fin 8 → Elt Ideal .f32) (X : Fin 32 → EReal)
    (hx : x 2 = X 10) (r : Fin 128) (d : Fin 64) :
    pair mask (scores (stack q 512 640 768 896 slices_S128x2048_o0_512_S128x128 slices_S128x2048_o0_640_S128x128 slices_S128x2048_o0_768_S128x128 slices_S128x2048_o0_896_S128x128) (diagSnd (half0 (scaled k)))) (diagSnd (half0 v)) x 128 2 3
        slices_S512x128_o128_0_S128x128 slices_S512x512_o128_0_S128x256 slices_S512x512_o128_256_S128x256 (ix2 r (⟨d.val, by omega⟩ : Fin 128))
      = headAt mask q k v X 10 r d := by
  refine (pair_1_0 mask _ (isDiag_1 v) x r d).trans ?_
  rw [hx]
  refine congrArg₂ (fun a b => headOut a (X 10 * log2e) b) (funext fun n => ?_) (funext fun n => rfl)
  rw [scores_fst (isDiag_1 (scaled k))]
  refine congrArg (fun z => Scalar.select (mask (ix2 r n)) z ⊥) (Finset.sum_congr rfl fun d _ => ?_)
  rw [stack_1 q 512 640 768 896 slices_S128x2048_o0_512_S128x128 slices_S128x2048_o0_640_S128x128 slices_S128x2048_o0_768_S128x128 slices_S128x2048_o0_896_S128x128 r _ ⟨64 * 10 + d.val, by omega⟩ (by show 64 * 10 + d.val = 640 + (d.val); omega), scaled_at]
  rfl

theorem head_11 (mask : IVec S128x256 1) (q : FVec Ideal S128x2048 .bf16) (k v : FVec Ideal S256x256 .f32) (x : Fin 8 → Elt Ideal .f32) (X : Fin 32 → EReal)
    (hx : x 3 = X 11) (r : Fin 128) (d : Fin 64) :
    pair mask (scores (stack q 512 640 768 896 slices_S128x2048_o0_512_S128x128 slices_S128x2048_o0_640_S128x128 slices_S128x2048_o0_768_S128x128 slices_S128x2048_o0_896_S128x128) (diagSnd (half0 (scaled k)))) (diagSnd (half0 v)) x 128 2 3
        slices_S512x128_o128_0_S128x128 slices_S512x512_o128_0_S128x256 slices_S512x512_o128_256_S128x256 (ix2 r (⟨64 + d.val, by omega⟩ : Fin 128))
      = headAt mask q k v X 11 r d := by
  refine (pair_1_1 mask _ (isDiag_1 v) x r d).trans ?_
  rw [hx]
  refine congrArg₂ (fun a b => headOut a (X 11 * log2e) b) (funext fun n => ?_) (funext fun n => rfl)
  rw [scores_snd (isDiag_1 (scaled k))]
  refine congrArg (fun z => Scalar.select (mask (ix2 r n)) z ⊥) (Finset.sum_congr rfl fun d _ => ?_)
  rw [stack_1 q 512 640 768 896 slices_S128x2048_o0_512_S128x128 slices_S128x2048_o0_640_S128x128 slices_S128x2048_o0_768_S128x128 slices_S128x2048_o0_896_S128x128 r _ ⟨64 * 11 + d.val, by omega⟩ (by show 64 * 11 + d.val = 640 + (64 + d.val); omega), scaled_at]
  rfl

theorem head_12 (mask : IVec S128x256 1) (q : FVec Ideal S128x2048 .bf16) (k v : FVec Ideal S256x256 .f32) (x : Fin 8 → Elt Ideal .f32) (X : Fin 32 → EReal)
    (hx : x 4 = X 12) (r : Fin 128) (d : Fin 64) :
    pair mask (scores (stack q 512 640 768 896 slices_S128x2048_o0_512_S128x128 slices_S128x2048_o0_640_S128x128 slices_S128x2048_o0_768_S128x128 slices_S128x2048_o0_896_S128x128) (diagSnd (half0 (scaled k)))) (diagSnd (half0 v)) x 256 4 5
        slices_S512x128_o256_0_S128x128 slices_S512x512_o256_0_S128x256 slices_S512x512_o256_256_S128x256 (ix2 r (⟨d.val, by omega⟩ : Fin 128))
      = headAt mask q k v X 12 r d := by
  refine (pair_2_0 mask _ (isDiag_1 v) x r d).trans ?_
  rw [hx]
  refine congrArg₂ (fun a b => headOut a (X 12 * log2e) b) (funext fun n => ?_) (funext fun n => rfl)
  rw [scores_fst (isDiag_1 (scaled k))]
  refine congrArg (fun z => Scalar.select (mask (ix2 r n)) z ⊥) (Finset.sum_congr rfl fun d _ => ?_)
  rw [stack_2 q 512 640 768 896 slices_S128x2048_o0_512_S128x128 slices_S128x2048_o0_640_S128x128 slices_S128x2048_o0_768_S128x128 slices_S128x2048_o0_896_S128x128 r _ ⟨64 * 12 + d.val, by omega⟩ (by show 64 * 12 + d.val = 768 + (d.val); omega), scaled_at]
  rfl

theorem head_13 (mask : IVec S128x256 1) (q : FVec Ideal S128x2048 .bf16) (k v : FVec Ideal S256x256 .f32) (x : Fin 8 → Elt Ideal .f32) (X : Fin 32 → EReal)
    (hx : x 5 = X 13) (r : Fin 128) (d : Fin 64) :
    pair mask (scores (stack q 512 640 768 896 slices_S128x2048_o0_512_S128x128 slices_S128x2048_o0_640_S128x128 slices_S128x2048_o0_768_S128x128 slices_S128x2048_o0_896_S128x128) (diagSnd (half0 (scaled k)))) (diagSnd (half0 v)) x 256 4 5
        slices_S512x128_o256_0_S128x128 slices_S512x512_o256_0_S128x256 slices_S512x512_o256_256_S128x256 (ix2 r (⟨64 + d.val, by omega⟩ : Fin 128))
      = headAt mask q k v X 13 r d := by
  refine (pair_2_1 mask _ (isDiag_1 v) x r d).trans ?_
  rw [hx]
  refine congrArg₂ (fun a b => headOut a (X 13 * log2e) b) (funext fun n => ?_) (funext fun n => rfl)
  rw [scores_snd (isDiag_1 (scaled k))]
  refine congrArg (fun z => Scalar.select (mask (ix2 r n)) z ⊥) (Finset.sum_congr rfl fun d _ => ?_)
  rw [stack_2 q 512 640 768 896 slices_S128x2048_o0_512_S128x128 slices_S128x2048_o0_640_S128x128 slices_S128x2048_o0_768_S128x128 slices_S128x2048_o0_896_S128x128 r _ ⟨64 * 13 + d.val, by omega⟩ (by show 64 * 13 + d.val = 768 + (64 + d.val); omega), scaled_at]
  rfl

theorem head_14 (mask : IVec S128x256 1) (q : FVec Ideal S128x2048 .bf16) (k v : FVec Ideal S256x256 .f32) (x : Fin 8 → Elt Ideal .f32) (X : Fin 32 → EReal)
    (hx : x 6 = X 14) (r : Fin 128) (d : Fin 64) :
    pair mask (scores (stack q 512 640 768 896 slices_S128x2048_o0_512_S128x128 slices_S128x2048_o0_640_S128x128 slices_S128x2048_o0_768_S128x128 slices_S128x2048_o0_896_S128x128) (diagSnd (half0 (scaled k)))) (diagSnd (half0 v)) x 384 6 7
        slices_S512x128_o384_0_S128x128 slices_S512x512_o384_0_S128x256 slices_S512x512_o384_256_S128x256 (ix2 r (⟨d.val, by omega⟩ : Fin 128))
      = headAt mask q k v X 14 r d := by
  refine (pair_3_0 mask _ (isDiag_1 v) x r d).trans ?_
  rw [hx]
  refine congrArg₂ (fun a b => headOut a (X 14 * log2e) b) (funext fun n => ?_) (funext fun n => rfl)
  rw [scores_fst (isDiag_1 (scaled k))]
  refine congrArg (fun z => Scalar.select (mask (ix2 r n)) z ⊥) (Finset.sum_congr rfl fun d _ => ?_)
  rw [stack_3 q 512 640 768 896 slices_S128x2048_o0_512_S128x128 slices_S128x2048_o0_640_S128x128 slices_S128x2048_o0_768_S128x128 slices_S128x2048_o0_896_S128x128 r _ ⟨64 * 14 + d.val, by omega⟩ (by show 64 * 14 + d.val = 896 + (d.val); omega), scaled_at]
  rfl

theorem head_15 (mask : IVec S128x256 1) (q : FVec Ideal S128x2048 .bf16) (k v : FVec Ideal S256x256 .f32) (x : Fin 8 → Elt Ideal .f32) (X : Fin 32 → EReal)
    (hx : x 7 = X 15) (r : Fin 128) (d : Fin 64) :
    pair mask (scores (stack q 512 640 768 896 slices_S128x2048_o0_512_S128x128 slices_S128x2048_o0_640_S128x128 slices_S128x2048_o0_768_S128x128 slices_S128x2048_o0_896_S128x128) (diagSnd (half0 (scaled k)))) (diagSnd (half0 v)) x 384 6 7
        slices_S512x128_o384_0_S128x128 slices_S512x512_o384_0_S128x256 slices_S512x512_o384_256_S128x256 (ix2 r (⟨64 + d.val, by omega⟩ : Fin 128))
      = headAt mask q k v X 15 r d := by
  refine (pair_3_1 mask _ (isDiag_1 v) x r d).trans ?_
  rw [hx]
  refine congrArg₂ (fun a b => headOut a (X 15 * log2e) b) (funext fun n => ?_) (funext fun n => rfl)
  rw [scores_snd (isDiag_1 (scaled k))]
  refine congrArg (fun z => Scalar.select (mask (ix2 r n)) z ⊥) (Finset.sum_congr rfl fun d _ => ?_)
  rw [stack_3 q 512 640 768 896 slices_S128x2048_o0_512_S128x128 slices_S128x2048_o0_640_S128x128 slices_S128x2048_o0_768_S128x128 slices_S128x2048_o0_896_S128x128 r _ ⟨64 * 15 + d.val, by omega⟩ (by show 64 * 15 + d.val = 896 + (64 + d.val); omega), scaled_at]
  rfl

theorem head_16 (mask : IVec S128x256 1) (q : FVec Ideal S128x2048 .bf16) (k v : FVec Ideal S256x256 .f32) (x : Fin 8 → Elt Ideal .f32) (X : Fin 32 → EReal)
    (hx : x 0 = X 16) (r : Fin 128) (d : Fin 64) :
    pair mask (scores (stack q 1024 1152 1280 1408 slices_S128x2048_o0_1024_S128x128 slices_S128x2048_o0_1152_S128x128 slices_S128x2048_o0_1280_S128x128 slices_S128x2048_o0_1408_S128x128) (diagFst (half1 (scaled k)))) (diagFst (half1 v)) x 0 0 1
        slices_S512x128_o0_0_S128x128 slices_S512x512_o0_0_S128x256 slices_S512x512_o0_256_S128x256 (ix2 r (⟨d.val, by omega⟩ : Fin 128))
      = headAt mask q k v X 16 r d := by
  refine (pair_0_0 mask _ (isDiag_2 v) x r d).trans ?_
  rw [hx]
  refine congrArg₂ (fun a b => headOut a (X 16 * log2e) b) (funext fun n => ?_) (funext fun n => rfl)
  rw [scores_fst (isDiag_2 (scaled k))]
  refine congrArg (fun z => Scalar.select (mask (ix2 r n)) z ⊥) (Finset.sum_congr rfl fun d _ => ?_)
  rw [stack_0 q 1024 1152 1280 1408 slices_S128x2048_o0_1024_S128x128 slices_S128x2048_o0_1152_S128x128 slices_S128x2048_o0_1280_S128x128 slices_S128x2048_o0_1408_S128x128 r _ ⟨64 * 16 + d.val, by omega⟩ (by show 64 * 16 + d.val = 1024 + (d.val); omega), scaled_at]
  rfl

theorem head_17 (mask : IVec S128x256 1) (q : FVec Ideal S128x2048 .bf16) (k v : FVec Ideal S256x256 .f32) (x : Fin 8 → Elt Ideal .f32) (X : Fin 32 → EReal)
    (hx : x 1 = X 17) (r : Fin 128) (d : Fin 64) :
    pair mask (scores (stack q 1024 1152 1280 1408 slices_S128x2048_o0_1024_S128x128 slices_S128x2048_o0_1152_S128x128 slices_S128x2048_o0_1280_S128x128 slices_S128x2048_o0_1408_S128x128) (diagFst (half1 (scaled k)))) (diagFst (half1 v)) x 0 0 1
        slices_S512x128_o0_0_S128x128 slices_S512x512_o0_0_S128x256 slices_S512x512_o0_256_S128x256 (ix2 r (⟨64 + d.val, by omega⟩ : Fin 128))
      = headAt mask q k v X 17 r d := by
  refine (pair_0_1 mask _ (isDiag_2 v) x r d).trans ?_
  rw [hx]
  refine congrArg₂ (fun a b => headOut a (X 17 * log2e) b) (funext fun n => ?_) (funext fun n => rfl)
  rw [scores_snd (isDiag_2 (scaled k))]
  refine congrArg (fun z => Scalar.select (mask (ix2 r n)) z ⊥) (Finset.sum_congr rfl fun d _ => ?_)
  rw [stack_0 q 1024 1152 1280 1408 slices_S128x2048_o0_1024_S128x128 slices_S128x2048_o0_1152_S128x128 slices_S128x2048_o0_1280_S128x128 slices_S128x2048_o0_1408_S128x128 r _ ⟨64 * 17 + d.val, by omega⟩ (by show 64 * 17 + d.val = 1024 + (64 + d.val); omega), scaled_at]
  rfl

theorem head_18 (mask : IVec S128x256 1) (q : FVec Ideal S128x2048 .bf16) (k v : FVec Ideal S256x256 .f32) (x : Fin 8 → Elt Ideal .f32) (X : Fin 32 → EReal)
    (hx : x 2 = X 18) (r : Fin 128) (d : Fin 64) :
    pair mask (scores (stack q 1024 1152 1280 1408 slices_S128x2048_o0_1024_S128x128 slices_S128x2048_o0_1152_S128x128 slices_S128x2048_o0_1280_S128x128 slices_S128x2048_o0_1408_S128x128) (diagFst (half1 (scaled k)))) (diagFst (half1 v)) x 128 2 3
        slices_S512x128_o128_0_S128x128 slices_S512x512_o128_0_S128x256 slices_S512x512_o128_256_S128x256 (ix2 r (⟨d.val, by omega⟩ : Fin 128))
      = headAt mask q k v X 18 r d := by
  refine (pair_1_0 mask _ (isDiag_2 v) x r d).trans ?_
  rw [hx]
  refine congrArg₂ (fun a b => headOut a (X 18 * log2e) b) (funext fun n => ?_) (funext fun n => rfl)
  rw [scores_fst (isDiag_2 (scaled k))]
  refine congrArg (fun z => Scalar.select (mask (ix2 r n)) z ⊥) (Finset.sum_congr rfl fun d _ => ?_)
  rw [stack_1 q 1024 1152 1280 1408 slices_S128x2048_o0_1024_S128x128 slices_S128x2048_o0_1152_S128x128 slices_S128x2048_o0_1280_S128x128 slices_S128x2048_o0_1408_S128x128 r _ ⟨64 * 18 + d.val, by omega⟩ (by show 64 * 18 + d.val = 1152 + (d.val); omega), scaled_at]
  rfl

theorem head_19 (mask : IVec S128x256 1) (q : FVec Ideal S128x2048 .bf16) (k v : FVec Ideal S256x256 .f32) (x : Fin 8 → Elt Ideal .f32) (X : Fin 32 → EReal)
    (hx : x 3 = X 19) (r : Fin 128) (d : Fin 64) :
    pair mask (scores (stack q 1024 1152 1280 1408 slices_S128x2048_o0_1024_S128x128 slices_S128x2048_o0_1152_S128x128 slices_S128x2048_o0_1280_S128x128 slices_S128x2048_o0_1408_S128x128) (diagFst (half1 (scaled k)))) (diagFst (half1 v)) x 128 2 3
        slices_S512x128_o128_0_S128x128 slices_S512x512_o128_0_S128x256 slices_S512x512_o128_256_S128x256 (ix2 r (⟨64 + d.val, by omega⟩ : Fin 128))
      = headAt mask q k v X 19 r d := by
  refine (pair_1_1 mask _ (isDiag_2 v) x r d).trans ?_
  rw [hx]
  refine congrArg₂ (fun a b => headOut a (X 19 * log2e) b) (funext fun n => ?_) (funext fun n => rfl)
  rw [scores_snd (isDiag_2 (scaled k))]
  refine congrArg (fun z => Scalar.select (mask (ix2 r n)) z ⊥) (Finset.sum_congr rfl fun d _ => ?_)
  rw [stack_1 q 1024 1152 1280 1408 slices_S128x2048_o0_1024_S128x128 slices_S128x2048_o0_1152_S128x128 slices_S128x2048_o0_1280_S128x128 slices_S128x2048_o0_1408_S128x128 r _ ⟨64 * 19 + d.val, by omega⟩ (by show 64 * 19 + d.val = 1152 + (64 + d.val); omega), scaled_at]
  rfl

theorem head_20 (mask : IVec S128x256 1) (q : FVec Ideal S128x2048 .bf16) (k v : FVec Ideal S256x256 .f32) (x : Fin 8 → Elt Ideal .f32) (X : Fin 32 → EReal)
    (hx : x 4 = X 20) (r : Fin 128) (d : Fin 64) :
    pair mask (scores (stack q 1024 1152 1280 1408 slices_S128x2048_o0_1024_S128x128 slices_S128x2048_o0_1152_S128x128 slices_S128x2048_o0_1280_S128x128 slices_S128x2048_o0_1408_S128x128) (diagFst (half1 (scaled k)))) (diagFst (half1 v)) x 256 4 5
        slices_S512x128_o256_0_S128x128 slices_S512x512_o256_0_S128x256 slices_S512x512_o256_256_S128x256 (ix2 r (⟨d.val, by omega⟩ : Fin 128))
      = headAt mask q k v X 20 r d := by
  refine (pair_2_0 mask _ (isDiag_2 v) x r d).trans ?_
  rw [hx]
  refine congrArg₂ (fun a b => headOut a (X 20 * log2e) b) (funext fun n => ?_) (funext fun n => rfl)
  rw [scores_fst (isDiag_2 (scaled k))]
  refine congrArg (fun z => Scalar.select (mask (ix2 r n)) z ⊥) (Finset.sum_congr rfl fun d _ => ?_)
  rw [stack_2 q 1024 1152 1280 1408 slices_S128x2048_o0_1024_S128x128 slices_S128x2048_o0_1152_S128x128 slices_S128x2048_o0_1280_S128x128 slices_S128x2048_o0_1408_S128x128 r _ ⟨64 * 20 + d.val, by omega⟩ (by show 64 * 20 + d.val = 1280 + (d.val); omega), scaled_at]
  rfl

theorem head_21 (mask : IVec S128x256 1) (q : FVec Ideal S128x2048 .bf16) (k v : FVec Ideal S256x256 .f32) (x : Fin 8 → Elt Ideal .f32) (X : Fin 32 → EReal)
    (hx : x 5 = X 21) (r : Fin 128) (d : Fin 64) :
    pair mask (scores (stack q 1024 1152 1280 1408 slices_S128x2048_o0_1024_S128x128 slices_S128x2048_o0_1152_S128x128 slices_S128x2048_o0_1280_S128x128 slices_S128x2048_o0_1408_S128x128) (diagFst (half1 (scaled k)))) (diagFst (half1 v)) x 256 4 5
        slices_S512x128_o256_0_S128x128 slices_S512x512_o256_0_S128x256 slices_S512x512_o256_256_S128x256 (ix2 r (⟨64 + d.val, by omega⟩ : Fin 128))
      = headAt mask q k v X 21 r d := by
  refine (pair_2_1 mask _ (isDiag_2 v) x r d).trans ?_
  rw [hx]
  refine congrArg₂ (fun a b => headOut a (X 21 * log2e) b) (funext fun n => ?_) (funext fun n => rfl)
  rw [scores_snd (isDiag_2 (scaled k))]
  refine congrArg (fun z => Scalar.select (mask (ix2 r n)) z ⊥) (Finset.sum_congr rfl fun d _ => ?_)
  rw [stack_2 q 1024 1152 1280 1408 slices_S128x2048_o0_1024_S128x128 slices_S128x2048_o0_1152_S128x128 slices_S128x2048_o0_1280_S128x128 slices_S128x2048_o0_1408_S128x128 r _ ⟨64 * 21 + d.val, by omega⟩ (by show 64 * 21 + d.val = 1280 + (64 + d.val); omega), scaled_at]
  rfl

theorem head_22 (mask : IVec S128x256 1) (q : FVec Ideal S128x2048 .bf16) (k v : FVec Ideal S256x256 .f32) (x : Fin 8 → Elt Ideal .f32) (X : Fin 32 → EReal)
    (hx : x 6 = X 22) (r : Fin 128) (d : Fin 64) :
    pair mask (scores (stack q 1024 1152 1280 1408 slices_S128x2048_o0_1024_S128x128 slices_S128x2048_o0_1152_S128x128 slices_S128x2048_o0_1280_S128x128 slices_S128x2048_o0_1408_S128x128) (diagFst (half1 (scaled k)))) (diagFst (half1 v)) x 384 6 7
        slices_S512x128_o384_0_S128x128 slices_S512x512_o384_0_S128x256 slices_S512x512_o384_256_S128x256 (ix2 r (⟨d.val, by omega⟩ : Fin 128))
      = headAt mask q k v X 22 r d := by
  refine (pair_3_0 mask _ (isDiag_2 v) x r d).trans ?_
  rw [hx]
  refine congrArg₂ (fun a b => headOut a (X 22 * log2e) b) (funext fun n => ?_) (funext fun n => rfl)
  rw [scores_fst (isDiag_2 (scaled k))]
  refine congrArg (fun z => Scalar.select (mask (ix2 r n)) z ⊥) (Finset.sum_congr rfl fun d _ => ?_)
  rw [stack_3 q 1024 1152 1280 1408 slices_S128x2048_o0_1024_S128x128 slices_S128x2048_o0_1152_S128x128 slices_S128x2048_o0_1280_S128x128 slices_S128x2048_o0_1408_S128x128 r _ ⟨64 * 22 + d.val, by omega⟩ (by show 64 * 22 + d.val = 1408 + (d.val); omega), scaled_at]
  rfl

theorem head_23 (mask : IVec S128x256 1) (q : FVec Ideal S128x2048 .bf16) (k v : FVec Ideal S256x256 .f32) (x : Fin 8 → Elt Ideal .f32) (X : Fin 32 → EReal)
    (hx : x 7 = X 23) (r : Fin 128) (d : Fin 64) :
    pair mask (scores (stack q 1024 1152 1280 1408 slices_S128x2048_o0_1024_S128x128 slices_S128x2048_o0_1152_S128x128 slices_S128x2048_o0_1280_S128x128 slices_S128x2048_o0_1408_S128x128) (diagFst (half1 (scaled k)))) (diagFst (half1 v)) x 384 6 7
        slices_S512x128_o384_0_S128x128 slices_S512x512_o384_0_S128x256 slices_S512x512_o384_256_S128x256 (ix2 r (⟨64 + d.val, by omega⟩ : Fin 128))
      = headAt mask q k v X 23 r d := by
  refine (pair_3_1 mask _ (isDiag_2 v) x r d).trans ?_
  rw [hx]
  refine congrArg₂ (fun a b => headOut a (X 23 * log2e) b) (funext fun n => ?_) (funext fun n => rfl)
  rw [scores_snd (isDiag_2 (scaled k))]
  refine congrArg (fun z => Scalar.select (mask (ix2 r n)) z ⊥) (Finset.sum_congr rfl fun d _ => ?_)
  rw [stack_3 q 1024 1152 1280 1408 slices_S128x2048_o0_1024_S128x128 slices_S128x2048_o0_1152_S128x128 slices_S128x2048_o0_1280_S128x128 slices_S128x2048_o0_1408_S128x128 r _ ⟨64 * 23 + d.val, by omega⟩ (by show 64 * 23 + d.val = 1408 + (64 + d.val); omega), scaled_at]
  rfl

theorem head_24 (mask : IVec S128x256 1) (q : FVec Ideal S128x2048 .bf16) (k v : FVec Ideal S256x256 .f32) (x : Fin 8 → Elt Ideal .f32) (X : Fin 32 → EReal)
    (hx : x 0 = X 24) (r : Fin 128) (d : Fin 64) :
    pair mask (scores (stack q 1536 1664 1792 1920 slices_S128x2048_o0_1536_S128x128 slices_S128x2048_o0_1664_S128x128 slices_S128x2048_o0_1792_S128x128 slices_S128x2048_o0_1920_S128x128) (diagSnd (half1 (scaled k)))) (diagSnd (half1 v)) x 0 0 1
        slices_S512x128_o0_0_S128x128 slices_S512x512_o0_0_S128x256 slices_S512x512_o0_256_S128x256 (ix2 r (⟨d.val, by omega⟩ : Fin 128))
      = headAt mask q k v X 24 r d := by
  refine (pair_0_0 mask _ (isDiag_3 v) x r d).trans ?_
  rw [hx]
  refine congrArg₂ (fun a b => headOut a (X 24 * log2e) b) (funext fun n => ?_) (funext fun n => rfl)
  rw [scores_fst (isDiag_3 (scaled k))]
  refine congrArg (fun z => Scalar.select (mask (ix2 r n)) z ⊥) (Finset.sum_congr rfl fun d _ => ?_)
  rw [stack_0 q 1536 1664 1792 1920 slices_S128x2048_o0_1536_S128x128 slices_S128x2048_o0_1664_S128x128 slices_S128x2048_o0_1792_S128x128 slices_S128x2048_o0_1920_S128x128 r _ ⟨64 * 24 + d.val, by omega⟩ (by show 64 * 24 + d.val = 1536 + (d.val); omega), scaled_at]
  rfl

theorem head_25 (mask : IVec S128x256 1) (q : FVec Ideal S128x2048 .bf16) (k v : FVec Ideal S256x256 .f32) (x : Fin 8 → Elt Ideal .f32) (X : Fin 32 → EReal)
    (hx : x 1 = X 25) (r : Fin 128) (d : Fin 64) :
    pair mask (scores (stack q 1536 1664 1792 1920 slices_S128x2048_o0_1536_S128x128 slices_S128x2048_o0_1664_S128x128 slices_S128x2048_o0_1792_S128x128 slices_S128x2048_o0_1920_S128x128) (diagSnd (half1 (scaled k)))) (diagSnd (half1 v)) x 0 0 1
        slices_S512x128_o0_0_S128x128 slices_S512x512_o0_0_S128x256 slices_S512x512_o0_256_S128x256 (ix2 r (⟨64 + d.val, by omega⟩ : Fin 128))
      = headAt mask q k v X 25 r d := by
  refine (pair_0_1 mask _ (isDiag_3 v) x r d).trans ?_
  rw [hx]
  refine congrArg₂ (fun a b => headOut a (X 25 * log2e) b) (funext fun n => ?_) (funext fun n => rfl)
  rw [scores_snd (isDiag_3 (scaled k))]
  refine congrArg (fun z => Scalar.select (mask (ix2 r n)) z ⊥) (Finset.sum_congr rfl fun d _ => ?_)
  rw [stack_0 q 1536 1664 1792 1920 slices_S128x2048_o0_1536_S128x128 slices_S128x2048_o0_1664_S128x128 slices_S128x2048_o0_1792_S128x128 slices_S128x2048_o0_1920_S128x128 r _ ⟨64 * 25 + d.val, by omega⟩ (by show 64 * 25 + d.val = 1536 + (64 + d.val); omega), scaled_at]
  rfl

theorem head_26 (mask : IVec S128x256 1) (q : FVec Ideal S128x2048 .bf16) (k v : FVec Ideal S256x256 .f32) (x : Fin 8 → Elt Ideal .f32) (X : Fin 32 → EReal)
    (hx : x 2 = X 26) (r : Fin 128) (d : Fin 64) :
    pair mask (scores (stack q 1536 1664 1792 1920 slices_S128x2048_o0_1536_S128x128 slices_S128x2048_o0_1664_S128x128 slices_S128x2048_o0_1792_S128x128 slices_S128x2048_o0_1920_S128x128) (diagSnd (half1 (scaled k)))) (diagSnd (half1 v)) x 128 2 3
        slices_S512x128_o128_0_S128x128 slices_S512x512_o128_0_S128x256 slices_S512x512_o128_256_S128x256 (ix2 r (⟨d.val, by omega⟩ : Fin 128))
      = headAt mask q k v X 26 r d := by
  refine (pair_1_0 mask _ (isDiag_3 v) x r d).trans ?_
  rw [hx]
  refine congrArg₂ (fun a b => headOut a (X 26 * log2e) b) (funext fun n => ?_) (funext fun n => rfl)
  rw [scores_fst (isDiag_3 (scaled k))]
  refine congrArg (fun z => Scalar.select (mask (ix2 r n)) z ⊥) (Finset.sum_congr rfl fun d _ => ?_)
  rw [stack_1 q 1536 1664 1792 1920 slices_S128x2048_o0_1536_S128x128 slices_S128x2048_o0_1664_S128x128 slices_S128x2048_o0_1792_S128x128 slices_S128x2048_o0_1920_S128x128 r _ ⟨64 * 26 + d.val, by omega⟩ (by show 64 * 26 + d.val = 1664 + (d.val); omega), scaled_at]
  rfl

theorem head_27 (mask : IVec S128x256 1) (q : FVec Ideal S128x2048 .bf16) (k v : FVec Ideal S256x256 .f32) (x : Fin 8 → Elt Ideal .f32) (X : Fin 32 → EReal)
    (hx : x 3 = X 27) (r : Fin 128) (d : Fin 64) :
    pair mask (scores (stack q 1536 1664 1792 1920 slices_S128x2048_o0_1536_S128x128 slices_S128x2048_o0_1664_S128x128 slices_S128x2048_o0_1792_S128x128 slices_S128x2048_o0_1920_S128x128) (diagSnd (half1 (scaled k)))) (diagSnd (half1 v)) x 128 2 3
        slices_S512x128_o128_0_S128x128 slices_S512x512_o128_0_S128x256 slices_S512x512_o128_256_S128x256 (ix2 r (⟨64 + d.val, by omega⟩ : Fin 128))
      = headAt mask q k v X 27 r d := by
  refine (pair_1_1 mask _ (isDiag_3 v) x r d).trans ?_
  rw [hx]
  refine congrArg₂ (fun a b => headOut a (X 27 * log2e) b) (funext fun n => ?_) (funext fun n => rfl)
  rw [scores_snd (isDiag_3 (scaled k))]
  refine congrArg (fun z => Scalar.select (mask (ix2 r n)) z ⊥) (Finset.sum_congr rfl fun d _ => ?_)
  rw [stack_1 q 1536 1664 1792 1920 slices_S128x2048_o0_1536_S128x128 slices_S128x2048_o0_1664_S128x128 slices_S128x2048_o0_1792_S128x128 slices_S128x2048_o0_1920_S128x128 r _ ⟨64 * 27 + d.val, by omega⟩ (by show 64 * 27 + d.val = 1664 + (64 + d.val); omega), scaled_at]
  rfl

theorem head_28 (mask : IVec S128x256 1) (q : FVec Ideal S128x2048 .bf16) (k v : FVec Ideal S256x256 .f32) (x : Fin 8 → Elt Ideal .f32) (X : Fin 32 → EReal)
    (hx : x 4 = X 28) (r : Fin 128) (d : Fin 64) :
    pair mask (scores (stack q 1536 1664 1792 1920 slices_S128x2048_o0_1536_S128x128 slices_S128x2048_o0_1664_S128x128 slices_S128x2048_o0_1792_S128x128 slices_S128x2048_o0_1920_S128x128) (diagSnd (half1 (scaled k)))) (diagSnd (half1 v)) x 256 4 5
        slices_S512x128_o256_0_S128x128 slices_S512x512_o256_0_S128x256 slices_S512x512_o256_256_S128x256 (ix2 r (⟨d.val, by omega⟩ : Fin 128))
      = headAt mask q k v X 28 r d := by
  refine (pair_2_0 mask _ (isDiag_3 v) x r d).trans ?_
  rw [hx]
  refine congrArg₂ (fun a b => headOut a (X 28 * log2e) b) (funext fun n => ?_) (funext fun n => rfl)
  rw [scores_fst (isDiag_3 (scaled k))]
  refine congrArg (fun z => Scalar.select (mask (ix2 r n)) z ⊥) (Finset.sum_congr rfl fun d _ => ?_)
  rw [stack_2 q 1536 1664 1792 1920 slices_S128x2048_o0_1536_S128x128 slices_S128x2048_o0_1664_S128x128 slices_S128x2048_o0_1792_S128x128 slices_S128x2048_o0_1920_S128x128 r _ ⟨64 * 28 + d.val, by omega⟩ (by show 64 * 28 + d.val = 1792 + (d.val); omega), scaled_at]
  rfl

theorem head_29 (mask : IVec S128x256 1) (q : FVec Ideal S128x2048 .bf16) (k v : FVec Ideal S256x256 .f32) (x : Fin 8 → Elt Ideal .f32) (X : Fin 32 → EReal)
    (hx : x 5 = X 29) (r : Fin 128) (d : Fin 64) :
    pair mask (scores (stack q 1536 1664 1792 1920 slices_S128x2048_o0_1536_S128x128 slices_S128x2048_o0_1664_S128x128 slices_S128x2048_o0_1792_S128x128 slices_S128x2048_o0_1920_S128x128) (diagSnd (half1 (scaled k)))) (diagSnd (half1 v)) x 256 4 5
        slices_S512x128_o256_0_S128x128 slices_S512x512_o256_0_S128x256 slices_S512x512_o256_256_S128x256 (ix2 r (⟨64 + d.val, by omega⟩ : Fin 128))
      = headAt mask q k v X 29 r d := by
  refine (pair_2_1 mask _ (isDiag_3 v) x r d).trans ?_
  rw [hx]
  refine congrArg₂ (fun a b => headOut a (X 29 * log2e) b) (funext fun n => ?_) (funext fun n => rfl)
  rw [scores_snd (isDiag_3 (scaled k))]
  refine congrArg (fun z => Scalar.select (mask (ix2 r n)) z ⊥) (Finset.sum_congr rfl fun d _ => ?_)
  rw [stack_2 q 1536 1664 1792 1920 slices_S128x2048_o0_1536_S128x128 slices_S128x2048_o0_1664_S128x128 slices_S128x2048_o0_1792_S128x128 slices_S128x2048_o0_1920_S128x128 r _ ⟨64 * 29 + d.val, by omega⟩ (by show 64 * 29 + d.val = 1792 + (64 + d.val); omega), scaled_at]
  rfl

theorem head_30 (mask : IVec S128x256 1) (q : FVec Ideal S128x2048 .bf16) (k v : FVec Ideal S256x256 .f32) (x : Fin 8 → Elt Ideal .f32) (X : Fin 32 → EReal)
    (hx : x 6 = X 30) (r : Fin 128) (d : Fin 64) :
    pair mask (scores (stack q 1536 1664 1792 1920 slices_S128x2048_o0_1536_S128x128 slices_S128x2048_o0_1664_S128x128 slices_S128x2048_o0_1792_S128x128 slices_S128x2048_o0_1920_S128x128) (diagSnd (half1 (scaled k)))) (diagSnd (half1 v)) x 384 6 7
        slices_S512x128_o384_0_S128x128 slices_S512x512_o384_0_S128x256 slices_S512x512_o384_256_S128x256 (ix2 r (⟨d.val, by omega⟩ : Fin 128))
      = headAt mask q k v X 30 r d := by
  refine (pair_3_0 mask _ (isDiag_3 v) x r d).trans ?_
  rw [hx]
  refine congrArg₂ (fun a b => headOut a (X 30 * log2e) b) (funext fun n => ?_) (funext fun n => rfl)
  rw [scores_fst (isDiag_3 (scaled k))]
  refine congrArg (fun z => Scalar.select (mask (ix2 r n)) z ⊥) (Finset.sum_congr rfl fun d _ => ?_)
  rw [stack_3 q 1536 1664 1792 1920 slices_S128x2048_o0_1536_S128x128 slices_S128x2048_o0_1664_S128x128 slices_S128x2048_o0_1792_S128x128 slices_S128x2048_o0_1920_S128x128 r _ ⟨64 * 30 + d.val, by omega⟩ (by show 64 * 30 + d.val = 1920 + (d.val); omega), scaled_at]
  rfl

theorem head_31 (mask : IVec S128x256 1) (q : FVec Ideal S128x2048 .bf16) (k v : FVec Ideal S256x256 .f32) (x : Fin 8 → Elt Ideal .f32) (X : Fin 32 → EReal)
    (hx : x 7 = X 31) (r : Fin 128) (d : Fin 64) :
    pair mask (scores (stack q 1536 1664 1792 1920 slices_S128x2048_o0_1536_S128x128 slices_S128x2048_o0_1664_S128x128 slices_S128x2048_o0_1792_S128x128 slices_S128x2048_o0_1920_S128x128) (diagSnd (half1 (scaled k)))) (diagSnd (half1 v)) x 384 6 7
        slices_S512x128_o384_0_S128x128 slices_S512x512_o384_0_S128x256 slices_S512x512_o384_256_S128x256 (ix2 r (⟨64 + d.val, by omega⟩ : Fin 128))
      = headAt mask q k v X 31 r d := by
  refine (pair_3_1 mask _ (isDiag_3 v) x r d).trans ?_
  rw [hx]
  refine congrArg₂ (fun a b => headOut a (X 31 * log2e) b) (funext fun n => ?_) (funext fun n => rfl)
  rw [scores_snd (isDiag_3 (scaled k))]
  refine congrArg (fun z => Scalar.select (mask (ix2 r n)) z ⊥) (Finset.sum_congr rfl fun d _ => ?_)
  rw [stack_3 q 1536 1664 1792 1920 slices_S128x2048_o0_1536_S128x128 slices_S128x2048_o0_1664_S128x128 slices_S128x2048_o0_1792_S128x128 slices_S128x2048_o0_1920_S128x128 r _ ⟨64 * 31 + d.val, by omega⟩ (by show 64 * 31 + d.val = 1920 + (64 + d.val); omega), scaled_at]
  rfl

end Cert.KernelIdeal.Attend

end
-- ==== Proof.Soft.lean ====
/- The softmax with a sink in base two, its quotient taken after the sum over the values, against the softmax in base e with its quotient before; and silu by the hyperbolic tangent. -/
module

public import proofs.«01_k».proof.Proof.Heads

@[expose] public section

set_option maxRecDepth 16384

noncomputable section

namespace Cert.Soft

open Idealize.ShloMosaic Cert.KernelIdeal.Attend

def rate : ℝ := (Real.log 2)⁻¹

theorem rate_pos : 0 < rate := inv_pos.mpr (Real.log_pos (by norm_num))

theorem log2e_eq : log2e = (rate : EReal) := IdealRules.named_const.ideal_named_scalar _ _ _ _ rfl

theorem scale_eq : scaleLog2e = (((8 * Real.log 2)⁻¹ : ℝ) : EReal) := IdealRules.named_const.ideal_named_scalar _ _ _ _ rfl

/-- The power of two of a rescaled argument is the exponential. -/
theorem exp2_rate (x : EReal) : Ideal.exp2 (x * (rate : EReal)) = Ideal.exp x := by
  induction x using EReal.rec with
  | bot => rw [EReal.bot_mul_coe_of_pos rate_pos, Ideal.exp2_bot, Ideal.exp_bot]
  | top => rw [EReal.top_mul_coe_of_pos rate_pos, Ideal.exp2_top, Ideal.exp_top]
  | coe r =>
    rw [← EReal.coe_mul, Ideal.exp2_coe, Ideal.exp_coe]
    refine congrArg _ ?_
    show (2 : ℝ) ^ (r * rate) = _
    rw [Real.rpow_def_of_pos (by norm_num)]
    refine congrArg _ ?_
    have h : Real.log 2 ≠ 0 := (Real.log_pos (by norm_num)).ne'
    unfold rate
    field_simp

theorem mono_rate : Monotone fun x : EReal => x * (rate : EReal) := fun a b h =>
  mul_le_mul_of_nonneg_right h (by exact_mod_cast rate_pos.le)

/-- Row scores and the sink, in the reference's form. -/
def refTop (s : Fin 256 → EReal) (x : EReal) : EReal := max (Finset.fold max ⊥ s Finset.univ) x

def refOut (s : Fin 256 → EReal) (x : EReal) (v : Fin 256 → EReal) : EReal :=
  ∑ n : Fin 256, v n * Ideal.div (Ideal.exp (s n - refTop s x)) ((∑ n : Fin 256, Ideal.exp (s n - refTop s x)) + Ideal.exp (x - refTop s x))

theorem top_rate (s : Fin 256 → EReal) (x : EReal) : rowTop (fun n => s n * (rate : EReal)) (x * (rate : EReal)) = refTop s x * (rate : EReal) := by
  have hm : ∀ a b : EReal, max a b * (rate : EReal) = max (a * (rate : EReal)) (b * (rate : EReal)) := fun a b => mono_rate.map_max
  have e := Finset.fold_hom (op := max) (op' := max) (m := fun y : EReal => y * (rate : EReal)) (s := (Finset.univ : Finset (Fin 256))) (b := ⊥) (f := s) hm
  unfold rowTop refTop
  rw [hm, ← e, EReal.bot_mul_coe_of_pos rate_pos]

theorem sub_rate (a b : EReal) : a * (rate : EReal) - b * (rate : EReal) = (a - b) * (rate : EReal) :=
  (EReal.sub_mul_of_nonneg_of_ne_top (by exact_mod_cast rate_pos.le) (EReal.coe_ne_top _)).symm

theorem sum_mul_coe (c : ℝ) (hc : 0 ≤ c) (f : Fin 256 → EReal) : (∑ n, f n) * (c : EReal) = ∑ n, f n * (c : EReal) := by
  classical
  refine Finset.induction_on (Finset.univ : Finset (Fin 256)) ?_ ?_
  · simp
  · intro a S ha ih
    rw [Finset.sum_insert ha, Finset.sum_insert ha, EReal.right_distrib_of_nonneg_of_ne_top (by exact_mod_cast hc) (EReal.coe_ne_top _), ih]

theorem coe_sum {ι : Type} (S : Finset ι) (f : ι → ℝ) : ((∑ n ∈ S, f n : ℝ) : EReal) = ∑ n ∈ S, (f n : EReal) := by
  classical
  refine Finset.induction_on S ?_ ?_
  · simp
  · intro a S ha ih
    rw [Finset.sum_insert ha, Finset.sum_insert ha, EReal.coe_add, ih]

/-- An entry of the softmax is a real between zero and one where the scores are real or minus infinity below a real top. -/
theorem exp_real (a : EReal) (t : ℝ) (ha : a ≤ t) : ∃ w : ℝ, 0 ≤ w ∧ Ideal.exp (a - t) = w ∧ (a = ⊥ → w = 0) ∧ (a ≠ ⊥ → 0 < w) := by
  induction a using EReal.rec with
  | bot => exact ⟨0, le_rfl, by simp, fun _ => rfl, fun h => absurd rfl h⟩
  | top => exact absurd ha (by simp)
  | coe r => exact ⟨Real.exp (r - t), (Real.exp_pos _).le, by rw [← EReal.coe_sub, Ideal.exp_coe], fun h => absurd h (EReal.coe_ne_bot _), fun _ => Real.exp_pos _⟩

theorem soft (s : Fin 256 → EReal) (x : EReal) (v v' : Fin 256 → EReal) (hs : ∀ n, s n ≠ ⊤) (hx : x ≠ ⊤) (k : Fin 256) (hk : s k ≠ ⊥) (hv : ∀ n, s n ≠ ⊥ → v' n = v n) :
    headOut (fun n => s n * (rate : EReal)) (x * (rate : EReal)) v' = refOut s x v := by
  have hle : ∀ n, s n ≤ refTop s x := fun n => le_max_of_le_left ((Finset.le_fold_max _).mpr (Or.inr ⟨n, Finset.mem_univ _, le_rfl⟩))
  have hxle : x ≤ refTop s x := le_max_right _ _
  have h1 : refTop s x ≠ ⊤ := by
    refine ne_of_lt (max_lt ?_ (lt_top_iff_ne_top.mpr hx))
    exact (Finset.fold_max_lt _).mpr ⟨bot_lt_top, fun n _ => lt_top_iff_ne_top.mpr (hs n)⟩
  have h2 : refTop s x ≠ ⊥ := fun h => hk (le_bot_iff.mp (h ▸ hle k))
  unfold headOut rowRecip rowWeight refOut
  rw [top_rate]
  simp only [sub_rate, exp2_rate]
  obtain ⟨t, ht⟩ : ∃ t : ℝ, refTop s x = t := ⟨(refTop s x).toReal, (EReal.coe_toReal h1 h2).symm⟩
  rw [ht] at hle hxle ⊢
  choose w hw0 hw hwb hwp using fun n => exp_real (s n) t (hle n)
  obtain ⟨e, he0, he, -, -⟩ := exp_real x t hxle
  simp only [hw, he]
  rw [← coe_sum, ← EReal.coe_add]
  have hD : 0 < ∑ n, w n + e := add_pos_of_pos_of_nonneg (Finset.sum_pos' (fun n _ => hw0 n) ⟨k, Finset.mem_univ _, hwp k hk⟩) he0
  generalize ∑ n, w n + e = D at hD
  simp only [Ideal.div_coe hD.ne']
  rw [one_mul, sum_mul_coe _ (one_div_pos.mpr hD).le]
  refine Finset.sum_congr rfl fun n _ => ?_
  by_cases h : s n = ⊥
  · rw [hwb n h]
    simp
  · rw [hv n h, mul_comm (w n : EReal), mul_assoc]

/-- A row's score, both ways of scaling it. -/
theorem score (q k : Fin 64 → EReal) (hq : ∀ d, ∃ r : ℝ, q d = r) (hk : ∀ d, ∃ r : ℝ, k d = r) :
    (∑ d, q d * (k d * scaleLog2e)) = (∑ d, k d * q d) * ((1 / 8 : ℝ) : EReal) * (rate : EReal)
    ∧ ∃ r : ℝ, (∑ d, k d * q d) * ((1 / 8 : ℝ) : EReal) = r := by
  choose Q hQ using hq
  choose K hK using hk
  simp only [hQ, hK, scale_eq, ← EReal.coe_mul, ← coe_sum]
  refine ⟨congrArg _ ?_, _, rfl⟩
  rw [Finset.sum_mul, Finset.sum_mul]
  refine Finset.sum_congr rfl fun d _ => ?_
  unfold rate
  rw [mul_inv]
  ring

theorem half_eq : Ideal.ofBits .f32 0x3F000000#32 = ((1 / 2 : ℝ) : EReal) := by
  simp [Ideal.ofBits, Ideal.ieee, -EReal.coe_mul]; norm_num

theorem eighth_eq : Ideal.ofBits .f32 0x3E000000#32 = ((1 / 8 : ℝ) : EReal) := by
  simp [Ideal.ofBits, Ideal.ieee, -EReal.coe_mul]; norm_num

theorem silu (g : EReal) (hg : g ≠ ⊥) :
    ((1 / 2 : ℝ) : EReal) * g + ((1 / 2 : ℝ) : EReal) * g * Ideal.tanh (((1 / 2 : ℝ) : EReal) * g) = g * Ideal.div 1 (1 + Ideal.exp (-g)) := by
  induction g using EReal.rec with
  | bot => exact absurd rfl hg
  | top =>
    rw [EReal.coe_mul_top_of_pos (by norm_num), Ideal.tanh_top, EReal.neg_top, Ideal.exp_bot, add_zero, mul_one]
    have e : Ideal.div 1 1 = 1 := by
      have := Ideal.div_coe (y := 1) one_ne_zero 1
      simpa using this
    rw [e, mul_one]
    rfl
  | coe x =>
    have hp : (1 + Real.exp (-x)) ≠ 0 := (add_pos one_pos (Real.exp_pos _)).ne'
    rw [← EReal.coe_mul, Ideal.tanh_coe, ← EReal.coe_mul, ← EReal.coe_add, ← EReal.coe_neg, Ideal.exp_coe,
      show (1 : EReal) + ((Real.exp (-x) : ℝ) : EReal) = ((1 + Real.exp (-x) : ℝ) : EReal) by rw [EReal.coe_add]; rfl,
      Ideal.div_coe hp, one_mul, ← EReal.coe_mul]
    refine congrArg _ ?_
    rw [Real.tanh_eq_sinh_div_cosh, Real.sinh_eq, Real.cosh_eq]
    have e : Real.exp (-x) = Real.exp (-(1 / 2 * x)) * Real.exp (-(1 / 2 * x)) := by rw [← Real.exp_add]; ring_nf
    have e2 : Real.exp (1 / 2 * x) * Real.exp (-(1 / 2 * x)) = 1 := by rw [← Real.exp_add]; simp
    have e1 := Real.exp_pos (1 / 2 * x)
    have e3 := Real.exp_pos (-(1 / 2 * x))
    rw [e] at hp ⊢
    generalize Real.exp (1 / 2 * x) = a at e1 e2
    generalize Real.exp (-(1 / 2 * x)) = b at e2 e3 hp
    field_simp
    linear_combination 2 * x * b * e2

end Cert.Soft
-- ==== Proof.Outs.lean ====
/- What the body leaves in each output block, as stores of named functions of the loaded blocks. -/
module

public import proofs.«01_k».proof.Proof.Attend

@[expose] public section

set_option maxRecDepth 16384

noncomputable section

namespace Cert.KernelIdeal.Attend

open Cert.KernelIdeal Cert.KernelIdeal.Gen Idealize.ShloMosaic Idealize.ShloMosaic.Tactic

variable {F : FTy → Type} [FloatOps F] [Named F]

def hrows (h : FVec F S1x256x2048 .bf16) : FVec F S256x2048 .bf16 := shapeCast S256x2048 h shapeCasts_S1x256x2048_S256x2048

def product (h : FVec F S256x2048 .bf16) (w : FVec F S2048x256 .bf16) : FVec F S256x256 .f32 :=
  matmul dot_S256x2048_S2048x256_S256x256_1_0_0_1_n_n none h (shapeCast S2048x256 w shapeCasts_S2048x256_S2048x256) (constant S256x256 .f32 0x00000000#32)

/-- A slab of the gate `z`, rounded. -/
def slabZ (h : FVec F S256x2048 .bf16) (w : FVec F S2048x256 .bf16) : FVec F S1x256x256 .bf16 :=
  shapeCast S1x256x256 (truncf .bf16 (product h w) bitsLt_bf16_f32) shapeCasts_S256x256_S1x256x256

/-- A slab of the convolution's inputs. -/
def slab (h : FVec F S256x2048 .bf16) (w : FVec F S2048x256 .bf16) : FVec F S1x256x256 .f32 :=
  shapeCast S1x256x256 (product h w) shapeCasts_S256x256_S1x256x256

/-- The time steps, in the first lanes of a slab. -/
def slabDt (h : FVec F S256x2048 .bf16) (w : FVec F S2048x128 .bf16) : FVec F S1x256x128 .f32 :=
  shapeCast S1x256x128 (matmul dot_S256x2048_S2048x128_S256x128_1_0_0_1_n_n none h (shapeCast S2048x128 w shapeCasts_S2048x128_S2048x128)
    (constant S256x128 .f32 0x00000000#32)) shapeCasts_S256x128_S1x256x128

def halfGate (g : FVec F S1x128x2048 .bf16) : FVec F S128x2048 .f32 :=
  mulf (broadcast S128x2048 (Scalar.ofBits .f32 0x3F000000#32)) (extf .f32 (shapeCast S128x2048 g shapeCasts_S1x128x2048_S128x2048) bitsLt_bf16_f32)

def silued (o : FVec F S1x128x2048 .f32) (g : FVec F S1x128x2048 .bf16) : FVec F S128x2048 .f32 :=
  mulf (shapeCast S128x2048 o shapeCasts_S1x128x2048_S128x2048) (addf (halfGate g) (mulf (halfGate g) (tanh (halfGate g))))

/-- The attention's rows, times the gate, normed. -/
def gated (o : FVec F S1x128x2048 .f32) (g : FVec F S1x128x2048 .bf16) (w : FVec F S1x2048 .f32) : FVec F S1x128x2048 .bf16 :=
  shapeCast S1x128x2048 (truncf .bf16 (mulf (mulf (silued o g)
    (broadcastTo S128x2048 (rsqrt (addf (divf (shapeCast S128x1 (multiReduction .add [1] S128 (mulf (silued o g) (silued o g)) 0x00000000#32
        reduces_S128x2048_S128 (.inl rfl) rfl) shapeCasts_S128_S128x1) (broadcast S128x1 (Scalar.ofBits .f32 0x45000000#32)))
      (broadcast S128x1 (Scalar.ofBits .f32 0x358637BD#32)))) broadcasts_S128x1_S128x2048))
    (broadcastTo S128x2048 (shapeCast S1x2048 w shapeCasts_S1x2048_S1x2048) broadcasts_S1x2048_S128x2048)) bitsLt_bf16_f32)
    shapeCasts_S128x2048_S1x128x2048

variable (c : Dev nD) (i : grid0.Coords)
  (arg2 : Memref sig .tc .smem S32 .f32) (harg2 : arg2.IsWhole)
  (arg3 : Memref sig .tc .vmem S1x256x2048 .bf16) (harg3 : arg3.IsWhole)
  (arg4 : Memref sig .tc .vmem S1x256x2048 .bf16) (harg4 : arg4.IsWhole)
  (arg5 : Memref sig .tc .vmem S1x128x256 .f32) (harg5 : arg5.IsWhole)
  (arg6 : Memref sig .tc .vmem S1x256x256 .f32) (harg6 : arg6.IsWhole)
  (arg7 : Memref sig .tc .vmem S1x128x256 .f32) (harg7 : arg7.IsWhole)
  (arg8 : Memref sig .tc .vmem S1x256x256 .f32) (harg8 : arg8.IsWhole)
  (arg9 : Memref sig .tc .vmem S1x2048 .f32) (harg9 : arg9.IsWhole)
  (arg10 : Memref sig .tc .vmem S1x256x2048 .bf16) (harg10 : arg10.IsWhole)
  (arg11 : Memref sig .tc .vmem S2048x4608 .bf16) (harg11 : arg11.IsWhole)
  (arg12 : Memref sig .tc .vmem S2048x640 .bf16) (harg12 : arg12.IsWhole)
  (arg13 : Memref sig .tc .vmem S1x256x2048 .bf16) (harg13 : arg13.IsWhole)
  (arg14 : Memref sig .tc .vmem S1x256x2048 .bf16) (harg14 : arg14.IsWhole)
  (arg15 : Memref sig .tc .vmem S1x256x3072 .f32) (harg15 : arg15.IsWhole)
  (arg16 : Memref sig .tc .vmem S1x256x128 .f32) (harg16 : arg16.IsWhole)
  (arg17 : Memref sig .tc .vmem S2x128x2048 .f32) (harg17 : arg17.IsWhole)
  (x0 : FVec F S32 .f32)  (x1 : FVec F S1x256x2048 .bf16)  (x2 : FVec F S1x256x2048 .bf16)  (x3 : FVec F S1x128x256 .f32)  (x4 : FVec F S1x256x256 .f32)  (x5 : FVec F S1x128x256 .f32)  (x6 : FVec F S1x256x256 .f32)  (x7 : FVec F S1x2048 .f32)  (x8 : FVec F S1x256x2048 .bf16)  (x9 : FVec F S2048x4608 .bf16)  (x10 : FVec F S2048x640 .bf16)

theorem out11 : out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 = View.canon
     ([⟨Rect.unit (s := S1x256x2048) ![0, 128, 0] S1x128x2048.size inb_S1x256x2048_S1x128x2048_0_128_0, gated (arg17.view.readCov (kernelRun0_A.sl.HS0_32 c i arg2 harg2 arg3 harg3 arg5 harg5 arg6 harg6 arg7 harg7 arg8 harg8 x0 x1 x3 x4 x5 x6) (Rect.unit (s := S2x128x2048) ![1, 0, 0] S1x128x2048.size inb_S2x128x2048_S1x128x2048_1_0_0).toLoadRect) (View.readAt (Elt F) arg4.view (Rect.unit (s := S1x256x2048) ![0, 128, 0] S1x128x2048.size inb_S1x256x2048_S1x128x2048_0_128_0).toLoadRect (harg4.unread x2)) (View.readAt (Elt F) arg9.view (Rect.unit (s := S1x2048) ![0, 0] S1x2048.size inb_S1x2048_S1x2048_0_0).toLoadRect (harg9.unread x7))⟩,
      ⟨Rect.unit (s := S1x256x2048) ![0, 0, 0] S1x128x2048.size inb_S1x256x2048_S1x128x2048_0_0_0, gated (arg17.view.readCov (kernelRun0_A.sl.HS0_32 c i arg2 harg2 arg3 harg3 arg5 harg5 arg6 harg6 arg7 harg7 arg8 harg8 x0 x1 x3 x4 x5 x6) (Rect.unit (s := S2x128x2048) ![0, 0, 0] S1x128x2048.size inb_S2x128x2048_S1x128x2048_0_0_0).toLoadRect) (View.readAt (Elt F) arg4.view (Rect.unit (s := S1x256x2048) ![0, 0, 0] S1x128x2048.size inb_S1x256x2048_S1x128x2048_0_0_0).toLoadRect (harg4.unread x2)) (View.readAt (Elt F) arg9.view (Rect.unit (s := S1x2048) ![0, 0] S1x2048.size inb_S1x2048_S1x2048_0_0).toLoadRect (harg9.unread x7))⟩] : List (View.Piece (Elt F) S1x256x2048 .bf16)) := by
  unfold out0_A_11
  rw [View.read_writes_junk_eq_canon]
  sl_kernel_rfl

theorem out12 : out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 = View.canon
     ([⟨Rect.unit (s := S1x256x2048) ![0, 0, 1792] S1x256x256.size inb_S1x256x2048_S1x256x256_0_0_1792, slabZ (hrows (View.readAt (Elt F) arg10.view (Rect.unit (s := S1x256x2048) ![0, 0, 0] S1x256x2048.size inb_S1x256x2048_S1x256x2048_0_0_0).toLoadRect (harg10.unread x8))) (View.readAt (Elt F) arg11.view (Rect.unit (s := S2048x4608) ![0, 1792] S2048x256.size inb_S2048x4608_S2048x256_0_1792).toLoadRect (harg11.unread x9))⟩,
      ⟨Rect.unit (s := S1x256x2048) ![0, 0, 1536] S1x256x256.size inb_S1x256x2048_S1x256x256_0_0_1536, slabZ (hrows (View.readAt (Elt F) arg10.view (Rect.unit (s := S1x256x2048) ![0, 0, 0] S1x256x2048.size inb_S1x256x2048_S1x256x2048_0_0_0).toLoadRect (harg10.unread x8))) (View.readAt (Elt F) arg11.view (Rect.unit (s := S2048x4608) ![0, 1536] S2048x256.size inb_S2048x4608_S2048x256_0_1536).toLoadRect (harg11.unread x9))⟩,
      ⟨Rect.unit (s := S1x256x2048) ![0, 0, 1280] S1x256x256.size inb_S1x256x2048_S1x256x256_0_0_1280, slabZ (hrows (View.readAt (Elt F) arg10.view (Rect.unit (s := S1x256x2048) ![0, 0, 0] S1x256x2048.size inb_S1x256x2048_S1x256x2048_0_0_0).toLoadRect (harg10.unread x8))) (View.readAt (Elt F) arg11.view (Rect.unit (s := S2048x4608) ![0, 1280] S2048x256.size inb_S2048x4608_S2048x256_0_1280).toLoadRect (harg11.unread x9))⟩,
      ⟨Rect.unit (s := S1x256x2048) ![0, 0, 1024] S1x256x256.size inb_S1x256x2048_S1x256x256_0_0_1024, slabZ (hrows (View.readAt (Elt F) arg10.view (Rect.unit (s := S1x256x2048) ![0, 0, 0] S1x256x2048.size inb_S1x256x2048_S1x256x2048_0_0_0).toLoadRect (harg10.unread x8))) (View.readAt (Elt F) arg11.view (Rect.unit (s := S2048x4608) ![0, 1024] S2048x256.size inb_S2048x4608_S2048x256_0_1024).toLoadRect (harg11.unread x9))⟩,
      ⟨Rect.unit (s := S1x256x2048) ![0, 0, 768] S1x256x256.size inb_S1x256x2048_S1x256x256_0_0_768, slabZ (hrows (View.readAt (Elt F) arg10.view (Rect.unit (s := S1x256x2048) ![0, 0, 0] S1x256x2048.size inb_S1x256x2048_S1x256x2048_0_0_0).toLoadRect (harg10.unread x8))) (View.readAt (Elt F) arg11.view (Rect.unit (s := S2048x4608) ![0, 768] S2048x256.size inb_S2048x4608_S2048x256_0_768).toLoadRect (harg11.unread x9))⟩,
      ⟨Rect.unit (s := S1x256x2048) ![0, 0, 512] S1x256x256.size inb_S1x256x2048_S1x256x256_0_0_512, slabZ (hrows (View.readAt (Elt F) arg10.view (Rect.unit (s := S1x256x2048) ![0, 0, 0] S1x256x2048.size inb_S1x256x2048_S1x256x2048_0_0_0).toLoadRect (harg10.unread x8))) (View.readAt (Elt F) arg11.view (Rect.unit (s := S2048x4608) ![0, 512] S2048x256.size inb_S2048x4608_S2048x256_0_512).toLoadRect (harg11.unread x9))⟩,
      ⟨Rect.unit (s := S1x256x2048) ![0, 0, 256] S1x256x256.size inb_S1x256x2048_S1x256x256_0_0_256, slabZ (hrows (View.readAt (Elt F) arg10.view (Rect.unit (s := S1x256x2048) ![0, 0, 0] S1x256x2048.size inb_S1x256x2048_S1x256x2048_0_0_0).toLoadRect (harg10.unread x8))) (View.readAt (Elt F) arg11.view (Rect.unit (s := S2048x4608) ![0, 256] S2048x256.size inb_S2048x4608_S2048x256_0_256).toLoadRect (harg11.unread x9))⟩,
      ⟨Rect.unit (s := S1x256x2048) ![0, 0, 0] S1x256x256.size inb_S1x256x2048_S1x256x256_0_0_0, slabZ (hrows (View.readAt (Elt F) arg10.view (Rect.unit (s := S1x256x2048) ![0, 0, 0] S1x256x2048.size inb_S1x256x2048_S1x256x2048_0_0_0).toLoadRect (harg10.unread x8))) (View.readAt (Elt F) arg11.view (Rect.unit (s := S2048x4608) ![0, 0] S2048x256.size inb_S2048x4608_S2048x256_0_0).toLoadRect (harg11.unread x9))⟩] : List (View.Piece (Elt F) S1x256x2048 .bf16)) := by
  unfold out0_A_12
  rw [View.read_writes_junk_eq_canon]
  sl_kernel_rfl

theorem out13 : out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 = View.canon
     ([⟨Rect.unit (s := S1x256x3072) ![0, 0, 2816] S1x256x256.size inb_S1x256x3072_S1x256x256_0_0_2816, slab (hrows (View.readAt (Elt F) arg10.view (Rect.unit (s := S1x256x2048) ![0, 0, 0] S1x256x2048.size inb_S1x256x2048_S1x256x2048_0_0_0).toLoadRect (harg10.unread x8))) (View.readAt (Elt F) arg12.view (Rect.unit (s := S2048x640) ![0, 256] S2048x256.size inb_S2048x640_S2048x256_0_256).toLoadRect (harg12.unread x10))⟩,
      ⟨Rect.unit (s := S1x256x3072) ![0, 0, 2560] S1x256x256.size inb_S1x256x3072_S1x256x256_0_0_2560, slab (hrows (View.readAt (Elt F) arg10.view (Rect.unit (s := S1x256x2048) ![0, 0, 0] S1x256x2048.size inb_S1x256x2048_S1x256x2048_0_0_0).toLoadRect (harg10.unread x8))) (View.readAt (Elt F) arg12.view (Rect.unit (s := S2048x640) ![0, 0] S2048x256.size inb_S2048x640_S2048x256_0_0).toLoadRect (harg12.unread x10))⟩,
      ⟨Rect.unit (s := S1x256x3072) ![0, 0, 2304] S1x256x256.size inb_S1x256x3072_S1x256x256_0_0_2304, slab (hrows (View.readAt (Elt F) arg10.view (Rect.unit (s := S1x256x2048) ![0, 0, 0] S1x256x2048.size inb_S1x256x2048_S1x256x2048_0_0_0).toLoadRect (harg10.unread x8))) (View.readAt (Elt F) arg11.view (Rect.unit (s := S2048x4608) ![0, 4352] S2048x256.size inb_S2048x4608_S2048x256_0_4352).toLoadRect (harg11.unread x9))⟩,
      ⟨Rect.unit (s := S1x256x3072) ![0, 0, 2048] S1x256x256.size inb_S1x256x3072_S1x256x256_0_0_2048, slab (hrows (View.readAt (Elt F) arg10.view (Rect.unit (s := S1x256x2048) ![0, 0, 0] S1x256x2048.size inb_S1x256x2048_S1x256x2048_0_0_0).toLoadRect (harg10.unread x8))) (View.readAt (Elt F) arg11.view (Rect.unit (s := S2048x4608) ![0, 4096] S2048x256.size inb_S2048x4608_S2048x256_0_4096).toLoadRect (harg11.unread x9))⟩,
      ⟨Rect.unit (s := S1x256x3072) ![0, 0, 1792] S1x256x256.size inb_S1x256x3072_S1x256x256_0_0_1792, slab (hrows (View.readAt (Elt F) arg10.view (Rect.unit (s := S1x256x2048) ![0, 0, 0] S1x256x2048.size inb_S1x256x2048_S1x256x2048_0_0_0).toLoadRect (harg10.unread x8))) (View.readAt (Elt F) arg11.view (Rect.unit (s := S2048x4608) ![0, 3840] S2048x256.size inb_S2048x4608_S2048x256_0_3840).toLoadRect (harg11.unread x9))⟩,
      ⟨Rect.unit (s := S1x256x3072) ![0, 0, 1536] S1x256x256.size inb_S1x256x3072_S1x256x256_0_0_1536, slab (hrows (View.readAt (Elt F) arg10.view (Rect.unit (s := S1x256x2048) ![0, 0, 0] S1x256x2048.size inb_S1x256x2048_S1x256x2048_0_0_0).toLoadRect (harg10.unread x8))) (View.readAt (Elt F) arg11.view (Rect.unit (s := S2048x4608) ![0, 3584] S2048x256.size inb_S2048x4608_S2048x256_0_3584).toLoadRect (harg11.unread x9))⟩,
      ⟨Rect.unit (s := S1x256x3072) ![0, 0, 1280] S1x256x256.size inb_S1x256x3072_S1x256x256_0_0_1280, slab (hrows (View.readAt (Elt F) arg10.view (Rect.unit (s := S1x256x2048) ![0, 0, 0] S1x256x2048.size inb_S1x256x2048_S1x256x2048_0_0_0).toLoadRect (harg10.unread x8))) (View.readAt (Elt F) arg11.view (Rect.unit (s := S2048x4608) ![0, 3328] S2048x256.size inb_S2048x4608_S2048x256_0_3328).toLoadRect (harg11.unread x9))⟩,
      ⟨Rect.unit (s := S1x256x3072) ![0, 0, 1024] S1x256x256.size inb_S1x256x3072_S1x256x256_0_0_1024, slab (hrows (View.readAt (Elt F) arg10.view (Rect.unit (s := S1x256x2048) ![0, 0, 0] S1x256x2048.size inb_S1x256x2048_S1x256x2048_0_0_0).toLoadRect (harg10.unread x8))) (View.readAt (Elt F) arg11.view (Rect.unit (s := S2048x4608) ![0, 3072] S2048x256.size inb_S2048x4608_S2048x256_0_3072).toLoadRect (harg11.unread x9))⟩,
      ⟨Rect.unit (s := S1x256x3072) ![0, 0, 768] S1x256x256.size inb_S1x256x3072_S1x256x256_0_0_768, slab (hrows (View.readAt (Elt F) arg10.view (Rect.unit (s := S1x256x2048) ![0, 0, 0] S1x256x2048.size inb_S1x256x2048_S1x256x2048_0_0_0).toLoadRect (harg10.unread x8))) (View.readAt (Elt F) arg11.view (Rect.unit (s := S2048x4608) ![0, 2816] S2048x256.size inb_S2048x4608_S2048x256_0_2816).toLoadRect (harg11.unread x9))⟩,
      ⟨Rect.unit (s := S1x256x3072) ![0, 0, 512] S1x256x256.size inb_S1x256x3072_S1x256x256_0_0_512, slab (hrows (View.readAt (Elt F) arg10.view (Rect.unit (s := S1x256x2048) ![0, 0, 0] S1x256x2048.size inb_S1x256x2048_S1x256x2048_0_0_0).toLoadRect (harg10.unread x8))) (View.readAt (Elt F) arg11.view (Rect.unit (s := S2048x4608) ![0, 2560] S2048x256.size inb_S2048x4608_S2048x256_0_2560).toLoadRect (harg11.unread x9))⟩,
      ⟨Rect.unit (s := S1x256x3072) ![0, 0, 256] S1x256x256.size inb_S1x256x3072_S1x256x256_0_0_256, slab (hrows (View.readAt (Elt F) arg10.view (Rect.unit (s := S1x256x2048) ![0, 0, 0] S1x256x2048.size inb_S1x256x2048_S1x256x2048_0_0_0).toLoadRect (harg10.unread x8))) (View.readAt (Elt F) arg11.view (Rect.unit (s := S2048x4608) ![0, 2304] S2048x256.size inb_S2048x4608_S2048x256_0_2304).toLoadRect (harg11.unread x9))⟩,
      ⟨Rect.unit (s := S1x256x3072) ![0, 0, 0] S1x256x256.size inb_S1x256x3072_S1x256x256_0_0_0, slab (hrows (View.readAt (Elt F) arg10.view (Rect.unit (s := S1x256x2048) ![0, 0, 0] S1x256x2048.size inb_S1x256x2048_S1x256x2048_0_0_0).toLoadRect (harg10.unread x8))) (View.readAt (Elt F) arg11.view (Rect.unit (s := S2048x4608) ![0, 2048] S2048x256.size inb_S2048x4608_S2048x256_0_2048).toLoadRect (harg11.unread x9))⟩] : List (View.Piece (Elt F) S1x256x3072 .f32)) := by
  unfold out0_A_13
  rw [View.read_writes_junk_eq_canon]
  sl_kernel_rfl

theorem out14 : out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 = View.canon
     ([⟨Rect.unit (s := S1x256x128) ![0, 0, 0] S1x256x128.size inb_S1x256x128_S1x256x128_0_0_0, slabDt (hrows (View.readAt (Elt F) arg10.view (Rect.unit (s := S1x256x2048) ![0, 0, 0] S1x256x2048.size inb_S1x256x2048_S1x256x2048_0_0_0).toLoadRect (harg10.unread x8))) (View.readAt (Elt F) arg12.view (Rect.unit (s := S2048x640) ![0, 512] S2048x128.size inb_S2048x640_S2048x128_0_512).toLoadRect (harg12.unread x10))⟩] : List (View.Piece (Elt F) S1x256x128 .f32)) := by
  unfold out0_A_14
  rw [View.read_writes_junk_eq_canon]
  sl_kernel_rfl

end Cert.KernelIdeal.Attend

end
-- ==== Proof.Pays.lean ====
/- Each of the thirty-two head pairs' payloads the body stores in its scratch, as the function of the loaded blocks
   `pair` is: the run's names unfolded. -/
module

public import proofs.«01_k».proof.Proof.Attend

@[expose] public section

set_option maxRecDepth 16384

noncomputable section

namespace Cert.KernelIdeal.Attend

open Cert.KernelIdeal Cert.KernelIdeal.Gen Idealize.ShloMosaic Idealize.ShloMosaic.Tactic

variable {F : FTy → Type} [FloatOps F] [Named F]

variable (c : Dev nD) (i : grid0.Coords) (arg2 : Memref sig .tc .smem S32 .f32) (harg2 : arg2.IsWhole) (arg3 : Memref sig .tc .vmem S1x256x2048 .bf16) (harg3 : arg3.IsWhole) (arg5 : Memref sig .tc .vmem S1x128x256 .f32) (harg5 : arg5.IsWhole) (arg6 : Memref sig .tc .vmem S1x256x256 .f32) (harg6 : arg6.IsWhole) (arg7 : Memref sig .tc .vmem S1x128x256 .f32) (harg7 : arg7.IsWhole) (arg8 : Memref sig .tc .vmem S1x256x256 .f32) (harg8 : arg8.IsWhole) (x0 : FVec F S32 .f32) (x1 : FVec F S1x256x2048 .bf16) (x3 : FVec F S1x128x256 .f32) (x4 : FVec F S1x256x256 .f32) (x5 : FVec F S1x128x256 .f32) (x6 : FVec F S1x256x256 .f32)

theorem pay_0_0 : kernelRun0_A.sl.v566 c i arg2 harg2 arg3 harg3 arg5 harg5 arg6 harg6 arg7 harg7 arg8 harg8 x0 x1 x3 x4 x5 x6
    = shapeCast S128x128 (pair (kernelRun0_A.sl.v20 i) (scores (stack (kernelRun0_A.sl.v22 c arg3 harg3 x1) 0 128 256 384 slices_S128x2048_o0_0_S128x128 slices_S128x2048_o0_128_S128x128 slices_S128x2048_o0_256_S128x128 slices_S128x2048_o0_384_S128x128) (diagFst (half0 (scaled (kernelRun0_A.sl.v25 c arg5 harg5 arg6 harg6 x3 x4))))) (diagFst (half0 (kernelRun0_A.sl.v28 c arg7 harg7 arg8 harg8 x5 x6)))
      ![kernelRun0_A.sl.r_17 c arg2 harg2 x0, kernelRun0_A.sl.r_18 c arg2 harg2 x0, kernelRun0_A.sl.r_27 c arg2 harg2 x0, kernelRun0_A.sl.r_28 c arg2 harg2 x0, kernelRun0_A.sl.r_35 c arg2 harg2 x0, kernelRun0_A.sl.r_36 c arg2 harg2 x0, kernelRun0_A.sl.r_42 c arg2 harg2 x0, kernelRun0_A.sl.r_47 c arg2 harg2 x0] 0 0 1 slices_S512x128_o0_0_S128x128 slices_S512x512_o0_0_S128x256 slices_S512x512_o0_256_S128x256) shapeCasts_S128x128_S128x128 := by
  sl_kernel_rfl

theorem pay_0_1 : kernelRun0_A.sl.v573 c i arg2 harg2 arg3 harg3 arg5 harg5 arg6 harg6 arg7 harg7 arg8 harg8 x0 x1 x3 x4 x5 x6
    = shapeCast S128x128 (pair (kernelRun0_A.sl.v20 i) (scores (stack (kernelRun0_A.sl.v22 c arg3 harg3 x1) 0 128 256 384 slices_S128x2048_o0_0_S128x128 slices_S128x2048_o0_128_S128x128 slices_S128x2048_o0_256_S128x128 slices_S128x2048_o0_384_S128x128) (diagFst (half0 (scaled (kernelRun0_A.sl.v25 c arg5 harg5 arg6 harg6 x3 x4))))) (diagFst (half0 (kernelRun0_A.sl.v28 c arg7 harg7 arg8 harg8 x5 x6)))
      ![kernelRun0_A.sl.r_17 c arg2 harg2 x0, kernelRun0_A.sl.r_18 c arg2 harg2 x0, kernelRun0_A.sl.r_27 c arg2 harg2 x0, kernelRun0_A.sl.r_28 c arg2 harg2 x0, kernelRun0_A.sl.r_35 c arg2 harg2 x0, kernelRun0_A.sl.r_36 c arg2 harg2 x0, kernelRun0_A.sl.r_42 c arg2 harg2 x0, kernelRun0_A.sl.r_47 c arg2 harg2 x0] 128 2 3 slices_S512x128_o128_0_S128x128 slices_S512x512_o128_0_S128x256 slices_S512x512_o128_256_S128x256) shapeCasts_S128x128_S128x128 := by
  sl_kernel_rfl

theorem pay_0_2 : kernelRun0_A.sl.v580 c i arg2 harg2 arg3 harg3 arg5 harg5 arg6 harg6 arg7 harg7 arg8 harg8 x0 x1 x3 x4 x5 x6
    = shapeCast S128x128 (pair (kernelRun0_A.sl.v20 i) (scores (stack (kernelRun0_A.sl.v22 c arg3 harg3 x1) 0 128 256 384 slices_S128x2048_o0_0_S128x128 slices_S128x2048_o0_128_S128x128 slices_S128x2048_o0_256_S128x128 slices_S128x2048_o0_384_S128x128) (diagFst (half0 (scaled (kernelRun0_A.sl.v25 c arg5 harg5 arg6 harg6 x3 x4))))) (diagFst (half0 (kernelRun0_A.sl.v28 c arg7 harg7 arg8 harg8 x5 x6)))
      ![kernelRun0_A.sl.r_17 c arg2 harg2 x0, kernelRun0_A.sl.r_18 c arg2 harg2 x0, kernelRun0_A.sl.r_27 c arg2 harg2 x0, kernelRun0_A.sl.r_28 c arg2 harg2 x0, kernelRun0_A.sl.r_35 c arg2 harg2 x0, kernelRun0_A.sl.r_36 c arg2 harg2 x0, kernelRun0_A.sl.r_42 c arg2 harg2 x0, kernelRun0_A.sl.r_47 c arg2 harg2 x0] 256 4 5 slices_S512x128_o256_0_S128x128 slices_S512x512_o256_0_S128x256 slices_S512x512_o256_256_S128x256) shapeCasts_S128x128_S128x128 := by
  sl_kernel_rfl

theorem pay_0_3 : kernelRun0_A.sl.v587 c i arg2 harg2 arg3 harg3 arg5 harg5 arg6 harg6 arg7 harg7 arg8 harg8 x0 x1 x3 x4 x5 x6
    = shapeCast S128x128 (pair (kernelRun0_A.sl.v20 i) (scores (stack (kernelRun0_A.sl.v22 c arg3 harg3 x1) 0 128 256 384 slices_S128x2048_o0_0_S128x128 slices_S128x2048_o0_128_S128x128 slices_S128x2048_o0_256_S128x128 slices_S128x2048_o0_384_S128x128) (diagFst (half0 (scaled (kernelRun0_A.sl.v25 c arg5 harg5 arg6 harg6 x3 x4))))) (diagFst (half0 (kernelRun0_A.sl.v28 c arg7 harg7 arg8 harg8 x5 x6)))
      ![kernelRun0_A.sl.r_17 c arg2 harg2 x0, kernelRun0_A.sl.r_18 c arg2 harg2 x0, kernelRun0_A.sl.r_27 c arg2 harg2 x0, kernelRun0_A.sl.r_28 c arg2 harg2 x0, kernelRun0_A.sl.r_35 c arg2 harg2 x0, kernelRun0_A.sl.r_36 c arg2 harg2 x0, kernelRun0_A.sl.r_42 c arg2 harg2 x0, kernelRun0_A.sl.r_47 c arg2 harg2 x0] 384 6 7 slices_S512x128_o384_0_S128x128 slices_S512x512_o384_0_S128x256 slices_S512x512_o384_256_S128x256) shapeCasts_S128x128_S128x128 := by
  sl_kernel_rfl

theorem pay_0_4 : kernelRun0_A.sl.v1022 c i arg2 harg2 arg3 harg3 arg5 harg5 arg6 harg6 arg7 harg7 arg8 harg8 x0 x1 x3 x4 x5 x6
    = shapeCast S128x128 (pair (kernelRun0_A.sl.v20 i) (scores (stack (kernelRun0_A.sl.v22 c arg3 harg3 x1) 512 640 768 896 slices_S128x2048_o0_512_S128x128 slices_S128x2048_o0_640_S128x128 slices_S128x2048_o0_768_S128x128 slices_S128x2048_o0_896_S128x128) (diagSnd (half0 (scaled (kernelRun0_A.sl.v25 c arg5 harg5 arg6 harg6 x3 x4))))) (diagSnd (half0 (kernelRun0_A.sl.v28 c arg7 harg7 arg8 harg8 x5 x6)))
      ![kernelRun0_A.sl.r_53 c arg2 harg2 x0, kernelRun0_A.sl.r_60 c arg2 harg2 x0, kernelRun0_A.sl.r_69 c arg2 harg2 x0, kernelRun0_A.sl.r_77 c arg2 harg2 x0, kernelRun0_A.sl.r_85 c arg2 harg2 x0, kernelRun0_A.sl.r_93 c arg2 harg2 x0, kernelRun0_A.sl.r_102 c arg2 harg2 x0, kernelRun0_A.sl.r_112 c arg2 harg2 x0] 0 0 1 slices_S512x128_o0_0_S128x128 slices_S512x512_o0_0_S128x256 slices_S512x512_o0_256_S128x256) shapeCasts_S128x128_S128x128 := by
  sl_kernel_rfl

theorem pay_0_5 : kernelRun0_A.sl.v1029 c i arg2 harg2 arg3 harg3 arg5 harg5 arg6 harg6 arg7 harg7 arg8 harg8 x0 x1 x3 x4 x5 x6
    = shapeCast S128x128 (pair (kernelRun0_A.sl.v20 i) (scores (stack (kernelRun0_A.sl.v22 c arg3 harg3 x1) 512 640 768 896 slices_S128x2048_o0_512_S128x128 slices_S128x2048_o0_640_S128x128 slices_S128x2048_o0_768_S128x128 slices_S128x2048_o0_896_S128x128) (diagSnd (half0 (scaled (kernelRun0_A.sl.v25 c arg5 harg5 arg6 harg6 x3 x4))))) (diagSnd (half0 (kernelRun0_A.sl.v28 c arg7 harg7 arg8 harg8 x5 x6)))
      ![kernelRun0_A.sl.r_53 c arg2 harg2 x0, kernelRun0_A.sl.r_60 c arg2 harg2 x0, kernelRun0_A.sl.r_69 c arg2 harg2 x0, kernelRun0_A.sl.r_77 c arg2 harg2 x0, kernelRun0_A.sl.r_85 c arg2 harg2 x0, kernelRun0_A.sl.r_93 c arg2 harg2 x0, kernelRun0_A.sl.r_102 c arg2 harg2 x0, kernelRun0_A.sl.r_112 c arg2 harg2 x0] 128 2 3 slices_S512x128_o128_0_S128x128 slices_S512x512_o128_0_S128x256 slices_S512x512_o128_256_S128x256) shapeCasts_S128x128_S128x128 := by
  sl_kernel_rfl

theorem pay_0_6 : kernelRun0_A.sl.v1036 c i arg2 harg2 arg3 harg3 arg5 harg5 arg6 harg6 arg7 harg7 arg8 harg8 x0 x1 x3 x4 x5 x6
    = shapeCast S128x128 (pair (kernelRun0_A.sl.v20 i) (scores (stack (kernelRun0_A.sl.v22 c arg3 harg3 x1) 512 640 768 896 slices_S128x2048_o0_512_S128x128 slices_S128x2048_o0_640_S128x128 slices_S128x2048_o0_768_S128x128 slices_S128x2048_o0_896_S128x128) (diagSnd (half0 (scaled (kernelRun0_A.sl.v25 c arg5 harg5 arg6 harg6 x3 x4))))) (diagSnd (half0 (kernelRun0_A.sl.v28 c arg7 harg7 arg8 harg8 x5 x6)))
      ![kernelRun0_A.sl.r_53 c arg2 harg2 x0, kernelRun0_A.sl.r_60 c arg2 harg2 x0, kernelRun0_A.sl.r_69 c arg2 harg2 x0, kernelRun0_A.sl.r_77 c arg2 harg2 x0, kernelRun0_A.sl.r_85 c arg2 harg2 x0, kernelRun0_A.sl.r_93 c arg2 harg2 x0, kernelRun0_A.sl.r_102 c arg2 harg2 x0, kernelRun0_A.sl.r_112 c arg2 harg2 x0] 256 4 5 slices_S512x128_o256_0_S128x128 slices_S512x512_o256_0_S128x256 slices_S512x512_o256_256_S128x256) shapeCasts_S128x128_S128x128 := by
  sl_kernel_rfl

theorem pay_0_7 : kernelRun0_A.sl.v1043 c i arg2 harg2 arg3 harg3 arg5 harg5 arg6 harg6 arg7 harg7 arg8 harg8 x0 x1 x3 x4 x5 x6
    = shapeCast S128x128 (pair (kernelRun0_A.sl.v20 i) (scores (stack (kernelRun0_A.sl.v22 c arg3 harg3 x1) 512 640 768 896 slices_S128x2048_o0_512_S128x128 slices_S128x2048_o0_640_S128x128 slices_S128x2048_o0_768_S128x128 slices_S128x2048_o0_896_S128x128) (diagSnd (half0 (scaled (kernelRun0_A.sl.v25 c arg5 harg5 arg6 harg6 x3 x4))))) (diagSnd (half0 (kernelRun0_A.sl.v28 c arg7 harg7 arg8 harg8 x5 x6)))
      ![kernelRun0_A.sl.r_53 c arg2 harg2 x0, kernelRun0_A.sl.r_60 c arg2 harg2 x0, kernelRun0_A.sl.r_69 c arg2 harg2 x0, kernelRun0_A.sl.r_77 c arg2 harg2 x0, kernelRun0_A.sl.r_85 c arg2 harg2 x0, kernelRun0_A.sl.r_93 c arg2 harg2 x0, kernelRun0_A.sl.r_102 c arg2 harg2 x0, kernelRun0_A.sl.r_112 c arg2 harg2 x0] 384 6 7 slices_S512x128_o384_0_S128x128 slices_S512x512_o384_0_S128x256 slices_S512x512_o384_256_S128x256) shapeCasts_S128x128_S128x128 := by
  sl_kernel_rfl

theorem pay_0_8 : kernelRun0_A.sl.v1479 c i arg2 harg2 arg3 harg3 arg5 harg5 arg6 harg6 arg7 harg7 arg8 harg8 x0 x1 x3 x4 x5 x6
    = shapeCast S128x128 (pair (kernelRun0_A.sl.v20 i) (scores (stack (kernelRun0_A.sl.v22 c arg3 harg3 x1) 1024 1152 1280 1408 slices_S128x2048_o0_1024_S128x128 slices_S128x2048_o0_1152_S128x128 slices_S128x2048_o0_1280_S128x128 slices_S128x2048_o0_1408_S128x128) (diagFst (half1 (scaled (kernelRun0_A.sl.v25 c arg5 harg5 arg6 harg6 x3 x4))))) (diagFst (half1 (kernelRun0_A.sl.v28 c arg7 harg7 arg8 harg8 x5 x6)))
      ![kernelRun0_A.sl.r_121 c arg2 harg2 x0, kernelRun0_A.sl.r_122 c arg2 harg2 x0, kernelRun0_A.sl.r_131 c arg2 harg2 x0, kernelRun0_A.sl.r_132 c arg2 harg2 x0, kernelRun0_A.sl.r_141 c arg2 harg2 x0, kernelRun0_A.sl.r_142 c arg2 harg2 x0, kernelRun0_A.sl.r_150 c arg2 harg2 x0, kernelRun0_A.sl.r_157 c arg2 harg2 x0] 0 0 1 slices_S512x128_o0_0_S128x128 slices_S512x512_o0_0_S128x256 slices_S512x512_o0_256_S128x256) shapeCasts_S128x128_S128x128 := by
  sl_kernel_rfl

theorem pay_0_9 : kernelRun0_A.sl.v1486 c i arg2 harg2 arg3 harg3 arg5 harg5 arg6 harg6 arg7 harg7 arg8 harg8 x0 x1 x3 x4 x5 x6
    = shapeCast S128x128 (pair (kernelRun0_A.sl.v20 i) (scores (stack (kernelRun0_A.sl.v22 c arg3 harg3 x1) 1024 1152 1280 1408 slices_S128x2048_o0_1024_S128x128 slices_S128x2048_o0_1152_S128x128 slices_S128x2048_o0_1280_S128x128 slices_S128x2048_o0_1408_S128x128) (diagFst (half1 (scaled (kernelRun0_A.sl.v25 c arg5 harg5 arg6 harg6 x3 x4))))) (diagFst (half1 (kernelRun0_A.sl.v28 c arg7 harg7 arg8 harg8 x5 x6)))
      ![kernelRun0_A.sl.r_121 c arg2 harg2 x0, kernelRun0_A.sl.r_122 c arg2 harg2 x0, kernelRun0_A.sl.r_131 c arg2 harg2 x0, kernelRun0_A.sl.r_132 c arg2 harg2 x0, kernelRun0_A.sl.r_141 c arg2 harg2 x0, kernelRun0_A.sl.r_142 c arg2 harg2 x0, kernelRun0_A.sl.r_150 c arg2 harg2 x0, kernelRun0_A.sl.r_157 c arg2 harg2 x0] 128 2 3 slices_S512x128_o128_0_S128x128 slices_S512x512_o128_0_S128x256 slices_S512x512_o128_256_S128x256) shapeCasts_S128x128_S128x128 := by
  sl_kernel_rfl

theorem pay_0_10 : kernelRun0_A.sl.v1493 c i arg2 harg2 arg3 harg3 arg5 harg5 arg6 harg6 arg7 harg7 arg8 harg8 x0 x1 x3 x4 x5 x6
    = shapeCast S128x128 (pair (kernelRun0_A.sl.v20 i) (scores (stack (kernelRun0_A.sl.v22 c arg3 harg3 x1) 1024 1152 1280 1408 slices_S128x2048_o0_1024_S128x128 slices_S128x2048_o0_1152_S128x128 slices_S128x2048_o0_1280_S128x128 slices_S128x2048_o0_1408_S128x128) (diagFst (half1 (scaled (kernelRun0_A.sl.v25 c arg5 harg5 arg6 harg6 x3 x4))))) (diagFst (half1 (kernelRun0_A.sl.v28 c arg7 harg7 arg8 harg8 x5 x6)))
      ![kernelRun0_A.sl.r_121 c arg2 harg2 x0, kernelRun0_A.sl.r_122 c arg2 harg2 x0, kernelRun0_A.sl.r_131 c arg2 harg2 x0, kernelRun0_A.sl.r_132 c arg2 harg2 x0, kernelRun0_A.sl.r_141 c arg2 harg2 x0, kernelRun0_A.sl.r_142 c arg2 harg2 x0, kernelRun0_A.sl.r_150 c arg2 harg2 x0, kernelRun0_A.sl.r_157 c arg2 harg2 x0] 256 4 5 slices_S512x128_o256_0_S128x128 slices_S512x512_o256_0_S128x256 slices_S512x512_o256_256_S128x256) shapeCasts_S128x128_S128x128 := by
  sl_kernel_rfl

theorem pay_0_11 : kernelRun0_A.sl.v1500 c i arg2 harg2 arg3 harg3 arg5 harg5 arg6 harg6 arg7 harg7 arg8 harg8 x0 x1 x3 x4 x5 x6
    = shapeCast S128x128 (pair (kernelRun0_A.sl.v20 i) (scores (stack (kernelRun0_A.sl.v22 c arg3 harg3 x1) 1024 1152 1280 1408 slices_S128x2048_o0_1024_S128x128 slices_S128x2048_o0_1152_S128x128 slices_S128x2048_o0_1280_S128x128 slices_S128x2048_o0_1408_S128x128) (diagFst (half1 (scaled (kernelRun0_A.sl.v25 c arg5 harg5 arg6 harg6 x3 x4))))) (diagFst (half1 (kernelRun0_A.sl.v28 c arg7 harg7 arg8 harg8 x5 x6)))
      ![kernelRun0_A.sl.r_121 c arg2 harg2 x0, kernelRun0_A.sl.r_122 c arg2 harg2 x0, kernelRun0_A.sl.r_131 c arg2 harg2 x0, kernelRun0_A.sl.r_132 c arg2 harg2 x0, kernelRun0_A.sl.r_141 c arg2 harg2 x0, kernelRun0_A.sl.r_142 c arg2 harg2 x0, kernelRun0_A.sl.r_150 c arg2 harg2 x0, kernelRun0_A.sl.r_157 c arg2 harg2 x0] 384 6 7 slices_S512x128_o384_0_S128x128 slices_S512x512_o384_0_S128x256 slices_S512x512_o384_256_S128x256) shapeCasts_S128x128_S128x128 := by
  sl_kernel_rfl

theorem pay_0_12 : kernelRun0_A.sl.v1936 c i arg2 harg2 arg3 harg3 arg5 harg5 arg6 harg6 arg7 harg7 arg8 harg8 x0 x1 x3 x4 x5 x6
    = shapeCast S128x128 (pair (kernelRun0_A.sl.v20 i) (scores (stack (kernelRun0_A.sl.v22 c arg3 harg3 x1) 1536 1664 1792 1920 slices_S128x2048_o0_1536_S128x128 slices_S128x2048_o0_1664_S128x128 slices_S128x2048_o0_1792_S128x128 slices_S128x2048_o0_1920_S128x128) (diagSnd (half1 (scaled (kernelRun0_A.sl.v25 c arg5 harg5 arg6 harg6 x3 x4))))) (diagSnd (half1 (kernelRun0_A.sl.v28 c arg7 harg7 arg8 harg8 x5 x6)))
      ![kernelRun0_A.sl.r_167 c arg2 harg2 x0, kernelRun0_A.sl.r_175 c arg2 harg2 x0, kernelRun0_A.sl.r_181 c arg2 harg2 x0, kernelRun0_A.sl.r_191 c arg2 harg2 x0, kernelRun0_A.sl.r_198 c arg2 harg2 x0, kernelRun0_A.sl.r_207 c arg2 harg2 x0, kernelRun0_A.sl.r_213 c arg2 harg2 x0, kernelRun0_A.sl.r_220 c arg2 harg2 x0] 0 0 1 slices_S512x128_o0_0_S128x128 slices_S512x512_o0_0_S128x256 slices_S512x512_o0_256_S128x256) shapeCasts_S128x128_S128x128 := by
  sl_kernel_rfl

theorem pay_0_13 : kernelRun0_A.sl.v1943 c i arg2 harg2 arg3 harg3 arg5 harg5 arg6 harg6 arg7 harg7 arg8 harg8 x0 x1 x3 x4 x5 x6
    = shapeCast S128x128 (pair (kernelRun0_A.sl.v20 i) (scores (stack (kernelRun0_A.sl.v22 c arg3 harg3 x1) 1536 1664 1792 1920 slices_S128x2048_o0_1536_S128x128 slices_S128x2048_o0_1664_S128x128 slices_S128x2048_o0_1792_S128x128 slices_S128x2048_o0_1920_S128x128) (diagSnd (half1 (scaled (kernelRun0_A.sl.v25 c arg5 harg5 arg6 harg6 x3 x4))))) (diagSnd (half1 (kernelRun0_A.sl.v28 c arg7 harg7 arg8 harg8 x5 x6)))
      ![kernelRun0_A.sl.r_167 c arg2 harg2 x0, kernelRun0_A.sl.r_175 c arg2 harg2 x0, kernelRun0_A.sl.r_181 c arg2 harg2 x0, kernelRun0_A.sl.r_191 c arg2 harg2 x0, kernelRun0_A.sl.r_198 c arg2 harg2 x0, kernelRun0_A.sl.r_207 c arg2 harg2 x0, kernelRun0_A.sl.r_213 c arg2 harg2 x0, kernelRun0_A.sl.r_220 c arg2 harg2 x0] 128 2 3 slices_S512x128_o128_0_S128x128 slices_S512x512_o128_0_S128x256 slices_S512x512_o128_256_S128x256) shapeCasts_S128x128_S128x128 := by
  sl_kernel_rfl

theorem pay_0_14 : kernelRun0_A.sl.v1950 c i arg2 harg2 arg3 harg3 arg5 harg5 arg6 harg6 arg7 harg7 arg8 harg8 x0 x1 x3 x4 x5 x6
    = shapeCast S128x128 (pair (kernelRun0_A.sl.v20 i) (scores (stack (kernelRun0_A.sl.v22 c arg3 harg3 x1) 1536 1664 1792 1920 slices_S128x2048_o0_1536_S128x128 slices_S128x2048_o0_1664_S128x128 slices_S128x2048_o0_1792_S128x128 slices_S128x2048_o0_1920_S128x128) (diagSnd (half1 (scaled (kernelRun0_A.sl.v25 c arg5 harg5 arg6 harg6 x3 x4))))) (diagSnd (half1 (kernelRun0_A.sl.v28 c arg7 harg7 arg8 harg8 x5 x6)))
      ![kernelRun0_A.sl.r_167 c arg2 harg2 x0, kernelRun0_A.sl.r_175 c arg2 harg2 x0, kernelRun0_A.sl.r_181 c arg2 harg2 x0, kernelRun0_A.sl.r_191 c arg2 harg2 x0, kernelRun0_A.sl.r_198 c arg2 harg2 x0, kernelRun0_A.sl.r_207 c arg2 harg2 x0, kernelRun0_A.sl.r_213 c arg2 harg2 x0, kernelRun0_A.sl.r_220 c arg2 harg2 x0] 256 4 5 slices_S512x128_o256_0_S128x128 slices_S512x512_o256_0_S128x256 slices_S512x512_o256_256_S128x256) shapeCasts_S128x128_S128x128 := by
  sl_kernel_rfl

theorem pay_0_15 : kernelRun0_A.sl.v1957 c i arg2 harg2 arg3 harg3 arg5 harg5 arg6 harg6 arg7 harg7 arg8 harg8 x0 x1 x3 x4 x5 x6
    = shapeCast S128x128 (pair (kernelRun0_A.sl.v20 i) (scores (stack (kernelRun0_A.sl.v22 c arg3 harg3 x1) 1536 1664 1792 1920 slices_S128x2048_o0_1536_S128x128 slices_S128x2048_o0_1664_S128x128 slices_S128x2048_o0_1792_S128x128 slices_S128x2048_o0_1920_S128x128) (diagSnd (half1 (scaled (kernelRun0_A.sl.v25 c arg5 harg5 arg6 harg6 x3 x4))))) (diagSnd (half1 (kernelRun0_A.sl.v28 c arg7 harg7 arg8 harg8 x5 x6)))
      ![kernelRun0_A.sl.r_167 c arg2 harg2 x0, kernelRun0_A.sl.r_175 c arg2 harg2 x0, kernelRun0_A.sl.r_181 c arg2 harg2 x0, kernelRun0_A.sl.r_191 c arg2 harg2 x0, kernelRun0_A.sl.r_198 c arg2 harg2 x0, kernelRun0_A.sl.r_207 c arg2 harg2 x0, kernelRun0_A.sl.r_213 c arg2 harg2 x0, kernelRun0_A.sl.r_220 c arg2 harg2 x0] 384 6 7 slices_S512x128_o384_0_S128x128 slices_S512x512_o384_0_S128x256 slices_S512x512_o384_256_S128x256) shapeCasts_S128x128_S128x128 := by
  sl_kernel_rfl

theorem pay_1_0 : kernelRun0_A.sl.v594 c arg2 harg2 arg3 harg3 arg6 harg6 arg8 harg8 x0 x1 x4 x6
    = shapeCast S128x128 (pair kernelRun0_A.sl.v9 (scores (stack (kernelRun0_A.sl.r c arg3 harg3 x1) 0 128 256 384 slices_S128x2048_o0_0_S128x128 slices_S128x2048_o0_128_S128x128 slices_S128x2048_o0_256_S128x128 slices_S128x2048_o0_384_S128x128) (diagFst (half0 (scaled (kernelRun0_A.sl.r_1 c arg6 harg6 x4))))) (diagFst (half0 (kernelRun0_A.sl.r_2 c arg8 harg8 x6)))
      ![kernelRun0_A.sl.r_17 c arg2 harg2 x0, kernelRun0_A.sl.r_18 c arg2 harg2 x0, kernelRun0_A.sl.r_27 c arg2 harg2 x0, kernelRun0_A.sl.r_28 c arg2 harg2 x0, kernelRun0_A.sl.r_35 c arg2 harg2 x0, kernelRun0_A.sl.r_36 c arg2 harg2 x0, kernelRun0_A.sl.r_42 c arg2 harg2 x0, kernelRun0_A.sl.r_47 c arg2 harg2 x0] 0 0 1 slices_S512x128_o0_0_S128x128 slices_S512x512_o0_0_S128x256 slices_S512x512_o0_256_S128x256) shapeCasts_S128x128_S128x128 := by
  sl_kernel_rfl

theorem pay_1_1 : kernelRun0_A.sl.v601 c arg2 harg2 arg3 harg3 arg6 harg6 arg8 harg8 x0 x1 x4 x6
    = shapeCast S128x128 (pair kernelRun0_A.sl.v9 (scores (stack (kernelRun0_A.sl.r c arg3 harg3 x1) 0 128 256 384 slices_S128x2048_o0_0_S128x128 slices_S128x2048_o0_128_S128x128 slices_S128x2048_o0_256_S128x128 slices_S128x2048_o0_384_S128x128) (diagFst (half0 (scaled (kernelRun0_A.sl.r_1 c arg6 harg6 x4))))) (diagFst (half0 (kernelRun0_A.sl.r_2 c arg8 harg8 x6)))
      ![kernelRun0_A.sl.r_17 c arg2 harg2 x0, kernelRun0_A.sl.r_18 c arg2 harg2 x0, kernelRun0_A.sl.r_27 c arg2 harg2 x0, kernelRun0_A.sl.r_28 c arg2 harg2 x0, kernelRun0_A.sl.r_35 c arg2 harg2 x0, kernelRun0_A.sl.r_36 c arg2 harg2 x0, kernelRun0_A.sl.r_42 c arg2 harg2 x0, kernelRun0_A.sl.r_47 c arg2 harg2 x0] 128 2 3 slices_S512x128_o128_0_S128x128 slices_S512x512_o128_0_S128x256 slices_S512x512_o128_256_S128x256) shapeCasts_S128x128_S128x128 := by
  sl_kernel_rfl

theorem pay_1_2 : kernelRun0_A.sl.v608 c arg2 harg2 arg3 harg3 arg6 harg6 arg8 harg8 x0 x1 x4 x6
    = shapeCast S128x128 (pair kernelRun0_A.sl.v9 (scores (stack (kernelRun0_A.sl.r c arg3 harg3 x1) 0 128 256 384 slices_S128x2048_o0_0_S128x128 slices_S128x2048_o0_128_S128x128 slices_S128x2048_o0_256_S128x128 slices_S128x2048_o0_384_S128x128) (diagFst (half0 (scaled (kernelRun0_A.sl.r_1 c arg6 harg6 x4))))) (diagFst (half0 (kernelRun0_A.sl.r_2 c arg8 harg8 x6)))
      ![kernelRun0_A.sl.r_17 c arg2 harg2 x0, kernelRun0_A.sl.r_18 c arg2 harg2 x0, kernelRun0_A.sl.r_27 c arg2 harg2 x0, kernelRun0_A.sl.r_28 c arg2 harg2 x0, kernelRun0_A.sl.r_35 c arg2 harg2 x0, kernelRun0_A.sl.r_36 c arg2 harg2 x0, kernelRun0_A.sl.r_42 c arg2 harg2 x0, kernelRun0_A.sl.r_47 c arg2 harg2 x0] 256 4 5 slices_S512x128_o256_0_S128x128 slices_S512x512_o256_0_S128x256 slices_S512x512_o256_256_S128x256) shapeCasts_S128x128_S128x128 := by
  sl_kernel_rfl

theorem pay_1_3 : k0_pay166 (kernelRun0_A.sl.v610 c arg2 harg2 arg3 harg3 arg6 harg6 arg8 harg8 x0 x1 x4 x6)
    = shapeCast S128x128 (pair kernelRun0_A.sl.v9 (scores (stack (kernelRun0_A.sl.r c arg3 harg3 x1) 0 128 256 384 slices_S128x2048_o0_0_S128x128 slices_S128x2048_o0_128_S128x128 slices_S128x2048_o0_256_S128x128 slices_S128x2048_o0_384_S128x128) (diagFst (half0 (scaled (kernelRun0_A.sl.r_1 c arg6 harg6 x4))))) (diagFst (half0 (kernelRun0_A.sl.r_2 c arg8 harg8 x6)))
      ![kernelRun0_A.sl.r_17 c arg2 harg2 x0, kernelRun0_A.sl.r_18 c arg2 harg2 x0, kernelRun0_A.sl.r_27 c arg2 harg2 x0, kernelRun0_A.sl.r_28 c arg2 harg2 x0, kernelRun0_A.sl.r_35 c arg2 harg2 x0, kernelRun0_A.sl.r_36 c arg2 harg2 x0, kernelRun0_A.sl.r_42 c arg2 harg2 x0, kernelRun0_A.sl.r_47 c arg2 harg2 x0] 384 6 7 slices_S512x128_o384_0_S128x128 slices_S512x512_o384_0_S128x256 slices_S512x512_o384_256_S128x256) shapeCasts_S128x128_S128x128 := by
  sl_kernel_rfl

theorem pay_1_4 : kernelRun0_A.sl.v1050 c arg2 harg2 arg3 harg3 arg6 harg6 arg8 harg8 x0 x1 x4 x6
    = shapeCast S128x128 (pair kernelRun0_A.sl.v9 (scores (stack (kernelRun0_A.sl.r c arg3 harg3 x1) 512 640 768 896 slices_S128x2048_o0_512_S128x128 slices_S128x2048_o0_640_S128x128 slices_S128x2048_o0_768_S128x128 slices_S128x2048_o0_896_S128x128) (diagSnd (half0 (scaled (kernelRun0_A.sl.r_1 c arg6 harg6 x4))))) (diagSnd (half0 (kernelRun0_A.sl.r_2 c arg8 harg8 x6)))
      ![kernelRun0_A.sl.r_53 c arg2 harg2 x0, kernelRun0_A.sl.r_60 c arg2 harg2 x0, kernelRun0_A.sl.r_69 c arg2 harg2 x0, kernelRun0_A.sl.r_77 c arg2 harg2 x0, kernelRun0_A.sl.r_85 c arg2 harg2 x0, kernelRun0_A.sl.r_93 c arg2 harg2 x0, kernelRun0_A.sl.r_102 c arg2 harg2 x0, kernelRun0_A.sl.r_112 c arg2 harg2 x0] 0 0 1 slices_S512x128_o0_0_S128x128 slices_S512x512_o0_0_S128x256 slices_S512x512_o0_256_S128x256) shapeCasts_S128x128_S128x128 := by
  sl_kernel_rfl

theorem pay_1_5 : kernelRun0_A.sl.v1057 c arg2 harg2 arg3 harg3 arg6 harg6 arg8 harg8 x0 x1 x4 x6
    = shapeCast S128x128 (pair kernelRun0_A.sl.v9 (scores (stack (kernelRun0_A.sl.r c arg3 harg3 x1) 512 640 768 896 slices_S128x2048_o0_512_S128x128 slices_S128x2048_o0_640_S128x128 slices_S128x2048_o0_768_S128x128 slices_S128x2048_o0_896_S128x128) (diagSnd (half0 (scaled (kernelRun0_A.sl.r_1 c arg6 harg6 x4))))) (diagSnd (half0 (kernelRun0_A.sl.r_2 c arg8 harg8 x6)))
      ![kernelRun0_A.sl.r_53 c arg2 harg2 x0, kernelRun0_A.sl.r_60 c arg2 harg2 x0, kernelRun0_A.sl.r_69 c arg2 harg2 x0, kernelRun0_A.sl.r_77 c arg2 harg2 x0, kernelRun0_A.sl.r_85 c arg2 harg2 x0, kernelRun0_A.sl.r_93 c arg2 harg2 x0, kernelRun0_A.sl.r_102 c arg2 harg2 x0, kernelRun0_A.sl.r_112 c arg2 harg2 x0] 128 2 3 slices_S512x128_o128_0_S128x128 slices_S512x512_o128_0_S128x256 slices_S512x512_o128_256_S128x256) shapeCasts_S128x128_S128x128 := by
  sl_kernel_rfl

theorem pay_1_6 : kernelRun0_A.sl.v1064 c arg2 harg2 arg3 harg3 arg6 harg6 arg8 harg8 x0 x1 x4 x6
    = shapeCast S128x128 (pair kernelRun0_A.sl.v9 (scores (stack (kernelRun0_A.sl.r c arg3 harg3 x1) 512 640 768 896 slices_S128x2048_o0_512_S128x128 slices_S128x2048_o0_640_S128x128 slices_S128x2048_o0_768_S128x128 slices_S128x2048_o0_896_S128x128) (diagSnd (half0 (scaled (kernelRun0_A.sl.r_1 c arg6 harg6 x4))))) (diagSnd (half0 (kernelRun0_A.sl.r_2 c arg8 harg8 x6)))
      ![kernelRun0_A.sl.r_53 c arg2 harg2 x0, kernelRun0_A.sl.r_60 c arg2 harg2 x0, kernelRun0_A.sl.r_69 c arg2 harg2 x0, kernelRun0_A.sl.r_77 c arg2 harg2 x0, kernelRun0_A.sl.r_85 c arg2 harg2 x0, kernelRun0_A.sl.r_93 c arg2 harg2 x0, kernelRun0_A.sl.r_102 c arg2 harg2 x0, kernelRun0_A.sl.r_112 c arg2 harg2 x0] 256 4 5 slices_S512x128_o256_0_S128x128 slices_S512x512_o256_0_S128x256 slices_S512x512_o256_256_S128x256) shapeCasts_S128x128_S128x128 := by
  sl_kernel_rfl

theorem pay_1_7 : kernelRun0_A.sl.v1071 c arg2 harg2 arg3 harg3 arg6 harg6 arg8 harg8 x0 x1 x4 x6
    = shapeCast S128x128 (pair kernelRun0_A.sl.v9 (scores (stack (kernelRun0_A.sl.r c arg3 harg3 x1) 512 640 768 896 slices_S128x2048_o0_512_S128x128 slices_S128x2048_o0_640_S128x128 slices_S128x2048_o0_768_S128x128 slices_S128x2048_o0_896_S128x128) (diagSnd (half0 (scaled (kernelRun0_A.sl.r_1 c arg6 harg6 x4))))) (diagSnd (half0 (kernelRun0_A.sl.r_2 c arg8 harg8 x6)))
      ![kernelRun0_A.sl.r_53 c arg2 harg2 x0, kernelRun0_A.sl.r_60 c arg2 harg2 x0, kernelRun0_A.sl.r_69 c arg2 harg2 x0, kernelRun0_A.sl.r_77 c arg2 harg2 x0, kernelRun0_A.sl.r_85 c arg2 harg2 x0, kernelRun0_A.sl.r_93 c arg2 harg2 x0, kernelRun0_A.sl.r_102 c arg2 harg2 x0, kernelRun0_A.sl.r_112 c arg2 harg2 x0] 384 6 7 slices_S512x128_o384_0_S128x128 slices_S512x512_o384_0_S128x256 slices_S512x512_o384_256_S128x256) shapeCasts_S128x128_S128x128 := by
  sl_kernel_rfl

theorem pay_1_8 : kernelRun0_A.sl.v1507 c arg2 harg2 arg3 harg3 arg6 harg6 arg8 harg8 x0 x1 x4 x6
    = shapeCast S128x128 (pair kernelRun0_A.sl.v9 (scores (stack (kernelRun0_A.sl.r c arg3 harg3 x1) 1024 1152 1280 1408 slices_S128x2048_o0_1024_S128x128 slices_S128x2048_o0_1152_S128x128 slices_S128x2048_o0_1280_S128x128 slices_S128x2048_o0_1408_S128x128) (diagFst (half1 (scaled (kernelRun0_A.sl.r_1 c arg6 harg6 x4))))) (diagFst (half1 (kernelRun0_A.sl.r_2 c arg8 harg8 x6)))
      ![kernelRun0_A.sl.r_121 c arg2 harg2 x0, kernelRun0_A.sl.r_122 c arg2 harg2 x0, kernelRun0_A.sl.r_131 c arg2 harg2 x0, kernelRun0_A.sl.r_132 c arg2 harg2 x0, kernelRun0_A.sl.r_141 c arg2 harg2 x0, kernelRun0_A.sl.r_142 c arg2 harg2 x0, kernelRun0_A.sl.r_150 c arg2 harg2 x0, kernelRun0_A.sl.r_157 c arg2 harg2 x0] 0 0 1 slices_S512x128_o0_0_S128x128 slices_S512x512_o0_0_S128x256 slices_S512x512_o0_256_S128x256) shapeCasts_S128x128_S128x128 := by
  sl_kernel_rfl

theorem pay_1_9 : kernelRun0_A.sl.v1514 c arg2 harg2 arg3 harg3 arg6 harg6 arg8 harg8 x0 x1 x4 x6
    = shapeCast S128x128 (pair kernelRun0_A.sl.v9 (scores (stack (kernelRun0_A.sl.r c arg3 harg3 x1) 1024 1152 1280 1408 slices_S128x2048_o0_1024_S128x128 slices_S128x2048_o0_1152_S128x128 slices_S128x2048_o0_1280_S128x128 slices_S128x2048_o0_1408_S128x128) (diagFst (half1 (scaled (kernelRun0_A.sl.r_1 c arg6 harg6 x4))))) (diagFst (half1 (kernelRun0_A.sl.r_2 c arg8 harg8 x6)))
      ![kernelRun0_A.sl.r_121 c arg2 harg2 x0, kernelRun0_A.sl.r_122 c arg2 harg2 x0, kernelRun0_A.sl.r_131 c arg2 harg2 x0, kernelRun0_A.sl.r_132 c arg2 harg2 x0, kernelRun0_A.sl.r_141 c arg2 harg2 x0, kernelRun0_A.sl.r_142 c arg2 harg2 x0, kernelRun0_A.sl.r_150 c arg2 harg2 x0, kernelRun0_A.sl.r_157 c arg2 harg2 x0] 128 2 3 slices_S512x128_o128_0_S128x128 slices_S512x512_o128_0_S128x256 slices_S512x512_o128_256_S128x256) shapeCasts_S128x128_S128x128 := by
  sl_kernel_rfl

theorem pay_1_10 : kernelRun0_A.sl.v1521 c arg2 harg2 arg3 harg3 arg6 harg6 arg8 harg8 x0 x1 x4 x6
    = shapeCast S128x128 (pair kernelRun0_A.sl.v9 (scores (stack (kernelRun0_A.sl.r c arg3 harg3 x1) 1024 1152 1280 1408 slices_S128x2048_o0_1024_S128x128 slices_S128x2048_o0_1152_S128x128 slices_S128x2048_o0_1280_S128x128 slices_S128x2048_o0_1408_S128x128) (diagFst (half1 (scaled (kernelRun0_A.sl.r_1 c arg6 harg6 x4))))) (diagFst (half1 (kernelRun0_A.sl.r_2 c arg8 harg8 x6)))
      ![kernelRun0_A.sl.r_121 c arg2 harg2 x0, kernelRun0_A.sl.r_122 c arg2 harg2 x0, kernelRun0_A.sl.r_131 c arg2 harg2 x0, kernelRun0_A.sl.r_132 c arg2 harg2 x0, kernelRun0_A.sl.r_141 c arg2 harg2 x0, kernelRun0_A.sl.r_142 c arg2 harg2 x0, kernelRun0_A.sl.r_150 c arg2 harg2 x0, kernelRun0_A.sl.r_157 c arg2 harg2 x0] 256 4 5 slices_S512x128_o256_0_S128x128 slices_S512x512_o256_0_S128x256 slices_S512x512_o256_256_S128x256) shapeCasts_S128x128_S128x128 := by
  sl_kernel_rfl

theorem pay_1_11 : kernelRun0_A.sl.v1528 c arg2 harg2 arg3 harg3 arg6 harg6 arg8 harg8 x0 x1 x4 x6
    = shapeCast S128x128 (pair kernelRun0_A.sl.v9 (scores (stack (kernelRun0_A.sl.r c arg3 harg3 x1) 1024 1152 1280 1408 slices_S128x2048_o0_1024_S128x128 slices_S128x2048_o0_1152_S128x128 slices_S128x2048_o0_1280_S128x128 slices_S128x2048_o0_1408_S128x128) (diagFst (half1 (scaled (kernelRun0_A.sl.r_1 c arg6 harg6 x4))))) (diagFst (half1 (kernelRun0_A.sl.r_2 c arg8 harg8 x6)))
      ![kernelRun0_A.sl.r_121 c arg2 harg2 x0, kernelRun0_A.sl.r_122 c arg2 harg2 x0, kernelRun0_A.sl.r_131 c arg2 harg2 x0, kernelRun0_A.sl.r_132 c arg2 harg2 x0, kernelRun0_A.sl.r_141 c arg2 harg2 x0, kernelRun0_A.sl.r_142 c arg2 harg2 x0, kernelRun0_A.sl.r_150 c arg2 harg2 x0, kernelRun0_A.sl.r_157 c arg2 harg2 x0] 384 6 7 slices_S512x128_o384_0_S128x128 slices_S512x512_o384_0_S128x256 slices_S512x512_o384_256_S128x256) shapeCasts_S128x128_S128x128 := by
  sl_kernel_rfl

theorem pay_1_12 : kernelRun0_A.sl.v1964 c arg2 harg2 arg3 harg3 arg6 harg6 arg8 harg8 x0 x1 x4 x6
    = shapeCast S128x128 (pair kernelRun0_A.sl.v9 (scores (stack (kernelRun0_A.sl.r c arg3 harg3 x1) 1536 1664 1792 1920 slices_S128x2048_o0_1536_S128x128 slices_S128x2048_o0_1664_S128x128 slices_S128x2048_o0_1792_S128x128 slices_S128x2048_o0_1920_S128x128) (diagSnd (half1 (scaled (kernelRun0_A.sl.r_1 c arg6 harg6 x4))))) (diagSnd (half1 (kernelRun0_A.sl.r_2 c arg8 harg8 x6)))
      ![kernelRun0_A.sl.r_167 c arg2 harg2 x0, kernelRun0_A.sl.r_175 c arg2 harg2 x0, kernelRun0_A.sl.r_181 c arg2 harg2 x0, kernelRun0_A.sl.r_191 c arg2 harg2 x0, kernelRun0_A.sl.r_198 c arg2 harg2 x0, kernelRun0_A.sl.r_207 c arg2 harg2 x0, kernelRun0_A.sl.r_213 c arg2 harg2 x0, kernelRun0_A.sl.r_220 c arg2 harg2 x0] 0 0 1 slices_S512x128_o0_0_S128x128 slices_S512x512_o0_0_S128x256 slices_S512x512_o0_256_S128x256) shapeCasts_S128x128_S128x128 := by
  sl_kernel_rfl

theorem pay_1_13 : kernelRun0_A.sl.v1971 c arg2 harg2 arg3 harg3 arg6 harg6 arg8 harg8 x0 x1 x4 x6
    = shapeCast S128x128 (pair kernelRun0_A.sl.v9 (scores (stack (kernelRun0_A.sl.r c arg3 harg3 x1) 1536 1664 1792 1920 slices_S128x2048_o0_1536_S128x128 slices_S128x2048_o0_1664_S128x128 slices_S128x2048_o0_1792_S128x128 slices_S128x2048_o0_1920_S128x128) (diagSnd (half1 (scaled (kernelRun0_A.sl.r_1 c arg6 harg6 x4))))) (diagSnd (half1 (kernelRun0_A.sl.r_2 c arg8 harg8 x6)))
      ![kernelRun0_A.sl.r_167 c arg2 harg2 x0, kernelRun0_A.sl.r_175 c arg2 harg2 x0, kernelRun0_A.sl.r_181 c arg2 harg2 x0, kernelRun0_A.sl.r_191 c arg2 harg2 x0, kernelRun0_A.sl.r_198 c arg2 harg2 x0, kernelRun0_A.sl.r_207 c arg2 harg2 x0, kernelRun0_A.sl.r_213 c arg2 harg2 x0, kernelRun0_A.sl.r_220 c arg2 harg2 x0] 128 2 3 slices_S512x128_o128_0_S128x128 slices_S512x512_o128_0_S128x256 slices_S512x512_o128_256_S128x256) shapeCasts_S128x128_S128x128 := by
  sl_kernel_rfl

theorem pay_1_14 : kernelRun0_A.sl.v1978 c arg2 harg2 arg3 harg3 arg6 harg6 arg8 harg8 x0 x1 x4 x6
    = shapeCast S128x128 (pair kernelRun0_A.sl.v9 (scores (stack (kernelRun0_A.sl.r c arg3 harg3 x1) 1536 1664 1792 1920 slices_S128x2048_o0_1536_S128x128 slices_S128x2048_o0_1664_S128x128 slices_S128x2048_o0_1792_S128x128 slices_S128x2048_o0_1920_S128x128) (diagSnd (half1 (scaled (kernelRun0_A.sl.r_1 c arg6 harg6 x4))))) (diagSnd (half1 (kernelRun0_A.sl.r_2 c arg8 harg8 x6)))
      ![kernelRun0_A.sl.r_167 c arg2 harg2 x0, kernelRun0_A.sl.r_175 c arg2 harg2 x0, kernelRun0_A.sl.r_181 c arg2 harg2 x0, kernelRun0_A.sl.r_191 c arg2 harg2 x0, kernelRun0_A.sl.r_198 c arg2 harg2 x0, kernelRun0_A.sl.r_207 c arg2 harg2 x0, kernelRun0_A.sl.r_213 c arg2 harg2 x0, kernelRun0_A.sl.r_220 c arg2 harg2 x0] 256 4 5 slices_S512x128_o256_0_S128x128 slices_S512x512_o256_0_S128x256 slices_S512x512_o256_256_S128x256) shapeCasts_S128x128_S128x128 := by
  sl_kernel_rfl

theorem pay_1_15 : kernelRun0_A.sl.v1985 c arg2 harg2 arg3 harg3 arg6 harg6 arg8 harg8 x0 x1 x4 x6
    = shapeCast S128x128 (pair kernelRun0_A.sl.v9 (scores (stack (kernelRun0_A.sl.r c arg3 harg3 x1) 1536 1664 1792 1920 slices_S128x2048_o0_1536_S128x128 slices_S128x2048_o0_1664_S128x128 slices_S128x2048_o0_1792_S128x128 slices_S128x2048_o0_1920_S128x128) (diagSnd (half1 (scaled (kernelRun0_A.sl.r_1 c arg6 harg6 x4))))) (diagSnd (half1 (kernelRun0_A.sl.r_2 c arg8 harg8 x6)))
      ![kernelRun0_A.sl.r_167 c arg2 harg2 x0, kernelRun0_A.sl.r_175 c arg2 harg2 x0, kernelRun0_A.sl.r_181 c arg2 harg2 x0, kernelRun0_A.sl.r_191 c arg2 harg2 x0, kernelRun0_A.sl.r_198 c arg2 harg2 x0, kernelRun0_A.sl.r_207 c arg2 harg2 x0, kernelRun0_A.sl.r_213 c arg2 harg2 x0, kernelRun0_A.sl.r_220 c arg2 harg2 x0] 384 6 7 slices_S512x128_o384_0_S128x128 slices_S512x512_o384_0_S128x256 slices_S512x512_o384_256_S128x256) shapeCasts_S128x128_S128x128 := by
  sl_kernel_rfl

end Cert.KernelIdeal.Attend

end
-- ==== Proof.Scratch.lean ====
/- What the body's scratch holds once all thirty-two head pairs are stored: each head's attention, read at an index. -/
module

public import proofs.«01_k».proof.Proof.Heads
public import proofs.«01_k».proof.Proof.Pays
public import Idealize.ShloMosaic.Lib.WholeRead
public import Idealize.ShloMosaic.Lib.Pipeline.ReadBack

@[expose] public section

set_option maxRecDepth 16384

noncomputable section

namespace Cert.KernelIdeal.Attend

open Cert.KernelIdeal Cert.KernelIdeal.Gen Idealize.ShloMosaic Idealize.ShloMosaic.Tactic

/-- Both blocks' attention, at a block, a row and a column. -/
def scratchAt (m0 m1 : IVec S128x256 1) (q0 q1 : FVec Ideal S128x2048 .bf16) (k0 k1 v0 v1 : FVec Ideal S256x256 .f32) (X : Fin 32 → EReal) :
    FVec Ideal S2x128x2048 .f32 := fun y =>
  if (y 0).val = 0 then headAt m0 q0 k0 v0 X ⟨(y 2).val / 64, by have : (y 2).val < 2048 := (y 2).isLt; omega⟩ (y 1) ⟨(y 2).val % 64, by omega⟩
  else headAt m1 q1 k1 v1 X ⟨(y 2).val / 64, by have : (y 2).val < 2048 := (y 2).isLt; omega⟩ (y 1) ⟨(y 2).val % 64, by omega⟩

/-- A store of a head pair's columns of one block stores `G` where its payload is `G` there. -/
theorem piece_ok (s o : ℕ) (G : FVec Ideal S2x128x2048 .f32) (w : FVec Ideal S128x128 .f32) (h0) (h1) (h2) (h3) (h4) (hR) (ho : o + 128 ≤ 2048) (hs : s < 2)
    (hw : ∀ r l : Fin 128, w (ix2 r l) = G (ix3 (⟨s, hs⟩ : Fin 2) r (⟨o + l.val, by omega⟩ : Fin 2048))) :
    ∀ x, Rect.payAlong (r := (Rect.unit (s := S128x2048) ![0, o] S128x128.size h1)) (R := (Rect.unit (s := S2x128x2048) ![s, 0, 0] S1x128x2048.size h0).within
        ((Rect.unit (s := S128x2048) ![0, o] S128x128.size h1).consLift ![1, 128, 2048] h2 h3) h4) hR w x
      = G (((Rect.unit (s := S2x128x2048) ![s, 0, 0] S1x128x2048.size h0).within
        ((Rect.unit (s := S128x2048) ![0, o] S128x128.size h1).consLift ![1, 128, 2048] h2 h3) h4).emb x) := by
  intro x
  have e := Rect.payAlong_consLift (Rect.unit (s := S128x2048) ![0, o] S128x128.size h1) ![1, 128, 2048] h2 h3 w hR x
    (ix2 (n0 := 128) (n1 := 128) (x 1) (x 2)) (fun i => by fin_cases i <;> rfl)
  refine e.trans ((hw (x 1) (x 2)).trans (congrArg G (funext fun a => Fin.ext ?_)))
  have hx : (x 0).val < 1 := (x 0).isLt
  fin_cases a
  · show s = s + 0 + 1 * (x 0).val
    omega
  · show (x 1).val = 0 + 0 + 1 * (x 1).val
    omega
  · show o + (x 2).val = 0 + o + 1 * (x 2).val
    omega

/-- A place of a block's columns lies in the pair's store. -/
theorem piece_mem (s o : ℕ) (h0) (h1) (h2) (h3) (h4) (y : S2x128x2048.Idx) (hs : (y 0).val = s) (hl : o ≤ (y 2).val) (hu : (y 2).val < o + 128) :
    y ∈ ((Rect.unit (s := S2x128x2048) ![s, 0, 0] S1x128x2048.size h0).within
        ((Rect.unit (s := S128x2048) ![0, o] S128x128.size h1).consLift ![1, 128, 2048] h2 h3) h4).set := by
  have h1y : (y 1).val < 128 := (y 1).isLt
  rw [← Rect.map_emb_univ, Finset.mem_map]
  refine ⟨fun a => ⟨(![0, (y 1).val, (y 2).val - o] : Fin 3 → ℕ) a, ?_⟩, Finset.mem_univ _, funext fun a => Fin.ext ?_⟩
  · fin_cases a
    · show 0 < 1
      omega
    · show (y 1).val < 128
      omega
    · show (y 2).val - o < 128
      omega
  · fin_cases a
    · show s + 0 + 1 * 0 = (y 0).val
      omega
    · show 0 + 0 + 1 * (y 1).val = (y 1).val
      omega
    · show 0 + o + 1 * ((y 2).val - o) = (y 2).val
      omega

theorem block_ok (m : IVec S128x256 1) (q : FVec Ideal S128x2048 .bf16) (k v : FVec Ideal S256x256 .f32) (X : Fin 32 → EReal) (c : ℕ) (hc : c < 16)
    (w : FVec Ideal S128x128 .f32) (hf : ∀ (r : Fin 128) (d : Fin 64), w (ix2 r (⟨d.val, by omega⟩ : Fin 128)) = headAt m q k v X ⟨2 * c, by omega⟩ r d)
    (hs : ∀ (r : Fin 128) (d : Fin 64), w (ix2 r (⟨64 + d.val, by omega⟩ : Fin 128)) = headAt m q k v X ⟨2 * c + 1, by omega⟩ r d) (r l : Fin 128) :
    w (ix2 r l) = headAt m q k v X ⟨(128 * c + l.val) / 64, by omega⟩ r ⟨(128 * c + l.val) % 64, by omega⟩ := by
  by_cases hl : l.val < 64
  · rw [show l = (⟨(⟨l.val, hl⟩ : Fin 64).val, by omega⟩ : Fin 128) from rfl, hf r ⟨l.val, hl⟩]
    congr 1 <;> apply Fin.ext <;> simp only <;> omega
  · rw [show l = (⟨64 + (⟨l.val - 64, by omega⟩ : Fin 64).val, by simp only; omega⟩ : Fin 128) from Fin.ext (by simp only; omega), hs r ⟨l.val - 64, by omega⟩]
    congr 1 <;> apply Fin.ext <;> simp only <;> omega

theorem sink_0 (c : Dev nD) (arg2 : Memref sig .tc .smem S32 .f32) (harg2 : arg2.IsWhole) (x0 : FVec Ideal S32 .f32) : kernelRun0_A.sl.r_17 (F := Ideal) c arg2 harg2 x0 = x0 (ix1 (⟨0, by omega⟩ : Fin 32)) := by
  unfold kernelRun0_A.sl.r_17
  refine (harg2.readAt_unread (Val := Elt Ideal) x0 _ _).trans ?_
  exact congrArg x0 (funext fun a => Fin.ext (by fin_cases a; rfl))
theorem sink_1 (c : Dev nD) (arg2 : Memref sig .tc .smem S32 .f32) (harg2 : arg2.IsWhole) (x0 : FVec Ideal S32 .f32) : kernelRun0_A.sl.r_18 (F := Ideal) c arg2 harg2 x0 = x0 (ix1 (⟨1, by omega⟩ : Fin 32)) := by
  unfold kernelRun0_A.sl.r_18
  refine (harg2.readAt_unread (Val := Elt Ideal) x0 _ _).trans ?_
  exact congrArg x0 (funext fun a => Fin.ext (by fin_cases a; rfl))
theorem sink_2 (c : Dev nD) (arg2 : Memref sig .tc .smem S32 .f32) (harg2 : arg2.IsWhole) (x0 : FVec Ideal S32 .f32) : kernelRun0_A.sl.r_27 (F := Ideal) c arg2 harg2 x0 = x0 (ix1 (⟨2, by omega⟩ : Fin 32)) := by
  unfold kernelRun0_A.sl.r_27
  refine (harg2.readAt_unread (Val := Elt Ideal) x0 _ _).trans ?_
  exact congrArg x0 (funext fun a => Fin.ext (by fin_cases a; rfl))
theorem sink_3 (c : Dev nD) (arg2 : Memref sig .tc .smem S32 .f32) (harg2 : arg2.IsWhole) (x0 : FVec Ideal S32 .f32) : kernelRun0_A.sl.r_28 (F := Ideal) c arg2 harg2 x0 = x0 (ix1 (⟨3, by omega⟩ : Fin 32)) := by
  unfold kernelRun0_A.sl.r_28
  refine (harg2.readAt_unread (Val := Elt Ideal) x0 _ _).trans ?_
  exact congrArg x0 (funext fun a => Fin.ext (by fin_cases a; rfl))
theorem sink_4 (c : Dev nD) (arg2 : Memref sig .tc .smem S32 .f32) (harg2 : arg2.IsWhole) (x0 : FVec Ideal S32 .f32) : kernelRun0_A.sl.r_35 (F := Ideal) c arg2 harg2 x0 = x0 (ix1 (⟨4, by omega⟩ : Fin 32)) := by
  unfold kernelRun0_A.sl.r_35
  refine (harg2.readAt_unread (Val := Elt Ideal) x0 _ _).trans ?_
  exact congrArg x0 (funext fun a => Fin.ext (by fin_cases a; rfl))
theorem sink_5 (c : Dev nD) (arg2 : Memref sig .tc .smem S32 .f32) (harg2 : arg2.IsWhole) (x0 : FVec Ideal S32 .f32) : kernelRun0_A.sl.r_36 (F := Ideal) c arg2 harg2 x0 = x0 (ix1 (⟨5, by omega⟩ : Fin 32)) := by
  unfold kernelRun0_A.sl.r_36
  refine (harg2.readAt_unread (Val := Elt Ideal) x0 _ _).trans ?_
  exact congrArg x0 (funext fun a => Fin.ext (by fin_cases a; rfl))
theorem sink_6 (c : Dev nD) (arg2 : Memref sig .tc .smem S32 .f32) (harg2 : arg2.IsWhole) (x0 : FVec Ideal S32 .f32) : kernelRun0_A.sl.r_42 (F := Ideal) c arg2 harg2 x0 = x0 (ix1 (⟨6, by omega⟩ : Fin 32)) := by
  unfold kernelRun0_A.sl.r_42
  refine (harg2.readAt_unread (Val := Elt Ideal) x0 _ _).trans ?_
  exact congrArg x0 (funext fun a => Fin.ext (by fin_cases a; rfl))
theorem sink_7 (c : Dev nD) (arg2 : Memref sig .tc .smem S32 .f32) (harg2 : arg2.IsWhole) (x0 : FVec Ideal S32 .f32) : kernelRun0_A.sl.r_47 (F := Ideal) c arg2 harg2 x0 = x0 (ix1 (⟨7, by omega⟩ : Fin 32)) := by
  unfold kernelRun0_A.sl.r_47
  refine (harg2.readAt_unread (Val := Elt Ideal) x0 _ _).trans ?_
  exact congrArg x0 (funext fun a => Fin.ext (by fin_cases a; rfl))
theorem sink_8 (c : Dev nD) (arg2 : Memref sig .tc .smem S32 .f32) (harg2 : arg2.IsWhole) (x0 : FVec Ideal S32 .f32) : kernelRun0_A.sl.r_53 (F := Ideal) c arg2 harg2 x0 = x0 (ix1 (⟨8, by omega⟩ : Fin 32)) := by
  unfold kernelRun0_A.sl.r_53
  refine (harg2.readAt_unread (Val := Elt Ideal) x0 _ _).trans ?_
  exact congrArg x0 (funext fun a => Fin.ext (by fin_cases a; rfl))
theorem sink_9 (c : Dev nD) (arg2 : Memref sig .tc .smem S32 .f32) (harg2 : arg2.IsWhole) (x0 : FVec Ideal S32 .f32) : kernelRun0_A.sl.r_60 (F := Ideal) c arg2 harg2 x0 = x0 (ix1 (⟨9, by omega⟩ : Fin 32)) := by
  unfold kernelRun0_A.sl.r_60
  refine (harg2.readAt_unread (Val := Elt Ideal) x0 _ _).trans ?_
  exact congrArg x0 (funext fun a => Fin.ext (by fin_cases a; rfl))
theorem sink_10 (c : Dev nD) (arg2 : Memref sig .tc .smem S32 .f32) (harg2 : arg2.IsWhole) (x0 : FVec Ideal S32 .f32) : kernelRun0_A.sl.r_69 (F := Ideal) c arg2 harg2 x0 = x0 (ix1 (⟨10, by omega⟩ : Fin 32)) := by
  unfold kernelRun0_A.sl.r_69
  refine (harg2.readAt_unread (Val := Elt Ideal) x0 _ _).trans ?_
  exact congrArg x0 (funext fun a => Fin.ext (by fin_cases a; rfl))
theorem sink_11 (c : Dev nD) (arg2 : Memref sig .tc .smem S32 .f32) (harg2 : arg2.IsWhole) (x0 : FVec Ideal S32 .f32) : kernelRun0_A.sl.r_77 (F := Ideal) c arg2 harg2 x0 = x0 (ix1 (⟨11, by omega⟩ : Fin 32)) := by
  unfold kernelRun0_A.sl.r_77
  refine (harg2.readAt_unread (Val := Elt Ideal) x0 _ _).trans ?_
  exact congrArg x0 (funext fun a => Fin.ext (by fin_cases a; rfl))
theorem sink_12 (c : Dev nD) (arg2 : Memref sig .tc .smem S32 .f32) (harg2 : arg2.IsWhole) (x0 : FVec Ideal S32 .f32) : kernelRun0_A.sl.r_85 (F := Ideal) c arg2 harg2 x0 = x0 (ix1 (⟨12, by omega⟩ : Fin 32)) := by
  unfold kernelRun0_A.sl.r_85
  refine (harg2.readAt_unread (Val := Elt Ideal) x0 _ _).trans ?_
  exact congrArg x0 (funext fun a => Fin.ext (by fin_cases a; rfl))
theorem sink_13 (c : Dev nD) (arg2 : Memref sig .tc .smem S32 .f32) (harg2 : arg2.IsWhole) (x0 : FVec Ideal S32 .f32) : kernelRun0_A.sl.r_93 (F := Ideal) c arg2 harg2 x0 = x0 (ix1 (⟨13, by omega⟩ : Fin 32)) := by
  unfold kernelRun0_A.sl.r_93
  refine (harg2.readAt_unread (Val := Elt Ideal) x0 _ _).trans ?_
  exact congrArg x0 (funext fun a => Fin.ext (by fin_cases a; rfl))
theorem sink_14 (c : Dev nD) (arg2 : Memref sig .tc .smem S32 .f32) (harg2 : arg2.IsWhole) (x0 : FVec Ideal S32 .f32) : kernelRun0_A.sl.r_102 (F := Ideal) c arg2 harg2 x0 = x0 (ix1 (⟨14, by omega⟩ : Fin 32)) := by
  unfold kernelRun0_A.sl.r_102
  refine (harg2.readAt_unread (Val := Elt Ideal) x0 _ _).trans ?_
  exact congrArg x0 (funext fun a => Fin.ext (by fin_cases a; rfl))
theorem sink_15 (c : Dev nD) (arg2 : Memref sig .tc .smem S32 .f32) (harg2 : arg2.IsWhole) (x0 : FVec Ideal S32 .f32) : kernelRun0_A.sl.r_112 (F := Ideal) c arg2 harg2 x0 = x0 (ix1 (⟨15, by omega⟩ : Fin 32)) := by
  unfold kernelRun0_A.sl.r_112
  refine (harg2.readAt_unread (Val := Elt Ideal) x0 _ _).trans ?_
  exact congrArg x0 (funext fun a => Fin.ext (by fin_cases a; rfl))
theorem sink_16 (c : Dev nD) (arg2 : Memref sig .tc .smem S32 .f32) (harg2 : arg2.IsWhole) (x0 : FVec Ideal S32 .f32) : kernelRun0_A.sl.r_121 (F := Ideal) c arg2 harg2 x0 = x0 (ix1 (⟨16, by omega⟩ : Fin 32)) := by
  unfold kernelRun0_A.sl.r_121
  refine (harg2.readAt_unread (Val := Elt Ideal) x0 _ _).trans ?_
  exact congrArg x0 (funext fun a => Fin.ext (by fin_cases a; rfl))
theorem sink_17 (c : Dev nD) (arg2 : Memref sig .tc .smem S32 .f32) (harg2 : arg2.IsWhole) (x0 : FVec Ideal S32 .f32) : kernelRun0_A.sl.r_122 (F := Ideal) c arg2 harg2 x0 = x0 (ix1 (⟨17, by omega⟩ : Fin 32)) := by
  unfold kernelRun0_A.sl.r_122
  refine (harg2.readAt_unread (Val := Elt Ideal) x0 _ _).trans ?_
  exact congrArg x0 (funext fun a => Fin.ext (by fin_cases a; rfl))
theorem sink_18 (c : Dev nD) (arg2 : Memref sig .tc .smem S32 .f32) (harg2 : arg2.IsWhole) (x0 : FVec Ideal S32 .f32) : kernelRun0_A.sl.r_131 (F := Ideal) c arg2 harg2 x0 = x0 (ix1 (⟨18, by omega⟩ : Fin 32)) := by
  unfold kernelRun0_A.sl.r_131
  refine (harg2.readAt_unread (Val := Elt Ideal) x0 _ _).trans ?_
  exact congrArg x0 (funext fun a => Fin.ext (by fin_cases a; rfl))
theorem sink_19 (c : Dev nD) (arg2 : Memref sig .tc .smem S32 .f32) (harg2 : arg2.IsWhole) (x0 : FVec Ideal S32 .f32) : kernelRun0_A.sl.r_132 (F := Ideal) c arg2 harg2 x0 = x0 (ix1 (⟨19, by omega⟩ : Fin 32)) := by
  unfold kernelRun0_A.sl.r_132
  refine (harg2.readAt_unread (Val := Elt Ideal) x0 _ _).trans ?_
  exact congrArg x0 (funext fun a => Fin.ext (by fin_cases a; rfl))
theorem sink_20 (c : Dev nD) (arg2 : Memref sig .tc .smem S32 .f32) (harg2 : arg2.IsWhole) (x0 : FVec Ideal S32 .f32) : kernelRun0_A.sl.r_141 (F := Ideal) c arg2 harg2 x0 = x0 (ix1 (⟨20, by omega⟩ : Fin 32)) := by
  unfold kernelRun0_A.sl.r_141
  refine (harg2.readAt_unread (Val := Elt Ideal) x0 _ _).trans ?_
  exact congrArg x0 (funext fun a => Fin.ext (by fin_cases a; rfl))
theorem sink_21 (c : Dev nD) (arg2 : Memref sig .tc .smem S32 .f32) (harg2 : arg2.IsWhole) (x0 : FVec Ideal S32 .f32) : kernelRun0_A.sl.r_142 (F := Ideal) c arg2 harg2 x0 = x0 (ix1 (⟨21, by omega⟩ : Fin 32)) := by
  unfold kernelRun0_A.sl.r_142
  refine (harg2.readAt_unread (Val := Elt Ideal) x0 _ _).trans ?_
  exact congrArg x0 (funext fun a => Fin.ext (by fin_cases a; rfl))
theorem sink_22 (c : Dev nD) (arg2 : Memref sig .tc .smem S32 .f32) (harg2 : arg2.IsWhole) (x0 : FVec Ideal S32 .f32) : kernelRun0_A.sl.r_150 (F := Ideal) c arg2 harg2 x0 = x0 (ix1 (⟨22, by omega⟩ : Fin 32)) := by
  unfold kernelRun0_A.sl.r_150
  refine (harg2.readAt_unread (Val := Elt Ideal) x0 _ _).trans ?_
  exact congrArg x0 (funext fun a => Fin.ext (by fin_cases a; rfl))
theorem sink_23 (c : Dev nD) (arg2 : Memref sig .tc .smem S32 .f32) (harg2 : arg2.IsWhole) (x0 : FVec Ideal S32 .f32) : kernelRun0_A.sl.r_157 (F := Ideal) c arg2 harg2 x0 = x0 (ix1 (⟨23, by omega⟩ : Fin 32)) := by
  unfold kernelRun0_A.sl.r_157
  refine (harg2.readAt_unread (Val := Elt Ideal) x0 _ _).trans ?_
  exact congrArg x0 (funext fun a => Fin.ext (by fin_cases a; rfl))
theorem sink_24 (c : Dev nD) (arg2 : Memref sig .tc .smem S32 .f32) (harg2 : arg2.IsWhole) (x0 : FVec Ideal S32 .f32) : kernelRun0_A.sl.r_167 (F := Ideal) c arg2 harg2 x0 = x0 (ix1 (⟨24, by omega⟩ : Fin 32)) := by
  unfold kernelRun0_A.sl.r_167
  refine (harg2.readAt_unread (Val := Elt Ideal) x0 _ _).trans ?_
  exact congrArg x0 (funext fun a => Fin.ext (by fin_cases a; rfl))
theorem sink_25 (c : Dev nD) (arg2 : Memref sig .tc .smem S32 .f32) (harg2 : arg2.IsWhole) (x0 : FVec Ideal S32 .f32) : kernelRun0_A.sl.r_175 (F := Ideal) c arg2 harg2 x0 = x0 (ix1 (⟨25, by omega⟩ : Fin 32)) := by
  unfold kernelRun0_A.sl.r_175
  refine (harg2.readAt_unread (Val := Elt Ideal) x0 _ _).trans ?_
  exact congrArg x0 (funext fun a => Fin.ext (by fin_cases a; rfl))
theorem sink_26 (c : Dev nD) (arg2 : Memref sig .tc .smem S32 .f32) (harg2 : arg2.IsWhole) (x0 : FVec Ideal S32 .f32) : kernelRun0_A.sl.r_181 (F := Ideal) c arg2 harg2 x0 = x0 (ix1 (⟨26, by omega⟩ : Fin 32)) := by
  unfold kernelRun0_A.sl.r_181
  refine (harg2.readAt_unread (Val := Elt Ideal) x0 _ _).trans ?_
  exact congrArg x0 (funext fun a => Fin.ext (by fin_cases a; rfl))
theorem sink_27 (c : Dev nD) (arg2 : Memref sig .tc .smem S32 .f32) (harg2 : arg2.IsWhole) (x0 : FVec Ideal S32 .f32) : kernelRun0_A.sl.r_191 (F := Ideal) c arg2 harg2 x0 = x0 (ix1 (⟨27, by omega⟩ : Fin 32)) := by
  unfold kernelRun0_A.sl.r_191
  refine (harg2.readAt_unread (Val := Elt Ideal) x0 _ _).trans ?_
  exact congrArg x0 (funext fun a => Fin.ext (by fin_cases a; rfl))
theorem sink_28 (c : Dev nD) (arg2 : Memref sig .tc .smem S32 .f32) (harg2 : arg2.IsWhole) (x0 : FVec Ideal S32 .f32) : kernelRun0_A.sl.r_198 (F := Ideal) c arg2 harg2 x0 = x0 (ix1 (⟨28, by omega⟩ : Fin 32)) := by
  unfold kernelRun0_A.sl.r_198
  refine (harg2.readAt_unread (Val := Elt Ideal) x0 _ _).trans ?_
  exact congrArg x0 (funext fun a => Fin.ext (by fin_cases a; rfl))
theorem sink_29 (c : Dev nD) (arg2 : Memref sig .tc .smem S32 .f32) (harg2 : arg2.IsWhole) (x0 : FVec Ideal S32 .f32) : kernelRun0_A.sl.r_207 (F := Ideal) c arg2 harg2 x0 = x0 (ix1 (⟨29, by omega⟩ : Fin 32)) := by
  unfold kernelRun0_A.sl.r_207
  refine (harg2.readAt_unread (Val := Elt Ideal) x0 _ _).trans ?_
  exact congrArg x0 (funext fun a => Fin.ext (by fin_cases a; rfl))
theorem sink_30 (c : Dev nD) (arg2 : Memref sig .tc .smem S32 .f32) (harg2 : arg2.IsWhole) (x0 : FVec Ideal S32 .f32) : kernelRun0_A.sl.r_213 (F := Ideal) c arg2 harg2 x0 = x0 (ix1 (⟨30, by omega⟩ : Fin 32)) := by
  unfold kernelRun0_A.sl.r_213
  refine (harg2.readAt_unread (Val := Elt Ideal) x0 _ _).trans ?_
  exact congrArg x0 (funext fun a => Fin.ext (by fin_cases a; rfl))
theorem sink_31 (c : Dev nD) (arg2 : Memref sig .tc .smem S32 .f32) (harg2 : arg2.IsWhole) (x0 : FVec Ideal S32 .f32) : kernelRun0_A.sl.r_220 (F := Ideal) c arg2 harg2 x0 = x0 (ix1 (⟨31, by omega⟩ : Fin 32)) := by
  unfold kernelRun0_A.sl.r_220
  refine (harg2.readAt_unread (Val := Elt Ideal) x0 _ _).trans ?_
  exact congrArg x0 (funext fun a => Fin.ext (by fin_cases a; rfl))

/-- The scratch's contents, of the loaded blocks. -/
def held (c : Dev nD) (i : grid0.Coords) (arg2 : Memref sig .tc .smem S32 .f32) (harg2 : arg2.IsWhole) (arg3 : Memref sig .tc .vmem S1x256x2048 .bf16) (harg3 : arg3.IsWhole) (arg5 : Memref sig .tc .vmem S1x128x256 .f32) (harg5 : arg5.IsWhole) (arg6 : Memref sig .tc .vmem S1x256x256 .f32) (harg6 : arg6.IsWhole) (arg7 : Memref sig .tc .vmem S1x128x256 .f32) (harg7 : arg7.IsWhole) (arg8 : Memref sig .tc .vmem S1x256x256 .f32) (harg8 : arg8.IsWhole) (x0 : FVec Ideal S32 .f32) (x1 : FVec Ideal S1x256x2048 .bf16) (x3 : FVec Ideal S1x128x256 .f32) (x4 : FVec Ideal S1x256x256 .f32) (x5 : FVec Ideal S1x128x256 .f32) (x6 : FVec Ideal S1x256x256 .f32) : FVec Ideal S2x128x2048 .f32 :=
  scratchAt (kernelRun0_A.sl.v20 i) kernelRun0_A.sl.v9 (kernelRun0_A.sl.v22 (F := Ideal) c arg3 harg3 x1) (kernelRun0_A.sl.r (F := Ideal) c arg3 harg3 x1) (kernelRun0_A.sl.v25 (F := Ideal) c arg5 harg5 arg6 harg6 x3 x4) (kernelRun0_A.sl.r_1 (F := Ideal) c arg6 harg6 x4) (kernelRun0_A.sl.v28 (F := Ideal) c arg7 harg7 arg8 harg8 x5 x6) (kernelRun0_A.sl.r_2 (F := Ideal) c arg8 harg8 x6) (fun n => x0 (ix1 n))

theorem stored_0_0 (c : Dev nD) (i : grid0.Coords) (arg2 : Memref sig .tc .smem S32 .f32) (harg2 : arg2.IsWhole) (arg3 : Memref sig .tc .vmem S1x256x2048 .bf16) (harg3 : arg3.IsWhole) (arg5 : Memref sig .tc .vmem S1x128x256 .f32) (harg5 : arg5.IsWhole) (arg6 : Memref sig .tc .vmem S1x256x256 .f32) (harg6 : arg6.IsWhole) (arg7 : Memref sig .tc .vmem S1x128x256 .f32) (harg7 : arg7.IsWhole) (arg8 : Memref sig .tc .vmem S1x256x256 .f32) (harg8 : arg8.IsWhole) (x0 : FVec Ideal S32 .f32) (x1 : FVec Ideal S1x256x2048 .bf16) (x3 : FVec Ideal S1x128x256 .f32) (x4 : FVec Ideal S1x256x256 .f32) (x5 : FVec Ideal S1x128x256 .f32) (x6 : FVec Ideal S1x256x256 .f32) (r l : Fin 128) : kernelRun0_A.sl.v566 (F := Ideal) c i arg2 harg2 arg3 harg3 arg5 harg5 arg6 harg6 arg7 harg7 arg8 harg8 x0 x1 x3 x4 x5 x6 (ix2 r l)
    = held c i arg2 harg2 arg3 harg3 arg5 harg5 arg6 harg6 arg7 harg7 arg8 harg8 x0 x1 x3 x4 x5 x6 (ix3 (⟨0, by omega⟩ : Fin 2) r (⟨0 + l.val, by omega⟩ : Fin 2048)) := by
  rw [pay_0_0 c i arg2 harg2 arg3 harg3 arg5 harg5 arg6 harg6 arg7 harg7 arg8 harg8 x0 x1 x3 x4 x5 x6]
  refine (congrFun (shapeCast_self _ _) _).trans ?_
  exact block_ok _ _ _ _ (fun n => x0 (ix1 n)) 0 (by omega) _ (fun r d => head_0 _ _ _ _ _ _ (sink_0 c arg2 harg2 x0) r d)
    (fun r d => head_1 _ _ _ _ _ _ (sink_1 c arg2 harg2 x0) r d) r l
theorem stored_0_1 (c : Dev nD) (i : grid0.Coords) (arg2 : Memref sig .tc .smem S32 .f32) (harg2 : arg2.IsWhole) (arg3 : Memref sig .tc .vmem S1x256x2048 .bf16) (harg3 : arg3.IsWhole) (arg5 : Memref sig .tc .vmem S1x128x256 .f32) (harg5 : arg5.IsWhole) (arg6 : Memref sig .tc .vmem S1x256x256 .f32) (harg6 : arg6.IsWhole) (arg7 : Memref sig .tc .vmem S1x128x256 .f32) (harg7 : arg7.IsWhole) (arg8 : Memref sig .tc .vmem S1x256x256 .f32) (harg8 : arg8.IsWhole) (x0 : FVec Ideal S32 .f32) (x1 : FVec Ideal S1x256x2048 .bf16) (x3 : FVec Ideal S1x128x256 .f32) (x4 : FVec Ideal S1x256x256 .f32) (x5 : FVec Ideal S1x128x256 .f32) (x6 : FVec Ideal S1x256x256 .f32) (r l : Fin 128) : kernelRun0_A.sl.v573 (F := Ideal) c i arg2 harg2 arg3 harg3 arg5 harg5 arg6 harg6 arg7 harg7 arg8 harg8 x0 x1 x3 x4 x5 x6 (ix2 r l)
    = held c i arg2 harg2 arg3 harg3 arg5 harg5 arg6 harg6 arg7 harg7 arg8 harg8 x0 x1 x3 x4 x5 x6 (ix3 (⟨0, by omega⟩ : Fin 2) r (⟨128 + l.val, by omega⟩ : Fin 2048)) := by
  rw [pay_0_1 c i arg2 harg2 arg3 harg3 arg5 harg5 arg6 harg6 arg7 harg7 arg8 harg8 x0 x1 x3 x4 x5 x6]
  refine (congrFun (shapeCast_self _ _) _).trans ?_
  exact block_ok _ _ _ _ (fun n => x0 (ix1 n)) 1 (by omega) _ (fun r d => head_2 _ _ _ _ _ _ (sink_2 c arg2 harg2 x0) r d)
    (fun r d => head_3 _ _ _ _ _ _ (sink_3 c arg2 harg2 x0) r d) r l
theorem stored_0_2 (c : Dev nD) (i : grid0.Coords) (arg2 : Memref sig .tc .smem S32 .f32) (harg2 : arg2.IsWhole) (arg3 : Memref sig .tc .vmem S1x256x2048 .bf16) (harg3 : arg3.IsWhole) (arg5 : Memref sig .tc .vmem S1x128x256 .f32) (harg5 : arg5.IsWhole) (arg6 : Memref sig .tc .vmem S1x256x256 .f32) (harg6 : arg6.IsWhole) (arg7 : Memref sig .tc .vmem S1x128x256 .f32) (harg7 : arg7.IsWhole) (arg8 : Memref sig .tc .vmem S1x256x256 .f32) (harg8 : arg8.IsWhole) (x0 : FVec Ideal S32 .f32) (x1 : FVec Ideal S1x256x2048 .bf16) (x3 : FVec Ideal S1x128x256 .f32) (x4 : FVec Ideal S1x256x256 .f32) (x5 : FVec Ideal S1x128x256 .f32) (x6 : FVec Ideal S1x256x256 .f32) (r l : Fin 128) : kernelRun0_A.sl.v580 (F := Ideal) c i arg2 harg2 arg3 harg3 arg5 harg5 arg6 harg6 arg7 harg7 arg8 harg8 x0 x1 x3 x4 x5 x6 (ix2 r l)
    = held c i arg2 harg2 arg3 harg3 arg5 harg5 arg6 harg6 arg7 harg7 arg8 harg8 x0 x1 x3 x4 x5 x6 (ix3 (⟨0, by omega⟩ : Fin 2) r (⟨256 + l.val, by omega⟩ : Fin 2048)) := by
  rw [pay_0_2 c i arg2 harg2 arg3 harg3 arg5 harg5 arg6 harg6 arg7 harg7 arg8 harg8 x0 x1 x3 x4 x5 x6]
  refine (congrFun (shapeCast_self _ _) _).trans ?_
  exact block_ok _ _ _ _ (fun n => x0 (ix1 n)) 2 (by omega) _ (fun r d => head_4 _ _ _ _ _ _ (sink_4 c arg2 harg2 x0) r d)
    (fun r d => head_5 _ _ _ _ _ _ (sink_5 c arg2 harg2 x0) r d) r l
theorem stored_0_3 (c : Dev nD) (i : grid0.Coords) (arg2 : Memref sig .tc .smem S32 .f32) (harg2 : arg2.IsWhole) (arg3 : Memref sig .tc .vmem S1x256x2048 .bf16) (harg3 : arg3.IsWhole) (arg5 : Memref sig .tc .vmem S1x128x256 .f32) (harg5 : arg5.IsWhole) (arg6 : Memref sig .tc .vmem S1x256x256 .f32) (harg6 : arg6.IsWhole) (arg7 : Memref sig .tc .vmem S1x128x256 .f32) (harg7 : arg7.IsWhole) (arg8 : Memref sig .tc .vmem S1x256x256 .f32) (harg8 : arg8.IsWhole) (x0 : FVec Ideal S32 .f32) (x1 : FVec Ideal S1x256x2048 .bf16) (x3 : FVec Ideal S1x128x256 .f32) (x4 : FVec Ideal S1x256x256 .f32) (x5 : FVec Ideal S1x128x256 .f32) (x6 : FVec Ideal S1x256x256 .f32) (r l : Fin 128) : kernelRun0_A.sl.v587 (F := Ideal) c i arg2 harg2 arg3 harg3 arg5 harg5 arg6 harg6 arg7 harg7 arg8 harg8 x0 x1 x3 x4 x5 x6 (ix2 r l)
    = held c i arg2 harg2 arg3 harg3 arg5 harg5 arg6 harg6 arg7 harg7 arg8 harg8 x0 x1 x3 x4 x5 x6 (ix3 (⟨0, by omega⟩ : Fin 2) r (⟨384 + l.val, by omega⟩ : Fin 2048)) := by
  rw [pay_0_3 c i arg2 harg2 arg3 harg3 arg5 harg5 arg6 harg6 arg7 harg7 arg8 harg8 x0 x1 x3 x4 x5 x6]
  refine (congrFun (shapeCast_self _ _) _).trans ?_
  exact block_ok _ _ _ _ (fun n => x0 (ix1 n)) 3 (by omega) _ (fun r d => head_6 _ _ _ _ _ _ (sink_6 c arg2 harg2 x0) r d)
    (fun r d => head_7 _ _ _ _ _ _ (sink_7 c arg2 harg2 x0) r d) r l
theorem stored_0_4 (c : Dev nD) (i : grid0.Coords) (arg2 : Memref sig .tc .smem S32 .f32) (harg2 : arg2.IsWhole) (arg3 : Memref sig .tc .vmem S1x256x2048 .bf16) (harg3 : arg3.IsWhole) (arg5 : Memref sig .tc .vmem S1x128x256 .f32) (harg5 : arg5.IsWhole) (arg6 : Memref sig .tc .vmem S1x256x256 .f32) (harg6 : arg6.IsWhole) (arg7 : Memref sig .tc .vmem S1x128x256 .f32) (harg7 : arg7.IsWhole) (arg8 : Memref sig .tc .vmem S1x256x256 .f32) (harg8 : arg8.IsWhole) (x0 : FVec Ideal S32 .f32) (x1 : FVec Ideal S1x256x2048 .bf16) (x3 : FVec Ideal S1x128x256 .f32) (x4 : FVec Ideal S1x256x256 .f32) (x5 : FVec Ideal S1x128x256 .f32) (x6 : FVec Ideal S1x256x256 .f32) (r l : Fin 128) : kernelRun0_A.sl.v1022 (F := Ideal) c i arg2 harg2 arg3 harg3 arg5 harg5 arg6 harg6 arg7 harg7 arg8 harg8 x0 x1 x3 x4 x5 x6 (ix2 r l)
    = held c i arg2 harg2 arg3 harg3 arg5 harg5 arg6 harg6 arg7 harg7 arg8 harg8 x0 x1 x3 x4 x5 x6 (ix3 (⟨0, by omega⟩ : Fin 2) r (⟨512 + l.val, by omega⟩ : Fin 2048)) := by
  rw [pay_0_4 c i arg2 harg2 arg3 harg3 arg5 harg5 arg6 harg6 arg7 harg7 arg8 harg8 x0 x1 x3 x4 x5 x6]
  refine (congrFun (shapeCast_self _ _) _).trans ?_
  exact block_ok _ _ _ _ (fun n => x0 (ix1 n)) 4 (by omega) _ (fun r d => head_8 _ _ _ _ _ _ (sink_8 c arg2 harg2 x0) r d)
    (fun r d => head_9 _ _ _ _ _ _ (sink_9 c arg2 harg2 x0) r d) r l
theorem stored_0_5 (c : Dev nD) (i : grid0.Coords) (arg2 : Memref sig .tc .smem S32 .f32) (harg2 : arg2.IsWhole) (arg3 : Memref sig .tc .vmem S1x256x2048 .bf16) (harg3 : arg3.IsWhole) (arg5 : Memref sig .tc .vmem S1x128x256 .f32) (harg5 : arg5.IsWhole) (arg6 : Memref sig .tc .vmem S1x256x256 .f32) (harg6 : arg6.IsWhole) (arg7 : Memref sig .tc .vmem S1x128x256 .f32) (harg7 : arg7.IsWhole) (arg8 : Memref sig .tc .vmem S1x256x256 .f32) (harg8 : arg8.IsWhole) (x0 : FVec Ideal S32 .f32) (x1 : FVec Ideal S1x256x2048 .bf16) (x3 : FVec Ideal S1x128x256 .f32) (x4 : FVec Ideal S1x256x256 .f32) (x5 : FVec Ideal S1x128x256 .f32) (x6 : FVec Ideal S1x256x256 .f32) (r l : Fin 128) : kernelRun0_A.sl.v1029 (F := Ideal) c i arg2 harg2 arg3 harg3 arg5 harg5 arg6 harg6 arg7 harg7 arg8 harg8 x0 x1 x3 x4 x5 x6 (ix2 r l)
    = held c i arg2 harg2 arg3 harg3 arg5 harg5 arg6 harg6 arg7 harg7 arg8 harg8 x0 x1 x3 x4 x5 x6 (ix3 (⟨0, by omega⟩ : Fin 2) r (⟨640 + l.val, by omega⟩ : Fin 2048)) := by
  rw [pay_0_5 c i arg2 harg2 arg3 harg3 arg5 harg5 arg6 harg6 arg7 harg7 arg8 harg8 x0 x1 x3 x4 x5 x6]
  refine (congrFun (shapeCast_self _ _) _).trans ?_
  exact block_ok _ _ _ _ (fun n => x0 (ix1 n)) 5 (by omega) _ (fun r d => head_10 _ _ _ _ _ _ (sink_10 c arg2 harg2 x0) r d)
    (fun r d => head_11 _ _ _ _ _ _ (sink_11 c arg2 harg2 x0) r d) r l
theorem stored_0_6 (c : Dev nD) (i : grid0.Coords) (arg2 : Memref sig .tc .smem S32 .f32) (harg2 : arg2.IsWhole) (arg3 : Memref sig .tc .vmem S1x256x2048 .bf16) (harg3 : arg3.IsWhole) (arg5 : Memref sig .tc .vmem S1x128x256 .f32) (harg5 : arg5.IsWhole) (arg6 : Memref sig .tc .vmem S1x256x256 .f32) (harg6 : arg6.IsWhole) (arg7 : Memref sig .tc .vmem S1x128x256 .f32) (harg7 : arg7.IsWhole) (arg8 : Memref sig .tc .vmem S1x256x256 .f32) (harg8 : arg8.IsWhole) (x0 : FVec Ideal S32 .f32) (x1 : FVec Ideal S1x256x2048 .bf16) (x3 : FVec Ideal S1x128x256 .f32) (x4 : FVec Ideal S1x256x256 .f32) (x5 : FVec Ideal S1x128x256 .f32) (x6 : FVec Ideal S1x256x256 .f32) (r l : Fin 128) : kernelRun0_A.sl.v1036 (F := Ideal) c i arg2 harg2 arg3 harg3 arg5 harg5 arg6 harg6 arg7 harg7 arg8 harg8 x0 x1 x3 x4 x5 x6 (ix2 r l)
    = held c i arg2 harg2 arg3 harg3 arg5 harg5 arg6 harg6 arg7 harg7 arg8 harg8 x0 x1 x3 x4 x5 x6 (ix3 (⟨0, by omega⟩ : Fin 2) r (⟨768 + l.val, by omega⟩ : Fin 2048)) := by
  rw [pay_0_6 c i arg2 harg2 arg3 harg3 arg5 harg5 arg6 harg6 arg7 harg7 arg8 harg8 x0 x1 x3 x4 x5 x6]
  refine (congrFun (shapeCast_self _ _) _).trans ?_
  exact block_ok _ _ _ _ (fun n => x0 (ix1 n)) 6 (by omega) _ (fun r d => head_12 _ _ _ _ _ _ (sink_12 c arg2 harg2 x0) r d)
    (fun r d => head_13 _ _ _ _ _ _ (sink_13 c arg2 harg2 x0) r d) r l
theorem stored_0_7 (c : Dev nD) (i : grid0.Coords) (arg2 : Memref sig .tc .smem S32 .f32) (harg2 : arg2.IsWhole) (arg3 : Memref sig .tc .vmem S1x256x2048 .bf16) (harg3 : arg3.IsWhole) (arg5 : Memref sig .tc .vmem S1x128x256 .f32) (harg5 : arg5.IsWhole) (arg6 : Memref sig .tc .vmem S1x256x256 .f32) (harg6 : arg6.IsWhole) (arg7 : Memref sig .tc .vmem S1x128x256 .f32) (harg7 : arg7.IsWhole) (arg8 : Memref sig .tc .vmem S1x256x256 .f32) (harg8 : arg8.IsWhole) (x0 : FVec Ideal S32 .f32) (x1 : FVec Ideal S1x256x2048 .bf16) (x3 : FVec Ideal S1x128x256 .f32) (x4 : FVec Ideal S1x256x256 .f32) (x5 : FVec Ideal S1x128x256 .f32) (x6 : FVec Ideal S1x256x256 .f32) (r l : Fin 128) : kernelRun0_A.sl.v1043 (F := Ideal) c i arg2 harg2 arg3 harg3 arg5 harg5 arg6 harg6 arg7 harg7 arg8 harg8 x0 x1 x3 x4 x5 x6 (ix2 r l)
    = held c i arg2 harg2 arg3 harg3 arg5 harg5 arg6 harg6 arg7 harg7 arg8 harg8 x0 x1 x3 x4 x5 x6 (ix3 (⟨0, by omega⟩ : Fin 2) r (⟨896 + l.val, by omega⟩ : Fin 2048)) := by
  rw [pay_0_7 c i arg2 harg2 arg3 harg3 arg5 harg5 arg6 harg6 arg7 harg7 arg8 harg8 x0 x1 x3 x4 x5 x6]
  refine (congrFun (shapeCast_self _ _) _).trans ?_
  exact block_ok _ _ _ _ (fun n => x0 (ix1 n)) 7 (by omega) _ (fun r d => head_14 _ _ _ _ _ _ (sink_14 c arg2 harg2 x0) r d)
    (fun r d => head_15 _ _ _ _ _ _ (sink_15 c arg2 harg2 x0) r d) r l
theorem stored_0_8 (c : Dev nD) (i : grid0.Coords) (arg2 : Memref sig .tc .smem S32 .f32) (harg2 : arg2.IsWhole) (arg3 : Memref sig .tc .vmem S1x256x2048 .bf16) (harg3 : arg3.IsWhole) (arg5 : Memref sig .tc .vmem S1x128x256 .f32) (harg5 : arg5.IsWhole) (arg6 : Memref sig .tc .vmem S1x256x256 .f32) (harg6 : arg6.IsWhole) (arg7 : Memref sig .tc .vmem S1x128x256 .f32) (harg7 : arg7.IsWhole) (arg8 : Memref sig .tc .vmem S1x256x256 .f32) (harg8 : arg8.IsWhole) (x0 : FVec Ideal S32 .f32) (x1 : FVec Ideal S1x256x2048 .bf16) (x3 : FVec Ideal S1x128x256 .f32) (x4 : FVec Ideal S1x256x256 .f32) (x5 : FVec Ideal S1x128x256 .f32) (x6 : FVec Ideal S1x256x256 .f32) (r l : Fin 128) : kernelRun0_A.sl.v1479 (F := Ideal) c i arg2 harg2 arg3 harg3 arg5 harg5 arg6 harg6 arg7 harg7 arg8 harg8 x0 x1 x3 x4 x5 x6 (ix2 r l)
    = held c i arg2 harg2 arg3 harg3 arg5 harg5 arg6 harg6 arg7 harg7 arg8 harg8 x0 x1 x3 x4 x5 x6 (ix3 (⟨0, by omega⟩ : Fin 2) r (⟨1024 + l.val, by omega⟩ : Fin 2048)) := by
  rw [pay_0_8 c i arg2 harg2 arg3 harg3 arg5 harg5 arg6 harg6 arg7 harg7 arg8 harg8 x0 x1 x3 x4 x5 x6]
  refine (congrFun (shapeCast_self _ _) _).trans ?_
  exact block_ok _ _ _ _ (fun n => x0 (ix1 n)) 8 (by omega) _ (fun r d => head_16 _ _ _ _ _ _ (sink_16 c arg2 harg2 x0) r d)
    (fun r d => head_17 _ _ _ _ _ _ (sink_17 c arg2 harg2 x0) r d) r l
theorem stored_0_9 (c : Dev nD) (i : grid0.Coords) (arg2 : Memref sig .tc .smem S32 .f32) (harg2 : arg2.IsWhole) (arg3 : Memref sig .tc .vmem S1x256x2048 .bf16) (harg3 : arg3.IsWhole) (arg5 : Memref sig .tc .vmem S1x128x256 .f32) (harg5 : arg5.IsWhole) (arg6 : Memref sig .tc .vmem S1x256x256 .f32) (harg6 : arg6.IsWhole) (arg7 : Memref sig .tc .vmem S1x128x256 .f32) (harg7 : arg7.IsWhole) (arg8 : Memref sig .tc .vmem S1x256x256 .f32) (harg8 : arg8.IsWhole) (x0 : FVec Ideal S32 .f32) (x1 : FVec Ideal S1x256x2048 .bf16) (x3 : FVec Ideal S1x128x256 .f32) (x4 : FVec Ideal S1x256x256 .f32) (x5 : FVec Ideal S1x128x256 .f32) (x6 : FVec Ideal S1x256x256 .f32) (r l : Fin 128) : kernelRun0_A.sl.v1486 (F := Ideal) c i arg2 harg2 arg3 harg3 arg5 harg5 arg6 harg6 arg7 harg7 arg8 harg8 x0 x1 x3 x4 x5 x6 (ix2 r l)
    = held c i arg2 harg2 arg3 harg3 arg5 harg5 arg6 harg6 arg7 harg7 arg8 harg8 x0 x1 x3 x4 x5 x6 (ix3 (⟨0, by omega⟩ : Fin 2) r (⟨1152 + l.val, by omega⟩ : Fin 2048)) := by
  rw [pay_0_9 c i arg2 harg2 arg3 harg3 arg5 harg5 arg6 harg6 arg7 harg7 arg8 harg8 x0 x1 x3 x4 x5 x6]
  refine (congrFun (shapeCast_self _ _) _).trans ?_
  exact block_ok _ _ _ _ (fun n => x0 (ix1 n)) 9 (by omega) _ (fun r d => head_18 _ _ _ _ _ _ (sink_18 c arg2 harg2 x0) r d)
    (fun r d => head_19 _ _ _ _ _ _ (sink_19 c arg2 harg2 x0) r d) r l
theorem stored_0_10 (c : Dev nD) (i : grid0.Coords) (arg2 : Memref sig .tc .smem S32 .f32) (harg2 : arg2.IsWhole) (arg3 : Memref sig .tc .vmem S1x256x2048 .bf16) (harg3 : arg3.IsWhole) (arg5 : Memref sig .tc .vmem S1x128x256 .f32) (harg5 : arg5.IsWhole) (arg6 : Memref sig .tc .vmem S1x256x256 .f32) (harg6 : arg6.IsWhole) (arg7 : Memref sig .tc .vmem S1x128x256 .f32) (harg7 : arg7.IsWhole) (arg8 : Memref sig .tc .vmem S1x256x256 .f32) (harg8 : arg8.IsWhole) (x0 : FVec Ideal S32 .f32) (x1 : FVec Ideal S1x256x2048 .bf16) (x3 : FVec Ideal S1x128x256 .f32) (x4 : FVec Ideal S1x256x256 .f32) (x5 : FVec Ideal S1x128x256 .f32) (x6 : FVec Ideal S1x256x256 .f32) (r l : Fin 128) : kernelRun0_A.sl.v1493 (F := Ideal) c i arg2 harg2 arg3 harg3 arg5 harg5 arg6 harg6 arg7 harg7 arg8 harg8 x0 x1 x3 x4 x5 x6 (ix2 r l)
    = held c i arg2 harg2 arg3 harg3 arg5 harg5 arg6 harg6 arg7 harg7 arg8 harg8 x0 x1 x3 x4 x5 x6 (ix3 (⟨0, by omega⟩ : Fin 2) r (⟨1280 + l.val, by omega⟩ : Fin 2048)) := by
  rw [pay_0_10 c i arg2 harg2 arg3 harg3 arg5 harg5 arg6 harg6 arg7 harg7 arg8 harg8 x0 x1 x3 x4 x5 x6]
  refine (congrFun (shapeCast_self _ _) _).trans ?_
  exact block_ok _ _ _ _ (fun n => x0 (ix1 n)) 10 (by omega) _ (fun r d => head_20 _ _ _ _ _ _ (sink_20 c arg2 harg2 x0) r d)
    (fun r d => head_21 _ _ _ _ _ _ (sink_21 c arg2 harg2 x0) r d) r l
theorem stored_0_11 (c : Dev nD) (i : grid0.Coords) (arg2 : Memref sig .tc .smem S32 .f32) (harg2 : arg2.IsWhole) (arg3 : Memref sig .tc .vmem S1x256x2048 .bf16) (harg3 : arg3.IsWhole) (arg5 : Memref sig .tc .vmem S1x128x256 .f32) (harg5 : arg5.IsWhole) (arg6 : Memref sig .tc .vmem S1x256x256 .f32) (harg6 : arg6.IsWhole) (arg7 : Memref sig .tc .vmem S1x128x256 .f32) (harg7 : arg7.IsWhole) (arg8 : Memref sig .tc .vmem S1x256x256 .f32) (harg8 : arg8.IsWhole) (x0 : FVec Ideal S32 .f32) (x1 : FVec Ideal S1x256x2048 .bf16) (x3 : FVec Ideal S1x128x256 .f32) (x4 : FVec Ideal S1x256x256 .f32) (x5 : FVec Ideal S1x128x256 .f32) (x6 : FVec Ideal S1x256x256 .f32) (r l : Fin 128) : kernelRun0_A.sl.v1500 (F := Ideal) c i arg2 harg2 arg3 harg3 arg5 harg5 arg6 harg6 arg7 harg7 arg8 harg8 x0 x1 x3 x4 x5 x6 (ix2 r l)
    = held c i arg2 harg2 arg3 harg3 arg5 harg5 arg6 harg6 arg7 harg7 arg8 harg8 x0 x1 x3 x4 x5 x6 (ix3 (⟨0, by omega⟩ : Fin 2) r (⟨1408 + l.val, by omega⟩ : Fin 2048)) := by
  rw [pay_0_11 c i arg2 harg2 arg3 harg3 arg5 harg5 arg6 harg6 arg7 harg7 arg8 harg8 x0 x1 x3 x4 x5 x6]
  refine (congrFun (shapeCast_self _ _) _).trans ?_
  exact block_ok _ _ _ _ (fun n => x0 (ix1 n)) 11 (by omega) _ (fun r d => head_22 _ _ _ _ _ _ (sink_22 c arg2 harg2 x0) r d)
    (fun r d => head_23 _ _ _ _ _ _ (sink_23 c arg2 harg2 x0) r d) r l
theorem stored_0_12 (c : Dev nD) (i : grid0.Coords) (arg2 : Memref sig .tc .smem S32 .f32) (harg2 : arg2.IsWhole) (arg3 : Memref sig .tc .vmem S1x256x2048 .bf16) (harg3 : arg3.IsWhole) (arg5 : Memref sig .tc .vmem S1x128x256 .f32) (harg5 : arg5.IsWhole) (arg6 : Memref sig .tc .vmem S1x256x256 .f32) (harg6 : arg6.IsWhole) (arg7 : Memref sig .tc .vmem S1x128x256 .f32) (harg7 : arg7.IsWhole) (arg8 : Memref sig .tc .vmem S1x256x256 .f32) (harg8 : arg8.IsWhole) (x0 : FVec Ideal S32 .f32) (x1 : FVec Ideal S1x256x2048 .bf16) (x3 : FVec Ideal S1x128x256 .f32) (x4 : FVec Ideal S1x256x256 .f32) (x5 : FVec Ideal S1x128x256 .f32) (x6 : FVec Ideal S1x256x256 .f32) (r l : Fin 128) : kernelRun0_A.sl.v1936 (F := Ideal) c i arg2 harg2 arg3 harg3 arg5 harg5 arg6 harg6 arg7 harg7 arg8 harg8 x0 x1 x3 x4 x5 x6 (ix2 r l)
    = held c i arg2 harg2 arg3 harg3 arg5 harg5 arg6 harg6 arg7 harg7 arg8 harg8 x0 x1 x3 x4 x5 x6 (ix3 (⟨0, by omega⟩ : Fin 2) r (⟨1536 + l.val, by omega⟩ : Fin 2048)) := by
  rw [pay_0_12 c i arg2 harg2 arg3 harg3 arg5 harg5 arg6 harg6 arg7 harg7 arg8 harg8 x0 x1 x3 x4 x5 x6]
  refine (congrFun (shapeCast_self _ _) _).trans ?_
  exact block_ok _ _ _ _ (fun n => x0 (ix1 n)) 12 (by omega) _ (fun r d => head_24 _ _ _ _ _ _ (sink_24 c arg2 harg2 x0) r d)
    (fun r d => head_25 _ _ _ _ _ _ (sink_25 c arg2 harg2 x0) r d) r l
theorem stored_0_13 (c : Dev nD) (i : grid0.Coords) (arg2 : Memref sig .tc .smem S32 .f32) (harg2 : arg2.IsWhole) (arg3 : Memref sig .tc .vmem S1x256x2048 .bf16) (harg3 : arg3.IsWhole) (arg5 : Memref sig .tc .vmem S1x128x256 .f32) (harg5 : arg5.IsWhole) (arg6 : Memref sig .tc .vmem S1x256x256 .f32) (harg6 : arg6.IsWhole) (arg7 : Memref sig .tc .vmem S1x128x256 .f32) (harg7 : arg7.IsWhole) (arg8 : Memref sig .tc .vmem S1x256x256 .f32) (harg8 : arg8.IsWhole) (x0 : FVec Ideal S32 .f32) (x1 : FVec Ideal S1x256x2048 .bf16) (x3 : FVec Ideal S1x128x256 .f32) (x4 : FVec Ideal S1x256x256 .f32) (x5 : FVec Ideal S1x128x256 .f32) (x6 : FVec Ideal S1x256x256 .f32) (r l : Fin 128) : kernelRun0_A.sl.v1943 (F := Ideal) c i arg2 harg2 arg3 harg3 arg5 harg5 arg6 harg6 arg7 harg7 arg8 harg8 x0 x1 x3 x4 x5 x6 (ix2 r l)
    = held c i arg2 harg2 arg3 harg3 arg5 harg5 arg6 harg6 arg7 harg7 arg8 harg8 x0 x1 x3 x4 x5 x6 (ix3 (⟨0, by omega⟩ : Fin 2) r (⟨1664 + l.val, by omega⟩ : Fin 2048)) := by
  rw [pay_0_13 c i arg2 harg2 arg3 harg3 arg5 harg5 arg6 harg6 arg7 harg7 arg8 harg8 x0 x1 x3 x4 x5 x6]
  refine (congrFun (shapeCast_self _ _) _).trans ?_
  exact block_ok _ _ _ _ (fun n => x0 (ix1 n)) 13 (by omega) _ (fun r d => head_26 _ _ _ _ _ _ (sink_26 c arg2 harg2 x0) r d)
    (fun r d => head_27 _ _ _ _ _ _ (sink_27 c arg2 harg2 x0) r d) r l
theorem stored_0_14 (c : Dev nD) (i : grid0.Coords) (arg2 : Memref sig .tc .smem S32 .f32) (harg2 : arg2.IsWhole) (arg3 : Memref sig .tc .vmem S1x256x2048 .bf16) (harg3 : arg3.IsWhole) (arg5 : Memref sig .tc .vmem S1x128x256 .f32) (harg5 : arg5.IsWhole) (arg6 : Memref sig .tc .vmem S1x256x256 .f32) (harg6 : arg6.IsWhole) (arg7 : Memref sig .tc .vmem S1x128x256 .f32) (harg7 : arg7.IsWhole) (arg8 : Memref sig .tc .vmem S1x256x256 .f32) (harg8 : arg8.IsWhole) (x0 : FVec Ideal S32 .f32) (x1 : FVec Ideal S1x256x2048 .bf16) (x3 : FVec Ideal S1x128x256 .f32) (x4 : FVec Ideal S1x256x256 .f32) (x5 : FVec Ideal S1x128x256 .f32) (x6 : FVec Ideal S1x256x256 .f32) (r l : Fin 128) : kernelRun0_A.sl.v1950 (F := Ideal) c i arg2 harg2 arg3 harg3 arg5 harg5 arg6 harg6 arg7 harg7 arg8 harg8 x0 x1 x3 x4 x5 x6 (ix2 r l)
    = held c i arg2 harg2 arg3 harg3 arg5 harg5 arg6 harg6 arg7 harg7 arg8 harg8 x0 x1 x3 x4 x5 x6 (ix3 (⟨0, by omega⟩ : Fin 2) r (⟨1792 + l.val, by omega⟩ : Fin 2048)) := by
  rw [pay_0_14 c i arg2 harg2 arg3 harg3 arg5 harg5 arg6 harg6 arg7 harg7 arg8 harg8 x0 x1 x3 x4 x5 x6]
  refine (congrFun (shapeCast_self _ _) _).trans ?_
  exact block_ok _ _ _ _ (fun n => x0 (ix1 n)) 14 (by omega) _ (fun r d => head_28 _ _ _ _ _ _ (sink_28 c arg2 harg2 x0) r d)
    (fun r d => head_29 _ _ _ _ _ _ (sink_29 c arg2 harg2 x0) r d) r l
theorem stored_0_15 (c : Dev nD) (i : grid0.Coords) (arg2 : Memref sig .tc .smem S32 .f32) (harg2 : arg2.IsWhole) (arg3 : Memref sig .tc .vmem S1x256x2048 .bf16) (harg3 : arg3.IsWhole) (arg5 : Memref sig .tc .vmem S1x128x256 .f32) (harg5 : arg5.IsWhole) (arg6 : Memref sig .tc .vmem S1x256x256 .f32) (harg6 : arg6.IsWhole) (arg7 : Memref sig .tc .vmem S1x128x256 .f32) (harg7 : arg7.IsWhole) (arg8 : Memref sig .tc .vmem S1x256x256 .f32) (harg8 : arg8.IsWhole) (x0 : FVec Ideal S32 .f32) (x1 : FVec Ideal S1x256x2048 .bf16) (x3 : FVec Ideal S1x128x256 .f32) (x4 : FVec Ideal S1x256x256 .f32) (x5 : FVec Ideal S1x128x256 .f32) (x6 : FVec Ideal S1x256x256 .f32) (r l : Fin 128) : kernelRun0_A.sl.v1957 (F := Ideal) c i arg2 harg2 arg3 harg3 arg5 harg5 arg6 harg6 arg7 harg7 arg8 harg8 x0 x1 x3 x4 x5 x6 (ix2 r l)
    = held c i arg2 harg2 arg3 harg3 arg5 harg5 arg6 harg6 arg7 harg7 arg8 harg8 x0 x1 x3 x4 x5 x6 (ix3 (⟨0, by omega⟩ : Fin 2) r (⟨1920 + l.val, by omega⟩ : Fin 2048)) := by
  rw [pay_0_15 c i arg2 harg2 arg3 harg3 arg5 harg5 arg6 harg6 arg7 harg7 arg8 harg8 x0 x1 x3 x4 x5 x6]
  refine (congrFun (shapeCast_self _ _) _).trans ?_
  exact block_ok _ _ _ _ (fun n => x0 (ix1 n)) 15 (by omega) _ (fun r d => head_30 _ _ _ _ _ _ (sink_30 c arg2 harg2 x0) r d)
    (fun r d => head_31 _ _ _ _ _ _ (sink_31 c arg2 harg2 x0) r d) r l
theorem stored_1_0 (c : Dev nD) (i : grid0.Coords) (arg2 : Memref sig .tc .smem S32 .f32) (harg2 : arg2.IsWhole) (arg3 : Memref sig .tc .vmem S1x256x2048 .bf16) (harg3 : arg3.IsWhole) (arg5 : Memref sig .tc .vmem S1x128x256 .f32) (harg5 : arg5.IsWhole) (arg6 : Memref sig .tc .vmem S1x256x256 .f32) (harg6 : arg6.IsWhole) (arg7 : Memref sig .tc .vmem S1x128x256 .f32) (harg7 : arg7.IsWhole) (arg8 : Memref sig .tc .vmem S1x256x256 .f32) (harg8 : arg8.IsWhole) (x0 : FVec Ideal S32 .f32) (x1 : FVec Ideal S1x256x2048 .bf16) (x3 : FVec Ideal S1x128x256 .f32) (x4 : FVec Ideal S1x256x256 .f32) (x5 : FVec Ideal S1x128x256 .f32) (x6 : FVec Ideal S1x256x256 .f32) (r l : Fin 128) : kernelRun0_A.sl.v594 (F := Ideal) c arg2 harg2 arg3 harg3 arg6 harg6 arg8 harg8 x0 x1 x4 x6 (ix2 r l)
    = held c i arg2 harg2 arg3 harg3 arg5 harg5 arg6 harg6 arg7 harg7 arg8 harg8 x0 x1 x3 x4 x5 x6 (ix3 (⟨1, by omega⟩ : Fin 2) r (⟨0 + l.val, by omega⟩ : Fin 2048)) := by
  rw [pay_1_0 c arg2 harg2 arg3 harg3 arg6 harg6 arg8 harg8 x0 x1 x4 x6]
  refine (congrFun (shapeCast_self _ _) _).trans ?_
  exact block_ok _ _ _ _ (fun n => x0 (ix1 n)) 0 (by omega) _ (fun r d => head_0 _ _ _ _ _ _ (sink_0 c arg2 harg2 x0) r d)
    (fun r d => head_1 _ _ _ _ _ _ (sink_1 c arg2 harg2 x0) r d) r l
theorem stored_1_1 (c : Dev nD) (i : grid0.Coords) (arg2 : Memref sig .tc .smem S32 .f32) (harg2 : arg2.IsWhole) (arg3 : Memref sig .tc .vmem S1x256x2048 .bf16) (harg3 : arg3.IsWhole) (arg5 : Memref sig .tc .vmem S1x128x256 .f32) (harg5 : arg5.IsWhole) (arg6 : Memref sig .tc .vmem S1x256x256 .f32) (harg6 : arg6.IsWhole) (arg7 : Memref sig .tc .vmem S1x128x256 .f32) (harg7 : arg7.IsWhole) (arg8 : Memref sig .tc .vmem S1x256x256 .f32) (harg8 : arg8.IsWhole) (x0 : FVec Ideal S32 .f32) (x1 : FVec Ideal S1x256x2048 .bf16) (x3 : FVec Ideal S1x128x256 .f32) (x4 : FVec Ideal S1x256x256 .f32) (x5 : FVec Ideal S1x128x256 .f32) (x6 : FVec Ideal S1x256x256 .f32) (r l : Fin 128) : kernelRun0_A.sl.v601 (F := Ideal) c arg2 harg2 arg3 harg3 arg6 harg6 arg8 harg8 x0 x1 x4 x6 (ix2 r l)
    = held c i arg2 harg2 arg3 harg3 arg5 harg5 arg6 harg6 arg7 harg7 arg8 harg8 x0 x1 x3 x4 x5 x6 (ix3 (⟨1, by omega⟩ : Fin 2) r (⟨128 + l.val, by omega⟩ : Fin 2048)) := by
  rw [pay_1_1 c arg2 harg2 arg3 harg3 arg6 harg6 arg8 harg8 x0 x1 x4 x6]
  refine (congrFun (shapeCast_self _ _) _).trans ?_
  exact block_ok _ _ _ _ (fun n => x0 (ix1 n)) 1 (by omega) _ (fun r d => head_2 _ _ _ _ _ _ (sink_2 c arg2 harg2 x0) r d)
    (fun r d => head_3 _ _ _ _ _ _ (sink_3 c arg2 harg2 x0) r d) r l
theorem stored_1_2 (c : Dev nD) (i : grid0.Coords) (arg2 : Memref sig .tc .smem S32 .f32) (harg2 : arg2.IsWhole) (arg3 : Memref sig .tc .vmem S1x256x2048 .bf16) (harg3 : arg3.IsWhole) (arg5 : Memref sig .tc .vmem S1x128x256 .f32) (harg5 : arg5.IsWhole) (arg6 : Memref sig .tc .vmem S1x256x256 .f32) (harg6 : arg6.IsWhole) (arg7 : Memref sig .tc .vmem S1x128x256 .f32) (harg7 : arg7.IsWhole) (arg8 : Memref sig .tc .vmem S1x256x256 .f32) (harg8 : arg8.IsWhole) (x0 : FVec Ideal S32 .f32) (x1 : FVec Ideal S1x256x2048 .bf16) (x3 : FVec Ideal S1x128x256 .f32) (x4 : FVec Ideal S1x256x256 .f32) (x5 : FVec Ideal S1x128x256 .f32) (x6 : FVec Ideal S1x256x256 .f32) (r l : Fin 128) : kernelRun0_A.sl.v608 (F := Ideal) c arg2 harg2 arg3 harg3 arg6 harg6 arg8 harg8 x0 x1 x4 x6 (ix2 r l)
    = held c i arg2 harg2 arg3 harg3 arg5 harg5 arg6 harg6 arg7 harg7 arg8 harg8 x0 x1 x3 x4 x5 x6 (ix3 (⟨1, by omega⟩ : Fin 2) r (⟨256 + l.val, by omega⟩ : Fin 2048)) := by
  rw [pay_1_2 c arg2 harg2 arg3 harg3 arg6 harg6 arg8 harg8 x0 x1 x4 x6]
  refine (congrFun (shapeCast_self _ _) _).trans ?_
  exact block_ok _ _ _ _ (fun n => x0 (ix1 n)) 2 (by omega) _ (fun r d => head_4 _ _ _ _ _ _ (sink_4 c arg2 harg2 x0) r d)
    (fun r d => head_5 _ _ _ _ _ _ (sink_5 c arg2 harg2 x0) r d) r l
theorem stored_1_3 (c : Dev nD) (i : grid0.Coords) (arg2 : Memref sig .tc .smem S32 .f32) (harg2 : arg2.IsWhole) (arg3 : Memref sig .tc .vmem S1x256x2048 .bf16) (harg3 : arg3.IsWhole) (arg5 : Memref sig .tc .vmem S1x128x256 .f32) (harg5 : arg5.IsWhole) (arg6 : Memref sig .tc .vmem S1x256x256 .f32) (harg6 : arg6.IsWhole) (arg7 : Memref sig .tc .vmem S1x128x256 .f32) (harg7 : arg7.IsWhole) (arg8 : Memref sig .tc .vmem S1x256x256 .f32) (harg8 : arg8.IsWhole) (x0 : FVec Ideal S32 .f32) (x1 : FVec Ideal S1x256x2048 .bf16) (x3 : FVec Ideal S1x128x256 .f32) (x4 : FVec Ideal S1x256x256 .f32) (x5 : FVec Ideal S1x128x256 .f32) (x6 : FVec Ideal S1x256x256 .f32) (r l : Fin 128) : k0_pay166 (kernelRun0_A.sl.v610 (F := Ideal) c arg2 harg2 arg3 harg3 arg6 harg6 arg8 harg8 x0 x1 x4 x6) (ix2 r l)
    = held c i arg2 harg2 arg3 harg3 arg5 harg5 arg6 harg6 arg7 harg7 arg8 harg8 x0 x1 x3 x4 x5 x6 (ix3 (⟨1, by omega⟩ : Fin 2) r (⟨384 + l.val, by omega⟩ : Fin 2048)) := by
  rw [pay_1_3 c arg2 harg2 arg3 harg3 arg6 harg6 arg8 harg8 x0 x1 x4 x6]
  refine (congrFun (shapeCast_self _ _) _).trans ?_
  exact block_ok _ _ _ _ (fun n => x0 (ix1 n)) 3 (by omega) _ (fun r d => head_6 _ _ _ _ _ _ (sink_6 c arg2 harg2 x0) r d)
    (fun r d => head_7 _ _ _ _ _ _ (sink_7 c arg2 harg2 x0) r d) r l
theorem stored_1_4 (c : Dev nD) (i : grid0.Coords) (arg2 : Memref sig .tc .smem S32 .f32) (harg2 : arg2.IsWhole) (arg3 : Memref sig .tc .vmem S1x256x2048 .bf16) (harg3 : arg3.IsWhole) (arg5 : Memref sig .tc .vmem S1x128x256 .f32) (harg5 : arg5.IsWhole) (arg6 : Memref sig .tc .vmem S1x256x256 .f32) (harg6 : arg6.IsWhole) (arg7 : Memref sig .tc .vmem S1x128x256 .f32) (harg7 : arg7.IsWhole) (arg8 : Memref sig .tc .vmem S1x256x256 .f32) (harg8 : arg8.IsWhole) (x0 : FVec Ideal S32 .f32) (x1 : FVec Ideal S1x256x2048 .bf16) (x3 : FVec Ideal S1x128x256 .f32) (x4 : FVec Ideal S1x256x256 .f32) (x5 : FVec Ideal S1x128x256 .f32) (x6 : FVec Ideal S1x256x256 .f32) (r l : Fin 128) : kernelRun0_A.sl.v1050 (F := Ideal) c arg2 harg2 arg3 harg3 arg6 harg6 arg8 harg8 x0 x1 x4 x6 (ix2 r l)
    = held c i arg2 harg2 arg3 harg3 arg5 harg5 arg6 harg6 arg7 harg7 arg8 harg8 x0 x1 x3 x4 x5 x6 (ix3 (⟨1, by omega⟩ : Fin 2) r (⟨512 + l.val, by omega⟩ : Fin 2048)) := by
  rw [pay_1_4 c arg2 harg2 arg3 harg3 arg6 harg6 arg8 harg8 x0 x1 x4 x6]
  refine (congrFun (shapeCast_self _ _) _).trans ?_
  exact block_ok _ _ _ _ (fun n => x0 (ix1 n)) 4 (by omega) _ (fun r d => head_8 _ _ _ _ _ _ (sink_8 c arg2 harg2 x0) r d)
    (fun r d => head_9 _ _ _ _ _ _ (sink_9 c arg2 harg2 x0) r d) r l
theorem stored_1_5 (c : Dev nD) (i : grid0.Coords) (arg2 : Memref sig .tc .smem S32 .f32) (harg2 : arg2.IsWhole) (arg3 : Memref sig .tc .vmem S1x256x2048 .bf16) (harg3 : arg3.IsWhole) (arg5 : Memref sig .tc .vmem S1x128x256 .f32) (harg5 : arg5.IsWhole) (arg6 : Memref sig .tc .vmem S1x256x256 .f32) (harg6 : arg6.IsWhole) (arg7 : Memref sig .tc .vmem S1x128x256 .f32) (harg7 : arg7.IsWhole) (arg8 : Memref sig .tc .vmem S1x256x256 .f32) (harg8 : arg8.IsWhole) (x0 : FVec Ideal S32 .f32) (x1 : FVec Ideal S1x256x2048 .bf16) (x3 : FVec Ideal S1x128x256 .f32) (x4 : FVec Ideal S1x256x256 .f32) (x5 : FVec Ideal S1x128x256 .f32) (x6 : FVec Ideal S1x256x256 .f32) (r l : Fin 128) : kernelRun0_A.sl.v1057 (F := Ideal) c arg2 harg2 arg3 harg3 arg6 harg6 arg8 harg8 x0 x1 x4 x6 (ix2 r l)
    = held c i arg2 harg2 arg3 harg3 arg5 harg5 arg6 harg6 arg7 harg7 arg8 harg8 x0 x1 x3 x4 x5 x6 (ix3 (⟨1, by omega⟩ : Fin 2) r (⟨640 + l.val, by omega⟩ : Fin 2048)) := by
  rw [pay_1_5 c arg2 harg2 arg3 harg3 arg6 harg6 arg8 harg8 x0 x1 x4 x6]
  refine (congrFun (shapeCast_self _ _) _).trans ?_
  exact block_ok _ _ _ _ (fun n => x0 (ix1 n)) 5 (by omega) _ (fun r d => head_10 _ _ _ _ _ _ (sink_10 c arg2 harg2 x0) r d)
    (fun r d => head_11 _ _ _ _ _ _ (sink_11 c arg2 harg2 x0) r d) r l
theorem stored_1_6 (c : Dev nD) (i : grid0.Coords) (arg2 : Memref sig .tc .smem S32 .f32) (harg2 : arg2.IsWhole) (arg3 : Memref sig .tc .vmem S1x256x2048 .bf16) (harg3 : arg3.IsWhole) (arg5 : Memref sig .tc .vmem S1x128x256 .f32) (harg5 : arg5.IsWhole) (arg6 : Memref sig .tc .vmem S1x256x256 .f32) (harg6 : arg6.IsWhole) (arg7 : Memref sig .tc .vmem S1x128x256 .f32) (harg7 : arg7.IsWhole) (arg8 : Memref sig .tc .vmem S1x256x256 .f32) (harg8 : arg8.IsWhole) (x0 : FVec Ideal S32 .f32) (x1 : FVec Ideal S1x256x2048 .bf16) (x3 : FVec Ideal S1x128x256 .f32) (x4 : FVec Ideal S1x256x256 .f32) (x5 : FVec Ideal S1x128x256 .f32) (x6 : FVec Ideal S1x256x256 .f32) (r l : Fin 128) : kernelRun0_A.sl.v1064 (F := Ideal) c arg2 harg2 arg3 harg3 arg6 harg6 arg8 harg8 x0 x1 x4 x6 (ix2 r l)
    = held c i arg2 harg2 arg3 harg3 arg5 harg5 arg6 harg6 arg7 harg7 arg8 harg8 x0 x1 x3 x4 x5 x6 (ix3 (⟨1, by omega⟩ : Fin 2) r (⟨768 + l.val, by omega⟩ : Fin 2048)) := by
  rw [pay_1_6 c arg2 harg2 arg3 harg3 arg6 harg6 arg8 harg8 x0 x1 x4 x6]
  refine (congrFun (shapeCast_self _ _) _).trans ?_
  exact block_ok _ _ _ _ (fun n => x0 (ix1 n)) 6 (by omega) _ (fun r d => head_12 _ _ _ _ _ _ (sink_12 c arg2 harg2 x0) r d)
    (fun r d => head_13 _ _ _ _ _ _ (sink_13 c arg2 harg2 x0) r d) r l
theorem stored_1_7 (c : Dev nD) (i : grid0.Coords) (arg2 : Memref sig .tc .smem S32 .f32) (harg2 : arg2.IsWhole) (arg3 : Memref sig .tc .vmem S1x256x2048 .bf16) (harg3 : arg3.IsWhole) (arg5 : Memref sig .tc .vmem S1x128x256 .f32) (harg5 : arg5.IsWhole) (arg6 : Memref sig .tc .vmem S1x256x256 .f32) (harg6 : arg6.IsWhole) (arg7 : Memref sig .tc .vmem S1x128x256 .f32) (harg7 : arg7.IsWhole) (arg8 : Memref sig .tc .vmem S1x256x256 .f32) (harg8 : arg8.IsWhole) (x0 : FVec Ideal S32 .f32) (x1 : FVec Ideal S1x256x2048 .bf16) (x3 : FVec Ideal S1x128x256 .f32) (x4 : FVec Ideal S1x256x256 .f32) (x5 : FVec Ideal S1x128x256 .f32) (x6 : FVec Ideal S1x256x256 .f32) (r l : Fin 128) : kernelRun0_A.sl.v1071 (F := Ideal) c arg2 harg2 arg3 harg3 arg6 harg6 arg8 harg8 x0 x1 x4 x6 (ix2 r l)
    = held c i arg2 harg2 arg3 harg3 arg5 harg5 arg6 harg6 arg7 harg7 arg8 harg8 x0 x1 x3 x4 x5 x6 (ix3 (⟨1, by omega⟩ : Fin 2) r (⟨896 + l.val, by omega⟩ : Fin 2048)) := by
  rw [pay_1_7 c arg2 harg2 arg3 harg3 arg6 harg6 arg8 harg8 x0 x1 x4 x6]
  refine (congrFun (shapeCast_self _ _) _).trans ?_
  exact block_ok _ _ _ _ (fun n => x0 (ix1 n)) 7 (by omega) _ (fun r d => head_14 _ _ _ _ _ _ (sink_14 c arg2 harg2 x0) r d)
    (fun r d => head_15 _ _ _ _ _ _ (sink_15 c arg2 harg2 x0) r d) r l
theorem stored_1_8 (c : Dev nD) (i : grid0.Coords) (arg2 : Memref sig .tc .smem S32 .f32) (harg2 : arg2.IsWhole) (arg3 : Memref sig .tc .vmem S1x256x2048 .bf16) (harg3 : arg3.IsWhole) (arg5 : Memref sig .tc .vmem S1x128x256 .f32) (harg5 : arg5.IsWhole) (arg6 : Memref sig .tc .vmem S1x256x256 .f32) (harg6 : arg6.IsWhole) (arg7 : Memref sig .tc .vmem S1x128x256 .f32) (harg7 : arg7.IsWhole) (arg8 : Memref sig .tc .vmem S1x256x256 .f32) (harg8 : arg8.IsWhole) (x0 : FVec Ideal S32 .f32) (x1 : FVec Ideal S1x256x2048 .bf16) (x3 : FVec Ideal S1x128x256 .f32) (x4 : FVec Ideal S1x256x256 .f32) (x5 : FVec Ideal S1x128x256 .f32) (x6 : FVec Ideal S1x256x256 .f32) (r l : Fin 128) : kernelRun0_A.sl.v1507 (F := Ideal) c arg2 harg2 arg3 harg3 arg6 harg6 arg8 harg8 x0 x1 x4 x6 (ix2 r l)
    = held c i arg2 harg2 arg3 harg3 arg5 harg5 arg6 harg6 arg7 harg7 arg8 harg8 x0 x1 x3 x4 x5 x6 (ix3 (⟨1, by omega⟩ : Fin 2) r (⟨1024 + l.val, by omega⟩ : Fin 2048)) := by
  rw [pay_1_8 c arg2 harg2 arg3 harg3 arg6 harg6 arg8 harg8 x0 x1 x4 x6]
  refine (congrFun (shapeCast_self _ _) _).trans ?_
  exact block_ok _ _ _ _ (fun n => x0 (ix1 n)) 8 (by omega) _ (fun r d => head_16 _ _ _ _ _ _ (sink_16 c arg2 harg2 x0) r d)
    (fun r d => head_17 _ _ _ _ _ _ (sink_17 c arg2 harg2 x0) r d) r l
theorem stored_1_9 (c : Dev nD) (i : grid0.Coords) (arg2 : Memref sig .tc .smem S32 .f32) (harg2 : arg2.IsWhole) (arg3 : Memref sig .tc .vmem S1x256x2048 .bf16) (harg3 : arg3.IsWhole) (arg5 : Memref sig .tc .vmem S1x128x256 .f32) (harg5 : arg5.IsWhole) (arg6 : Memref sig .tc .vmem S1x256x256 .f32) (harg6 : arg6.IsWhole) (arg7 : Memref sig .tc .vmem S1x128x256 .f32) (harg7 : arg7.IsWhole) (arg8 : Memref sig .tc .vmem S1x256x256 .f32) (harg8 : arg8.IsWhole) (x0 : FVec Ideal S32 .f32) (x1 : FVec Ideal S1x256x2048 .bf16) (x3 : FVec Ideal S1x128x256 .f32) (x4 : FVec Ideal S1x256x256 .f32) (x5 : FVec Ideal S1x128x256 .f32) (x6 : FVec Ideal S1x256x256 .f32) (r l : Fin 128) : kernelRun0_A.sl.v1514 (F := Ideal) c arg2 harg2 arg3 harg3 arg6 harg6 arg8 harg8 x0 x1 x4 x6 (ix2 r l)
    = held c i arg2 harg2 arg3 harg3 arg5 harg5 arg6 harg6 arg7 harg7 arg8 harg8 x0 x1 x3 x4 x5 x6 (ix3 (⟨1, by omega⟩ : Fin 2) r (⟨1152 + l.val, by omega⟩ : Fin 2048)) := by
  rw [pay_1_9 c arg2 harg2 arg3 harg3 arg6 harg6 arg8 harg8 x0 x1 x4 x6]
  refine (congrFun (shapeCast_self _ _) _).trans ?_
  exact block_ok _ _ _ _ (fun n => x0 (ix1 n)) 9 (by omega) _ (fun r d => head_18 _ _ _ _ _ _ (sink_18 c arg2 harg2 x0) r d)
    (fun r d => head_19 _ _ _ _ _ _ (sink_19 c arg2 harg2 x0) r d) r l
theorem stored_1_10 (c : Dev nD) (i : grid0.Coords) (arg2 : Memref sig .tc .smem S32 .f32) (harg2 : arg2.IsWhole) (arg3 : Memref sig .tc .vmem S1x256x2048 .bf16) (harg3 : arg3.IsWhole) (arg5 : Memref sig .tc .vmem S1x128x256 .f32) (harg5 : arg5.IsWhole) (arg6 : Memref sig .tc .vmem S1x256x256 .f32) (harg6 : arg6.IsWhole) (arg7 : Memref sig .tc .vmem S1x128x256 .f32) (harg7 : arg7.IsWhole) (arg8 : Memref sig .tc .vmem S1x256x256 .f32) (harg8 : arg8.IsWhole) (x0 : FVec Ideal S32 .f32) (x1 : FVec Ideal S1x256x2048 .bf16) (x3 : FVec Ideal S1x128x256 .f32) (x4 : FVec Ideal S1x256x256 .f32) (x5 : FVec Ideal S1x128x256 .f32) (x6 : FVec Ideal S1x256x256 .f32) (r l : Fin 128) : kernelRun0_A.sl.v1521 (F := Ideal) c arg2 harg2 arg3 harg3 arg6 harg6 arg8 harg8 x0 x1 x4 x6 (ix2 r l)
    = held c i arg2 harg2 arg3 harg3 arg5 harg5 arg6 harg6 arg7 harg7 arg8 harg8 x0 x1 x3 x4 x5 x6 (ix3 (⟨1, by omega⟩ : Fin 2) r (⟨1280 + l.val, by omega⟩ : Fin 2048)) := by
  rw [pay_1_10 c arg2 harg2 arg3 harg3 arg6 harg6 arg8 harg8 x0 x1 x4 x6]
  refine (congrFun (shapeCast_self _ _) _).trans ?_
  exact block_ok _ _ _ _ (fun n => x0 (ix1 n)) 10 (by omega) _ (fun r d => head_20 _ _ _ _ _ _ (sink_20 c arg2 harg2 x0) r d)
    (fun r d => head_21 _ _ _ _ _ _ (sink_21 c arg2 harg2 x0) r d) r l
theorem stored_1_11 (c : Dev nD) (i : grid0.Coords) (arg2 : Memref sig .tc .smem S32 .f32) (harg2 : arg2.IsWhole) (arg3 : Memref sig .tc .vmem S1x256x2048 .bf16) (harg3 : arg3.IsWhole) (arg5 : Memref sig .tc .vmem S1x128x256 .f32) (harg5 : arg5.IsWhole) (arg6 : Memref sig .tc .vmem S1x256x256 .f32) (harg6 : arg6.IsWhole) (arg7 : Memref sig .tc .vmem S1x128x256 .f32) (harg7 : arg7.IsWhole) (arg8 : Memref sig .tc .vmem S1x256x256 .f32) (harg8 : arg8.IsWhole) (x0 : FVec Ideal S32 .f32) (x1 : FVec Ideal S1x256x2048 .bf16) (x3 : FVec Ideal S1x128x256 .f32) (x4 : FVec Ideal S1x256x256 .f32) (x5 : FVec Ideal S1x128x256 .f32) (x6 : FVec Ideal S1x256x256 .f32) (r l : Fin 128) : kernelRun0_A.sl.v1528 (F := Ideal) c arg2 harg2 arg3 harg3 arg6 harg6 arg8 harg8 x0 x1 x4 x6 (ix2 r l)
    = held c i arg2 harg2 arg3 harg3 arg5 harg5 arg6 harg6 arg7 harg7 arg8 harg8 x0 x1 x3 x4 x5 x6 (ix3 (⟨1, by omega⟩ : Fin 2) r (⟨1408 + l.val, by omega⟩ : Fin 2048)) := by
  rw [pay_1_11 c arg2 harg2 arg3 harg3 arg6 harg6 arg8 harg8 x0 x1 x4 x6]
  refine (congrFun (shapeCast_self _ _) _).trans ?_
  exact block_ok _ _ _ _ (fun n => x0 (ix1 n)) 11 (by omega) _ (fun r d => head_22 _ _ _ _ _ _ (sink_22 c arg2 harg2 x0) r d)
    (fun r d => head_23 _ _ _ _ _ _ (sink_23 c arg2 harg2 x0) r d) r l
theorem stored_1_12 (c : Dev nD) (i : grid0.Coords) (arg2 : Memref sig .tc .smem S32 .f32) (harg2 : arg2.IsWhole) (arg3 : Memref sig .tc .vmem S1x256x2048 .bf16) (harg3 : arg3.IsWhole) (arg5 : Memref sig .tc .vmem S1x128x256 .f32) (harg5 : arg5.IsWhole) (arg6 : Memref sig .tc .vmem S1x256x256 .f32) (harg6 : arg6.IsWhole) (arg7 : Memref sig .tc .vmem S1x128x256 .f32) (harg7 : arg7.IsWhole) (arg8 : Memref sig .tc .vmem S1x256x256 .f32) (harg8 : arg8.IsWhole) (x0 : FVec Ideal S32 .f32) (x1 : FVec Ideal S1x256x2048 .bf16) (x3 : FVec Ideal S1x128x256 .f32) (x4 : FVec Ideal S1x256x256 .f32) (x5 : FVec Ideal S1x128x256 .f32) (x6 : FVec Ideal S1x256x256 .f32) (r l : Fin 128) : kernelRun0_A.sl.v1964 (F := Ideal) c arg2 harg2 arg3 harg3 arg6 harg6 arg8 harg8 x0 x1 x4 x6 (ix2 r l)
    = held c i arg2 harg2 arg3 harg3 arg5 harg5 arg6 harg6 arg7 harg7 arg8 harg8 x0 x1 x3 x4 x5 x6 (ix3 (⟨1, by omega⟩ : Fin 2) r (⟨1536 + l.val, by omega⟩ : Fin 2048)) := by
  rw [pay_1_12 c arg2 harg2 arg3 harg3 arg6 harg6 arg8 harg8 x0 x1 x4 x6]
  refine (congrFun (shapeCast_self _ _) _).trans ?_
  exact block_ok _ _ _ _ (fun n => x0 (ix1 n)) 12 (by omega) _ (fun r d => head_24 _ _ _ _ _ _ (sink_24 c arg2 harg2 x0) r d)
    (fun r d => head_25 _ _ _ _ _ _ (sink_25 c arg2 harg2 x0) r d) r l
theorem stored_1_13 (c : Dev nD) (i : grid0.Coords) (arg2 : Memref sig .tc .smem S32 .f32) (harg2 : arg2.IsWhole) (arg3 : Memref sig .tc .vmem S1x256x2048 .bf16) (harg3 : arg3.IsWhole) (arg5 : Memref sig .tc .vmem S1x128x256 .f32) (harg5 : arg5.IsWhole) (arg6 : Memref sig .tc .vmem S1x256x256 .f32) (harg6 : arg6.IsWhole) (arg7 : Memref sig .tc .vmem S1x128x256 .f32) (harg7 : arg7.IsWhole) (arg8 : Memref sig .tc .vmem S1x256x256 .f32) (harg8 : arg8.IsWhole) (x0 : FVec Ideal S32 .f32) (x1 : FVec Ideal S1x256x2048 .bf16) (x3 : FVec Ideal S1x128x256 .f32) (x4 : FVec Ideal S1x256x256 .f32) (x5 : FVec Ideal S1x128x256 .f32) (x6 : FVec Ideal S1x256x256 .f32) (r l : Fin 128) : kernelRun0_A.sl.v1971 (F := Ideal) c arg2 harg2 arg3 harg3 arg6 harg6 arg8 harg8 x0 x1 x4 x6 (ix2 r l)
    = held c i arg2 harg2 arg3 harg3 arg5 harg5 arg6 harg6 arg7 harg7 arg8 harg8 x0 x1 x3 x4 x5 x6 (ix3 (⟨1, by omega⟩ : Fin 2) r (⟨1664 + l.val, by omega⟩ : Fin 2048)) := by
  rw [pay_1_13 c arg2 harg2 arg3 harg3 arg6 harg6 arg8 harg8 x0 x1 x4 x6]
  refine (congrFun (shapeCast_self _ _) _).trans ?_
  exact block_ok _ _ _ _ (fun n => x0 (ix1 n)) 13 (by omega) _ (fun r d => head_26 _ _ _ _ _ _ (sink_26 c arg2 harg2 x0) r d)
    (fun r d => head_27 _ _ _ _ _ _ (sink_27 c arg2 harg2 x0) r d) r l
theorem stored_1_14 (c : Dev nD) (i : grid0.Coords) (arg2 : Memref sig .tc .smem S32 .f32) (harg2 : arg2.IsWhole) (arg3 : Memref sig .tc .vmem S1x256x2048 .bf16) (harg3 : arg3.IsWhole) (arg5 : Memref sig .tc .vmem S1x128x256 .f32) (harg5 : arg5.IsWhole) (arg6 : Memref sig .tc .vmem S1x256x256 .f32) (harg6 : arg6.IsWhole) (arg7 : Memref sig .tc .vmem S1x128x256 .f32) (harg7 : arg7.IsWhole) (arg8 : Memref sig .tc .vmem S1x256x256 .f32) (harg8 : arg8.IsWhole) (x0 : FVec Ideal S32 .f32) (x1 : FVec Ideal S1x256x2048 .bf16) (x3 : FVec Ideal S1x128x256 .f32) (x4 : FVec Ideal S1x256x256 .f32) (x5 : FVec Ideal S1x128x256 .f32) (x6 : FVec Ideal S1x256x256 .f32) (r l : Fin 128) : kernelRun0_A.sl.v1978 (F := Ideal) c arg2 harg2 arg3 harg3 arg6 harg6 arg8 harg8 x0 x1 x4 x6 (ix2 r l)
    = held c i arg2 harg2 arg3 harg3 arg5 harg5 arg6 harg6 arg7 harg7 arg8 harg8 x0 x1 x3 x4 x5 x6 (ix3 (⟨1, by omega⟩ : Fin 2) r (⟨1792 + l.val, by omega⟩ : Fin 2048)) := by
  rw [pay_1_14 c arg2 harg2 arg3 harg3 arg6 harg6 arg8 harg8 x0 x1 x4 x6]
  refine (congrFun (shapeCast_self _ _) _).trans ?_
  exact block_ok _ _ _ _ (fun n => x0 (ix1 n)) 14 (by omega) _ (fun r d => head_28 _ _ _ _ _ _ (sink_28 c arg2 harg2 x0) r d)
    (fun r d => head_29 _ _ _ _ _ _ (sink_29 c arg2 harg2 x0) r d) r l
theorem stored_1_15 (c : Dev nD) (i : grid0.Coords) (arg2 : Memref sig .tc .smem S32 .f32) (harg2 : arg2.IsWhole) (arg3 : Memref sig .tc .vmem S1x256x2048 .bf16) (harg3 : arg3.IsWhole) (arg5 : Memref sig .tc .vmem S1x128x256 .f32) (harg5 : arg5.IsWhole) (arg6 : Memref sig .tc .vmem S1x256x256 .f32) (harg6 : arg6.IsWhole) (arg7 : Memref sig .tc .vmem S1x128x256 .f32) (harg7 : arg7.IsWhole) (arg8 : Memref sig .tc .vmem S1x256x256 .f32) (harg8 : arg8.IsWhole) (x0 : FVec Ideal S32 .f32) (x1 : FVec Ideal S1x256x2048 .bf16) (x3 : FVec Ideal S1x128x256 .f32) (x4 : FVec Ideal S1x256x256 .f32) (x5 : FVec Ideal S1x128x256 .f32) (x6 : FVec Ideal S1x256x256 .f32) (r l : Fin 128) : kernelRun0_A.sl.v1985 (F := Ideal) c arg2 harg2 arg3 harg3 arg6 harg6 arg8 harg8 x0 x1 x4 x6 (ix2 r l)
    = held c i arg2 harg2 arg3 harg3 arg5 harg5 arg6 harg6 arg7 harg7 arg8 harg8 x0 x1 x3 x4 x5 x6 (ix3 (⟨1, by omega⟩ : Fin 2) r (⟨1920 + l.val, by omega⟩ : Fin 2048)) := by
  rw [pay_1_15 c arg2 harg2 arg3 harg3 arg6 harg6 arg8 harg8 x0 x1 x4 x6]
  refine (congrFun (shapeCast_self _ _) _).trans ?_
  exact block_ok _ _ _ _ (fun n => x0 (ix1 n)) 15 (by omega) _ (fun r d => head_30 _ _ _ _ _ _ (sink_30 c arg2 harg2 x0) r d)
    (fun r d => head_31 _ _ _ _ _ _ (sink_31 c arg2 harg2 x0) r d) r l

/-- The stores leave the attention of both blocks. -/
theorem scratch_eq (c : Dev nD) (i : grid0.Coords) (arg2 : Memref sig .tc .smem S32 .f32) (harg2 : arg2.IsWhole) (arg3 : Memref sig .tc .vmem S1x256x2048 .bf16) (harg3 : arg3.IsWhole) (arg5 : Memref sig .tc .vmem S1x128x256 .f32) (harg5 : arg5.IsWhole) (arg6 : Memref sig .tc .vmem S1x256x256 .f32) (harg6 : arg6.IsWhole) (arg7 : Memref sig .tc .vmem S1x128x256 .f32) (harg7 : arg7.IsWhole) (arg8 : Memref sig .tc .vmem S1x256x256 .f32) (harg8 : arg8.IsWhole) (x0 : FVec Ideal S32 .f32) (x1 : FVec Ideal S1x256x2048 .bf16) (x3 : FVec Ideal S1x128x256 .f32) (x4 : FVec Ideal S1x256x256 .f32) (x5 : FVec Ideal S1x128x256 .f32) (x6 : FVec Ideal S1x256x256 .f32) (y : S2x128x2048.Idx) : View.canon (kernelRun0_A.sl.HS0_32 (F := Ideal) c i arg2 harg2 arg3 harg3 arg5 harg5 arg6 harg6 arg7 harg7 arg8 harg8 x0 x1 x3 x4 x5 x6) y = held c i arg2 harg2 arg3 harg3 arg5 harg5 arg6 harg6 arg7 harg7 arg8 harg8 x0 x1 x3 x4 x5 x6 y := by
  have h : View.PiecesOf (held c i arg2 harg2 arg3 harg3 arg5 harg5 arg6 harg6 arg7 harg7 arg8 harg8 x0 x1 x3 x4 x5 x6) (kernelRun0_A.sl.HS0_32 (F := Ideal) c i arg2 harg2 arg3 harg3 arg5 harg5 arg6 harg6 arg7 harg7 arg8 harg8 x0 x1 x3 x4 x5 x6) := by
    unfold kernelRun0_A.sl.HS0_32
    exact ⟨piece_ok 1 1920 _ _ inb_S2x128x2048_S1x128x2048_1_0_0 inb_S128x2048_S128x128_0_1920 rfl (fun a => by fin_cases a <;> rfl) (fun _ => rfl) _ (by omega) (by omega) (stored_1_15 c i arg2 harg2 arg3 harg3 arg5 harg5 arg6 harg6 arg7 harg7 arg8 harg8 x0 x1 x3 x4 x5 x6),
    piece_ok 1 1792 _ _ inb_S2x128x2048_S1x128x2048_1_0_0 inb_S128x2048_S128x128_0_1792 rfl (fun a => by fin_cases a <;> rfl) (fun _ => rfl) _ (by omega) (by omega) (stored_1_14 c i arg2 harg2 arg3 harg3 arg5 harg5 arg6 harg6 arg7 harg7 arg8 harg8 x0 x1 x3 x4 x5 x6),
    piece_ok 1 1664 _ _ inb_S2x128x2048_S1x128x2048_1_0_0 inb_S128x2048_S128x128_0_1664 rfl (fun a => by fin_cases a <;> rfl) (fun _ => rfl) _ (by omega) (by omega) (stored_1_13 c i arg2 harg2 arg3 harg3 arg5 harg5 arg6 harg6 arg7 harg7 arg8 harg8 x0 x1 x3 x4 x5 x6),
    piece_ok 1 1536 _ _ inb_S2x128x2048_S1x128x2048_1_0_0 inb_S128x2048_S128x128_0_1536 rfl (fun a => by fin_cases a <;> rfl) (fun _ => rfl) _ (by omega) (by omega) (stored_1_12 c i arg2 harg2 arg3 harg3 arg5 harg5 arg6 harg6 arg7 harg7 arg8 harg8 x0 x1 x3 x4 x5 x6),
    piece_ok 0 1920 _ _ inb_S2x128x2048_S1x128x2048_0_0_0 inb_S128x2048_S128x128_0_1920 rfl (fun a => by fin_cases a <;> rfl) (fun _ => rfl) _ (by omega) (by omega) (stored_0_15 c i arg2 harg2 arg3 harg3 arg5 harg5 arg6 harg6 arg7 harg7 arg8 harg8 x0 x1 x3 x4 x5 x6),
    piece_ok 0 1792 _ _ inb_S2x128x2048_S1x128x2048_0_0_0 inb_S128x2048_S128x128_0_1792 rfl (fun a => by fin_cases a <;> rfl) (fun _ => rfl) _ (by omega) (by omega) (stored_0_14 c i arg2 harg2 arg3 harg3 arg5 harg5 arg6 harg6 arg7 harg7 arg8 harg8 x0 x1 x3 x4 x5 x6),
    piece_ok 0 1664 _ _ inb_S2x128x2048_S1x128x2048_0_0_0 inb_S128x2048_S128x128_0_1664 rfl (fun a => by fin_cases a <;> rfl) (fun _ => rfl) _ (by omega) (by omega) (stored_0_13 c i arg2 harg2 arg3 harg3 arg5 harg5 arg6 harg6 arg7 harg7 arg8 harg8 x0 x1 x3 x4 x5 x6),
    piece_ok 0 1536 _ _ inb_S2x128x2048_S1x128x2048_0_0_0 inb_S128x2048_S128x128_0_1536 rfl (fun a => by fin_cases a <;> rfl) (fun _ => rfl) _ (by omega) (by omega) (stored_0_12 c i arg2 harg2 arg3 harg3 arg5 harg5 arg6 harg6 arg7 harg7 arg8 harg8 x0 x1 x3 x4 x5 x6),
    piece_ok 1 1408 _ _ inb_S2x128x2048_S1x128x2048_1_0_0 inb_S128x2048_S128x128_0_1408 rfl (fun a => by fin_cases a <;> rfl) (fun _ => rfl) _ (by omega) (by omega) (stored_1_11 c i arg2 harg2 arg3 harg3 arg5 harg5 arg6 harg6 arg7 harg7 arg8 harg8 x0 x1 x3 x4 x5 x6),
    piece_ok 1 1280 _ _ inb_S2x128x2048_S1x128x2048_1_0_0 inb_S128x2048_S128x128_0_1280 rfl (fun a => by fin_cases a <;> rfl) (fun _ => rfl) _ (by omega) (by omega) (stored_1_10 c i arg2 harg2 arg3 harg3 arg5 harg5 arg6 harg6 arg7 harg7 arg8 harg8 x0 x1 x3 x4 x5 x6),
    piece_ok 1 1152 _ _ inb_S2x128x2048_S1x128x2048_1_0_0 inb_S128x2048_S128x128_0_1152 rfl (fun a => by fin_cases a <;> rfl) (fun _ => rfl) _ (by omega) (by omega) (stored_1_9 c i arg2 harg2 arg3 harg3 arg5 harg5 arg6 harg6 arg7 harg7 arg8 harg8 x0 x1 x3 x4 x5 x6),
    piece_ok 1 1024 _ _ inb_S2x128x2048_S1x128x2048_1_0_0 inb_S128x2048_S128x128_0_1024 rfl (fun a => by fin_cases a <;> rfl) (fun _ => rfl) _ (by omega) (by omega) (stored_1_8 c i arg2 harg2 arg3 harg3 arg5 harg5 arg6 harg6 arg7 harg7 arg8 harg8 x0 x1 x3 x4 x5 x6),
    piece_ok 0 1408 _ _ inb_S2x128x2048_S1x128x2048_0_0_0 inb_S128x2048_S128x128_0_1408 rfl (fun a => by fin_cases a <;> rfl) (fun _ => rfl) _ (by omega) (by omega) (stored_0_11 c i arg2 harg2 arg3 harg3 arg5 harg5 arg6 harg6 arg7 harg7 arg8 harg8 x0 x1 x3 x4 x5 x6),
    piece_ok 0 1280 _ _ inb_S2x128x2048_S1x128x2048_0_0_0 inb_S128x2048_S128x128_0_1280 rfl (fun a => by fin_cases a <;> rfl) (fun _ => rfl) _ (by omega) (by omega) (stored_0_10 c i arg2 harg2 arg3 harg3 arg5 harg5 arg6 harg6 arg7 harg7 arg8 harg8 x0 x1 x3 x4 x5 x6),
    piece_ok 0 1152 _ _ inb_S2x128x2048_S1x128x2048_0_0_0 inb_S128x2048_S128x128_0_1152 rfl (fun a => by fin_cases a <;> rfl) (fun _ => rfl) _ (by omega) (by omega) (stored_0_9 c i arg2 harg2 arg3 harg3 arg5 harg5 arg6 harg6 arg7 harg7 arg8 harg8 x0 x1 x3 x4 x5 x6),
    piece_ok 0 1024 _ _ inb_S2x128x2048_S1x128x2048_0_0_0 inb_S128x2048_S128x128_0_1024 rfl (fun a => by fin_cases a <;> rfl) (fun _ => rfl) _ (by omega) (by omega) (stored_0_8 c i arg2 harg2 arg3 harg3 arg5 harg5 arg6 harg6 arg7 harg7 arg8 harg8 x0 x1 x3 x4 x5 x6),
    piece_ok 1 896 _ _ inb_S2x128x2048_S1x128x2048_1_0_0 inb_S128x2048_S128x128_0_896 rfl (fun a => by fin_cases a <;> rfl) (fun _ => rfl) _ (by omega) (by omega) (stored_1_7 c i arg2 harg2 arg3 harg3 arg5 harg5 arg6 harg6 arg7 harg7 arg8 harg8 x0 x1 x3 x4 x5 x6),
    piece_ok 1 768 _ _ inb_S2x128x2048_S1x128x2048_1_0_0 inb_S128x2048_S128x128_0_768 rfl (fun a => by fin_cases a <;> rfl) (fun _ => rfl) _ (by omega) (by omega) (stored_1_6 c i arg2 harg2 arg3 harg3 arg5 harg5 arg6 harg6 arg7 harg7 arg8 harg8 x0 x1 x3 x4 x5 x6),
    piece_ok 1 640 _ _ inb_S2x128x2048_S1x128x2048_1_0_0 inb_S128x2048_S128x128_0_640 rfl (fun a => by fin_cases a <;> rfl) (fun _ => rfl) _ (by omega) (by omega) (stored_1_5 c i arg2 harg2 arg3 harg3 arg5 harg5 arg6 harg6 arg7 harg7 arg8 harg8 x0 x1 x3 x4 x5 x6),
    piece_ok 1 512 _ _ inb_S2x128x2048_S1x128x2048_1_0_0 inb_S128x2048_S128x128_0_512 rfl (fun a => by fin_cases a <;> rfl) (fun _ => rfl) _ (by omega) (by omega) (stored_1_4 c i arg2 harg2 arg3 harg3 arg5 harg5 arg6 harg6 arg7 harg7 arg8 harg8 x0 x1 x3 x4 x5 x6),
    piece_ok 0 896 _ _ inb_S2x128x2048_S1x128x2048_0_0_0 inb_S128x2048_S128x128_0_896 rfl (fun a => by fin_cases a <;> rfl) (fun _ => rfl) _ (by omega) (by omega) (stored_0_7 c i arg2 harg2 arg3 harg3 arg5 harg5 arg6 harg6 arg7 harg7 arg8 harg8 x0 x1 x3 x4 x5 x6),
    piece_ok 0 768 _ _ inb_S2x128x2048_S1x128x2048_0_0_0 inb_S128x2048_S128x128_0_768 rfl (fun a => by fin_cases a <;> rfl) (fun _ => rfl) _ (by omega) (by omega) (stored_0_6 c i arg2 harg2 arg3 harg3 arg5 harg5 arg6 harg6 arg7 harg7 arg8 harg8 x0 x1 x3 x4 x5 x6),
    piece_ok 0 640 _ _ inb_S2x128x2048_S1x128x2048_0_0_0 inb_S128x2048_S128x128_0_640 rfl (fun a => by fin_cases a <;> rfl) (fun _ => rfl) _ (by omega) (by omega) (stored_0_5 c i arg2 harg2 arg3 harg3 arg5 harg5 arg6 harg6 arg7 harg7 arg8 harg8 x0 x1 x3 x4 x5 x6),
    piece_ok 0 512 _ _ inb_S2x128x2048_S1x128x2048_0_0_0 inb_S128x2048_S128x128_0_512 rfl (fun a => by fin_cases a <;> rfl) (fun _ => rfl) _ (by omega) (by omega) (stored_0_4 c i arg2 harg2 arg3 harg3 arg5 harg5 arg6 harg6 arg7 harg7 arg8 harg8 x0 x1 x3 x4 x5 x6),
    piece_ok 1 384 _ _ inb_S2x128x2048_S1x128x2048_1_0_0 inb_S128x2048_S128x128_0_384 rfl (fun a => by fin_cases a <;> rfl) (fun _ => rfl) _ (by omega) (by omega) (stored_1_3 c i arg2 harg2 arg3 harg3 arg5 harg5 arg6 harg6 arg7 harg7 arg8 harg8 x0 x1 x3 x4 x5 x6),
    piece_ok 1 256 _ _ inb_S2x128x2048_S1x128x2048_1_0_0 inb_S128x2048_S128x128_0_256 rfl (fun a => by fin_cases a <;> rfl) (fun _ => rfl) _ (by omega) (by omega) (stored_1_2 c i arg2 harg2 arg3 harg3 arg5 harg5 arg6 harg6 arg7 harg7 arg8 harg8 x0 x1 x3 x4 x5 x6),
    piece_ok 1 128 _ _ inb_S2x128x2048_S1x128x2048_1_0_0 inb_S128x2048_S128x128_0_128 rfl (fun a => by fin_cases a <;> rfl) (fun _ => rfl) _ (by omega) (by omega) (stored_1_1 c i arg2 harg2 arg3 harg3 arg5 harg5 arg6 harg6 arg7 harg7 arg8 harg8 x0 x1 x3 x4 x5 x6),
    piece_ok 1 0 _ _ inb_S2x128x2048_S1x128x2048_1_0_0 inb_S128x2048_S128x128_0_0 rfl (fun a => by fin_cases a <;> rfl) (fun _ => rfl) _ (by omega) (by omega) (stored_1_0 c i arg2 harg2 arg3 harg3 arg5 harg5 arg6 harg6 arg7 harg7 arg8 harg8 x0 x1 x3 x4 x5 x6),
    piece_ok 0 384 _ _ inb_S2x128x2048_S1x128x2048_0_0_0 inb_S128x2048_S128x128_0_384 rfl (fun a => by fin_cases a <;> rfl) (fun _ => rfl) _ (by omega) (by omega) (stored_0_3 c i arg2 harg2 arg3 harg3 arg5 harg5 arg6 harg6 arg7 harg7 arg8 harg8 x0 x1 x3 x4 x5 x6),
    piece_ok 0 256 _ _ inb_S2x128x2048_S1x128x2048_0_0_0 inb_S128x2048_S128x128_0_256 rfl (fun a => by fin_cases a <;> rfl) (fun _ => rfl) _ (by omega) (by omega) (stored_0_2 c i arg2 harg2 arg3 harg3 arg5 harg5 arg6 harg6 arg7 harg7 arg8 harg8 x0 x1 x3 x4 x5 x6),
    piece_ok 0 128 _ _ inb_S2x128x2048_S1x128x2048_0_0_0 inb_S128x2048_S128x128_0_128 rfl (fun a => by fin_cases a <;> rfl) (fun _ => rfl) _ (by omega) (by omega) (stored_0_1 c i arg2 harg2 arg3 harg3 arg5 harg5 arg6 harg6 arg7 harg7 arg8 harg8 x0 x1 x3 x4 x5 x6),
    piece_ok 0 0 _ _ inb_S2x128x2048_S1x128x2048_0_0_0 inb_S128x2048_S128x128_0_0 rfl (fun a => by fin_cases a <;> rfl) (fun _ => rfl) _ (by omega) (by omega) (stored_0_0 c i arg2 harg2 arg3 harg3 arg5 harg5 arg6 harg6 arg7 harg7 arg8 harg8 x0 x1 x3 x4 x5 x6), trivial⟩
  have e := View.canon_append_of_piecesOf (held c i arg2 harg2 arg3 harg3 arg5 harg5 arg6 harg6 arg7 harg7 arg8 harg8 x0 x1 x3 x4 x5 x6) [] (kernelRun0_A.sl.HS0_32 (F := Ideal) c i arg2 harg2 arg3 harg3 arg5 harg5 arg6 harg6 arg7 harg7 arg8 harg8 x0 x1 x3 x4 x5 x6) h y ?_
  · rwa [List.append_nil] at e
  have hy : (y 0).val < 2 := (y 0).isLt
  have h2 : (y 2).val < 2048 := (y 2).isLt
  obtain ⟨n, hn⟩ : ∃ n, n = (y 2).val / 128 := ⟨_, rfl⟩
  obtain ⟨s, hs⟩ : ∃ s, s = (y 0).val := ⟨_, rfl⟩
  unfold kernelRun0_A.sl.HS0_32
  have hn16 : n < 16 := by omega
  have hs2 : s < 2 := by omega
  interval_cases s <;> interval_cases n
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))), piece_mem 0 0 inb_S2x128x2048_S1x128x2048_0_0_0 inb_S128x2048_S128x128_0_0 rfl (fun a => by fin_cases a <;> rfl) (fun _ => rfl) y hs.symm (by omega) (by omega)⟩
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))), piece_mem 0 128 inb_S2x128x2048_S1x128x2048_0_0_0 inb_S128x2048_S128x128_0_128 rfl (fun a => by fin_cases a <;> rfl) (fun _ => rfl) y hs.symm (by omega) (by omega)⟩
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))), piece_mem 0 256 inb_S2x128x2048_S1x128x2048_0_0_0 inb_S128x2048_S128x128_0_256 rfl (fun a => by fin_cases a <;> rfl) (fun _ => rfl) y hs.symm (by omega) (by omega)⟩
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))), piece_mem 0 384 inb_S2x128x2048_S1x128x2048_0_0_0 inb_S128x2048_S128x128_0_384 rfl (fun a => by fin_cases a <;> rfl) (fun _ => rfl) y hs.symm (by omega) (by omega)⟩
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))), piece_mem 0 512 inb_S2x128x2048_S1x128x2048_0_0_0 inb_S128x2048_S128x128_0_512 rfl (fun a => by fin_cases a <;> rfl) (fun _ => rfl) y hs.symm (by omega) (by omega)⟩
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))), piece_mem 0 640 inb_S2x128x2048_S1x128x2048_0_0_0 inb_S128x2048_S128x128_0_640 rfl (fun a => by fin_cases a <;> rfl) (fun _ => rfl) y hs.symm (by omega) (by omega)⟩
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))), piece_mem 0 768 inb_S2x128x2048_S1x128x2048_0_0_0 inb_S128x2048_S128x128_0_768 rfl (fun a => by fin_cases a <;> rfl) (fun _ => rfl) y hs.symm (by omega) (by omega)⟩
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))), piece_mem 0 896 inb_S2x128x2048_S1x128x2048_0_0_0 inb_S128x2048_S128x128_0_896 rfl (fun a => by fin_cases a <;> rfl) (fun _ => rfl) y hs.symm (by omega) (by omega)⟩
  · exact ⟨_, .tail _ (.tail _ (.tail _ (.tail _ (.tail _ (.tail _ (.tail _ (.tail _ (.tail _ (.tail _ (.tail _ (.tail _ (.tail _ (.tail _ (.tail _ (.head _))))))))))))))), piece_mem 0 1024 inb_S2x128x2048_S1x128x2048_0_0_0 inb_S128x2048_S128x128_0_1024 rfl (fun a => by fin_cases a <;> rfl) (fun _ => rfl) y hs.symm (by omega) (by omega)⟩
  · exact ⟨_, .tail _ (.tail _ (.tail _ (.tail _ (.tail _ (.tail _ (.tail _ (.tail _ (.tail _ (.tail _ (.tail _ (.tail _ (.tail _ (.tail _ (.head _)))))))))))))), piece_mem 0 1152 inb_S2x128x2048_S1x128x2048_0_0_0 inb_S128x2048_S128x128_0_1152 rfl (fun a => by fin_cases a <;> rfl) (fun _ => rfl) y hs.symm (by omega) (by omega)⟩
  · exact ⟨_, .tail _ (.tail _ (.tail _ (.tail _ (.tail _ (.tail _ (.tail _ (.tail _ (.tail _ (.tail _ (.tail _ (.tail _ (.tail _ (.head _))))))))))))), piece_mem 0 1280 inb_S2x128x2048_S1x128x2048_0_0_0 inb_S128x2048_S128x128_0_1280 rfl (fun a => by fin_cases a <;> rfl) (fun _ => rfl) y hs.symm (by omega) (by omega)⟩
  · exact ⟨_, .tail _ (.tail _ (.tail _ (.tail _ (.tail _ (.tail _ (.tail _ (.tail _ (.tail _ (.tail _ (.tail _ (.tail _ (.head _)))))))))))), piece_mem 0 1408 inb_S2x128x2048_S1x128x2048_0_0_0 inb_S128x2048_S128x128_0_1408 rfl (fun a => by fin_cases a <;> rfl) (fun _ => rfl) y hs.symm (by omega) (by omega)⟩
  · exact ⟨_, .tail _ (.tail _ (.tail _ (.tail _ (.tail _ (.tail _ (.tail _ (.head _))))))), piece_mem 0 1536 inb_S2x128x2048_S1x128x2048_0_0_0 inb_S128x2048_S128x128_0_1536 rfl (fun a => by fin_cases a <;> rfl) (fun _ => rfl) y hs.symm (by omega) (by omega)⟩
  · exact ⟨_, .tail _ (.tail _ (.tail _ (.tail _ (.tail _ (.tail _ (.head _)))))), piece_mem 0 1664 inb_S2x128x2048_S1x128x2048_0_0_0 inb_S128x2048_S128x128_0_1664 rfl (fun a => by fin_cases a <;> rfl) (fun _ => rfl) y hs.symm (by omega) (by omega)⟩
  · exact ⟨_, .tail _ (.tail _ (.tail _ (.tail _ (.tail _ (.head _))))), piece_mem 0 1792 inb_S2x128x2048_S1x128x2048_0_0_0 inb_S128x2048_S128x128_0_1792 rfl (fun a => by fin_cases a <;> rfl) (fun _ => rfl) y hs.symm (by omega) (by omega)⟩
  · exact ⟨_, .tail _ (.tail _ (.tail _ (.tail _ (.head _)))), piece_mem 0 1920 inb_S2x128x2048_S1x128x2048_0_0_0 inb_S128x2048_S128x128_0_1920 rfl (fun a => by fin_cases a <;> rfl) (fun _ => rfl) y hs.symm (by omega) (by omega)⟩
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))), piece_mem 1 0 inb_S2x128x2048_S1x128x2048_1_0_0 inb_S128x2048_S128x128_0_0 rfl (fun a => by fin_cases a <;> rfl) (fun _ => rfl) y hs.symm (by omega) (by omega)⟩
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))), piece_mem 1 128 inb_S2x128x2048_S1x128x2048_1_0_0 inb_S128x2048_S128x128_0_128 rfl (fun a => by fin_cases a <;> rfl) (fun _ => rfl) y hs.symm (by omega) (by omega)⟩
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))), piece_mem 1 256 inb_S2x128x2048_S1x128x2048_1_0_0 inb_S128x2048_S128x128_0_256 rfl (fun a => by fin_cases a <;> rfl) (fun _ => rfl) y hs.symm (by omega) (by omega)⟩
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))), piece_mem 1 384 inb_S2x128x2048_S1x128x2048_1_0_0 inb_S128x2048_S128x128_0_384 rfl (fun a => by fin_cases a <;> rfl) (fun _ => rfl) y hs.symm (by omega) (by omega)⟩
  · exact ⟨_, .tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))), piece_mem 1 512 inb_S2x128x2048_S1x128x2048_1_0_0 inb_S128x2048_S128x128_0_512 rfl (fun a => by fin_cases a <;> rfl) (fun _ => rfl) y hs.symm (by omega) (by omega)⟩
  · exact ⟨_, .tail _ (.tail _ (.tail _ (.tail _ (.tail _ (.tail _ (.tail _ (.tail _ (.tail _ (.tail _ (.tail _ (.tail _ (.tail _ (.tail _ (.tail _ (.tail _ (.tail _ (.tail _ (.head _)))))))))))))))))), piece_mem 1 640 inb_S2x128x2048_S1x128x2048_1_0_0 inb_S128x2048_S128x128_0_640 rfl (fun a => by fin_cases a <;> rfl) (fun _ => rfl) y hs.symm (by omega) (by omega)⟩
  · exact ⟨_, .tail _ (.tail _ (.tail _ (.tail _ (.tail _ (.tail _ (.tail _ (.tail _ (.tail _ (.tail _ (.tail _ (.tail _ (.tail _ (.tail _ (.tail _ (.tail _ (.tail _ (.head _))))))))))))))))), piece_mem 1 768 inb_S2x128x2048_S1x128x2048_1_0_0 inb_S128x2048_S128x128_0_768 rfl (fun a => by fin_cases a <;> rfl) (fun _ => rfl) y hs.symm (by omega) (by omega)⟩
  · exact ⟨_, .tail _ (.tail _ (.tail _ (.tail _ (.tail _ (.tail _ (.tail _ (.tail _ (.tail _ (.tail _ (.tail _ (.tail _ (.tail _ (.tail _ (.tail _ (.tail _ (.head _)))))))))))))))), piece_mem 1 896 inb_S2x128x2048_S1x128x2048_1_0_0 inb_S128x2048_S128x128_0_896 rfl (fun a => by fin_cases a <;> rfl) (fun _ => rfl) y hs.symm (by omega) (by omega)⟩
  · exact ⟨_, .tail _ (.tail _ (.tail _ (.tail _ (.tail _ (.tail _ (.tail _ (.tail _ (.tail _ (.tail _ (.tail _ (.head _))))))))))), piece_mem 1 1024 inb_S2x128x2048_S1x128x2048_1_0_0 inb_S128x2048_S128x128_0_1024 rfl (fun a => by fin_cases a <;> rfl) (fun _ => rfl) y hs.symm (by omega) (by omega)⟩
  · exact ⟨_, .tail _ (.tail _ (.tail _ (.tail _ (.tail _ (.tail _ (.tail _ (.tail _ (.tail _ (.tail _ (.head _)))))))))), piece_mem 1 1152 inb_S2x128x2048_S1x128x2048_1_0_0 inb_S128x2048_S128x128_0_1152 rfl (fun a => by fin_cases a <;> rfl) (fun _ => rfl) y hs.symm (by omega) (by omega)⟩
  · exact ⟨_, .tail _ (.tail _ (.tail _ (.tail _ (.tail _ (.tail _ (.tail _ (.tail _ (.tail _ (.head _))))))))), piece_mem 1 1280 inb_S2x128x2048_S1x128x2048_1_0_0 inb_S128x2048_S128x128_0_1280 rfl (fun a => by fin_cases a <;> rfl) (fun _ => rfl) y hs.symm (by omega) (by omega)⟩
  · exact ⟨_, .tail _ (.tail _ (.tail _ (.tail _ (.tail _ (.tail _ (.tail _ (.tail _ (.head _)))))))), piece_mem 1 1408 inb_S2x128x2048_S1x128x2048_1_0_0 inb_S128x2048_S128x128_0_1408 rfl (fun a => by fin_cases a <;> rfl) (fun _ => rfl) y hs.symm (by omega) (by omega)⟩
  · exact ⟨_, .tail _ (.tail _ (.tail _ (.head _))), piece_mem 1 1536 inb_S2x128x2048_S1x128x2048_1_0_0 inb_S128x2048_S128x128_0_1536 rfl (fun a => by fin_cases a <;> rfl) (fun _ => rfl) y hs.symm (by omega) (by omega)⟩
  · exact ⟨_, .tail _ (.tail _ (.head _)), piece_mem 1 1664 inb_S2x128x2048_S1x128x2048_1_0_0 inb_S128x2048_S128x128_0_1664 rfl (fun a => by fin_cases a <;> rfl) (fun _ => rfl) y hs.symm (by omega) (by omega)⟩
  · exact ⟨_, .tail _ (.head _), piece_mem 1 1792 inb_S2x128x2048_S1x128x2048_1_0_0 inb_S128x2048_S128x128_0_1792 rfl (fun a => by fin_cases a <;> rfl) (fun _ => rfl) y hs.symm (by omega) (by omega)⟩
  · exact ⟨_, .head _, piece_mem 1 1920 inb_S2x128x2048_S1x128x2048_1_0_0 inb_S128x2048_S128x128_0_1920 rfl (fun a => by fin_cases a <;> rfl) (fun _ => rfl) y hs.symm (by omega) (by omega)⟩

end Cert.KernelIdeal.Attend

end
-- ==== Proof.OutVals.lean ====
/- What the body leaves in each output block, at an index: the projections' contractions and the gated, normed attention. -/
module

public import proofs.«01_k».proof.Proof.Outs
public import proofs.«01_k».proof.Proof.Scratch

@[expose] public section

set_option maxRecDepth 16384

noncomputable section

namespace Cert.KernelIdeal.Attend

open Cert.KernelIdeal Cert.KernelIdeal.Gen Idealize.ShloMosaic Idealize.ShloMosaic.Tactic

def half : EReal := Ideal.ofBits .f32 0x3F000000#32
def width : EReal := Ideal.ofBits .f32 0x45000000#32
def eps : EReal := Ideal.ofBits .f32 0x358637BD#32

/-- A row's attention times its gate. -/
def rowGated (o g : Fin 2048 → EReal) (n : Fin 2048) : EReal := o n * (half * g n + half * g n * Ideal.tanh (half * g n))

/-- The same, normed over the row and scaled. -/
def rowNormed (o g w : Fin 2048 → EReal) (n : Fin 2048) : EReal :=
  rowGated o g n * Ideal.rsqrt (Ideal.div (∑ m : Fin 2048, rowGated o g m * rowGated o g m) width + eps) * w n

theorem silued_at (o : FVec Ideal S1x128x2048 .f32) (g : FVec Ideal S1x128x2048 .bf16) (r : Fin 128) (n : Fin 2048) :
    silued o g (ix2 r n) = rowGated (fun m => o (ix3 0 r m)) (fun m => g (ix3 0 r m)) n := by
  pointwise [silued, halfGate]
  rfl

theorem gated_at (o : FVec Ideal S1x128x2048 .f32) (g : FVec Ideal S1x128x2048 .bf16) (w : FVec Ideal S1x2048 .f32) (r : Fin 128) (n : Fin 2048) :
    gated o g w (ix3 0 r n) = rowNormed (fun m => o (ix3 0 r m)) (fun m => g (ix3 0 r m)) (fun m => w (ix2 0 m)) n := by
  pointwise [gated]
  simp only [silued_at]
  rfl

theorem slabZ_at (h : FVec Ideal S1x256x2048 .bf16) (w : FVec Ideal S2048x256 .bf16) (r n : Fin 256) :
    slabZ (hrows h) w (ix3 0 r n) = ∑ l : Fin 2048, h (ix3 0 r l) * w (ix2 l n) := by
  pointwise [slabZ, product, hrows]

theorem slab_at (h : FVec Ideal S1x256x2048 .bf16) (w : FVec Ideal S2048x256 .bf16) (r n : Fin 256) :
    slab (hrows h) w (ix3 0 r n) = ∑ l : Fin 2048, h (ix3 0 r l) * w (ix2 l n) := by
  pointwise [slab, product, hrows]

theorem slabDt_at (h : FVec Ideal S1x256x2048 .bf16) (w : FVec Ideal S2048x128 .bf16) (r : Fin 256) (n : Fin 128) :
    slabDt (hrows h) w (ix3 0 r n) = ∑ l : Fin 2048, h (ix3 0 r l) * w (ix2 l n) := by
  pointwise [slabDt, hrows]

/-- The gate `z`'s block, of the rows and the weights. -/
def zOf (x8 : FVec Ideal S1x256x2048 .bf16) (x9 : FVec Ideal S2048x4608 .bf16) : FVec Ideal S1x256x2048 .bf16 := fun y =>
  ∑ l : Fin 2048, x8 (ix3 0 (y 1) l) * x9 (ix2 l (⟨(y 2).val, by have : (y 2).val < 2048 := (y 2).isLt; omega⟩ : Fin 4608))

/-- The weights behind the convolution's inputs: the last columns of the block, then the first of the tail. -/
def xbcCol (x9 : FVec Ideal S2048x4608 .bf16) (x10 : FVec Ideal S2048x640 .bf16) (l : Fin 2048) (n : Fin 3072) : EReal :=
  if h : n.val < 2560 then x9 (ix2 l (⟨2048 + n.val, by omega⟩ : Fin 4608)) else x10 (ix2 l (⟨n.val - 2560, by omega⟩ : Fin 640))

def xbcOf (x8 : FVec Ideal S1x256x2048 .bf16) (x9 : FVec Ideal S2048x4608 .bf16) (x10 : FVec Ideal S2048x640 .bf16) : FVec Ideal S1x256x3072 .f32 := fun y =>
  ∑ l : Fin 2048, x8 (ix3 0 (y 1) l) * xbcCol x9 x10 l (y 2)

def dtOf (x8 : FVec Ideal S1x256x2048 .bf16) (x10 : FVec Ideal S2048x640 .bf16) : FVec Ideal S1x256x128 .f32 := fun y =>
  ∑ l : Fin 2048, x8 (ix3 0 (y 1) l) * x10 (ix2 l (⟨512 + (y 2).val, by have : (y 2).val < 128 := (y 2).isLt; omega⟩ : Fin 640))

/-- The attention's block. -/
def attnOf (o : FVec Ideal S2x128x2048 .f32) (x2 : FVec Ideal S1x256x2048 .bf16) (x7 : FVec Ideal S1x2048 .f32) : FVec Ideal S1x256x2048 .bf16 := fun y =>
  rowNormed (fun m => o (ix3 (⟨(y 1).val / 128, by have : (y 1).val < 256 := (y 1).isLt; omega⟩ : Fin 2) (⟨(y 1).val % 128, by omega⟩ : Fin 128) m))
    (fun m => x2 (ix3 0 (y 1) m)) (fun m => x7 (ix2 0 m)) (y 2)

theorem idx_unit (n : ℕ) (m : ℕ) (x : (⟨3, ![1, n, m]⟩ : Shape).Idx) : x = ix3 (0 : Fin 1) (x 1 : Fin n) (x 2 : Fin m) := by
  funext a
  fin_cases a
  · exact Fin.ext (by have : (x 0).val < 1 := (x 0).isLt; show (x 0).val = 0; omega)
  · rfl
  · rfl

theorem canon_pieces {S : Shape} {e : EltTy} (G : S.Idx → Elt Ideal e) (L : List (View.Piece (Elt Ideal) S e)) (y : S.Idx) (h : View.PiecesOf G L)
    (hc : ∃ p ∈ L, y ∈ p.1.set) : View.canon L y = G y := by
  have e := View.canon_append_of_piecesOf G [] L h y hc
  rwa [List.append_nil] at e

theorem z_ok (o : ℕ) (inb) (x8 : FVec Ideal S1x256x2048 .bf16) (x9 : FVec Ideal S2048x4608 .bf16) (h : FVec Ideal S1x256x2048 .bf16) (w : FVec Ideal S2048x256 .bf16)
    (hh : ∀ r l, h (ix3 0 r l) = x8 (ix3 0 r l)) (ho : o + 256 ≤ 2048)
    (hw : ∀ l (n : Fin 256), w (ix2 l n) = x9 (ix2 l (⟨o + n.val, by omega⟩ : Fin 4608))) :
    ∀ x, slabZ (hrows h) w x = zOf x8 x9 ((Rect.unit (s := S1x256x2048) ![0, 0, o] S1x256x256.size inb).emb x) := by
  intro x
  obtain ⟨r, n, rfl⟩ : ∃ (r n : Fin 256), x = ix3 0 r n := ⟨_, _, idx_unit _ _ x⟩
  rw [slabZ_at]
  refine Finset.sum_congr rfl fun l _ => ?_
  rw [hh, hw]
  exact congrArg₂ (fun a b => x8 (ix3 0 a l) * x9 (ix2 l b)) (Fin.ext (by show r.val = 0 + 1 * r.val; omega)) (Fin.ext (by show o + n.val = o + 1 * n.val; omega))

theorem xbc_ok (o : ℕ) (inb) (x8 : FVec Ideal S1x256x2048 .bf16) (x9 : FVec Ideal S2048x4608 .bf16) (x10 : FVec Ideal S2048x640 .bf16)
    (h : FVec Ideal S1x256x2048 .bf16) (w : FVec Ideal S2048x256 .bf16)
    (hh : ∀ r l, h (ix3 0 r l) = x8 (ix3 0 r l)) (ho : o + 256 ≤ 3072)
    (hw : ∀ l (n : Fin 256), w (ix2 l n) = xbcCol x9 x10 l (⟨o + n.val, by omega⟩ : Fin 3072)) :
    ∀ x, slab (hrows h) w x = xbcOf x8 x9 x10 ((Rect.unit (s := S1x256x3072) ![0, 0, o] S1x256x256.size inb).emb x) := by
  intro x
  obtain ⟨r, n, rfl⟩ : ∃ (r n : Fin 256), x = ix3 0 r n := ⟨_, _, idx_unit _ _ x⟩
  rw [slab_at]
  refine Finset.sum_congr rfl fun l _ => ?_
  rw [hh, hw]
  exact congrArg₂ (fun a b => x8 (ix3 0 a l) * xbcCol x9 x10 l b) (Fin.ext (by show r.val = 0 + 1 * r.val; omega)) (Fin.ext (by show o + n.val = o + 1 * n.val; omega))

theorem dt_ok (inb) (x8 : FVec Ideal S1x256x2048 .bf16) (x10 : FVec Ideal S2048x640 .bf16) (h : FVec Ideal S1x256x2048 .bf16) (w : FVec Ideal S2048x128 .bf16)
    (hh : ∀ r l, h (ix3 0 r l) = x8 (ix3 0 r l))
    (hw : ∀ l (n : Fin 128), w (ix2 l n) = x10 (ix2 l (⟨512 + n.val, by omega⟩ : Fin 640))) :
    ∀ x, slabDt (hrows h) w x = dtOf x8 x10 ((Rect.unit (s := S1x256x128) ![0, 0, 0] S1x256x128.size inb).emb x) := by
  intro x
  obtain ⟨r, n, rfl⟩ : ∃ (r : Fin 256) (n : Fin 128), x = ix3 0 r n := ⟨_, _, idx_unit _ _ x⟩
  rw [slabDt_at]
  refine Finset.sum_congr rfl fun l _ => ?_
  rw [hh, hw]
  exact congrArg₂ (fun a b => x8 (ix3 0 a l) * x10 (ix2 l b)) (Fin.ext (by show r.val = 0 + 1 * r.val; omega)) (Fin.ext (by show 512 + n.val = 512 + (0 + 1 * n.val); omega))

theorem attn_ok (s : ℕ) (hs : s < 2) (inb) (G : FVec Ideal S2x128x2048 .f32) (x2 : FVec Ideal S1x256x2048 .bf16) (x7 : FVec Ideal S1x2048 .f32)
    (o : FVec Ideal S1x128x2048 .f32) (g : FVec Ideal S1x128x2048 .bf16) (w : FVec Ideal S1x2048 .f32)
    (ho : ∀ r m, o (ix3 0 r m) = G (ix3 (⟨s, hs⟩ : Fin 2) r m)) (hg : ∀ (r : Fin 128) m, g (ix3 0 r m) = x2 (ix3 0 (⟨128 * s + r.val, by omega⟩ : Fin 256) m))
    (hw : ∀ m, w (ix2 0 m) = x7 (ix2 0 m)) :
    ∀ x, gated o g w x = attnOf G x2 x7 ((Rect.unit (s := S1x256x2048) ![0, 128 * s, 0] S1x128x2048.size inb).emb x) := by
  intro x
  obtain ⟨r, n, rfl⟩ : ∃ (r : Fin 128) (n : Fin 2048), x = ix3 0 r n := ⟨_, _, idx_unit _ _ x⟩
  rw [gated_at]
  simp only [ho, hg, hw]
  have e : ∀ (a b : Fin 256) (p q : Fin 2048), a = b → p = q → rowNormed (fun m => G (ix3 (⟨a.val / 128, by omega⟩ : Fin 2) (⟨a.val % 128, by omega⟩ : Fin 128) m))
      (fun m => x2 (ix3 0 a m)) (fun m => x7 (ix2 0 m)) p = rowNormed (fun m => G (ix3 (⟨b.val / 128, by omega⟩ : Fin 2) (⟨b.val % 128, by omega⟩ : Fin 128) m))
      (fun m => x2 (ix3 0 b m)) (fun m => x7 (ix2 0 m)) q := fun a b p q ha hp => by rw [ha, hp]
  refine Eq.trans ?_ (e (⟨128 * s + r.val, by omega⟩ : Fin 256) _ n _ (Fin.ext ?_) (Fin.ext ?_))
  · refine congrArg (fun z => rowNormed z _ _ n) (funext fun m => congrArg₂ (fun a b => G (ix3 a b m)) (Fin.ext ?_) (Fin.ext ?_))
    · show s = (128 * s + r.val) / 128
      omega
    · show r.val = (128 * s + r.val) % 128
      omega
  · show 128 * s + r.val = 128 * s + 1 * r.val
    omega
  · show n.val = 0 + 1 * n.val
    omega

theorem outv12 (c : Dev nD) (i : grid0.Coords)
  (arg2 : Memref sig .tc .smem S32 .f32) (harg2 : arg2.IsWhole)
  (arg3 : Memref sig .tc .vmem S1x256x2048 .bf16) (harg3 : arg3.IsWhole)
  (arg4 : Memref sig .tc .vmem S1x256x2048 .bf16) (harg4 : arg4.IsWhole)
  (arg5 : Memref sig .tc .vmem S1x128x256 .f32) (harg5 : arg5.IsWhole)
  (arg6 : Memref sig .tc .vmem S1x256x256 .f32) (harg6 : arg6.IsWhole)
  (arg7 : Memref sig .tc .vmem S1x128x256 .f32) (harg7 : arg7.IsWhole)
  (arg8 : Memref sig .tc .vmem S1x256x256 .f32) (harg8 : arg8.IsWhole)
  (arg9 : Memref sig .tc .vmem S1x2048 .f32) (harg9 : arg9.IsWhole)
  (arg10 : Memref sig .tc .vmem S1x256x2048 .bf16) (harg10 : arg10.IsWhole)
  (arg11 : Memref sig .tc .vmem S2048x4608 .bf16) (harg11 : arg11.IsWhole)
  (arg12 : Memref sig .tc .vmem S2048x640 .bf16) (harg12 : arg12.IsWhole)
  (arg13 : Memref sig .tc .vmem S1x256x2048 .bf16) (harg13 : arg13.IsWhole)
  (arg14 : Memref sig .tc .vmem S1x256x2048 .bf16) (harg14 : arg14.IsWhole)
  (arg15 : Memref sig .tc .vmem S1x256x3072 .f32) (harg15 : arg15.IsWhole)
  (arg16 : Memref sig .tc .vmem S1x256x128 .f32) (harg16 : arg16.IsWhole)
  (arg17 : Memref sig .tc .vmem S2x128x2048 .f32) (harg17 : arg17.IsWhole)
  (x0 : FVec Ideal S32 .f32)  (x1 : FVec Ideal S1x256x2048 .bf16)  (x2 : FVec Ideal S1x256x2048 .bf16)  (x3 : FVec Ideal S1x128x256 .f32)  (x4 : FVec Ideal S1x256x256 .f32)  (x5 : FVec Ideal S1x128x256 .f32)  (x6 : FVec Ideal S1x256x256 .f32)  (x7 : FVec Ideal S1x2048 .f32)  (x8 : FVec Ideal S1x256x2048 .bf16)  (x9 : FVec Ideal S2048x4608 .bf16)  (x10 : FVec Ideal S2048x640 .bf16) (y : S1x256x2048.Idx) :
    out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 y = zOf x8 x9 y := by
  rw [out12]
  refine canon_pieces (e := .bf16) (zOf x8 x9) _ y ?_ ?_
  · exact ⟨z_ok 1792 inb_S1x256x2048_S1x256x256_0_0_1792 x8 x9 _ _ (fun r l => by
      refine (harg10.readAt_unread (Val := Elt Ideal) x8 _ _).trans (congrArg x8 (funext fun a => Fin.ext ?_))
      fin_cases a
      · rfl
      · show 0 + 1 * r.val = r.val; omega
      · show 0 + 1 * l.val = l.val; omega) (by omega) (fun l n => by
      refine (harg11.readAt_unread (Val := Elt Ideal) x9 _ _).trans (congrArg x9 (funext fun a => Fin.ext ?_))
      fin_cases a
      · show 0 + 1 * l.val = l.val; omega
      · show 1792 + 1 * n.val = 1792 + n.val; omega),
    z_ok 1536 inb_S1x256x2048_S1x256x256_0_0_1536 x8 x9 _ _ (fun r l => by
      refine (harg10.readAt_unread (Val := Elt Ideal) x8 _ _).trans (congrArg x8 (funext fun a => Fin.ext ?_))
      fin_cases a
      · rfl
      · show 0 + 1 * r.val = r.val; omega
      · show 0 + 1 * l.val = l.val; omega) (by omega) (fun l n => by
      refine (harg11.readAt_unread (Val := Elt Ideal) x9 _ _).trans (congrArg x9 (funext fun a => Fin.ext ?_))
      fin_cases a
      · show 0 + 1 * l.val = l.val; omega
      · show 1536 + 1 * n.val = 1536 + n.val; omega),
    z_ok 1280 inb_S1x256x2048_S1x256x256_0_0_1280 x8 x9 _ _ (fun r l => by
      refine (harg10.readAt_unread (Val := Elt Ideal) x8 _ _).trans (congrArg x8 (funext fun a => Fin.ext ?_))
      fin_cases a
      · rfl
      · show 0 + 1 * r.val = r.val; omega
      · show 0 + 1 * l.val = l.val; omega) (by omega) (fun l n => by
      refine (harg11.readAt_unread (Val := Elt Ideal) x9 _ _).trans (congrArg x9 (funext fun a => Fin.ext ?_))
      fin_cases a
      · show 0 + 1 * l.val = l.val; omega
      · show 1280 + 1 * n.val = 1280 + n.val; omega),
    z_ok 1024 inb_S1x256x2048_S1x256x256_0_0_1024 x8 x9 _ _ (fun r l => by
      refine (harg10.readAt_unread (Val := Elt Ideal) x8 _ _).trans (congrArg x8 (funext fun a => Fin.ext ?_))
      fin_cases a
      · rfl
      · show 0 + 1 * r.val = r.val; omega
      · show 0 + 1 * l.val = l.val; omega) (by omega) (fun l n => by
      refine (harg11.readAt_unread (Val := Elt Ideal) x9 _ _).trans (congrArg x9 (funext fun a => Fin.ext ?_))
      fin_cases a
      · show 0 + 1 * l.val = l.val; omega
      · show 1024 + 1 * n.val = 1024 + n.val; omega),
    z_ok 768 inb_S1x256x2048_S1x256x256_0_0_768 x8 x9 _ _ (fun r l => by
      refine (harg10.readAt_unread (Val := Elt Ideal) x8 _ _).trans (congrArg x8 (funext fun a => Fin.ext ?_))
      fin_cases a
      · rfl
      · show 0 + 1 * r.val = r.val; omega
      · show 0 + 1 * l.val = l.val; omega) (by omega) (fun l n => by
      refine (harg11.readAt_unread (Val := Elt Ideal) x9 _ _).trans (congrArg x9 (funext fun a => Fin.ext ?_))
      fin_cases a
      · show 0 + 1 * l.val = l.val; omega
      · show 768 + 1 * n.val = 768 + n.val; omega),
    z_ok 512 inb_S1x256x2048_S1x256x256_0_0_512 x8 x9 _ _ (fun r l => by
      refine (harg10.readAt_unread (Val := Elt Ideal) x8 _ _).trans (congrArg x8 (funext fun a => Fin.ext ?_))
      fin_cases a
      · rfl
      · show 0 + 1 * r.val = r.val; omega
      · show 0 + 1 * l.val = l.val; omega) (by omega) (fun l n => by
      refine (harg11.readAt_unread (Val := Elt Ideal) x9 _ _).trans (congrArg x9 (funext fun a => Fin.ext ?_))
      fin_cases a
      · show 0 + 1 * l.val = l.val; omega
      · show 512 + 1 * n.val = 512 + n.val; omega),
    z_ok 256 inb_S1x256x2048_S1x256x256_0_0_256 x8 x9 _ _ (fun r l => by
      refine (harg10.readAt_unread (Val := Elt Ideal) x8 _ _).trans (congrArg x8 (funext fun a => Fin.ext ?_))
      fin_cases a
      · rfl
      · show 0 + 1 * r.val = r.val; omega
      · show 0 + 1 * l.val = l.val; omega) (by omega) (fun l n => by
      refine (harg11.readAt_unread (Val := Elt Ideal) x9 _ _).trans (congrArg x9 (funext fun a => Fin.ext ?_))
      fin_cases a
      · show 0 + 1 * l.val = l.val; omega
      · show 256 + 1 * n.val = 256 + n.val; omega),
    z_ok 0 inb_S1x256x2048_S1x256x256_0_0_0 x8 x9 _ _ (fun r l => by
      refine (harg10.readAt_unread (Val := Elt Ideal) x8 _ _).trans (congrArg x8 (funext fun a => Fin.ext ?_))
      fin_cases a
      · rfl
      · show 0 + 1 * r.val = r.val; omega
      · show 0 + 1 * l.val = l.val; omega) (by omega) (fun l n => by
      refine (harg11.readAt_unread (Val := Elt Ideal) x9 _ _).trans (congrArg x9 (funext fun a => Fin.ext ?_))
      fin_cases a
      · show 0 + 1 * l.val = l.val; omega
      · show 0 + 1 * n.val = 0 + n.val; omega), trivial⟩
  · exact View.cover_of_tiledL (s := S1x256x2048) _ S1x256x256.size (by sl_kernel_rfl) y

theorem outv13 (c : Dev nD) (i : grid0.Coords)
  (arg2 : Memref sig .tc .smem S32 .f32) (harg2 : arg2.IsWhole)
  (arg3 : Memref sig .tc .vmem S1x256x2048 .bf16) (harg3 : arg3.IsWhole)
  (arg4 : Memref sig .tc .vmem S1x256x2048 .bf16) (harg4 : arg4.IsWhole)
  (arg5 : Memref sig .tc .vmem S1x128x256 .f32) (harg5 : arg5.IsWhole)
  (arg6 : Memref sig .tc .vmem S1x256x256 .f32) (harg6 : arg6.IsWhole)
  (arg7 : Memref sig .tc .vmem S1x128x256 .f32) (harg7 : arg7.IsWhole)
  (arg8 : Memref sig .tc .vmem S1x256x256 .f32) (harg8 : arg8.IsWhole)
  (arg9 : Memref sig .tc .vmem S1x2048 .f32) (harg9 : arg9.IsWhole)
  (arg10 : Memref sig .tc .vmem S1x256x2048 .bf16) (harg10 : arg10.IsWhole)
  (arg11 : Memref sig .tc .vmem S2048x4608 .bf16) (harg11 : arg11.IsWhole)
  (arg12 : Memref sig .tc .vmem S2048x640 .bf16) (harg12 : arg12.IsWhole)
  (arg13 : Memref sig .tc .vmem S1x256x2048 .bf16) (harg13 : arg13.IsWhole)
  (arg14 : Memref sig .tc .vmem S1x256x2048 .bf16) (harg14 : arg14.IsWhole)
  (arg15 : Memref sig .tc .vmem S1x256x3072 .f32) (harg15 : arg15.IsWhole)
  (arg16 : Memref sig .tc .vmem S1x256x128 .f32) (harg16 : arg16.IsWhole)
  (arg17 : Memref sig .tc .vmem S2x128x2048 .f32) (harg17 : arg17.IsWhole)
  (x0 : FVec Ideal S32 .f32)  (x1 : FVec Ideal S1x256x2048 .bf16)  (x2 : FVec Ideal S1x256x2048 .bf16)  (x3 : FVec Ideal S1x128x256 .f32)  (x4 : FVec Ideal S1x256x256 .f32)  (x5 : FVec Ideal S1x128x256 .f32)  (x6 : FVec Ideal S1x256x256 .f32)  (x7 : FVec Ideal S1x2048 .f32)  (x8 : FVec Ideal S1x256x2048 .bf16)  (x9 : FVec Ideal S2048x4608 .bf16)  (x10 : FVec Ideal S2048x640 .bf16) (y : S1x256x3072.Idx) :
    out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 y = xbcOf x8 x9 x10 y := by
  rw [out13]
  refine canon_pieces (e := .f32) (xbcOf x8 x9 x10) _ y ?_ ?_
  · exact ⟨xbc_ok 2816 inb_S1x256x3072_S1x256x256_0_0_2816 x8 x9 x10 _ _ (fun r l => by
      refine (harg10.readAt_unread (Val := Elt Ideal) x8 _ _).trans (congrArg x8 (funext fun a => Fin.ext ?_))
      fin_cases a
      · rfl
      · show 0 + 1 * r.val = r.val; omega
      · show 0 + 1 * l.val = l.val; omega) (by omega) (fun l n => by
      unfold xbcCol
      rw [dif_neg (show ¬ (⟨2816 + n.val, by omega⟩ : Fin 3072).val < 2560 from by show ¬ 2816 + n.val < 2560; omega)]
      refine (harg12.readAt_unread (Val := Elt Ideal) x10 _ _).trans (congrArg x10 (funext fun a => Fin.ext ?_))
      fin_cases a
      · show 0 + 1 * l.val = l.val; omega
      · show 256 + 1 * n.val = 2816 + n.val - 2560; omega),
    xbc_ok 2560 inb_S1x256x3072_S1x256x256_0_0_2560 x8 x9 x10 _ _ (fun r l => by
      refine (harg10.readAt_unread (Val := Elt Ideal) x8 _ _).trans (congrArg x8 (funext fun a => Fin.ext ?_))
      fin_cases a
      · rfl
      · show 0 + 1 * r.val = r.val; omega
      · show 0 + 1 * l.val = l.val; omega) (by omega) (fun l n => by
      unfold xbcCol
      rw [dif_neg (show ¬ (⟨2560 + n.val, by omega⟩ : Fin 3072).val < 2560 from by show ¬ 2560 + n.val < 2560; omega)]
      refine (harg12.readAt_unread (Val := Elt Ideal) x10 _ _).trans (congrArg x10 (funext fun a => Fin.ext ?_))
      fin_cases a
      · show 0 + 1 * l.val = l.val; omega
      · show 0 + 1 * n.val = 2560 + n.val - 2560; omega),
    xbc_ok 2304 inb_S1x256x3072_S1x256x256_0_0_2304 x8 x9 x10 _ _ (fun r l => by
      refine (harg10.readAt_unread (Val := Elt Ideal) x8 _ _).trans (congrArg x8 (funext fun a => Fin.ext ?_))
      fin_cases a
      · rfl
      · show 0 + 1 * r.val = r.val; omega
      · show 0 + 1 * l.val = l.val; omega) (by omega) (fun l n => by
      unfold xbcCol
      rw [dif_pos (show (⟨2304 + n.val, by omega⟩ : Fin 3072).val < 2560 from by show 2304 + n.val < 2560; omega)]
      refine (harg11.readAt_unread (Val := Elt Ideal) x9 _ _).trans (congrArg x9 (funext fun a => Fin.ext ?_))
      fin_cases a
      · show 0 + 1 * l.val = l.val; omega
      · show 4352 + 1 * n.val = 2048 + (2304 + n.val); omega),
    xbc_ok 2048 inb_S1x256x3072_S1x256x256_0_0_2048 x8 x9 x10 _ _ (fun r l => by
      refine (harg10.readAt_unread (Val := Elt Ideal) x8 _ _).trans (congrArg x8 (funext fun a => Fin.ext ?_))
      fin_cases a
      · rfl
      · show 0 + 1 * r.val = r.val; omega
      · show 0 + 1 * l.val = l.val; omega) (by omega) (fun l n => by
      unfold xbcCol
      rw [dif_pos (show (⟨2048 + n.val, by omega⟩ : Fin 3072).val < 2560 from by show 2048 + n.val < 2560; omega)]
      refine (harg11.readAt_unread (Val := Elt Ideal) x9 _ _).trans (congrArg x9 (funext fun a => Fin.ext ?_))
      fin_cases a
      · show 0 + 1 * l.val = l.val; omega
      · show 4096 + 1 * n.val = 2048 + (2048 + n.val); omega),
    xbc_ok 1792 inb_S1x256x3072_S1x256x256_0_0_1792 x8 x9 x10 _ _ (fun r l => by
      refine (harg10.readAt_unread (Val := Elt Ideal) x8 _ _).trans (congrArg x8 (funext fun a => Fin.ext ?_))
      fin_cases a
      · rfl
      · show 0 + 1 * r.val = r.val; omega
      · show 0 + 1 * l.val = l.val; omega) (by omega) (fun l n => by
      unfold xbcCol
      rw [dif_pos (show (⟨1792 + n.val, by omega⟩ : Fin 3072).val < 2560 from by show 1792 + n.val < 2560; omega)]
      refine (harg11.readAt_unread (Val := Elt Ideal) x9 _ _).trans (congrArg x9 (funext fun a => Fin.ext ?_))
      fin_cases a
      · show 0 + 1 * l.val = l.val; omega
      · show 3840 + 1 * n.val = 2048 + (1792 + n.val); omega),
    xbc_ok 1536 inb_S1x256x3072_S1x256x256_0_0_1536 x8 x9 x10 _ _ (fun r l => by
      refine (harg10.readAt_unread (Val := Elt Ideal) x8 _ _).trans (congrArg x8 (funext fun a => Fin.ext ?_))
      fin_cases a
      · rfl
      · show 0 + 1 * r.val = r.val; omega
      · show 0 + 1 * l.val = l.val; omega) (by omega) (fun l n => by
      unfold xbcCol
      rw [dif_pos (show (⟨1536 + n.val, by omega⟩ : Fin 3072).val < 2560 from by show 1536 + n.val < 2560; omega)]
      refine (harg11.readAt_unread (Val := Elt Ideal) x9 _ _).trans (congrArg x9 (funext fun a => Fin.ext ?_))
      fin_cases a
      · show 0 + 1 * l.val = l.val; omega
      · show 3584 + 1 * n.val = 2048 + (1536 + n.val); omega),
    xbc_ok 1280 inb_S1x256x3072_S1x256x256_0_0_1280 x8 x9 x10 _ _ (fun r l => by
      refine (harg10.readAt_unread (Val := Elt Ideal) x8 _ _).trans (congrArg x8 (funext fun a => Fin.ext ?_))
      fin_cases a
      · rfl
      · show 0 + 1 * r.val = r.val; omega
      · show 0 + 1 * l.val = l.val; omega) (by omega) (fun l n => by
      unfold xbcCol
      rw [dif_pos (show (⟨1280 + n.val, by omega⟩ : Fin 3072).val < 2560 from by show 1280 + n.val < 2560; omega)]
      refine (harg11.readAt_unread (Val := Elt Ideal) x9 _ _).trans (congrArg x9 (funext fun a => Fin.ext ?_))
      fin_cases a
      · show 0 + 1 * l.val = l.val; omega
      · show 3328 + 1 * n.val = 2048 + (1280 + n.val); omega),
    xbc_ok 1024 inb_S1x256x3072_S1x256x256_0_0_1024 x8 x9 x10 _ _ (fun r l => by
      refine (harg10.readAt_unread (Val := Elt Ideal) x8 _ _).trans (congrArg x8 (funext fun a => Fin.ext ?_))
      fin_cases a
      · rfl
      · show 0 + 1 * r.val = r.val; omega
      · show 0 + 1 * l.val = l.val; omega) (by omega) (fun l n => by
      unfold xbcCol
      rw [dif_pos (show (⟨1024 + n.val, by omega⟩ : Fin 3072).val < 2560 from by show 1024 + n.val < 2560; omega)]
      refine (harg11.readAt_unread (Val := Elt Ideal) x9 _ _).trans (congrArg x9 (funext fun a => Fin.ext ?_))
      fin_cases a
      · show 0 + 1 * l.val = l.val; omega
      · show 3072 + 1 * n.val = 2048 + (1024 + n.val); omega),
    xbc_ok 768 inb_S1x256x3072_S1x256x256_0_0_768 x8 x9 x10 _ _ (fun r l => by
      refine (harg10.readAt_unread (Val := Elt Ideal) x8 _ _).trans (congrArg x8 (funext fun a => Fin.ext ?_))
      fin_cases a
      · rfl
      · show 0 + 1 * r.val = r.val; omega
      · show 0 + 1 * l.val = l.val; omega) (by omega) (fun l n => by
      unfold xbcCol
      rw [dif_pos (show (⟨768 + n.val, by omega⟩ : Fin 3072).val < 2560 from by show 768 + n.val < 2560; omega)]
      refine (harg11.readAt_unread (Val := Elt Ideal) x9 _ _).trans (congrArg x9 (funext fun a => Fin.ext ?_))
      fin_cases a
      · show 0 + 1 * l.val = l.val; omega
      · show 2816 + 1 * n.val = 2048 + (768 + n.val); omega),
    xbc_ok 512 inb_S1x256x3072_S1x256x256_0_0_512 x8 x9 x10 _ _ (fun r l => by
      refine (harg10.readAt_unread (Val := Elt Ideal) x8 _ _).trans (congrArg x8 (funext fun a => Fin.ext ?_))
      fin_cases a
      · rfl
      · show 0 + 1 * r.val = r.val; omega
      · show 0 + 1 * l.val = l.val; omega) (by omega) (fun l n => by
      unfold xbcCol
      rw [dif_pos (show (⟨512 + n.val, by omega⟩ : Fin 3072).val < 2560 from by show 512 + n.val < 2560; omega)]
      refine (harg11.readAt_unread (Val := Elt Ideal) x9 _ _).trans (congrArg x9 (funext fun a => Fin.ext ?_))
      fin_cases a
      · show 0 + 1 * l.val = l.val; omega
      · show 2560 + 1 * n.val = 2048 + (512 + n.val); omega),
    xbc_ok 256 inb_S1x256x3072_S1x256x256_0_0_256 x8 x9 x10 _ _ (fun r l => by
      refine (harg10.readAt_unread (Val := Elt Ideal) x8 _ _).trans (congrArg x8 (funext fun a => Fin.ext ?_))
      fin_cases a
      · rfl
      · show 0 + 1 * r.val = r.val; omega
      · show 0 + 1 * l.val = l.val; omega) (by omega) (fun l n => by
      unfold xbcCol
      rw [dif_pos (show (⟨256 + n.val, by omega⟩ : Fin 3072).val < 2560 from by show 256 + n.val < 2560; omega)]
      refine (harg11.readAt_unread (Val := Elt Ideal) x9 _ _).trans (congrArg x9 (funext fun a => Fin.ext ?_))
      fin_cases a
      · show 0 + 1 * l.val = l.val; omega
      · show 2304 + 1 * n.val = 2048 + (256 + n.val); omega),
    xbc_ok 0 inb_S1x256x3072_S1x256x256_0_0_0 x8 x9 x10 _ _ (fun r l => by
      refine (harg10.readAt_unread (Val := Elt Ideal) x8 _ _).trans (congrArg x8 (funext fun a => Fin.ext ?_))
      fin_cases a
      · rfl
      · show 0 + 1 * r.val = r.val; omega
      · show 0 + 1 * l.val = l.val; omega) (by omega) (fun l n => by
      unfold xbcCol
      rw [dif_pos (show (⟨0 + n.val, by omega⟩ : Fin 3072).val < 2560 from by show 0 + n.val < 2560; omega)]
      refine (harg11.readAt_unread (Val := Elt Ideal) x9 _ _).trans (congrArg x9 (funext fun a => Fin.ext ?_))
      fin_cases a
      · show 0 + 1 * l.val = l.val; omega
      · show 2048 + 1 * n.val = 2048 + (0 + n.val); omega), trivial⟩
  · exact View.cover_of_tiledL (s := S1x256x3072) _ S1x256x256.size (by sl_kernel_rfl) y

theorem outv14 (c : Dev nD) (i : grid0.Coords)
  (arg2 : Memref sig .tc .smem S32 .f32) (harg2 : arg2.IsWhole)
  (arg3 : Memref sig .tc .vmem S1x256x2048 .bf16) (harg3 : arg3.IsWhole)
  (arg4 : Memref sig .tc .vmem S1x256x2048 .bf16) (harg4 : arg4.IsWhole)
  (arg5 : Memref sig .tc .vmem S1x128x256 .f32) (harg5 : arg5.IsWhole)
  (arg6 : Memref sig .tc .vmem S1x256x256 .f32) (harg6 : arg6.IsWhole)
  (arg7 : Memref sig .tc .vmem S1x128x256 .f32) (harg7 : arg7.IsWhole)
  (arg8 : Memref sig .tc .vmem S1x256x256 .f32) (harg8 : arg8.IsWhole)
  (arg9 : Memref sig .tc .vmem S1x2048 .f32) (harg9 : arg9.IsWhole)
  (arg10 : Memref sig .tc .vmem S1x256x2048 .bf16) (harg10 : arg10.IsWhole)
  (arg11 : Memref sig .tc .vmem S2048x4608 .bf16) (harg11 : arg11.IsWhole)
  (arg12 : Memref sig .tc .vmem S2048x640 .bf16) (harg12 : arg12.IsWhole)
  (arg13 : Memref sig .tc .vmem S1x256x2048 .bf16) (harg13 : arg13.IsWhole)
  (arg14 : Memref sig .tc .vmem S1x256x2048 .bf16) (harg14 : arg14.IsWhole)
  (arg15 : Memref sig .tc .vmem S1x256x3072 .f32) (harg15 : arg15.IsWhole)
  (arg16 : Memref sig .tc .vmem S1x256x128 .f32) (harg16 : arg16.IsWhole)
  (arg17 : Memref sig .tc .vmem S2x128x2048 .f32) (harg17 : arg17.IsWhole)
  (x0 : FVec Ideal S32 .f32)  (x1 : FVec Ideal S1x256x2048 .bf16)  (x2 : FVec Ideal S1x256x2048 .bf16)  (x3 : FVec Ideal S1x128x256 .f32)  (x4 : FVec Ideal S1x256x256 .f32)  (x5 : FVec Ideal S1x128x256 .f32)  (x6 : FVec Ideal S1x256x256 .f32)  (x7 : FVec Ideal S1x2048 .f32)  (x8 : FVec Ideal S1x256x2048 .bf16)  (x9 : FVec Ideal S2048x4608 .bf16)  (x10 : FVec Ideal S2048x640 .bf16) (y : S1x256x128.Idx) :
    out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 y = dtOf x8 x10 y := by
  rw [out14]
  refine canon_pieces (e := .f32) (dtOf x8 x10) _ y ?_ ?_
  · exact ⟨dt_ok inb_S1x256x128_S1x256x128_0_0_0 x8 x10 _ _ (fun r l => by
      refine (harg10.readAt_unread (Val := Elt Ideal) x8 _ _).trans (congrArg x8 (funext fun a => Fin.ext ?_))
      fin_cases a
      · rfl
      · show 0 + 1 * r.val = r.val; omega
      · show 0 + 1 * l.val = l.val; omega) (fun l n => by
      refine (harg12.readAt_unread (Val := Elt Ideal) x10 _ _).trans (congrArg x10 (funext fun a => Fin.ext ?_))
      fin_cases a
      · show 0 + 1 * l.val = l.val; omega
      · show 512 + 1 * n.val = 512 + n.val; omega), trivial⟩
  · exact View.cover_of_tiledL (s := S1x256x128) _ S1x256x128.size (by sl_kernel_rfl) y

theorem outv11 (c : Dev nD) (i : grid0.Coords)
  (arg2 : Memref sig .tc .smem S32 .f32) (harg2 : arg2.IsWhole)
  (arg3 : Memref sig .tc .vmem S1x256x2048 .bf16) (harg3 : arg3.IsWhole)
  (arg4 : Memref sig .tc .vmem S1x256x2048 .bf16) (harg4 : arg4.IsWhole)
  (arg5 : Memref sig .tc .vmem S1x128x256 .f32) (harg5 : arg5.IsWhole)
  (arg6 : Memref sig .tc .vmem S1x256x256 .f32) (harg6 : arg6.IsWhole)
  (arg7 : Memref sig .tc .vmem S1x128x256 .f32) (harg7 : arg7.IsWhole)
  (arg8 : Memref sig .tc .vmem S1x256x256 .f32) (harg8 : arg8.IsWhole)
  (arg9 : Memref sig .tc .vmem S1x2048 .f32) (harg9 : arg9.IsWhole)
  (arg10 : Memref sig .tc .vmem S1x256x2048 .bf16) (harg10 : arg10.IsWhole)
  (arg11 : Memref sig .tc .vmem S2048x4608 .bf16) (harg11 : arg11.IsWhole)
  (arg12 : Memref sig .tc .vmem S2048x640 .bf16) (harg12 : arg12.IsWhole)
  (arg13 : Memref sig .tc .vmem S1x256x2048 .bf16) (harg13 : arg13.IsWhole)
  (arg14 : Memref sig .tc .vmem S1x256x2048 .bf16) (harg14 : arg14.IsWhole)
  (arg15 : Memref sig .tc .vmem S1x256x3072 .f32) (harg15 : arg15.IsWhole)
  (arg16 : Memref sig .tc .vmem S1x256x128 .f32) (harg16 : arg16.IsWhole)
  (arg17 : Memref sig .tc .vmem S2x128x2048 .f32) (harg17 : arg17.IsWhole)
  (x0 : FVec Ideal S32 .f32)  (x1 : FVec Ideal S1x256x2048 .bf16)  (x2 : FVec Ideal S1x256x2048 .bf16)  (x3 : FVec Ideal S1x128x256 .f32)  (x4 : FVec Ideal S1x256x256 .f32)  (x5 : FVec Ideal S1x128x256 .f32)  (x6 : FVec Ideal S1x256x256 .f32)  (x7 : FVec Ideal S1x2048 .f32)  (x8 : FVec Ideal S1x256x2048 .bf16)  (x9 : FVec Ideal S2048x4608 .bf16)  (x10 : FVec Ideal S2048x640 .bf16) (y : S1x256x2048.Idx) :
    out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 y = attnOf (held c i arg2 harg2 arg3 harg3 arg5 harg5 arg6 harg6 arg7 harg7 arg8 harg8 x0 x1 x3 x4 x5 x6) x2 x7 y := by
  rw [out11]
  refine canon_pieces (e := .bf16) (attnOf (held c i arg2 harg2 arg3 harg3 arg5 harg5 arg6 harg6 arg7 harg7 arg8 harg8 x0 x1 x3 x4 x5 x6) x2 x7) _ y ?_ ?_
  · exact ⟨attn_ok 1 (by omega) inb_S1x256x2048_S1x128x2048_0_128_0 (held c i arg2 harg2 arg3 harg3 arg5 harg5 arg6 harg6 arg7 harg7 arg8 harg8 x0 x1 x3 x4 x5 x6) x2 x7 _ _ _ (fun r m => by
      rw [View.readCov_eq_canon']
      refine (scratch_eq c i arg2 harg2 arg3 harg3 arg5 harg5 arg6 harg6 arg7 harg7 arg8 harg8 x0 x1 x3 x4 x5 x6 _).trans (congrArg (held c i arg2 harg2 arg3 harg3 arg5 harg5 arg6 harg6 arg7 harg7 arg8 harg8 x0 x1 x3 x4 x5 x6) (funext fun a => Fin.ext ?_))
      fin_cases a
      · rfl
      · show 0 + 1 * r.val = r.val; omega
      · show 0 + 1 * m.val = m.val; omega) (fun r m => by
      refine (harg4.readAt_unread (Val := Elt Ideal) x2 _ _).trans (congrArg x2 (funext fun a => Fin.ext ?_))
      fin_cases a
      · rfl
      · show 128 + 1 * r.val = 128 * 1 + r.val; omega
      · show 0 + 1 * m.val = m.val; omega) (fun m => by
      refine (harg9.readAt_unread (Val := Elt Ideal) x7 _ _).trans (congrArg x7 (funext fun a => Fin.ext ?_))
      fin_cases a
      · rfl
      · show 0 + 1 * m.val = m.val; omega),
    attn_ok 0 (by omega) inb_S1x256x2048_S1x128x2048_0_0_0 (held c i arg2 harg2 arg3 harg3 arg5 harg5 arg6 harg6 arg7 harg7 arg8 harg8 x0 x1 x3 x4 x5 x6) x2 x7 _ _ _ (fun r m => by
      rw [View.readCov_eq_canon']
      refine (scratch_eq c i arg2 harg2 arg3 harg3 arg5 harg5 arg6 harg6 arg7 harg7 arg8 harg8 x0 x1 x3 x4 x5 x6 _).trans (congrArg (held c i arg2 harg2 arg3 harg3 arg5 harg5 arg6 harg6 arg7 harg7 arg8 harg8 x0 x1 x3 x4 x5 x6) (funext fun a => Fin.ext ?_))
      fin_cases a
      · rfl
      · show 0 + 1 * r.val = r.val; omega
      · show 0 + 1 * m.val = m.val; omega) (fun r m => by
      refine (harg4.readAt_unread (Val := Elt Ideal) x2 _ _).trans (congrArg x2 (funext fun a => Fin.ext ?_))
      fin_cases a
      · rfl
      · show 0 + 1 * r.val = 128 * 0 + r.val; omega
      · show 0 + 1 * m.val = m.val; omega) (fun m => by
      refine (harg9.readAt_unread (Val := Elt Ideal) x7 _ _).trans (congrArg x7 (funext fun a => Fin.ext ?_))
      fin_cases a
      · rfl
      · show 0 + 1 * m.val = m.val; omega), trivial⟩
  · exact View.cover_of_tiledL (s := S1x256x2048) _ S1x128x2048.size (by sl_kernel_rfl) y

end Cert.KernelIdeal.Attend

end
-- ==== Proof.RefRow.lean ====
/- The reference's attention and its gated norm at an index. -/
module

public import proofs.«01_k».proof.Proof.RefAt
public import proofs.«01_k».proof.Proof.Soft
public import proofs.«01_k».proof.Proof.OutVals

@[expose] public section

set_option maxRecDepth 16384

noncomputable section

namespace Cert.ReferenceIdeal.Attend

open Cert.ReferenceIdeal Cert.ReferenceIdeal.Gen Idealize.ShloMosaic Idealize.ShloMosaic.Tactic

/-- The keys a row may look at. -/
def allowed (i : Fin 16) (r : Fin 128) (n : Fin 256) : Prop :=
  (r.val < n.val ∧ n.val ≤ r.val + 128) ∧ (0 < i.val ∨ 128 ≤ n.val)

instance (i : Fin 16) (r : Fin 128) (n : Fin 256) : Decidable (allowed i r n) := by unfold allowed; infer_instance

theorem negInf_eq : negInf = ⊥ := Cert.KernelIdeal.Attend.neg_inf

/-- One entry of the attention, over its head's keys, queries and values. -/
theorem attention_at (qg : FVec Ideal S16x2048x4096 .bf16) (kv : FVec Ideal S16x2048x512 .f32) (x : FVec Ideal S32 .f32) (b : Fin 16) (t l : Fin 2048)
    (i : Fin 16) (r : Fin 128) (g : Fin 4) (h : Fin 8) (d : Fin 64) (hi : t.val / 128 = i.val) (hr : t.val % 128 = r.val) (hg : l.val / 512 = g.val)
    (hh : l.val / 64 % 8 = h.val) (hd : l.val % 64 = d.val) :
    attention qg kv x (ix3 b t l) = Cert.Soft.refOut
      (fun n => if allowed i r n then (∑ e : Fin 64, keys kv (ix5 b i n g e) * queries qg (ix6 b i r g h e)) * eighth else ⊥)
      (x (ix1 (⟨g.val * 8 + h.val, by omega⟩ : Fin 32))) (fun n => vals kv (ix5 b i n g d)) := by
  have ei : (⟨t.val / 128, by omega⟩ : Fin 16) = i := Fin.ext hi
  have er : (⟨t.val % 128, by omega⟩ : Fin 128) = r := Fin.ext hr
  have eg : (⟨l.val / 512, by omega⟩ : Fin 4) = g := Fin.ext hg
  have eh : (⟨l.val / 64 % 8, by omega⟩ : Fin 8) = h := Fin.ext hh
  have ed : (⟨l.val % 64, by omega⟩ : Fin 64) = d := Fin.ext hd
  unfold attention
  rw [attended_at, ei, er, eg, eh, ed]
  unfold Cert.Soft.refOut Cert.Soft.refTop allowed
  refine Finset.sum_congr rfl fun n _ => ?_
  simp only [shares_at, weights_at, top_at, scores_at, sinks_at, negInf_eq]

/-- One entry of the gated norm, over its row. -/
theorem norm_at (o : FVec Ideal S16x2048x2048 .f32) (g : FVec Ideal S16x2048x2048 .f32) (w : FVec Ideal S2048 .f32) (b : Fin 16) (t l : Fin 2048)
    (hg : ∀ m : Fin 2048, g (ix3 b t m) ≠ ⊥) :
    normed (gatedBy o g) w (ix3 b t l)
      = Cert.KernelIdeal.Attend.rowNormed (fun m => o (ix3 b t m)) (fun m => g (ix3 b t m)) (fun m => w (ix1 m)) l := by
  have e : ∀ m : Fin 2048, gatedBy o g (ix3 b t m) = Cert.KernelIdeal.Attend.rowGated (fun m => o (ix3 b t m)) (fun m => g (ix3 b t m)) m := by
    intro m
    rw [gated_at, ← Cert.Soft.silu _ (hg m), ← Cert.Soft.half_eq]
    rfl
  rw [normed_at, e l, Finset.sum_congr rfl fun m _ => by rw [e m]]
  rfl

end Cert.ReferenceIdeal.Attend
-- ==== Proof.Words.lean ====
/- The blocks the attention reads and the band it keeps, at an index. -/
module

public import proofs.«01_k».proof.Proof.OutVals
public import proofs.«01_k».proof.Proof.Band

@[expose] public section

set_option maxRecDepth 16384

noncomputable section

namespace Cert.KernelIdeal.Attend

open Cert.KernelIdeal Cert.KernelIdeal.Gen Idealize.ShloMosaic Idealize.ShloMosaic.Tactic

theorem v9_at (r : Fin 128) (n : Fin 256) : kernelRun0_A.sl.v9 (ix2 r n) = BitVec.ofBool (decide (r.val < n.val ∧ n.val ≤ r.val + 128)) := by
  unfold kernelRun0_A.sl.v9 kernelRun0_A.sl.v4 kernelRun0_A.sl.v5 kernelRun0_A.sl.v2 kernelRun0_A.sl.v1 kernelRun0_A.sl.v0
  pointwise
  exact Cert.Band.near r n

theorem v20_at (i : grid0.Coords) (r : Fin 128) (n : Fin 256) :
    kernelRun0_A.sl.v20 i (ix2 r n) = BitVec.ofBool (decide ((r.val < n.val ∧ n.val ≤ r.val + 128) ∧ (0 < (i 1).val ∨ 128 ≤ n.val))) := by
  unfold kernelRun0_A.sl.v20
  show kernelRun0_A.sl.v9 (ix2 r n) &&& kernelRun0_A.sl.v19 i (ix2 r n) = _
  rw [v9_at]
  unfold kernelRun0_A.sl.v19 kernelRun0_A.sl.v18 kernelRun0_A.sl.v17 kernelRun0_A.sl.v16 kernelRun0_A.sl.v1
  pointwise
  obtain ⟨n, hn⟩ := n
  have hi : (i 1).val < 8 := (i 1).isLt
  have h1 : Scalar.cmpi CmpIPredicate.sgt (BitVec.ofNat 32 (i 1).val) 0#32 = BitVec.ofBool (decide (0 < (i 1).val)) :=
    Cert.Band.positive _ (by omega)
  rw [h1]
  have h2 : ∀ b : Bool, IntOp.cmpi CmpIPredicate.sge (BitVec.ofNat 32 n) (Scalar.select (BitVec.ofBool b) 0#32 128#32) = BitVec.ofBool (b || decide (128 ≤ n)) := by
    intro b
    cases b
    · exact (Cert.Band.past n 128 (by omega) (by omega)).trans (by rw [Bool.false_or])
    · exact (Cert.Band.past n 0 (by omega) (by omega)).trans (by simp)
  rw [h2]
  dsimp only
  by_cases c1 : r.val < n ∧ n ≤ r.val + 128 <;> by_cases c2 : 0 < (i 1).val <;> by_cases c3 : 128 ≤ n <;> simp [c1, c2, c3]

theorem v22_at (c : Dev nD) (arg3 : Memref sig .tc .vmem S1x256x2048 .bf16) (harg3 : arg3.IsWhole) (x1 : FVec Ideal S1x256x2048 .bf16) (r : Fin 128) (m : Fin 2048) :
    kernelRun0_A.sl.v22 (F := Ideal) c arg3 harg3 x1 (ix2 r m) = x1 (ix3 0 (⟨r.val, by omega⟩ : Fin 256) m) := by
  unfold kernelRun0_A.sl.v22
  pointwise
  refine (harg3.readAt_unread (Val := Elt Ideal) x1 _ _).trans (congrArg x1 (funext fun a => Fin.ext ?_))
  fin_cases a
  · rfl
  · show 0 + 1 * r.val = r.val
    omega
  · show 0 + 1 * m.val = m.val
    omega

theorem r_at (c : Dev nD) (arg3 : Memref sig .tc .vmem S1x256x2048 .bf16) (harg3 : arg3.IsWhole) (x1 : FVec Ideal S1x256x2048 .bf16) (r : Fin 128) (m : Fin 2048) :
    kernelRun0_A.sl.r (F := Ideal) c arg3 harg3 x1 (ix2 r m) = x1 (ix3 0 (⟨128 + r.val, by omega⟩ : Fin 256) m) := by
  unfold kernelRun0_A.sl.r
  pointwise [k0_pay8]
  refine (harg3.readAt_unread (Val := Elt Ideal) x1 _ _).trans (congrArg x1 (funext fun a => Fin.ext ?_))
  fin_cases a
  · rfl
  · show 128 + 1 * r.val = 128 + r.val
    omega
  · show 0 + 1 * m.val = m.val
    omega

/-- The window's rows of a previous block of one hundred and twenty-eight and a current block of twice as many: of the first half… -/
def windowFst (a : FVec Ideal S1x128x256 .f32) (b : FVec Ideal S1x256x256 .f32) (n l : Fin 256) : EReal :=
  if h : n.val < 128 then a (ix3 0 (⟨n.val, h⟩ : Fin 128) l) else b (ix3 0 (⟨n.val - 128, by omega⟩ : Fin 256) l)

theorem window_fst (c : Dev nD) (arg5 : Memref sig .tc .vmem S1x128x256 .f32) (harg5 : arg5.IsWhole) (arg6 : Memref sig .tc .vmem S1x256x256 .f32) (harg6 : arg6.IsWhole)
    (x3 : FVec Ideal S1x128x256 .f32) (x4 : FVec Ideal S1x256x256 .f32) (n l : Fin 256) :
    kernelRun0_A.sl.v25 (F := Ideal) c arg5 harg5 arg6 harg6 x3 x4 (ix2 n l) = windowFst x3 x4 n l := by
  unfold kernelRun0_A.sl.v25 kernelRun0_A.sl.v13 kernelRun0_A.sl.v24 windowFst
  pointwise
  split
  · refine (harg5.readAt_unread (Val := Elt Ideal) x3 _ _).trans (congrArg x3 (funext fun a => Fin.ext ?_))
    fin_cases a
    · rfl
    · show 0 + 1 * n.val = n.val
      omega
    · show 0 + 1 * l.val = l.val
      omega
  · refine (harg6.readAt_unread (Val := Elt Ideal) x4 _ _).trans (congrArg x4 (funext fun a => Fin.ext ?_))
    fin_cases a
    · rfl
    · show 0 + 1 * (n.val - 128) = n.val - 128
      omega
    · show 0 + 1 * l.val = l.val
      omega

theorem window_fst' (c : Dev nD) (arg7 : Memref sig .tc .vmem S1x128x256 .f32) (harg7 : arg7.IsWhole) (arg8 : Memref sig .tc .vmem S1x256x256 .f32) (harg8 : arg8.IsWhole)
    (x5 : FVec Ideal S1x128x256 .f32) (x6 : FVec Ideal S1x256x256 .f32) (n l : Fin 256) :
    kernelRun0_A.sl.v28 (F := Ideal) c arg7 harg7 arg8 harg8 x5 x6 (ix2 n l) = windowFst x5 x6 n l :=
  window_fst c arg7 harg7 arg8 harg8 x5 x6 n l

theorem window_snd (c : Dev nD) (arg6 : Memref sig .tc .vmem S1x256x256 .f32) (harg6 : arg6.IsWhole) (x4 : FVec Ideal S1x256x256 .f32) (n l : Fin 256) :
    kernelRun0_A.sl.r_1 (F := Ideal) c arg6 harg6 x4 (ix2 n l) = x4 (ix3 0 n l) := by
  unfold kernelRun0_A.sl.r_1 kernelRun0_A.sl.v24
  pointwise [k0_pay9]
  split
  · refine (harg6.readAt_unread (Val := Elt Ideal) x4 _ _).trans (congrArg x4 (funext fun a => Fin.ext ?_))
    fin_cases a
    · rfl
    · show 0 + 1 * n.val = n.val
      omega
    · show 0 + 1 * l.val = l.val
      omega
  · refine (harg6.readAt_unread (Val := Elt Ideal) x4 _ _).trans (congrArg x4 (funext fun a => Fin.ext ?_))
    fin_cases a
    · rfl
    · show 128 + 1 * (n.val - 128) = n.val
      omega
    · show 0 + 1 * l.val = l.val
      omega

theorem window_snd' (c : Dev nD) (arg8 : Memref sig .tc .vmem S1x256x256 .f32) (harg8 : arg8.IsWhole) (x6 : FVec Ideal S1x256x256 .f32) (n l : Fin 256) :
    kernelRun0_A.sl.r_2 (F := Ideal) c arg8 harg8 x6 (ix2 n l) = x6 (ix3 0 n l) :=
  window_snd c arg8 harg8 x6 n l

end Cert.KernelIdeal.Attend
-- ==== Proof.Blocks.lean ====
module

public import proofs.«01_k».proof.Proof.Gen.KernelIdeal.Value
public import proofs.«01_k».proof.Proof.Words
public import Idealize.ShloMosaic.Lib.StableHlo.ReadAt

/-!
The blocks the pipeline hands to the kernel, read at an index, as entries of the program's argument arrays.
-/

@[expose] public section

noncomputable section

namespace Cert.KernelIdeal.Blocks

open Cert.KernelIdeal Cert.KernelIdeal.Gen Idealize.ShloMosaic Idealize.ShloMosaic.TcCoe Idealize.ShloMosaic.Tactic

variable (m : (ℓ : Loc nD τ sig) → Buf (Elt Ideal) ℓ)

/-- Where every window stands at a grid point. -/
theorem places : ∀ t : Fin cfg0.N,
    win0_0.index t = ![0]
    ∧ win0_1.index t = ![(grid0.coords t 0).val, (grid0.coords t 1).val, 0]
    ∧ win0_2.index t = ![(grid0.coords t 0).val, (grid0.coords t 1).val, 1]
    ∧ win0_3.index t = ![(grid0.coords t 0).val, 2 * (grid0.coords t 1).val - 1, 0]
    ∧ win0_4.index t = ![(grid0.coords t 0).val, (grid0.coords t 1).val, 0]
    ∧ win0_5.index t = ![(grid0.coords t 0).val, 2 * (grid0.coords t 1).val - 1, 1]
    ∧ win0_6.index t = ![(grid0.coords t 0).val, (grid0.coords t 1).val, 1]
    ∧ win0_7.index t = ![0, 0]
    ∧ win0_8.index t = ![(grid0.coords t 0).val, (grid0.coords t 1).val, 0]
    ∧ win0_9.index t = ![0, 1]
    ∧ win0_10.index t = ![0, 0]
    ∧ win0_11.index t = ![(grid0.coords t 0).val, (grid0.coords t 1).val, 0]
    ∧ win0_12.index t = ![(grid0.coords t 0).val, (grid0.coords t 1).val, 0]
    ∧ win0_13.index t = ![(grid0.coords t 0).val, (grid0.coords t 1).val, 0]
    ∧ win0_14.index t = ![(grid0.coords t 0).val, (grid0.coords t 1).val, 0] :=
  (by decide +kernel : ∀ t : Fin grid0.N, _)

/-- The batch entry of a grid point. -/
def bat (i : grid0.Coords) : Fin 16 := i 0

/-- The row of the sequence that a row of a block stands for. -/
def row (i : grid0.Coords) (y : Fin 256) : Fin 2048 :=
  ⟨256 * (i 1).val + y.val, by have h : (i 1).val < 8 := (i 1).isLt; have := y.isLt; omega⟩

/-- The row of the sequence that a row of the block before stands for. -/
def prev (i : grid0.Coords) (n : Fin 128) : Fin 2048 :=
  ⟨128 * (2 * (i 1).val - 1) + n.val, by have h : (i 1).val < 8 := (i 1).isLt; have := n.isLt; omega⟩

theorem sinks_block (c : Dev nD) (t : Fin cfg0.N) (n : Fin 32) :
    iblk m c 0 t (ix1 n) = m ((c : Thread nD τ).loc main_arg4) (ix1 n) := by
  obtain ⟨p0, p1, p2, p3, p4, p5, p6, p7, p8, -⟩ := places t
  blk_ext [iblk, V, bat, row, prev, p0]

theorem queries_block (c : Dev nD) (t : Fin cfg0.N) (y : Fin 256) (l : Fin 2048) :
    iblk m c 1 t (ix3 (0 : Fin 1) y l) = m ((c : Thread nD τ).loc main_arg0) (ix3 (bat (grid0.coords t)) (row (grid0.coords t) y) (⟨l.val, by omega⟩ : Fin 4096)) := by
  obtain ⟨p0, p1, p2, p3, p4, p5, p6, p7, p8, -⟩ := places t
  blk_ext [iblk, V, bat, row, prev, p1]

theorem gates_block (c : Dev nD) (t : Fin cfg0.N) (y : Fin 256) (l : Fin 2048) :
    iblk m c 2 t (ix3 (0 : Fin 1) y l) = m ((c : Thread nD τ).loc main_arg0) (ix3 (bat (grid0.coords t)) (row (grid0.coords t) y) (⟨2048 + l.val, by omega⟩ : Fin 4096)) := by
  obtain ⟨p0, p1, p2, p3, p4, p5, p6, p7, p8, -⟩ := places t
  blk_ext [iblk, V, bat, row, prev, p2]

theorem keys_before (c : Dev nD) (t : Fin cfg0.N) (y : Fin 128) (l : Fin 256) :
    iblk m c 3 t (ix3 (0 : Fin 1) y l) = m ((c : Thread nD τ).loc main_arg1) (ix3 (bat (grid0.coords t)) (prev (grid0.coords t) y) (⟨l.val, by omega⟩ : Fin 512)) := by
  obtain ⟨p0, p1, p2, p3, p4, p5, p6, p7, p8, -⟩ := places t
  blk_ext [iblk, V, bat, row, prev, p3]

theorem keys_block (c : Dev nD) (t : Fin cfg0.N) (y : Fin 256) (l : Fin 256) :
    iblk m c 4 t (ix3 (0 : Fin 1) y l) = m ((c : Thread nD τ).loc main_arg1) (ix3 (bat (grid0.coords t)) (row (grid0.coords t) y) (⟨l.val, by omega⟩ : Fin 512)) := by
  obtain ⟨p0, p1, p2, p3, p4, p5, p6, p7, p8, -⟩ := places t
  blk_ext [iblk, V, bat, row, prev, p4]

theorem vals_before (c : Dev nD) (t : Fin cfg0.N) (y : Fin 128) (l : Fin 256) :
    iblk m c 5 t (ix3 (0 : Fin 1) y l) = m ((c : Thread nD τ).loc main_arg1) (ix3 (bat (grid0.coords t)) (prev (grid0.coords t) y) (⟨256 + l.val, by omega⟩ : Fin 512)) := by
  obtain ⟨p0, p1, p2, p3, p4, p5, p6, p7, p8, -⟩ := places t
  blk_ext [iblk, V, bat, row, prev, p5]

theorem vals_block (c : Dev nD) (t : Fin cfg0.N) (y : Fin 256) (l : Fin 256) :
    iblk m c 6 t (ix3 (0 : Fin 1) y l) = m ((c : Thread nD τ).loc main_arg1) (ix3 (bat (grid0.coords t)) (row (grid0.coords t) y) (⟨256 + l.val, by omega⟩ : Fin 512)) := by
  obtain ⟨p0, p1, p2, p3, p4, p5, p6, p7, p8, -⟩ := places t
  blk_ext [iblk, V, bat, row, prev, p6]

theorem rows_block (c : Dev nD) (t : Fin cfg0.N) (y : Fin 256) (l : Fin 2048) :
    iblk m c 8 t (ix3 (0 : Fin 1) y l) = m ((c : Thread nD τ).loc main_arg2) (ix3 (bat (grid0.coords t)) (row (grid0.coords t) y) l) := by
  obtain ⟨p0, p1, p2, p3, p4, p5, p6, p7, p8, -⟩ := places t
  blk_ext [iblk, V, bat, row, prev, p8]

theorem gain_arr (c : Dev nD) (l : Fin 2048) : V m c main_v3 (ix2 (0 : Fin 1) l) = m ((c : Thread nD τ).loc main_arg5) (ix1 l) := by
  unfold V
  after_reads_at
  all_goals pointwise

theorem wide_arr (c : Dev nD) (k : Fin 2048) (l : Fin 9760) : V m c main_v0 (ix2 k l) = m ((c : Thread nD τ).loc main_arg3) (ix2 k l) := by
  unfold V
  after_reads_at
  all_goals pointwise

theorem zero_int : (FloatOps.sitofp (F := Ideal) .bf16 (0#32) : EReal) = 0 := by
  show (((0#32 : BitVec 32).toInt : ℝ) : EReal) = 0
  norm_num

theorem tail_arr (c : Dev nD) (k : Fin 2048) (l : Fin 640) : V m c main_v2 (ix2 k l) = if h : l.val < 544 then m ((c : Thread nD τ).loc main_arg3) (ix2 k (⟨9216 + l.val, by omega⟩ : Fin 9760)) else (0 : EReal) := by
  unfold V
  after_reads_at
  all_goals pointwise
  by_cases h : l.val < 544
  · rw [dif_pos h, dif_pos h]
  · rw [dif_neg h, dif_neg h]; exact zero_int

theorem gain_block (c : Dev nD) (t : Fin cfg0.N) (l : Fin 2048) :
    iblk m c 7 t (ix2 (0 : Fin 1) l) = m ((c : Thread nD τ).loc main_arg5) (ix1 l) := by
  obtain ⟨p0, p1, p2, p3, p4, p5, p6, p7, p8, -⟩ := places t
  refine Eq.trans ?_ (gain_arr m c l)
  blk_ext [iblk, p7]

theorem wide_size : ∀ t : Fin cfg0.N, 4608 = win0_9.xsize (grid0.coords t) 1 :=
  (by decide +kernel : ∀ t : Fin grid0.N, 4608 = win0_9.xsize (grid0.coords t) 1)

theorem wide_block (c : Dev nD) (t : Fin cfg0.N) (k : Fin 2048) (l : Fin 4608) :
    X0_9 m c t (ix2 k l) = m ((c : Thread nD τ).loc main_arg3) (ix2 k (⟨4608 + l.val, by omega⟩ : Fin 9760)) := by
  obtain ⟨p0, p1, p2, p3, p4, p5, p6, p7, p8, p9, -⟩ := places t
  refine Eq.trans ?_ (wide_arr m c k _)
  unfold X0_9 Pipeline.Window.fill
  split
  · blk_ext [iblk, p9]
  · rename_i hm
    exact absurd (((cfg0.win 9).moved_iff _ _).mpr fun a => by
      fin_cases a
      · exact lt_of_lt_of_eq k.isLt (by rw [Pipeline.Window.xsize]; rfl)
      · exact lt_of_lt_of_eq l.isLt (wide_size t)) hm

theorem tail_block (c : Dev nD) (t : Fin cfg0.N) (k : Fin 2048) (l : Fin 640) :
    iblk m c 10 t (ix2 k l)
      = if h : l.val < 544 then m ((c : Thread nD τ).loc main_arg3) (ix2 k (⟨9216 + l.val, by omega⟩ : Fin 9760)) else (0 : EReal) := by
  obtain ⟨p0, p1, p2, p3, p4, p5, p6, p7, p8, p9, p10, -⟩ := places t
  refine Eq.trans ?_ (tail_arr m c k l)
  blk_ext [iblk, p10]

end Cert.KernelIdeal.Blocks
-- ==== Proof.Join.lean ====
/- A head's block of the kernel against the reference's rows of attention. -/
module

public import proofs.«01_k».proof.Proof.RefRow
public import proofs.«01_k».proof.Proof.Words
public import proofs.«01_k».proof.Proof.Blocks

@[expose] public section

set_option maxRecDepth 16384

noncomputable section

namespace Cert.Join

open Cert.KernelIdeal Cert.KernelIdeal.Gen Cert.KernelIdeal.Attend Cert.KernelIdeal.Blocks Idealize.ShloMosaic Idealize.ShloMosaic.Tactic
open Cert.ReferenceIdeal.Attend (keys vals queries attention allowed eighth)

/-- A head of the kernel is the softmax with a sink over the keys its row may look at. -/
theorem head_eq (mask : IVec S128x256 1) (q : FVec Ideal S128x2048 .bf16) (k v : FVec Ideal S256x256 .f32) (X : Fin 32 → EReal) (h : Fin 32) (r : Fin 128) (d : Fin 64)
    (i : Fin 16) (Q : Fin 64 → EReal) (K : Fin 256 → Fin 64 → EReal) (W : Fin 256 → EReal)
    (hm : ∀ n, mask (ix2 r n) = BitVec.ofBool (decide (allowed i r n)))
    (hq : ∀ e : Fin 64, q (ix2 r (⟨64 * h.val + e.val, by omega⟩ : Fin 2048)) = Q e ∧ ∃ y : ℝ, Q e = y)
    (hk : ∀ n, allowed i r n → ∀ e : Fin 64, k (ix2 n (⟨64 * (h.val / 8) + e.val, by omega⟩ : Fin 256)) = K n e ∧ ∃ y : ℝ, K n e = y)
    (hv : ∀ n, allowed i r n → v (ix2 n (⟨64 * (h.val / 8) + d.val, by omega⟩ : Fin 256)) = W n) (hx : X h ≠ ⊤) :
    headAt mask q k v X h r d
      = Cert.Soft.refOut (fun n => if allowed i r n then (∑ e : Fin 64, K n e * Q e) * eighth else ⊥) (X h) W := by
  have own : allowed i r (⟨r.val + 128, by omega⟩ : Fin 256) := ⟨⟨by show r.val < r.val + 128; omega, le_refl _⟩, Or.inr (by show 128 ≤ r.val + 128; omega)⟩
  have sc : ∀ n, allowed i r n → (∑ e : Fin 64, q (ix2 r (⟨64 * h.val + e.val, by omega⟩ : Fin 2048)) * (k (ix2 n (⟨64 * (h.val / 8) + e.val, by omega⟩ : Fin 256)) * scaleLog2e))
      = (∑ e : Fin 64, K n e * Q e) * eighth * (Cert.Soft.rate : EReal) ∧ ∃ y : ℝ, (∑ e : Fin 64, K n e * Q e) * eighth = y := by
    intro n hn
    have z := Cert.Soft.score Q (K n) (fun e => (hq e).2) (fun e => (hk n hn e).2)
    rw [← Cert.Soft.eighth_eq] at z
    refine ⟨Eq.trans (Finset.sum_congr rfl fun e _ => ?_) z.1, z.2⟩
    rw [(hq e).1, (hk n hn e).1]
  have s : headScores mask q k h r
      = fun n => (if allowed i r n then (∑ e : Fin 64, K n e * Q e) * eighth else ⊥) * (Cert.Soft.rate : EReal) := by
    funext n
    unfold headScores
    rw [hm n, Cert.Band.select_bit]
    by_cases hn : allowed i r n
    · simp only [hn, decide_true, if_true]
      exact (sc n hn).1
    · simp only [hn, decide_false, if_false, Bool.false_eq_true]
      exact (EReal.bot_mul_coe_of_pos Cert.Soft.rate_pos).symm
  unfold headAt
  rw [s, Cert.Soft.log2e_eq]
  refine Cert.Soft.soft _ _ _ _ (fun n => ?_) hx (⟨r.val + 128, by omega⟩ : Fin 256) ?_ (fun n hn => hv n ?_)
  · by_cases hn : allowed i r n
    · obtain ⟨y, hy⟩ := (sc n hn).2
      rw [if_pos hn, hy]; exact EReal.coe_ne_top y
    · rw [if_neg hn]; exact bot_ne_top
  · obtain ⟨y, hy⟩ := (sc _ own).2
    rw [if_pos own, hy]; exact EReal.coe_ne_bot y
  · by_contra hc
    exact hn (if_neg hc)

/-- The first window of a block: the half before it, then its own rows, each at its place in the sequence. -/
theorem before_at (i : grid0.Coords) (a : FVec Ideal S1x128x256 .f32) (b : FVec Ideal S1x256x256 .f32) (z : Fin 2048 → Fin 256 → EReal)
    (ea : ∀ y l, a (ix3 0 y l) = z (prev i y) l) (eb : ∀ y l, b (ix3 0 y l) = z (row i y) l) (n l l' : Fin 256) (p : Fin 2048)
    (hp : p.val = 256 * (i 1).val + n.val - 128) (hl : l.val = l'.val) (h : 0 < (i 1).val ∨ 128 ≤ n.val) : windowFst a b n l = z p l' := by
  unfold windowFst
  rw [Fin.ext hl]
  by_cases hn : n.val < 128
  · rw [dif_pos hn, ea]
    exact congrArg (fun q => z q l') (Fin.ext (by show 128 * (2 * (i 1).val - 1) + n.val = p.val; omega))
  · rw [dif_neg hn, eb]
    exact congrArg (fun q => z q l') (Fin.ext (by show 256 * (i 1).val + (n.val - 128) = p.val; omega))

/-- A row of the kernel's attention, held between the two halves of the block, is a row of the reference's. -/
theorem held_eq (c : Dev nD) (i : grid0.Coords) (arg2 : Memref sig .tc .smem S32 .f32) (harg2 : arg2.IsWhole) (arg3 : Memref sig .tc .vmem S1x256x2048 .bf16) (harg3 : arg3.IsWhole) (arg5 : Memref sig .tc .vmem S1x128x256 .f32) (harg5 : arg5.IsWhole) (arg6 : Memref sig .tc .vmem S1x256x256 .f32) (harg6 : arg6.IsWhole) (arg7 : Memref sig .tc .vmem S1x128x256 .f32) (harg7 : arg7.IsWhole) (arg8 : Memref sig .tc .vmem S1x256x256 .f32) (harg8 : arg8.IsWhole)
    (x0 : FVec Ideal S32 .f32) (x1 : FVec Ideal S1x256x2048 .bf16) (x3 : FVec Ideal S1x128x256 .f32) (x4 : FVec Ideal S1x256x256 .f32) (x5 : FVec Ideal S1x128x256 .f32) (x6 : FVec Ideal S1x256x256 .f32)
    (qg : FVec Ideal S16x2048x4096 .bf16) (kv : FVec Ideal S16x2048x512 .f32) (x : FVec Ideal S32 .f32)
    (e0 : ∀ n, x0 (ix1 n) = x (ix1 n))
    (e1 : ∀ (y : Fin 256) (l : Fin 2048), x1 (ix3 0 y l) = qg (ix3 (bat i) (row i y) (⟨l.val, by omega⟩ : Fin 4096)))
    (e3 : ∀ (y : Fin 128) (l : Fin 256), x3 (ix3 0 y l) = kv (ix3 (bat i) (prev i y) (⟨l.val, by omega⟩ : Fin 512)))
    (e4 : ∀ (y : Fin 256) (l : Fin 256), x4 (ix3 0 y l) = kv (ix3 (bat i) (row i y) (⟨l.val, by omega⟩ : Fin 512)))
    (e5 : ∀ (y : Fin 128) (l : Fin 256), x5 (ix3 0 y l) = kv (ix3 (bat i) (prev i y) (⟨256 + l.val, by omega⟩ : Fin 512)))
    (e6 : ∀ (y : Fin 256) (l : Fin 256), x6 (ix3 0 y l) = kv (ix3 (bat i) (row i y) (⟨256 + l.val, by omega⟩ : Fin 512)))
    (fq : ∀ (b : Fin 16) (t l : Fin 2048), ∃ y : ℝ, qg (ix3 b t (⟨l.val, by omega⟩ : Fin 4096)) = y)
    (fk : ∀ (b : Fin 16) (t : Fin 2048) (l : Fin 256), ∃ y : ℝ, kv (ix3 b t (⟨l.val, by omega⟩ : Fin 512)) = y)
    (fx : ∀ n, x (ix1 n) ≠ ⊤) (y : Fin 256) (l : Fin 2048) :
    held c i arg2 harg2 arg3 harg3 arg5 harg5 arg6 harg6 arg7 harg7 arg8 harg8 x0 x1 x3 x4 x5 x6 (ix3 (⟨y.val / 128, by omega⟩ : Fin 2) (⟨y.val % 128, by omega⟩ : Fin 128) l)
      = attention qg kv x (ix3 (bat i) (row i y) l) := by
  have hi : (i 1).val < 8 := (i 1).isLt
  have hrow : ∀ z, (row i z).val = 256 * (i 1).val + z.val := fun z => rfl
  have hprev : ∀ z, (prev i z).val = 128 * (2 * (i 1).val - 1) + z.val := fun z => rfl
  have hb : ∀ s, s < 2 → 2 * (i 1).val + s < 16 := fun s hs => by omega
  have hy := y.isLt
  have hl := l.isLt
  rw [Cert.ReferenceIdeal.Attend.attention_at qg kv x (bat i) (row i y) l (⟨2 * (i 1).val + y.val / 128, hb _ (by omega)⟩ : Fin 16) (⟨y.val % 128, by omega⟩ : Fin 128)
    (⟨l.val / 512, by omega⟩ : Fin 4) (⟨l.val / 64 % 8, by omega⟩ : Fin 8) (⟨l.val % 64, by omega⟩ : Fin 64)
    (by rw [hrow]; show _ = 2 * (i 1).val + y.val / 128; omega) (by rw [hrow]; show _ = y.val % 128; omega) rfl rfl rfl]
  have ex : x0 (ix1 (⟨l.val / 64, by omega⟩ : Fin 32)) = x (ix1 (⟨l.val / 512 * 8 + l.val / 64 % 8, by omega⟩ : Fin 32)) := by
    rw [e0]
    exact congrArg x (congrArg ix1 (Fin.ext (by show l.val / 64 = l.val / 512 * 8 + l.val / 64 % 8; omega)))
  have hX : x0 (ix1 (⟨l.val / 64, by omega⟩ : Fin 32)) ≠ ⊤ := by rw [e0]; exact fx _
  unfold held scratchAt
  by_cases h0 : y.val / 128 = 0
  · rw [if_pos (show ((ix3 (⟨y.val / 128, by omega⟩ : Fin 2) (⟨y.val % 128, by omega⟩ : Fin 128) l : S2x128x2048.Idx) 0).val = 0 from h0)]
    refine (head_eq _ _ _ _ _ (⟨l.val / 64, by omega⟩ : Fin 32) (⟨y.val % 128, by omega⟩ : Fin 128) (⟨l.val % 64, by omega⟩ : Fin 64) (⟨2 * (i 1).val + y.val / 128, hb _ (by omega)⟩ : Fin 16)
      (fun e => queries qg (ix6 (bat i) (⟨2 * (i 1).val + y.val / 128, hb _ (by omega)⟩ : Fin 16) (⟨y.val % 128, by omega⟩ : Fin 128) (⟨l.val / 512, by omega⟩ : Fin 4) (⟨l.val / 64 % 8, by omega⟩ : Fin 8) e))
      (fun n e => keys kv (ix5 (bat i) (⟨2 * (i 1).val + y.val / 128, hb _ (by omega)⟩ : Fin 16) n (⟨l.val / 512, by omega⟩ : Fin 4) e))
      (fun n => vals kv (ix5 (bat i) (⟨2 * (i 1).val + y.val / 128, hb _ (by omega)⟩ : Fin 16) n (⟨l.val / 512, by omega⟩ : Fin 4) (⟨l.val % 64, by omega⟩ : Fin 64)))
      ?_ ?_ ?_ ?_ hX).trans (by rw [ex])
    · intro n
      rw [v20_at]
      refine congrArg BitVec.ofBool (decide_eq_decide.mpr (and_congr_right fun _ => or_congr_left ?_))
      show 0 < (i 1).val ↔ 0 < 2 * (i 1).val + y.val / 128
      omega
    · intro e
      rw [v22_at, e1, Cert.ReferenceIdeal.Attend.queries_at]
      have ei : ∀ (p p' : Fin 2048) (s s' : Fin 4096), p.val = p'.val → s.val = s'.val → qg (ix3 (bat i) p s) = qg (ix3 (bat i) p' s') := by
        intro p p' s s' h1 h2; rw [Fin.ext h1, Fin.ext h2]
      refine ⟨ei _ _ _ _ ?_ ?_, ?_⟩
      · show 256 * (i 1).val + y.val % 128 = (2 * (i 1).val + y.val / 128) * 128 + y.val % 128
        omega
      · show 64 * (l.val / 64) + e.val = l.val / 512 * 512 + l.val / 64 % 8 * 64 + e.val
        omega
      · exact fq _ _ (⟨l.val / 512 * 512 + l.val / 64 % 8 * 64 + e.val, by omega⟩ : Fin 2048)
    · intro n hn e
      have ha : 0 < 2 * (i 1).val + y.val / 128 ∨ 128 ≤ n.val := hn.2
      rw [window_fst, Cert.ReferenceIdeal.Attend.keys_at, dif_neg (by show ¬ (2 * (i 1).val + y.val / 128) * 128 + n.val < 128; omega)]
      refine ⟨before_at i x3 x4 (fun p s => kv (ix3 (bat i) p (⟨s.val, by omega⟩ : Fin 512))) e3 e4 n _ (⟨l.val / 512 * 64 + e.val, by omega⟩ : Fin 256) _ ?_ ?_ ?_, ?_⟩
      · show (2 * (i 1).val + y.val / 128) * 128 + n.val - 128 = 256 * (i 1).val + n.val - 128
        omega
      · show 64 * (l.val / 64 / 8) + e.val = l.val / 512 * 64 + e.val
        omega
      · omega
      · exact fk _ _ (⟨l.val / 512 * 64 + e.val, by omega⟩ : Fin 256)
    · intro n hn
      have ha : 0 < 2 * (i 1).val + y.val / 128 ∨ 128 ≤ n.val := hn.2
      rw [window_fst', Cert.ReferenceIdeal.Attend.vals_at, dif_neg (by show ¬ (2 * (i 1).val + y.val / 128) * 128 + n.val < 128; omega)]
      refine before_at i x5 x6 (fun p s => kv (ix3 (bat i) p (⟨256 + s.val, by omega⟩ : Fin 512))) e5 e6 n _ (⟨l.val / 512 * 64 + l.val % 64, by omega⟩ : Fin 256) _ ?_ ?_ ?_
      · show (2 * (i 1).val + y.val / 128) * 128 + n.val - 128 = 256 * (i 1).val + n.val - 128
        omega
      · show 64 * (l.val / 64 / 8) + l.val % 64 = l.val / 512 * 64 + l.val % 64
        omega
      · omega
  · rw [if_neg (show ¬ ((ix3 (⟨y.val / 128, by omega⟩ : Fin 2) (⟨y.val % 128, by omega⟩ : Fin 128) l : S2x128x2048.Idx) 0).val = 0 from h0)]
    refine (head_eq _ _ _ _ _ (⟨l.val / 64, by omega⟩ : Fin 32) (⟨y.val % 128, by omega⟩ : Fin 128) (⟨l.val % 64, by omega⟩ : Fin 64) (⟨2 * (i 1).val + y.val / 128, hb _ (by omega)⟩ : Fin 16)
      (fun e => queries qg (ix6 (bat i) (⟨2 * (i 1).val + y.val / 128, hb _ (by omega)⟩ : Fin 16) (⟨y.val % 128, by omega⟩ : Fin 128) (⟨l.val / 512, by omega⟩ : Fin 4) (⟨l.val / 64 % 8, by omega⟩ : Fin 8) e))
      (fun n e => keys kv (ix5 (bat i) (⟨2 * (i 1).val + y.val / 128, hb _ (by omega)⟩ : Fin 16) n (⟨l.val / 512, by omega⟩ : Fin 4) e))
      (fun n => vals kv (ix5 (bat i) (⟨2 * (i 1).val + y.val / 128, hb _ (by omega)⟩ : Fin 16) n (⟨l.val / 512, by omega⟩ : Fin 4) (⟨l.val % 64, by omega⟩ : Fin 64)))
      ?_ ?_ ?_ ?_ hX).trans (by rw [ex])
    · intro n
      rw [v9_at]
      refine congrArg BitVec.ofBool (decide_eq_decide.mpr ⟨fun hn => ⟨hn, Or.inl ?_⟩, fun hn => hn.1⟩)
      show 0 < 2 * (i 1).val + y.val / 128
      omega
    · intro e
      rw [r_at, e1, Cert.ReferenceIdeal.Attend.queries_at]
      have ei : ∀ (p p' : Fin 2048) (s s' : Fin 4096), p.val = p'.val → s.val = s'.val → qg (ix3 (bat i) p s) = qg (ix3 (bat i) p' s') := by
        intro p p' s s' h1 h2; rw [Fin.ext h1, Fin.ext h2]
      refine ⟨ei _ _ _ _ ?_ ?_, ?_⟩
      · show 256 * (i 1).val + (128 + y.val % 128) = (2 * (i 1).val + y.val / 128) * 128 + y.val % 128
        omega
      · show 64 * (l.val / 64) + e.val = l.val / 512 * 512 + l.val / 64 % 8 * 64 + e.val
        omega
      · exact fq _ _ (⟨l.val / 512 * 512 + l.val / 64 % 8 * 64 + e.val, by omega⟩ : Fin 2048)
    · intro n hn e
      rw [window_snd, Cert.ReferenceIdeal.Attend.keys_at, dif_neg (by show ¬ (2 * (i 1).val + y.val / 128) * 128 + n.val < 128; omega), e4]
      have ei : ∀ (p p' : Fin 2048) (s s' : Fin 512), p.val = p'.val → s.val = s'.val → kv (ix3 (bat i) p s) = kv (ix3 (bat i) p' s') := by
        intro p p' s s' h1 h2; rw [Fin.ext h1, Fin.ext h2]
      refine ⟨ei _ _ _ _ ?_ ?_, ?_⟩
      · show 256 * (i 1).val + n.val = (2 * (i 1).val + y.val / 128) * 128 + n.val - 128
        omega
      · show 64 * (l.val / 64 / 8) + e.val = l.val / 512 * 64 + e.val
        omega
      · exact fk _ _ (⟨l.val / 512 * 64 + e.val, by omega⟩ : Fin 256)
    · intro n hn
      rw [window_snd', Cert.ReferenceIdeal.Attend.vals_at, dif_neg (by show ¬ (2 * (i 1).val + y.val / 128) * 128 + n.val < 128; omega), e6]
      have ei : ∀ (p p' : Fin 2048) (s s' : Fin 512), p.val = p'.val → s.val = s'.val → kv (ix3 (bat i) p s) = kv (ix3 (bat i) p' s') := by
        intro p p' s s' h1 h2; rw [Fin.ext h1, Fin.ext h2]
      refine ei _ _ _ _ ?_ ?_
      · show 256 * (i 1).val + n.val = (2 * (i 1).val + y.val / 128) * 128 + n.val - 128
        omega
      · show 256 + (64 * (l.val / 64 / 8) + l.val % 64) = 256 + (l.val / 512 * 64 + l.val % 64)
        omega

end Cert.Join
-- ==== Proof.RefProj.lean ====
/- The reference's projection at an index. -/
module

public import proofs.«01_k».proof.Proof.Ref

@[expose] public section

set_option maxRecDepth 16384

noncomputable section

namespace Cert.ReferenceIdeal.Project

open Cert.ReferenceIdeal Cert.ReferenceIdeal.Gen Idealize.ShloMosaic Idealize.ShloMosaic.Tactic

/-- The projection's last columns, all at once. -/
def projected (h : FVec Ideal S16x2048x2048 .bf16) (w : FVec Ideal S2048x9760 .f32) : FVec Ideal S16x2048x5152 .f32 :=
  Host.dotGeneral dot_S16x2048x2048_S2048x5152_S16x2048x5152_2_0_01_1_n_n none (extf .f32 h bitsLt_bf16_f32)
    (extractStridedSlice S2048x5152 ![0, 4608] w slices_S2048x9760_S2048x5152_0_4608)

def gateOf (h : FVec Ideal S16x2048x2048 .bf16) (w : FVec Ideal S2048x9760 .f32) : FVec Ideal S16x2048x2048 .bf16 :=
  truncf .bf16 (extractStridedSlice S16x2048x2048 ![0, 0, 0] (projected h w) slices_S16x2048x5152_S16x2048x2048_0_0_0) bitsLt_bf16_f32

def convOf (h : FVec Ideal S16x2048x2048 .bf16) (w : FVec Ideal S2048x9760 .f32) : FVec Ideal S16x2048x3072 .f32 :=
  extractStridedSlice S16x2048x3072 ![0, 0, 2048] (projected h w) slices_S16x2048x5152_S16x2048x3072_0_0_2048

def stepOf (h : FVec Ideal S16x2048x2048 .bf16) (w : FVec Ideal S2048x9760 .f32) : FVec Ideal S16x2048x128 .f32 :=
  pad S16x2048x128 ![0, 0, 0] ![0, 0, 96] ![0, 0, 0] (extractStridedSlice S16x2048x32 ![0, 0, 5120] (projected h w) slices_S16x2048x5152_S16x2048x32_0_0_5120)
    (sitofp .f32 (constantI S_ 32 0#32)) pads_S16x2048x32_S16x2048x128_000_000_0960 h_S_

theorem projected_at (h : FVec Ideal S16x2048x2048 .bf16) (w : FVec Ideal S2048x9760 .f32) (b : Fin 16) (t : Fin 2048) (n : Fin 5152) :
    projected h w (ix3 b t n) = ∑ l : Fin 2048, h (ix3 b t l) * w (ix2 l (⟨4608 + n.val, by omega⟩ : Fin 9760)) := by
  pointwise [projected]

theorem gateOf_at (h : FVec Ideal S16x2048x2048 .bf16) (w : FVec Ideal S2048x9760 .f32) (b : Fin 16) (t : Fin 2048) (n : Fin 2048) :
    gateOf h w (ix3 b t n) = ∑ l : Fin 2048, h (ix3 b t l) * w (ix2 l (⟨4608 + n.val, by omega⟩ : Fin 9760)) := by
  refine Eq.trans ?_ (projected_at h w b t (⟨n.val, by omega⟩ : Fin 5152))
  pointwise [gateOf]

theorem convOf_at (h : FVec Ideal S16x2048x2048 .bf16) (w : FVec Ideal S2048x9760 .f32) (b : Fin 16) (t : Fin 2048) (n : Fin 3072) :
    convOf h w (ix3 b t n) = ∑ l : Fin 2048, h (ix3 b t l) * w (ix2 l (⟨4608 + (2048 + n.val), by omega⟩ : Fin 9760)) := by
  refine Eq.trans ?_ (projected_at h w b t (⟨2048 + n.val, by omega⟩ : Fin 5152))
  pointwise [convOf]

theorem zero_int : (FloatOps.sitofp (F := Ideal) .f32 (0#32) : EReal) = 0 := by
  show (((0#32 : BitVec 32).toInt : ℝ) : EReal) = 0
  norm_num

theorem stepOf_at (h : FVec Ideal S16x2048x2048 .bf16) (w : FVec Ideal S2048x9760 .f32) (b : Fin 16) (t : Fin 2048) (n : Fin 128) :
    stepOf h w (ix3 b t n) = if e : n.val < 32 then ∑ l : Fin 2048, h (ix3 b t l) * w (ix2 l (⟨9728 + n.val, by omega⟩ : Fin 9760)) else 0 := by
  by_cases e : n.val < 32
  · rw [dif_pos e]
    refine Eq.trans ?_ ((projected_at h w b t (⟨5120 + n.val, by omega⟩ : Fin 5152)).trans (Finset.sum_congr rfl fun l _ => congrArg (_ * ·) (congrArg w (congrArg (ix2 l) (Fin.ext ?_)))))
    · pointwise [stepOf]
      rw [dif_pos e]
    · show 4608 + (5120 + n.val) = 9728 + n.val
      omega
  · rw [dif_neg e]
    refine Eq.trans ?_ zero_int
    pointwise [stepOf]
    rw [dif_neg e]

end Cert.ReferenceIdeal.Project
-- ==== Proof.Pre.lean ====
/- What the precondition says, entry by entry. -/
module

public import proofs.«01_k».proof.Proof.Gen.Pre_finite_scores
public import Idealize.ShloMosaic.Lib.ReduceAll
public import Idealize.ShloMosaic.Lib.Pointwise
public import Idealize.ShloMosaic.Lib.Pipeline.ValueKit
public import Idealize.ShloMosaic.Lib.Tactic.CleanTypes

@[expose] public section

set_option maxRecDepth 16384

noncomputable section

namespace Cert.Pre_finite_scores.Entries

open Cert.Pre_finite_scores Cert.Pre_finite_scores.Gen Idealize.ShloMosaic Idealize.ShloMosaic.Tactic

instance : Subsingleton S_.Idx := ⟨fun a b => funext fun x => x.elim0⟩

theorem pos_inf : Ideal.ofBits .f32 0x7F800000#32 = ⊤ := by
  simp only [Ideal.ofBits]
  unfold Ideal.ieee
  rw [if_pos (by decide +kernel), if_pos (by decide +kernel), if_neg (by decide +kernel)]

theorem neg_inf : Ideal.ofBits .f32 0xFF800000#32 = ⊥ := by
  simp only [Ideal.ofBits]
  unfold Ideal.ieee
  rw [if_pos (by decide +kernel), if_pos (by decide +kernel), if_pos (by decide +kernel)]

theorem lt_of_cmp {a b : EReal} (h : Ideal.cmp .olt a b = 1#1) : a < b := by
  by_contra c
  have e : Ideal.cmp .olt a b = BitVec.ofBool (decide (a < b)) := rfl
  rw [e, decide_eq_false c] at h
  exact absurd h (by decide)

theorem gt_of_cmp {a b : EReal} (h : Ideal.cmp .ogt a b = 1#1) : b < a := by
  by_contra c
  have e : Ideal.cmp .ogt a b = BitVec.ofBool (decide (b < a)) := rfl
  rw [e, decide_eq_false c] at h
  exact absurd h (by decide)

theorem finite_of_abs {a : EReal} (h : Ideal.cmp .olt (max a (-a)) (Ideal.ofBits .f32 0x7F800000#32) = 1#1) : ∃ r : ℝ, a = r := by
  have h := lt_of_cmp h
  rw [pos_inf, max_lt_iff] at h
  refine ⟨a.toReal, (EReal.coe_toReal h.1.ne ?_).symm⟩
  intro e
  rw [e, EReal.neg_bot] at h
  exact absurd h.2 (lt_irrefl _)

theorem entries (qg : FVec Ideal S16x2048x4096 .bf16) (kv : FVec Ideal S16x2048x512 .f32) (h : FVec Ideal S16x2048x2048 .bf16) (w : FVec Ideal S2048x9760 .f32)
    (x : FVec Ideal S32 .f32) (g : FVec Ideal S2048 .f32) (hp : fn (F := Ideal) qg kv h w x g = fun _ => 1#1) :
    (∀ (b : Fin 16) (t l : Fin 2048), ∃ r : ℝ, qg (ix3 b t (⟨l.val, by omega⟩ : Fin 4096)) = (r : EReal))
    ∧ (∀ (b : Fin 16) (t : Fin 2048) (l : Fin 256), ∃ r : ℝ, kv (ix3 b t (⟨l.val, by omega⟩ : Fin 512)) = (r : EReal))
    ∧ (∀ n : Fin 32, x (ix1 n) ≠ (⊤ : EReal))
    ∧ ∀ (b : Fin 16) (t l : Fin 2048), qg (ix3 b t (⟨2048 + l.val, by omega⟩ : Fin 4096)) ≠ (⊥ : EReal) := by
  have hp := congrFun hp ix0
  unfold fn fn_part1 at hp
  dsimp only at hp
  obtain ⟨hp, h4⟩ := IntOp.andi_eq_one.mp hp
  obtain ⟨hp, h3⟩ := IntOp.andi_eq_one.mp hp
  obtain ⟨h1, h2⟩ := IntOp.andi_eq_one.mp hp
  refine ⟨fun b t l => ?_, fun b t l => ?_, fun n => ?_, fun b t l => ?_⟩
  · refine finite_of_abs (Eq.trans ?_ (Host.reduce_andi_all _ _ _ _ _ h1 (ix3 b t l)))
    pointwise
    rfl
  · refine finite_of_abs (Eq.trans ?_ (Host.reduce_andi_all _ _ _ _ _ h2 (ix3 b t l)))
    pointwise
    rfl
  · have e : Ideal.cmp .olt (x (ix1 n)) (Ideal.ofBits .f32 0x7F800000#32) = 1#1 := by
      refine Eq.trans ?_ (Host.reduce_andi_all _ _ _ _ _ h3 (ix1 n))
      pointwise
    have e := lt_of_cmp e
    rw [pos_inf] at e
    exact e.ne
  · have e : Ideal.cmp .ogt (qg (ix3 b t (⟨2048 + l.val, by omega⟩ : Fin 4096))) (Ideal.ofBits .f32 0xFF800000#32) = 1#1 := by
      refine Eq.trans ?_ (Host.reduce_andi_all _ _ _ _ _ h4 (ix3 b t l))
      pointwise
    have e := gt_of_cmp e
    rw [neg_inf] at e
    exact e.ne'

end Cert.Pre_finite_scores.Entries
-- ==== Proof.Arrays.lean ====
/- The arrays the kernel leaves are the reference's. -/
module

public import proofs.«01_k».proof.Proof.Join
public import proofs.«01_k».proof.Proof.RefProj
public import proofs.«01_k».proof.Proof.Pre

@[expose] public section

set_option maxRecDepth 16384

noncomputable section

namespace Cert.KernelIdeal.Arrays

open Cert.KernelIdeal Cert.KernelIdeal.Gen Cert.KernelIdeal.Attend Cert.KernelIdeal.Blocks Idealize.ShloMosaic Idealize.ShloMosaic.TcCoe Idealize.ShloMosaic.Tactic

variable (m : (ℓ : Loc nD τ sig) → Buf (Elt Ideal) ℓ)

/-- What each point writes back to the gate's array. -/
theorem point12 (c : Dev nD) (t : Fin cfg0.N) (y : Fin 256) (n : Fin 2048) :
    zOf (iblk m c 8 t) (X0_9 m c t) (ix3 0 y n)
      = Cert.ReferenceIdeal.Project.gateOf (m ((c : Thread nD τ).loc main_arg2)) (m ((c : Thread nD τ).loc main_arg3)) (ix3 (bat (grid0.coords t)) (row (grid0.coords t) y) n) := by
  rw [Cert.ReferenceIdeal.Project.gateOf_at]
  refine Finset.sum_congr rfl fun l _ => ?_
  exact congrArg₂ (· * ·) (rows_block m c t y l) (wide_block m c t l (⟨n.val, by omega⟩ : Fin 4608))

theorem point13 (c : Dev nD) (t : Fin cfg0.N) (y : Fin 256) (n : Fin 3072) :
    xbcOf (iblk m c 8 t) (X0_9 m c t) (iblk m c 10 t) (ix3 0 y n)
      = Cert.ReferenceIdeal.Project.convOf (m ((c : Thread nD τ).loc main_arg2)) (m ((c : Thread nD τ).loc main_arg3)) (ix3 (bat (grid0.coords t)) (row (grid0.coords t) y) n) := by
  rw [Cert.ReferenceIdeal.Project.convOf_at]
  refine Finset.sum_congr rfl fun l _ => ?_
  refine congrArg₂ (· * ·) (rows_block m c t y l) ?_
  show xbcCol (X0_9 m c t) (iblk m c 10 t) l n = _
  unfold xbcCol
  by_cases h : n.val < 2560
  · rw [dif_pos h]
    refine (wide_block m c t l (⟨2048 + n.val, by omega⟩ : Fin 4608)).trans ?_
    exact congrArg _ (congrArg (ix2 l) (Fin.ext rfl))
  · rw [dif_neg h]
    refine (tail_block m c t l (⟨n.val - 2560, by omega⟩ : Fin 640)).trans ?_
    rw [dif_pos (by show n.val - 2560 < 544; omega)]
    exact congrArg _ (congrArg (ix2 l) (Fin.ext (by show 9216 + (n.val - 2560) = 4608 + (2048 + n.val); omega)))

theorem point14 (c : Dev nD) (t : Fin cfg0.N) (y : Fin 256) (n : Fin 128) :
    dtOf (iblk m c 8 t) (iblk m c 10 t) (ix3 0 y n)
      = Cert.ReferenceIdeal.Project.stepOf (m ((c : Thread nD τ).loc main_arg2)) (m ((c : Thread nD τ).loc main_arg3)) (ix3 (bat (grid0.coords t)) (row (grid0.coords t) y) n) := by
  rw [Cert.ReferenceIdeal.Project.stepOf_at]
  by_cases h : n.val < 32
  · rw [dif_pos h]
    refine Finset.sum_congr rfl fun l _ => ?_
    refine congrArg₂ (· * ·) (rows_block m c t y l) ?_
    refine (tail_block m c t l (⟨512 + n.val, by omega⟩ : Fin 640)).trans ?_
    rw [dif_pos (by show 512 + n.val < 544; omega)]
    exact congrArg _ (congrArg (ix2 l) (Fin.ext (by show 9216 + (512 + n.val) = 9728 + n.val; omega)))
  · rw [dif_neg h]
    unfold dtOf
    refine Finset.sum_eq_zero fun l _ => ?_
    exact mul_eq_zero_of_right _ ((tail_block m c t l (⟨512 + n.val, by omega⟩ : Fin 640)).trans (dif_neg (by show ¬ 512 + n.val < 544; omega)))

theorem final12 (c : Dev nD) : (dats m 0 c).arrAt 12 cfg0.N
    = Cert.ReferenceIdeal.Project.gateOf (m ((c : Thread nD τ).loc main_arg2)) (m ((c : Thread nD τ).loc main_arg3)) := by
  refine (dats m 0 c).arrAt_eq_of_covers 12 _ (by decide +kernel) fun t hf y => ?_
  refine (congrFun (Cert.KernelIdeal.Value.flushed12_A m c t) y).trans ?_
  refine (outv12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (iblk m c 0 t) (iblk m c 1 t) (iblk m c 2 t) (iblk m c 3 t) (iblk m c 4 t) (iblk m c 5 t) (iblk m c 6 t) (iblk m c 7 t) (iblk m c 8 t) (X0_9 m c t) (iblk m c 10 t) ((cfg0.win 12).xinj (grid0.coords t) y)).trans ?_
  obtain ⟨-, -, -, -, -, -, -, -, -, -, -, p11, p12, p13, p14⟩ := places t
  rw [idx_unit 256 2048 ((cfg0.win 12).xinj (grid0.coords t) y)]
  refine (point12 m c t _ _).trans (congrArg _ ?_)
  blk_ext [bat, row, p12]

theorem final13 (c : Dev nD) : (dats m 0 c).arrAt 13 cfg0.N
    = Cert.ReferenceIdeal.Project.convOf (m ((c : Thread nD τ).loc main_arg2)) (m ((c : Thread nD τ).loc main_arg3)) := by
  refine (dats m 0 c).arrAt_eq_of_covers 13 _ (by decide +kernel) fun t hf y => ?_
  refine (congrFun (Cert.KernelIdeal.Value.flushed13_A m c t) y).trans ?_
  refine (outv13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (iblk m c 0 t) (iblk m c 1 t) (iblk m c 2 t) (iblk m c 3 t) (iblk m c 4 t) (iblk m c 5 t) (iblk m c 6 t) (iblk m c 7 t) (iblk m c 8 t) (X0_9 m c t) (iblk m c 10 t) ((cfg0.win 13).xinj (grid0.coords t) y)).trans ?_
  obtain ⟨-, -, -, -, -, -, -, -, -, -, -, p11, p12, p13, p14⟩ := places t
  rw [idx_unit 256 3072 ((cfg0.win 13).xinj (grid0.coords t) y)]
  refine (point13 m c t _ _).trans (congrArg _ ?_)
  blk_ext [bat, row, p13]

theorem final14 (c : Dev nD) : (dats m 0 c).arrAt 14 cfg0.N
    = Cert.ReferenceIdeal.Project.stepOf (m ((c : Thread nD τ).loc main_arg2)) (m ((c : Thread nD τ).loc main_arg3)) := by
  refine (dats m 0 c).arrAt_eq_of_covers 14 _ (by decide +kernel) fun t hf y => ?_
  refine (congrFun (Cert.KernelIdeal.Value.flushed14_A m c t) y).trans ?_
  refine (outv14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (iblk m c 0 t) (iblk m c 1 t) (iblk m c 2 t) (iblk m c 3 t) (iblk m c 4 t) (iblk m c 5 t) (iblk m c 6 t) (iblk m c 7 t) (iblk m c 8 t) (X0_9 m c t) (iblk m c 10 t) ((cfg0.win 14).xinj (grid0.coords t) y)).trans ?_
  obtain ⟨-, -, -, -, -, -, -, -, -, -, -, p11, p12, p13, p14⟩ := places t
  rw [idx_unit 256 128 ((cfg0.win 14).xinj (grid0.coords t) y)]
  refine (point14 m c t _ _).trans (congrArg _ ?_)
  blk_ext [bat, row, p14]

theorem row_congr {f f' g g' w w' : Fin 2048 → EReal} (h1 : f = f') (h2 : g = g') (h3 : w = w') (n : Fin 2048) : rowNormed f g w n = rowNormed f' g' w' n := by
  rw [h1, h2, h3]

theorem point11 (c : Dev nD) (t : Fin cfg0.N)
    (hp : Cert.Pre_finite_scores.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = fun _ => 1#1) (y : Fin 256) (n : Fin 2048) :
    attnOf (held c (grid0.coords t) (ms0_0 t) (hs0_0 t) (ms0_1 t) (hs0_1 t) (ms0_3 t) (hs0_3 t) (ms0_4 t) (hs0_4 t) (ms0_5 t) (hs0_5 t) (ms0_6 t) (hs0_6 t) (iblk m c 0 t) (iblk m c 1 t) (iblk m c 3 t) (iblk m c 4 t) (iblk m c 5 t) (iblk m c 6 t)) (iblk m c 2 t) (iblk m c 7 t) (ix3 0 y n)
      = (Cert.ReferenceIdeal.Attend.normed (Cert.ReferenceIdeal.Attend.gatedBy (Cert.ReferenceIdeal.Attend.attention (m ((c : Thread nD τ).loc main_arg0)) (m ((c : Thread nD τ).loc main_arg1)) (m ((c : Thread nD τ).loc main_arg4))) (Cert.ReferenceIdeal.Attend.gates (m ((c : Thread nD τ).loc main_arg0)))) (m ((c : Thread nD τ).loc main_arg5))) (ix3 (bat (grid0.coords t)) (row (grid0.coords t) y) n) := by
  obtain ⟨fq, fk, fx, fg⟩ := Cert.Pre_finite_scores.Entries.entries _ _ _ _ _ _ hp
  rw [Cert.ReferenceIdeal.Attend.norm_at _ _ _ _ _ _ fun l => by rw [Cert.ReferenceIdeal.Attend.gates_at]; exact fg _ _ l]
  have ho : ∀ l : Fin 2048, held c (grid0.coords t) (ms0_0 t) (hs0_0 t) (ms0_1 t) (hs0_1 t) (ms0_3 t) (hs0_3 t) (ms0_4 t) (hs0_4 t) (ms0_5 t) (hs0_5 t) (ms0_6 t) (hs0_6 t) (iblk m c 0 t) (iblk m c 1 t) (iblk m c 3 t) (iblk m c 4 t) (iblk m c 5 t) (iblk m c 6 t) (ix3 (⟨y.val / 128, by omega⟩ : Fin 2) (⟨y.val % 128, by omega⟩ : Fin 128) l)
      = Cert.ReferenceIdeal.Attend.attention (m ((c : Thread nD τ).loc main_arg0)) (m ((c : Thread nD τ).loc main_arg1)) (m ((c : Thread nD τ).loc main_arg4)) (ix3 (bat (grid0.coords t)) (row (grid0.coords t) y) l) := fun l =>
    Cert.Join.held_eq c (grid0.coords t) (ms0_0 t) (hs0_0 t) (ms0_1 t) (hs0_1 t) (ms0_3 t) (hs0_3 t) (ms0_4 t) (hs0_4 t) (ms0_5 t) (hs0_5 t) (ms0_6 t) (hs0_6 t) (iblk m c 0 t) (iblk m c 1 t) (iblk m c 3 t) (iblk m c 4 t) (iblk m c 5 t) (iblk m c 6 t) (m ((c : Thread nD τ).loc main_arg0)) (m ((c : Thread nD τ).loc main_arg1)) (m ((c : Thread nD τ).loc main_arg4)) (sinks_block m c t) (queries_block m c t) (keys_before m c t) (keys_block m c t) (vals_before m c t) (vals_block m c t) fq fk fx y l
  have hg : ∀ l : Fin 2048, iblk m c 2 t (ix3 (0 : Fin 1) y l) = Cert.ReferenceIdeal.Attend.gates (m ((c : Thread nD τ).loc main_arg0)) (ix3 (bat (grid0.coords t)) (row (grid0.coords t) y) l) := fun l => by
    rw [Cert.ReferenceIdeal.Attend.gates_at]
    exact gates_block m c t y l
  exact row_congr (funext ho) (funext hg) (funext fun l => gain_block m c t l) n

theorem final11 (c : Dev nD) (hp : Cert.Pre_finite_scores.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) = fun _ => 1#1): (dats m 0 c).arrAt 11 cfg0.N
    = truncf .bf16 (Cert.ReferenceIdeal.Attend.normed (Cert.ReferenceIdeal.Attend.gatedBy (Cert.ReferenceIdeal.Attend.attention (m ((c : Thread nD τ).loc main_arg0)) (m ((c : Thread nD τ).loc main_arg1)) (m ((c : Thread nD τ).loc main_arg4))) (Cert.ReferenceIdeal.Attend.gates (m ((c : Thread nD τ).loc main_arg0)))) (m ((c : Thread nD τ).loc main_arg5))) Cert.ReferenceIdeal.Gen.bitsLt_bf16_f32 := by
  refine (dats m 0 c).arrAt_eq_of_covers 11 _ (by decide +kernel) fun t hf y => ?_
  refine (congrFun (Cert.KernelIdeal.Value.flushed11_A m c t) y).trans ?_
  refine (outv11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) (iblk m c 0 t) (iblk m c 1 t) (iblk m c 2 t) (iblk m c 3 t) (iblk m c 4 t) (iblk m c 5 t) (iblk m c 6 t) (iblk m c 7 t) (iblk m c 8 t) (X0_9 m c t) (iblk m c 10 t) ((cfg0.win 11).xinj (grid0.coords t) y)).trans ?_
  obtain ⟨-, -, -, -, -, -, -, -, -, -, -, p11, p12, p13, p14⟩ := places t
  rw [idx_unit 256 2048 ((cfg0.win 11).xinj (grid0.coords t) y)]
  refine (point11 m c t hp _ _).trans (congrArg _ ?_)
  blk_ext [bat, row, p11]

end Cert.KernelIdeal.Arrays
-- ==== Proof.Claims.lean ====
/- The claims, one by one. -/
module

public import proofs.«01_k».proof.Defs
public import proofs.«01_k».proof.Proof.Arrays
public import proofs.«01_k».proof.Proof.Gen.Kernel.Frame
public import Idealize.ShloMosaic.Adequacy

@[expose] public section

set_option maxRecDepth 16384

noncomputable section

namespace Cert.Proof.Claims

open Idealize.ShloMosaic Idealize.ShloMosaic.TcCoe Idealize.SL.Sem

theorem frame_p : Cert.quiescent_Kernel := fun m ρ _ => Cert.Kernel.Gen.frame m ρ

theorem frame_pi : Cert.quiescent_KernelIdeal := fun m ρ _ => Cert.KernelIdeal.Gen.frame m ρ

theorem frame_pi_finite : Cert.quiescent_KernelIdeal_pre_finite_scores := fun m ρ _ => Cert.KernelIdeal.Gen.frame m ρ

/-- The reference's run leaves its arguments, and it declares no semaphore. -/
theorem frame_ri : Cert.quiescent_ReferenceIdeal := by
  intro m g _
  exact (θ_run (Cert.ReferenceIdeal.defs (F := Ideal)) _ _).mono (fun r h => ⟨fun c => (h c).2.2.2.2, Idealize.ShloMosaic.sem_eq_zero_of_no_sems (by decide) r.2⟩)
    (Cert.ReferenceIdeal.Value.run (F := Ideal) m g)

theorem frame_ri_finite : Cert.quiescent_ReferenceIdeal_pre_finite_scores := by
  intro m g _
  exact (θ_run (Cert.ReferenceIdeal.defs (F := Ideal)) _ _).mono (fun r h => ⟨fun c => (h c).2.2.2.2, Idealize.ShloMosaic.sem_eq_zero_of_no_sems (by decide) r.2⟩)
    (Cert.ReferenceIdeal.Value.run (F := Ideal) m g)

theorem preserves : Cert.preserves_Kernel_KernelIdeal :=
  ⟨IdealRules.named_const.statement Cert.KernelIdeal.κ "scale_log2e" .f32 0x3E38AA3B#32 (((8 * (Real.log 2))⁻¹ : ℝ) : EReal) rfl,
    IdealRules.named_const.statement Cert.KernelIdeal.κ "log2e" .f32 0x3FB8AA3B#32 (((Real.log 2)⁻¹ : ℝ) : EReal) rfl⟩

/-- The kernel's four arrays are what the reference computes of the same arguments. -/
theorem algebraic : Cert.algebraic_KernelIdeal_ReferenceIdeal_pre_finite_scores := by
  intro m g m' g' hp hagree
  refine ⟨_, _, _, _, Cert.KernelIdeal.Value.run_blocks (F := Ideal) m g, ?_⟩
  refine (θ_run Cert.ReferenceIdeal.defs _ _).mono (fun r h c => ⟨(h c).1.trans ?_, (h c).2.1.trans ?_, (h c).2.2.1.trans ?_, (h c).2.2.2.1.trans ?_, (h c).2.2.2.2⟩)
    (Cert.ReferenceIdeal.Value.run (F := Ideal) m' g')
  · obtain ⟨a0, a1, a2, a3, a4, a5⟩ := hagree c
    refine Eq.trans ?_ (Cert.KernelIdeal.Arrays.final11 m c (hp c)).symm
    rw [Cert.ReferenceIdeal.Attend.res_eq, a0, a1, a4, a5]
  · obtain ⟨a0, a1, a2, a3, a4, a5⟩ := hagree c
    refine Eq.trans ?_ (Cert.KernelIdeal.Arrays.final12 m c).symm
    rw [a2, a3]; rfl
  · obtain ⟨a0, a1, a2, a3, a4, a5⟩ := hagree c
    refine Eq.trans ?_ (Cert.KernelIdeal.Arrays.final13 m c).symm
    rw [a2, a3]; rfl
  · obtain ⟨a0, a1, a2, a3, a4, a5⟩ := hagree c
    refine Eq.trans ?_ (Cert.KernelIdeal.Arrays.final14 m c).symm
    rw [a2, a3]; rfl

end Cert.Proof.Claims
-- ==== Proof.Steps.lean ====
/- The body of the call `inproj_attn` at a grid point: what it stores, the first point apart from the later ones. -/
module

public import proofs.«01_k».proof.Proof.Gen.Kernel2Ideal.Frame
public import proofs.«01_k».proof.Proof.Gen.Kernel2Ideal.Skeleton

@[expose] public section

set_option maxRecDepth 16384

noncomputable section

namespace Cert.Kernel2Ideal.Inproj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The body's branch: the grid's first point. -/
abbrev first (i : grid0.Coords) : Prop :=
  Scalar.cmpi .ne (Scalar.extui (Scalar.cmpi .eq (BitVec.ofNat 32 (i 0).val) 0#32) : BitVec 32) 0#32 = 1#1

theorem first_iff : ∀ t : Fin cfg0.N, first (grid0.coords t) ↔ t.val = 0 :=
  (by decide +kernel : ∀ t : Fin grid0.N, first (grid0.coords t) ↔ t.val = 0)

theorem off1 : ∀ i : grid0.Coords, k0_off1 i = ![(i 0).val % 2, 0, 0] := by decide +kernel
theorem off2 : ∀ i : grid0.Coords, k0_off2 i = ![1 - (i 0).val % 2, 0, 0] := by decide +kernel
theorem off3 : ∀ i : grid0.Coords, k0_off3 i = ![1 - (i 0).val % 2, 128, 0] := by decide +kernel
theorem off4 : ∀ i : grid0.Coords, k0_off4 i = ![1 - (i 0).val % 2, 256, 0] := by decide +kernel
theorem off5 : ∀ i : grid0.Coords, k0_off5 i = ![1 - (i 0).val % 2, 384, 0] := by decide +kernel

theorem first_off : ∀ i : grid0.Coords, first i →
    k0_off1 i = ![0, 0, 0] ∧ k0_off2 i = ![1, 0, 0] ∧ k0_off3 i = ![1, 128, 0] ∧ k0_off4 i = ![1, 256, 0] ∧ k0_off5 i = ![1, 384, 0] := by
  decide +kernel

/- Where the scratch's slots lie, at the first point and at later ones. -/
instance (i : grid0.Coords) [h : Fact (first i)] : ClosedOff (k0_off1 i) := ⟨![0, 0, 0], (first_off i h.out).1⟩
instance (i : grid0.Coords) [h : Fact (first i)] : ClosedOff (k0_off2 i) := ⟨![1, 0, 0], (first_off i h.out).2.1⟩
instance (i : grid0.Coords) [h : Fact (first i)] : ClosedOff (k0_off3 i) := ⟨![1, 128, 0], (first_off i h.out).2.2.1⟩
instance (i : grid0.Coords) [h : Fact (first i)] : ClosedOff (k0_off4 i) := ⟨![1, 256, 0], (first_off i h.out).2.2.2.1⟩
instance (i : grid0.Coords) [h : Fact (first i)] : ClosedOff (k0_off5 i) := ⟨![1, 384, 0], (first_off i h.out).2.2.2.2⟩
instance (i : grid0.Coords) [h : Fact (¬ first i)] : ClosedOff (k0_off1 i) := ⟨![(i 0).val % 2, 0, 0], off1 i⟩
instance (i : grid0.Coords) [h : Fact (¬ first i)] : ClosedOff (k0_off2 i) := ⟨![1 - (i 0).val % 2, 0, 0], off2 i⟩
instance (i : grid0.Coords) [h : Fact (¬ first i)] : ClosedOff (k0_off3 i) := ⟨![1 - (i 0).val % 2, 128, 0], off3 i⟩
instance (i : grid0.Coords) [h : Fact (¬ first i)] : ClosedOff (k0_off4 i) := ⟨![1 - (i 0).val % 2, 256, 0], off4 i⟩
instance (i : grid0.Coords) [h : Fact (¬ first i)] : ClosedOff (k0_off5 i) := ⟨![1 - (i 0).val % 2, 384, 0], off5 i⟩

/-- The first point: the rows of its own block normed into the scratch, then the same as later points. -/
def runA (c : Dev nD) (i : grid0.Coords) (hc : first i)
    (arg1 : Memref sig .tc .vmem S512x2048 .f32) (h1 : arg1.IsWhole) (arg2 : Memref sig .tc .vmem S512x2048 .f32) (h2 : arg2.IsWhole) (arg3 : Memref sig .tc .vmem S1x2048 .f32) (h3 : arg3.IsWhole)
    (arg4 : Memref sig .tc .vmem S2048x4608 .bf16) (h4 : arg4.IsWhole) (arg5 : Memref sig .tc .vmem S512x2048 .bf16) (h5 : arg5.IsWhole) (arg6 : Memref sig .tc .vmem S512x4096 .bf16) (h6 : arg6.IsWhole)
    (arg7 : Memref sig .tc .vmem S512x512 .f32) (h7 : arg7.IsWhole) (arg8 : Memref sig .tc .vmem S2x512x2048 .bf16) (h8 : arg8.IsWhole)
    (x1 : Vec F S512x2048 .f32) (x2 : Vec F S512x2048 .f32) (x3 : Vec F S1x2048 .f32) (x4 : Vec F S2048x4608 .bf16) (xs : Vec F S2x512x2048 .bf16) :
    Σ' (L5 : List (View.Piece (Elt F) S512x2048 .bf16)), Σ' (L6 : List (View.Piece (Elt F) S512x4096 .bf16)), Σ' (L7 : List (View.Piece (Elt F) S512x512 .f32)), { L8 : List (View.Piece (Elt F) S2x512x2048 .bf16) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7)
              ∗ (arg8.view.loc (c : Thread nD τ) ↦[arg8.view.set]{fullShare} arg8.view.writes (Elt F) (h8.unread xs) L8)) -∗ K ⟨⟩))
          ⊢ wp frame (wpE (defs₀ (F := F)) Variants.none c none) E (cc0_inproj_attn i arg1 h1 arg2 h2 arg3 h3 arg4 h4 arg5 h5 arg6 h6 arg7 h7 arg8 h8) K } := by
  refine ⟨?_, ?_, ?_, ?_, fun E K => ?run⟩
  case run =>
    haveI : Fact (first i) := ⟨hc⟩
    simp only [cc0_inproj_attn_eq_skeleton]; unfold cc0_inproj_attn_skel
    simp only [k0_part1_eq_skeleton, k0_part2_eq_skeleton, k0_part3_eq_skeleton, k0_part4_eq_skeleton, k0_part5_eq_skeleton, k0_part6_eq_skeleton]
    unfold owns
    iintro ⟨⟨%f1, %hf1, H1⟩, ⟨%f2, %hf2, H2⟩, ⟨%f3, %hf3, H3⟩, ⟨%f4, %hf4, H4⟩, ⟨%d5, %f5, %hf5, H5⟩, ⟨%d6, %f6, %hf6, H6⟩, ⟨%d7, %f7, %hf7, H7⟩, ⟨%f8, %hf8, H8⟩, Hk⟩
    obtain rfl := h1.eq_unread hf1; obtain rfl := h2.eq_unread hf2; obtain rfl := h3.eq_unread hf3; obtain rfl := h4.eq_unread hf4; obtain rfl := h8.eq_unread hf8
    sl_exec (disch := sl_exact hc)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]; · iexists _; iexact H5
    isplitl [H6]; · iexists _; iexact H6
    isplitl [H7]; · iexists _; iexact H7
    iexact H8

/-- A later point: the rows it reads were normed into the scratch by the point before. -/
def runB (c : Dev nD) (i : grid0.Coords) (hc : ¬ first i)
    (arg1 : Memref sig .tc .vmem S512x2048 .f32) (h1 : arg1.IsWhole) (arg2 : Memref sig .tc .vmem S512x2048 .f32) (h2 : arg2.IsWhole) (arg3 : Memref sig .tc .vmem S1x2048 .f32) (h3 : arg3.IsWhole)
    (arg4 : Memref sig .tc .vmem S2048x4608 .bf16) (h4 : arg4.IsWhole) (arg5 : Memref sig .tc .vmem S512x2048 .bf16) (h5 : arg5.IsWhole) (arg6 : Memref sig .tc .vmem S512x4096 .bf16) (h6 : arg6.IsWhole)
    (arg7 : Memref sig .tc .vmem S512x512 .f32) (h7 : arg7.IsWhole) (arg8 : Memref sig .tc .vmem S2x512x2048 .bf16) (h8 : arg8.IsWhole)
    (x1 : Vec F S512x2048 .f32) (x2 : Vec F S512x2048 .f32) (x3 : Vec F S1x2048 .f32) (x4 : Vec F S2048x4608 .bf16) (xs : Vec F S2x512x2048 .bf16) :
    Σ' (L5 : List (View.Piece (Elt F) S512x2048 .bf16)), Σ' (L6 : List (View.Piece (Elt F) S512x4096 .bf16)), Σ' (L7 : List (View.Piece (Elt F) S512x512 .f32)), { L8 : List (View.Piece (Elt F) S2x512x2048 .bf16) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs
            ∗ (iprop(owns (c : Thread nD τ) arg1 fullShare x1 ∗ owns (c : Thread nD τ) arg2 fullShare x2 ∗ owns (c : Thread nD τ) arg3 fullShare x3 ∗ owns (c : Thread nD τ) arg4 fullShare x4 ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7)
              ∗ (arg8.view.loc (c : Thread nD τ) ↦[arg8.view.set]{fullShare} arg8.view.writes (Elt F) (h8.unread xs) L8)) -∗ K ⟨⟩))
          ⊢ wp frame (wpE (defs₀ (F := F)) Variants.none c none) E (cc0_inproj_attn i arg1 h1 arg2 h2 arg3 h3 arg4 h4 arg5 h5 arg6 h6 arg7 h7 arg8 h8) K } := by
  refine ⟨?_, ?_, ?_, ?_, fun E K => ?run⟩
  case run =>
    haveI : Fact (¬ first i) := ⟨hc⟩
    simp only [cc0_inproj_attn_eq_skeleton]; unfold cc0_inproj_attn_skel
    simp only [k0_part1_eq_skeleton, k0_part2_eq_skeleton, k0_part3_eq_skeleton, k0_part4_eq_skeleton, k0_part5_eq_skeleton, k0_part6_eq_skeleton]
    unfold owns
    iintro ⟨⟨%f1, %hf1, H1⟩, ⟨%f2, %hf2, H2⟩, ⟨%f3, %hf3, H3⟩, ⟨%f4, %hf4, H4⟩, ⟨%d5, %f5, %hf5, H5⟩, ⟨%d6, %f6, %hf6, H6⟩, ⟨%d7, %f7, %hf7, H7⟩, ⟨%f8, %hf8, H8⟩, Hk⟩
    obtain rfl := h1.eq_unread hf1; obtain rfl := h2.eq_unread hf2; obtain rfl := h3.eq_unread hf3; obtain rfl := h4.eq_unread hf4; obtain rfl := h8.eq_unread hf8
    sl_exec (disch := sl_exact hc)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]; · iexists _; iexact H5
    isplitl [H6]; · iexists _; iexact H6
    isplitl [H7]; · iexists _; iexact H7
    iexact H8

end Cert.Kernel2Ideal.Inproj

end
-- ==== Proof.Held.lean ====
/- What the body of `inproj_attn` leaves at a point, in terms of the blocks it reads and of the normed rows the scratch holds. -/
module

public import proofs.«01_k».proof.Proof.Steps
public import Idealize.ShloMosaic.Lib.WholeRead
public import Idealize.ShloMosaic.Lib.Pipeline.ReadBack
public import Idealize.ShloMosaic.Lib.Pipeline.ValueKit

@[expose] public section

set_option maxRecDepth 16384

noncomputable section

namespace Cert.Kernel2Ideal.Inproj

open Cert.Kernel2Ideal Cert.Kernel2Ideal.Gen
open Idealize.ShloMosaic Idealize.ShloMosaic.TcCoe Idealize.ShloMosaic.Tactic
open Idealize.ShloMosaic.ValueKit

variable {F : FTy → Type} [FloatOps F]

/-- The 128 rows of `x` from row `o` on. -/
def rowsOf (x : Vec F S512x2048 .f32) (o : ℕ) (ho : o + 128 ≤ 512) : Vec F S128x2048 .f32 :=
  fun z => x (ix2 ⟨o + (z 0).val, by have : (z 0).val < 128 := (z 0).isLt; omega⟩ (z 1))

/-- A block's rows normed, as the body norms them: 128 rows at a time. -/
def normRows (x : Vec F S512x2048 .f32) (g : Vec F S1x2048 .f32) : Vec F S512x2048 .bf16 := fun y =>
  k0_pay12 (rowsOf x (128 * ((y 0).val / 128)) (by have : (y 0).val < 512 := (y 0).isLt; omega)) g
    (ix3 0 ⟨(y 0).val % 128, Nat.mod_lt _ (by decide)⟩ (y 1))

/-- One plane of the scratch holding the rows `N`. -/
def plane (N : Vec F S512x2048 .bf16) : Vec F S1x512x2048 .bf16 := fun y => N (ix2 (y 1) (y 2))

/-- The rows as the output `h` takes them. -/
def hOf (N : Vec F S512x2048 .bf16) : Vec F S512x2048 .bf16 := k0_pay8 (plane N)

/-- 512 columns of the weights. -/
def wAt (w : Vec F S2048x4608 .bf16) (o : ℕ) (ho : o + 512 ≤ 4608) : Vec F S2048x512 .bf16 :=
  fun z => w (ix2 (z 0) ⟨o + (z 1).val, by have : (z 1).val < 512 := (z 1).isLt; omega⟩)

/-- The stores of the slabs of queries and gates, last first. -/
def slabs (N : Vec F S512x2048 .bf16) (w : Vec F S2048x4608 .bf16) : List (View.Piece (Elt F) S512x4096 .bf16) :=
  [⟨Rect.unit (s := S512x4096) ![0, 3584] S512x512.size (by decide), k0_pay21 (hOf N) (wAt w 4096 (by decide))⟩,
   ⟨Rect.unit (s := S512x4096) ![0, 3072] S512x512.size (by decide), k0_pay20 (hOf N) (wAt w 3584 (by decide))⟩,
   ⟨Rect.unit (s := S512x4096) ![0, 2560] S512x512.size (by decide), k0_pay18 (hOf N) (wAt w 3072 (by decide))⟩,
   ⟨Rect.unit (s := S512x4096) ![0, 2048] S512x512.size (by decide), k0_pay17 (hOf N) (wAt w 2560 (by decide))⟩,
   ⟨Rect.unit (s := S512x4096) ![0, 1536] S512x512.size (by decide), k0_pay13 (hOf N) (wAt w 1536 (by decide))⟩,
   ⟨Rect.unit (s := S512x4096) ![0, 1024] S512x512.size (by decide), k0_pay11 (hOf N) (wAt w 1024 (by decide))⟩,
   ⟨Rect.unit (s := S512x4096) ![0, 512] S512x512.size (by decide), k0_pay10 (plane N) (wAt w 512 (by decide))⟩,
   ⟨Rect.unit (s := S512x4096) ![0, 0] S512x512.size (by decide), k0_pay9 (plane N) (wAt w 0 (by decide))⟩]

theorem slabs_cover (N : Vec F S512x2048 .bf16) (w : Vec F S2048x4608 .bf16) (y : S512x4096.Idx) : ∃ p ∈ slabs N w, y ∈ p.1.set :=
  View.cover_of_tiledL (slabs N w) S512x512.size (by sl_kernel_rfl) y

/-- The queries and gates of a block. -/
def qgOf (N : Vec F S512x2048 .bf16) (w : Vec F S2048x4608 .bf16) : Vec F S512x4096 .bf16 := View.canon (slabs N w)

/-- The keys and values of a block. -/
def kvOf (N : Vec F S512x2048 .bf16) (w : Vec F S2048x4608 .bf16) : Vec F S512x512 .f32 :=
  k0_pay15 (hOf N) (k0_pay14 (wAt w 2048 (by decide))) (constant S512x512 .f32 0x00000000#32)

theorem fin3_cases {P : Fin 3 → Prop} (h0 : P 0) (h1 : P 1) (h2 : P 2) : ∀ a, P a
  | ⟨0, _⟩ => h0 | ⟨1, _⟩ => h1 | ⟨2, _⟩ => h2

theorem fin2_cases {P : Fin 2 → Prop} (h0 : P 0) (h1 : P 1) : ∀ a, P a
  | ⟨0, _⟩ => h0 | ⟨1, _⟩ => h1

section reads

variable {m1 : Memref sig .tc .vmem S512x2048 .f32} (h1 : m1.IsWhole) {m3 : Memref sig .tc .vmem S1x2048 .f32} (h3 : m3.IsWhole)
  {m4 : Memref sig .tc .vmem S2048x4608 .bf16} (h4 : m4.IsWhole)

theorem rows_read (x : Vec F S512x2048 .f32) (o : ℕ) (ho : o + 128 ≤ 512) (hb) :
    View.readAt (Elt F) m1.view (Rect.unit (s := S512x2048) ![o, 0] S128x2048.size hb).toLoadRect (h1.unread x) = rowsOf x o ho := by
  funext z
  refine (h1.readAt_unread (Val := Elt F) x _ _).trans (congrArg x (funext (fin2_cases (Fin.ext ?_) (Fin.ext ?_))))
  · show o + 1 * (z 0).val = o + (z 0).val; omega
  · show 0 + 1 * (z 1).val = (z 1).val; omega

theorem gain_read (x : Vec F S1x2048 .f32) (hb) :
    View.readAt (Elt F) m3.view (Rect.unit (s := S1x2048) ![0, 0] S1x2048.size hb).toLoadRect (h3.unread x) = x := by
  funext z
  refine (h3.readAt_unread (Val := Elt F) x _ _).trans (congrArg x (funext (fin2_cases (Fin.ext ?_) (Fin.ext ?_))))
  · show 0 + 1 * (z 0).val = (z 0).val; omega
  · show 0 + 1 * (z 1).val = (z 1).val; omega

theorem w_read (x : Vec F S2048x4608 .bf16) (o : ℕ) (ho : o + 512 ≤ 4608) (hb) :
    View.readAt (Elt F) m4.view (Rect.unit (s := S2048x4608) ![0, o] S2048x512.size hb).toLoadRect (h4.unread x) = wAt x o ho := by
  funext z
  refine (h4.readAt_unread (Val := Elt F) x _ _).trans (congrArg x (funext (fin2_cases (Fin.ext ?_) (Fin.ext ?_))))
  · show 0 + 1 * (z 0).val = (z 0).val; omega
  · show o + 1 * (z 1).val = o + (z 1).val; omega

end reads

/-- A piece of 128 normed rows in plane `s` is a block of the scratch whose plane holds the normed rows. -/
theorem norm_ok (x : Vec F S512x2048 .f32) (g : Vec F S1x2048 .f32) (s q : ℕ) (off : Fin 3 → ℕ) (ho : off = ![s, 128 * q, 0]) (hq : 128 * q + 128 ≤ 512) (hb)
    (z : S1x128x2048.Idx) :
    k0_pay12 (rowsOf x (128 * q) hq) g z
      = normRows x g (ix2 ((Rect.unit (s := S2x512x2048) off S1x128x2048.size hb).emb z 1) ((Rect.unit (s := S2x512x2048) off S1x128x2048.size hb).emb z 2)) := by
  subst ho
  have hz : (z 1).val < 128 := (z 1).isLt
  have e1 : ((Rect.unit (s := S2x512x2048) ![s, 128 * q, 0] S1x128x2048.size hb).emb z 1).val = 128 * q + (z 1).val := by
    show 128 * q + 1 * (z 1).val = 128 * q + (z 1).val; omega
  have e2 : (Rect.unit (s := S2x512x2048) ![s, 128 * q, 0] S1x128x2048.size hb).emb z 2 = z 2 := Fin.ext (by show 0 + 1 * (z 2).val = (z 2).val; omega)
  unfold normRows
  have d1 : (128 * q + (z 1).val) / 128 = q := by omega
  have d2 : (128 * q + (z 1).val) % 128 = (z 1).val := by omega
  have key : ∀ (k : ℕ) (hk : 128 * k + 128 ≤ 512) (r : Fin 128), k = q → r.val = (z 1).val →
      k0_pay12 (rowsOf x (128 * q) hq) g z = k0_pay12 (rowsOf x (128 * k) hk) g (ix3 0 r (z 2)) := by
    intro k hk r hkq hr
    subst hkq
    refine congrArg _ (funext (fin3_cases (Fin.ext ?_) (Fin.ext hr.symm) rfl))
    have : (z 0).val < 1 := (z 0).isLt
    show (z 0).val = 0; omega
  have := key (((Rect.unit (s := S2x512x2048) ![s, 128 * q, 0] S1x128x2048.size hb).emb z 1).val / 128) (by rw [e1, d1]; exact hq)
    ⟨((Rect.unit (s := S2x512x2048) ![s, 128 * q, 0] S1x128x2048.size hb).emb z 1).val % 128, Nat.mod_lt _ (by decide)⟩ (by rw [e1, d1]) (by show _ % 128 = _; rw [e1, d2])
  rw [this]
  refine congrArg _ ?_
  exact funext (fin3_cases rfl rfl e2.symm)

end Cert.Kernel2Ideal.Inproj

end
-- ==== Proof.Left.lean ====
/- What a point of `inproj_attn` stores, both cases: the outputs from the rows the scratch held and, in the scratch's other plane, the next block's rows normed. -/
module

public import proofs.«01_k».proof.Proof.Held
public import Idealize.ShloMosaic.Lib.Writes
public import Idealize.ShloMosaic.Lib.Pipeline.FrameBody

@[expose] public section

set_option maxRecDepth 16384

noncomputable section

namespace Cert.Kernel2Ideal.Inproj

open Cert.Kernel2Ideal Cert.Kernel2Ideal.Gen
open Idealize.ShloMosaic Idealize.ShloMosaic.TcCoe Idealize.ShloMosaic.Tactic
open Idealize.ShloMosaic.ValueKit

variable {F : FTy → Type} [FloatOps F]

/-- Four stores of 128 rows cover a plane. -/
theorem four_cover (s : ℕ) (o0 o1 o2 o3 : Fin 3 → ℕ) (e0 : o0 = ![s, 0, 0]) (e1 : o1 = ![s, 128, 0]) (e2 : o2 = ![s, 256, 0]) (e3 : o3 = ![s, 384, 0])
    (b0 b1 b2 b3) (w0 w1 w2 w3 : Vec F S1x128x2048 .bf16) (y : S2x512x2048.Idx) (hy : (y 0).val = s) :
    ∃ p ∈ ([⟨Rect.unit (s := S2x512x2048) o3 S1x128x2048.size b3, w3⟩, ⟨Rect.unit (s := S2x512x2048) o2 S1x128x2048.size b2, w2⟩,
      ⟨Rect.unit (s := S2x512x2048) o1 S1x128x2048.size b1, w1⟩, ⟨Rect.unit (s := S2x512x2048) o0 S1x128x2048.size b0, w0⟩] : List (View.Piece (Elt F) S2x512x2048 .bf16)), y ∈ p.1.set := by
  subst e0 e1 e2 e3
  have h1 : (y 1).val < 512 := (y 1).isLt
  have h2 : (y 2).val < 2048 := (y 2).isLt
  have key : ∀ o b, o ≤ (y 1).val → (y 1).val < o + 128 → y ∈ (Rect.unit (s := S2x512x2048) ![s, o, 0] S1x128x2048.size b).set := fun o b lo hi =>
    Rect.mem_set_unit.mpr (fin3_cases (by show s ≤ (y 0).val ∧ (y 0).val < s + 1; omega) (by show o ≤ (y 1).val ∧ (y 1).val < o + 128; omega)
      (by show 0 ≤ (y 2).val ∧ (y 2).val < 0 + 2048; omega))
  rcases (by omega : (y 1).val < 128 ∨ (128 ≤ (y 1).val ∧ (y 1).val < 256) ∨ (256 ≤ (y 1).val ∧ (y 1).val < 384) ∨ 384 ≤ (y 1).val) with h | h | h | h
  · exact ⟨_, .tail _ (.tail _ (.tail _ (.head _))), key 0 b0 (by omega) (by omega)⟩
  · exact ⟨_, .tail _ (.tail _ (.head _)), key 128 b1 (by omega) (by omega)⟩
  · exact ⟨_, .tail _ (.head _), key 256 b2 (by omega) (by omega)⟩
  · exact ⟨_, .head _, key 384 b3 (by omega) (by omega)⟩

/-- The plane `s` of the scratch holds the rows `N`. -/
def HoldsAt (xs : Vec F S2x512x2048 .bf16) (s : ℕ) (N : Vec F S512x2048 .bf16) : Prop :=
  ∀ y : S2x512x2048.Idx, (y 0).val = s → xs y = N (ix2 (y 1) (y 2))

theorem plane_read {m8 : Memref sig .tc .vmem S2x512x2048 .bf16} (h8 : m8.IsWhole) (xs : Vec F S2x512x2048 .bf16) (s : ℕ) (N : Vec F S512x2048 .bf16) (h : HoldsAt xs s N)
    (off : Fin 3 → ℕ) (ho : off = ![s, 0, 0]) (hb) :
    View.readAt (Elt F) m8.view (Rect.unit (s := S2x512x2048) off S1x512x2048.size hb).toLoadRect (h8.unread xs) = plane N := by
  subst ho
  funext z
  have h0 : (z 0).val < 1 := (z 0).isLt
  refine (h8.readAt_unread (Val := Elt F) xs _ _).trans ((h _ (by show s + 1 * (z 0).val = s; omega)).trans ?_)
  refine congrArg N (funext (fin2_cases (Fin.ext ?_) (Fin.ext ?_)))
  · show 0 + 1 * (z 1).val = (z 1).val; omega
  · show 0 + 1 * (z 2).val = (z 2).val; omega

theorem read_pieces {s : Shape} {e : EltTy} (v : View sig .tc .vmem s e) (f) (G : s.Idx → Elt F e) (L : List (View.Piece (Elt F) s e)) (hp : View.PiecesOf G L) (y : s.Idx)
    (hc : ∃ p ∈ L, y ∈ p.1.set) : v.read (Elt F) (v.writes (Elt F) f L) y = G y :=
  View.read_writes_apply_of_pieces v f G L hp.mem y hc

theorem emb_fst (off : Fin 3 → ℕ) (s o : ℕ) (ho : off = ![s, o, 0]) (hb) (z : S1x128x2048.Idx) :
    ((Rect.unit (s := S2x512x2048) off S1x128x2048.size hb).emb z 0).val = s := by
  subst ho
  have : (z 0).val < 1 := (z 0).isLt
  show s + 1 * (z 0).val = s; omega

/-- The scratch with the rows of `x1` normed in plane 0 and those of `x2` in plane 1. -/
def both (x1 x2 : Vec F S512x2048 .f32) (g : Vec F S1x2048 .f32) : Vec F S2x512x2048 .bf16 := fun y =>
  if (y 0).val = 1 then normRows x2 g (ix2 (y 1) (y 2)) else normRows x1 g (ix2 (y 1) (y 2))

theorem norm_snd (x1 x2 : Vec F S512x2048 .f32) (g : Vec F S1x2048 .f32) (q : ℕ) (off : Fin 3 → ℕ) (ho : off = ![1, 128 * q, 0]) (hq : 128 * q + 128 ≤ 512) (hb)
    (z : S1x128x2048.Idx) :
    k0_pay12 (rowsOf x2 (128 * q) hq) g z = both x1 x2 g ((Rect.unit (s := S2x512x2048) off S1x128x2048.size hb).emb z) :=
  (norm_ok x2 g 1 q off ho hq hb z).trans (if_pos (emb_fst off _ _ ho hb z)).symm

theorem norm_fst (x1 x2 : Vec F S512x2048 .f32) (g : Vec F S1x2048 .f32) (q : ℕ) (off : Fin 3 → ℕ) (ho : off = ![0, 128 * q, 0]) (hq : 128 * q + 128 ≤ 512) (hb)
    (z : S1x128x2048.Idx) :
    k0_pay12 (rowsOf x1 (128 * q) hq) g z = both x1 x2 g ((Rect.unit (s := S2x512x2048) off S1x128x2048.size hb).emb z) :=
  (norm_ok x1 g 0 q off ho hq hb z).trans (if_neg (by rw [emb_fst off _ _ ho hb z]; decide)).symm

section later

variable (c : Dev nD) (i : grid0.Coords)
    (arg1 : Memref sig .tc .vmem S512x2048 .f32) (h1 : arg1.IsWhole) (arg2 : Memref sig .tc .vmem S512x2048 .f32) (h2 : arg2.IsWhole) (arg3 : Memref sig .tc .vmem S1x2048 .f32) (h3 : arg3.IsWhole)
    (arg4 : Memref sig .tc .vmem S2048x4608 .bf16) (h4 : arg4.IsWhole) (arg5 : Memref sig .tc .vmem S512x2048 .bf16) (h5 : arg5.IsWhole) (arg6 : Memref sig .tc .vmem S512x4096 .bf16) (h6 : arg6.IsWhole)
    (arg7 : Memref sig .tc .vmem S512x512 .f32) (h7 : arg7.IsWhole) (arg8 : Memref sig .tc .vmem S2x512x2048 .bf16) (h8 : arg8.IsWhole)
    (x1 : Vec F S512x2048 .f32) (x2 : Vec F S512x2048 .f32) (x3 : Vec F S1x2048 .f32) (x4 : Vec F S2048x4608 .bf16) (xs : Vec F S2x512x2048 .bf16)

theorem runB_h (hc : ¬ first i) (N : Vec F S512x2048 .bf16) (h : HoldsAt xs ((i 0).val % 2) N) :
    (runB c i hc arg1 h1 arg2 h2 arg3 h3 arg4 h4 arg5 h5 arg6 h6 arg7 h7 arg8 h8 x1 x2 x3 x4 xs).1 = [⟨Rect.unit (s := S512x2048) ![0, 0] S512x2048.size (by decide), hOf N⟩] := by
  dsimp only [runB]
  rw [plane_read h8 xs _ N h _ (off1 i)]; rfl

theorem runB_qg (hc : ¬ first i) (N : Vec F S512x2048 .bf16) (h : HoldsAt xs ((i 0).val % 2) N) :
    (runB c i hc arg1 h1 arg2 h2 arg3 h3 arg4 h4 arg5 h5 arg6 h6 arg7 h7 arg8 h8 x1 x2 x3 x4 xs).2.1 = slabs N x4 := by
  dsimp only [runB]; unfold runB.sl.r runB.sl.r_1
  rw [plane_read h8 xs _ N h _ (off1 i), w_read h4 x4 0 (by decide), w_read h4 x4 512 (by decide), w_read h4 x4 1024 (by decide), w_read h4 x4 1536 (by decide),
    w_read h4 x4 2560 (by decide), w_read h4 x4 3072 (by decide), w_read h4 x4 3584 (by decide), w_read h4 x4 4096 (by decide)]
  rfl

theorem runB_kv (hc : ¬ first i) (N : Vec F S512x2048 .bf16) (h : HoldsAt xs ((i 0).val % 2) N) :
    (runB c i hc arg1 h1 arg2 h2 arg3 h3 arg4 h4 arg5 h5 arg6 h6 arg7 h7 arg8 h8 x1 x2 x3 x4 xs).2.2.1 = [⟨Rect.unit (s := S512x512) ![0, 0] S512x512.size (by decide), kvOf N x4⟩] := by
  dsimp only [runB]; unfold runB.sl.r runB.sl.r_2
  rw [plane_read h8 xs _ N h _ (off1 i), w_read h4 x4 2048 (by decide)]; rfl

theorem runB_scratch (hc : ¬ first i) :
    HoldsAt (arg8.view.read (Elt F) (arg8.view.writes (Elt F) (h8.unread xs) (runB c i hc arg1 h1 arg2 h2 arg3 h3 arg4 h4 arg5 h5 arg6 h6 arg7 h7 arg8 h8 x1 x2 x3 x4 xs).2.2.2.1))
      (1 - (i 0).val % 2) (normRows x2 x3) := by
  intro y hy
  dsimp only [runB]; unfold runB.sl.r_3 runB.sl.r_4
  rw [rows_read h2 x2 0 (by decide), rows_read h2 x2 128 (by decide), rows_read h2 x2 256 (by decide), rows_read h2 x2 384 (by decide), gain_read h3 x3]
  refine read_pieces arg8.view _ (fun y => normRows x2 x3 (ix2 (y 1) (y 2))) _ ?hp y
    (four_cover _ _ _ _ _ (off2 i) (off3 i) (off4 i) (off5 i) _ _ _ _ _ _ _ _ y hy)
  refine ⟨fun z => ?_, fun z => ?_, fun z => ?_, fun z => ?_, trivial⟩
  · exact norm_ok x2 x3 (1 - (i 0).val % 2) 3 (k0_off5 i) (off5 i) (by decide) (k0_off5_inb i) z
  · exact norm_ok x2 x3 (1 - (i 0).val % 2) 2 (k0_off4 i) (off4 i) (by decide) (k0_off4_inb i) z
  · exact norm_ok x2 x3 (1 - (i 0).val % 2) 1 (k0_off3 i) (off3 i) (by decide) (k0_off3_inb i) z
  · exact norm_ok x2 x3 (1 - (i 0).val % 2) 0 (k0_off2 i) (off2 i) (by decide) (k0_off2_inb i) z

/-- The first point reads the rows of its own block, normed just before. -/
theorem own_plane (off : Fin 3 → ℕ) (ho : off = ![0, 0, 0]) (hb) :
    arg8.view.readCov (runA.sl.H8_4 c arg1 h1 arg3 h3 x1 x3) (Rect.unit (s := S2x512x2048) off S1x512x2048.size hb).toLoadRect = plane (normRows x1 x3) := by
  subst ho
  rw [View.readCov_eq_canon']
  funext z
  have h0 : (z 0).val < 1 := (z 0).isLt
  have en : ((Rect.unit (s := S2x512x2048) ![0, 0, 0] S1x512x2048.size hb).toLoadRect.idx z 0).val = 0 := by
    show 0 + 1 * (z 0).val = 0; omega
  unfold runA.sl.H8_4 runA.sl.r runA.sl.r_1
  rw [rows_read h1 x1 0 (by decide), rows_read h1 x1 128 (by decide), rows_read h1 x1 256 (by decide), rows_read h1 x1 384 (by decide), gain_read h3 x3]
  refine (View.canon_append_of_piecesOf (fun y => normRows x1 x3 (ix2 (y 1) (y 2))) [] [_, _, _, _] ?hp _
    (four_cover 0 _ _ _ _ rfl rfl rfl rfl _ _ _ _ _ _ _ _ _ en)).trans ?_
  · refine ⟨fun z => ?_, fun z => ?_, fun z => ?_, fun z => ?_, trivial⟩
    · exact norm_ok x1 x3 0 3 ![0, 384, 0] rfl (by decide) inb_S2x512x2048_S1x128x2048_0_384_0 z
    · exact norm_ok x1 x3 0 2 ![0, 256, 0] rfl (by decide) inb_S2x512x2048_S1x128x2048_0_256_0 z
    · exact norm_ok x1 x3 0 1 ![0, 128, 0] rfl (by decide) inb_S2x512x2048_S1x128x2048_0_128_0 z
    · exact norm_ok x1 x3 0 0 ![0, 0, 0] rfl (by decide) inb_S2x512x2048_S1x128x2048_0_0_0 z
  · refine congrArg (normRows x1 x3) (funext (fin2_cases (Fin.ext ?_) (Fin.ext ?_)))
    · show 0 + 1 * (z 1).val = (z 1).val; omega
    · show 0 + 1 * (z 2).val = (z 2).val; omega

theorem runA_h (hc : first i) :
    (runA c i hc arg1 h1 arg2 h2 arg3 h3 arg4 h4 arg5 h5 arg6 h6 arg7 h7 arg8 h8 x1 x2 x3 x4 xs).1 = [⟨Rect.unit (s := S512x2048) ![0, 0] S512x2048.size (by decide), hOf (normRows x1 x3)⟩] := by
  dsimp only [runA]; unfold runA.sl.v14
  rw [own_plane c arg1 h1 arg3 h3 arg8 x1 x3 _ (first_off i hc).1]; rfl

theorem runA_qg (hc : first i) :
    (runA c i hc arg1 h1 arg2 h2 arg3 h3 arg4 h4 arg5 h5 arg6 h6 arg7 h7 arg8 h8 x1 x2 x3 x4 xs).2.1 = slabs (normRows x1 x3) x4 := by
  dsimp only [runA]; unfold runA.sl.r_2 runA.sl.r_3 runA.sl.v14
  rw [own_plane c arg1 h1 arg3 h3 arg8 x1 x3 _ (first_off i hc).1, w_read h4 x4 0 (by decide), w_read h4 x4 512 (by decide), w_read h4 x4 1024 (by decide), w_read h4 x4 1536 (by decide),
    w_read h4 x4 2560 (by decide), w_read h4 x4 3072 (by decide), w_read h4 x4 3584 (by decide), w_read h4 x4 4096 (by decide)]
  rfl

theorem runA_kv (hc : first i) :
    (runA c i hc arg1 h1 arg2 h2 arg3 h3 arg4 h4 arg5 h5 arg6 h6 arg7 h7 arg8 h8 x1 x2 x3 x4 xs).2.2.1 = [⟨Rect.unit (s := S512x512) ![0, 0] S512x512.size (by decide), kvOf (normRows x1 x3) x4⟩] := by
  dsimp only [runA]; unfold runA.sl.r_2 runA.sl.r_4 runA.sl.v14
  rw [own_plane c arg1 h1 arg3 h3 arg8 x1 x3 _ (first_off i hc).1, w_read h4 x4 2048 (by decide)]; rfl

theorem runA_scratch (hc : first i) :
    HoldsAt (arg8.view.read (Elt F) (arg8.view.writes (Elt F) (h8.unread xs) (runA c i hc arg1 h1 arg2 h2 arg3 h3 arg4 h4 arg5 h5 arg6 h6 arg7 h7 arg8 h8 x1 x2 x3 x4 xs).2.2.2.1))
      1 (normRows x2 x3) := by
  intro y hy
  obtain ⟨e1, e2, e3, e4, e5⟩ := first_off i hc
  dsimp only [runA]; unfold runA.sl.r_5 runA.sl.r_6 runA.sl.H8_4 runA.sl.r runA.sl.r_1
  rw [rows_read h2 x2 0 (by decide), rows_read h2 x2 128 (by decide), rows_read h2 x2 256 (by decide), rows_read h2 x2 384 (by decide),
    rows_read h1 x1 0 (by decide), rows_read h1 x1 128 (by decide), rows_read h1 x1 256 (by decide), rows_read h1 x1 384 (by decide), gain_read h3 x3]
  refine read_pieces arg8.view _ (both x1 x2 x3) _ ?hp y ?hcov |>.trans (if_pos hy)
  case hcov =>
    obtain ⟨p, hp, hm⟩ := four_cover (F := F) 1 _ _ _ _ e2 e3 e4 e5 _ _ _ _ _ _ _ _ y hy
    exact ⟨p, List.mem_append_left (bs := [_, _, _, _]) hp, hm⟩
  case hp =>
  refine ⟨fun z => ?_, fun z => ?_, fun z => ?_, fun z => ?_, fun z => ?_, fun z => ?_, fun z => ?_, fun z => ?_, trivial⟩
  · exact norm_snd x1 x2 x3 3 (k0_off5 i) e5 (by decide) (k0_off5_inb i) z
  · exact norm_snd x1 x2 x3 2 (k0_off4 i) e4 (by decide) (k0_off4_inb i) z
  · exact norm_snd x1 x2 x3 1 (k0_off3 i) e3 (by decide) (k0_off3_inb i) z
  · exact norm_snd x1 x2 x3 0 (k0_off2 i) e2 (by decide) (k0_off2_inb i) z
  · exact norm_fst x1 x2 x3 3 ![0, 384, 0] rfl (by decide) inb_S2x512x2048_S1x128x2048_0_384_0 z
  · exact norm_fst x1 x2 x3 2 ![0, 256, 0] rfl (by decide) inb_S2x512x2048_S1x128x2048_0_256_0 z
  · exact norm_fst x1 x2 x3 1 ![0, 128, 0] rfl (by decide) inb_S2x512x2048_S1x128x2048_0_128_0 z
  · exact norm_fst x1 x2 x3 0 ![0, 0, 0] rfl (by decide) inb_S2x512x2048_S1x128x2048_0_0_0 z

end later

end Cert.Kernel2Ideal.Inproj

end
-- ==== Proof.Carry.lean ====
/- The run of `inproj_attn` over the grid: between points, the scratch's plane of the next point's parity holds the rows of that point's block, normed. -/
module

public import proofs.«01_k».proof.Proof.Left
public import Idealize.ShloMosaic.Lib.Claim

@[expose] public section

set_option maxRecDepth 16384

noncomputable section

namespace Cert.Kernel2Ideal.Inproj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem whole_h (v : View sig .tc .vmem S512x2048 .bf16) (f) (L : List (View.Piece (Elt F) S512x2048 .bf16)) (X : Vec F S512x2048 .bf16) (hb)
    (e : L = [⟨Rect.unit (s := S512x2048) ![0, 0] S512x2048.size hb, X⟩]) : v.read (Elt F) (v.writes (Elt F) f L) = X := by
  subst e
  have z : (![0, 0] : Fin S512x2048.rank → ℕ) = fun _ => 0 := funext (fin2_cases rfl rfl)
  funext y
  refine read_pieces v f X [_] ?hp y ⟨_, .head _, View.mem_set_unit_zero z hb y⟩
  refine ⟨fun x => congrArg X (funext (fin2_cases (Fin.ext ?_) (Fin.ext ?_))), trivial⟩
  · show (x 0).val = 0 + 1 * (x 0).val; omega
  · show (x 1).val = 0 + 1 * (x 1).val; omega

theorem whole_kv (v : View sig .tc .vmem S512x512 .f32) (f) (L : List (View.Piece (Elt F) S512x512 .f32)) (X : Vec F S512x512 .f32) (hb)
    (e : L = [⟨Rect.unit (s := S512x512) ![0, 0] S512x512.size hb, X⟩]) : v.read (Elt F) (v.writes (Elt F) f L) = X := by
  subst e
  have z : (![0, 0] : Fin S512x512.rank → ℕ) = fun _ => 0 := funext (fin2_cases rfl rfl)
  funext y
  refine read_pieces v f X [_] ?hp y ⟨_, .head _, View.mem_set_unit_zero z hb y⟩
  refine ⟨fun x => congrArg X (funext (fin2_cases (Fin.ext ?_) (Fin.ext ?_))), trivial⟩
  · show (x 0).val = 0 + 1 * (x 0).val; omega
  · show (x 1).val = 0 + 1 * (x 1).val; omega

theorem slabs_read (v : View sig .tc .vmem S512x4096 .bf16) (f) (L : List (View.Piece (Elt F) S512x4096 .bf16)) (N : Vec F S512x2048 .bf16) (w : Vec F S2048x4608 .bf16)
    (e : L = slabs N w) : v.read (Elt F) (v.writes (Elt F) f L) = qgOf N w := by
  subst e
  exact View.read_writes_eq_canon v f _ (slabs_cover N w)

/-! ## The windows' buffers at a point -/

abbrev b0 (t : Fin cfg0.N) : Memref sig .tc .vmem S512x2048 .f32 := win0_0.stage (cfg0.slots t 0)
abbrev b1 (t : Fin cfg0.N) : Memref sig .tc .vmem S512x2048 .f32 := win0_1.stage (cfg0.slots t 1)
abbrev b2 (t : Fin cfg0.N) : Memref sig .tc .vmem S1x2048 .f32 := win0_2.stage (cfg0.slots t 2)
abbrev b3 (t : Fin cfg0.N) : Memref sig .tc .vmem S2048x4608 .bf16 := win0_3.stage (cfg0.slots t 3)
abbrev b4 (t : Fin cfg0.N) : Memref sig .tc .vmem S512x2048 .bf16 := win0_4.stage (cfg0.slots t 4)
abbrev b5 (t : Fin cfg0.N) : Memref sig .tc .vmem S512x4096 .bf16 := win0_5.stage (cfg0.slots t 5)
abbrev b6 (t : Fin cfg0.N) : Memref sig .tc .vmem S512x512 .f32 := win0_6.stage (cfg0.slots t 6)
abbrev b7 : Memref sig .tc .vmem S2x512x2048 .bf16 := Memref.whole cc0_scratch0

/-- What the frame kit keeps between points: the scratch at some contents and the generator's register. -/
theorem rest_eq (c : Dev nD) :
    (Pipeline.ΦA spec0 c : sProp 𝕄) = iprop(iprop((∃ d, owns (c : Thread nD τ) b7 fullShare d)) ∗ (∃ r, prngReg c r)) := by
  unfold Pipeline.ΦA; rw [scopedRest0_eq]; simp only [b7, owns_whole]; try rfl

/-- The block of rows the point before norms for this one. -/
def ahead (c : Dev nD) (t : Fin cfg0.N) : Vec F S512x2048 .bf16 := normRows (iblk m c 1 t) (iblk m c 2 t)

/-- The rows the scratch holds for point `n` to read. -/
def held (c : Dev nD) : (n : ℕ) → n < cfg0.N → Vec F S512x2048 .bf16
  | 0, h => normRows (iblk m c 0 ⟨0, h⟩) (iblk m c 2 ⟨0, h⟩)
  | n + 1, h => ahead m c ⟨n, Nat.lt_of_succ_lt h⟩

/-- What is kept between points. -/
def kept (c : Dev nD) : (n : ℕ) → n ≤ cfg0.N → sProp 𝕄
  | 0, _ => Pipeline.ΦA spec0 c
  | n + 1, h => iprop((∃ X, ⌜HoldsAt X ((n + 1) % 2) (ahead m c ⟨n, h⟩)⌝ ∗ owns (c : Thread nD τ) b7 fullShare X) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => X0_3 m c t
    | ⟨4, _⟩ => hOf (held m c t.val t.isLt)
    | ⟨5, _⟩ => qgOf (held m c t.val t.isLt) (X0_3 m c t)
    | ⟨6, _⟩ => kvOf (held m c t.val t.isLt) (X0_3 m c t)
  Φ t := kept m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = X0_3 m c t := by dsimp only [dats]
theorem after_4 (c : Dev nD) (t : Fin cfg0.N) : (dats m 0 c).after 4 t = hOf (held m c t.val t.isLt) := by dsimp only [dats]
theorem after_5 (c : Dev nD) (t : Fin cfg0.N) : (dats m 0 c).after 5 t = qgOf (held m c t.val t.isLt) (X0_3 m c t) := by dsimp only [dats]
theorem after_6 (c : Dev nD) (t : Fin cfg0.N) : (dats m 0 c).after 6 t = kvOf (held m c t.val t.isLt) (X0_3 m c t) := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = X0_3 m c t := before0_3_of m (dats m 0 c) (A_eq m c 3) (after_3 m c) t d

theorem kept_before (c : Dev nD) (t : Fin cfg0.N) : (dats m 0 c).Φ t.castSucc = kept m c t.val (Nat.le_of_lt t.isLt) := by
  dsimp only [dats]; exact Pipeline.Dat.Φ_castSucc (kept m c) t

theorem kept_after (c : Dev nD) (t : Fin cfg0.N) : (dats m 0 c).Φ t.succ = kept m c (t.val + 1) t.isLt := by
  dsimp only [dats, Fin.val_succ]

theorem kept_zero (c : Dev nD) (h) : kept m c 0 h = Pipeline.ΦA spec0 c := rfl
theorem kept_succ (c : Dev nD) (n : ℕ) (h) : kept m c (n + 1) h
    = iprop((∃ X, ⌜HoldsAt X ((n + 1) % 2) (ahead m c ⟨n, h⟩)⌝ ∗ owns (c : Thread nD τ) b7 fullShare X) ∗ (∃ r, prngReg c r)) := rfl

theorem coord : ∀ t : Fin cfg0.N, (grid0.coords t 0).val = t.val :=
  (by decide +kernel : ∀ t : Fin grid0.N, (grid0.coords t 0).val = t.val)

/-! ## The body at a point -/

def pre (c : Dev nD) (t : Fin cfg0.N) : sProp 𝕄 :=
  iprop((dats m 0 c).Φ t.castSucc ∗ (dats m 0 c).owesAt () t.castSucc
    ∗ (∃ d, owns (c : Thread nD τ) (b0 t) fullShare ((dats m 0 c).before 0 t d))
    ∗ (∃ d, owns (c : Thread nD τ) (b1 t) fullShare ((dats m 0 c).before 1 t d))
    ∗ (∃ d, owns (c : Thread nD τ) (b2 t) fullShare ((dats m 0 c).before 2 t d))
    ∗ (∃ d, owns (c : Thread nD τ) (b3 t) fullShare ((dats m 0 c).before 3 t d))
    ∗ (∃ d, owns (c : Thread nD τ) (b4 t) fullShare ((dats m 0 c).before 4 t d))
    ∗ (∃ d, owns (c : Thread nD τ) (b5 t) fullShare ((dats m 0 c).before 5 t d))
    ∗ (∃ d, owns (c : Thread nD τ) (b6 t) fullShare ((dats m 0 c).before 6 t d)))

def post (c : Dev nD) (t : Fin cfg0.N) : sProp 𝕄 :=
  iprop((dats m 0 c).Φ t.succ ∗ (dats m 0 c).owesAt () t.succ
    ∗ owns (c : Thread nD τ) (b0 t) fullShare ((dats m 0 c).after 0 t)
    ∗ owns (c : Thread nD τ) (b1 t) fullShare ((dats m 0 c).after 1 t)
    ∗ owns (c : Thread nD τ) (b2 t) fullShare ((dats m 0 c).after 2 t)
    ∗ owns (c : Thread nD τ) (b3 t) fullShare ((dats m 0 c).after 3 t)
    ∗ owns (c : Thread nD τ) (b4 t) fullShare ((dats m 0 c).after 4 t)
    ∗ owns (c : Thread nD τ) (b5 t) fullShare ((dats m 0 c).after 5 t)
    ∗ owns (c : Thread nD τ) (b6 t) fullShare ((dats m 0 c).after 6 t))

theorem at_first (c : Dev nD) (t : Fin cfg0.N) (h0 : t.val = 0) :
    pre m c t ⊢ wp frame (wpE (defs₀ (F := F)) Variants.none c none) Set.univ (bodyAt0 t) (fun _ => post m c t) := by
  have hc : first (grid0.coords t) := (first_iff t).mpr h0
  have eN : held m c t.val t.isLt = normRows (iblk m c 0 t) (iblk m c 2 t) := by
    obtain ⟨n, hn⟩ := t; dsimp only at h0; subst h0; rfl
  unfold pre post bodyAt0
  simp only [before_0, before_1, before_2, before_3]
  rw [kept_before, kept_after, show (dats m 0 c).owesAt () t.succ = (dats m 0 c).owesAt () t.castSucc from rfl,
    after_0, after_1, after_2, after_3, after_4, after_5, after_6, eN, kept_succ]
  have ek : kept m c t.val (Nat.le_of_lt t.isLt) = Pipeline.ΦA spec0 c := by
    obtain ⟨n, hn⟩ := t; dsimp only at h0; subst h0; rfl
  rw [ek, rest_eq]
  iintro ⟨⟨⟨%xs, HS⟩, Hg⟩, Ho, ⟨%d0, H0⟩, ⟨%d1, H1⟩, ⟨%d2, H2⟩, ⟨%d3, H3⟩, ⟨%d4, H4⟩, ⟨%d5, H5⟩, ⟨%d6, H6⟩⟩
  iapply ((runA c (grid0.coords t) hc _ _ _ _ _ _ _ _ _ _ _ _ _ _ _ (Memref.isWhole_whole _) (iblk m c 0 t) (iblk m c 1 t) (iblk m c 2 t) (X0_3 m c t) xs).2.2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS]; · iexact HS
  iintro ⟨H0, H1, H2, H3, ⟨%e4, H4⟩, ⟨%e5, H5⟩, ⟨%e6, H6⟩, HS⟩
  isplitl [HS Hg]
  · isplitl [HS]
    · iexists _
      isplitr
      swap
      · unfold owns; iexists _; isplitr
        swap; · iexact HS
        ipureintro; rfl
      ipureintro
      rw [show (t.val + 1) % 2 = 1 by omega]
      exact runA_scratch c (grid0.coords t) _ _ _ _ _ _ _ _ _ _ _ _ _ _ _ _ (iblk m c 0 t) (iblk m c 1 t) (iblk m c 2 t) (X0_3 m c t) xs hc
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact whole_h _ _ _ _ _ (runA_h c (grid0.coords t) _ _ _ _ _ _ _ _ _ _ _ _ _ _ _ _ (iblk m c 0 t) (iblk m c 1 t) (iblk m c 2 t) (X0_3 m c t) xs hc)
  isplitl [H5]
  · unfold owns; iexists _; isplitr
    swap; · iexact H5
    ipureintro; exact slabs_read _ _ _ _ _ (runA_qg c (grid0.coords t) _ _ _ _ _ _ _ _ _ _ _ _ _ _ _ _ (iblk m c 0 t) (iblk m c 1 t) (iblk m c 2 t) (X0_3 m c t) xs hc)
  unfold owns; iexists _; isplitr
  swap; · iexact H6
  ipureintro; exact whole_kv _ _ _ _ _ (runA_kv c (grid0.coords t) _ _ _ _ _ _ _ _ _ _ _ _ _ _ _ _ (iblk m c 0 t) (iblk m c 1 t) (iblk m c 2 t) (X0_3 m c t) xs hc)

theorem at_later (c : Dev nD) (t : Fin cfg0.N) (h0 : t.val ≠ 0) :
    pre m c t ⊢ wp frame (wpE (defs₀ (F := F)) Variants.none c none) Set.univ (bodyAt0 t) (fun _ => post m c t) := by
  have hc : ¬ first (grid0.coords t) := fun h => h0 ((first_iff t).mp h)
  have ek : kept m c t.val (Nat.le_of_lt t.isLt)
      = iprop((∃ X, ⌜HoldsAt X (t.val % 2) (held m c t.val t.isLt)⌝ ∗ owns (c : Thread nD τ) b7 fullShare X) ∗ (∃ r, prngReg c r)) := by
    obtain ⟨n, hn⟩ := t
    cases n with
    | zero => exact absurd rfl h0
    | succ k => rfl
  unfold pre post bodyAt0
  simp only [before_0, before_1, before_2, before_3]
  rw [kept_before, kept_after, show (dats m 0 c).owesAt () t.succ = (dats m 0 c).owesAt () t.castSucc from rfl,
    after_0, after_1, after_2, after_3, after_4, after_5, after_6, kept_succ, ek]
  iintro ⟨⟨⟨%xs, %hX, HS⟩, Hg⟩, Ho, ⟨%d0, H0⟩, ⟨%d1, H1⟩, ⟨%d2, H2⟩, ⟨%d3, H3⟩, ⟨%d4, H4⟩, ⟨%d5, H5⟩, ⟨%d6, H6⟩⟩
  have hx : HoldsAt xs ((grid0.coords t 0).val % 2) (held m c t.val t.isLt) := by rw [coord]; exact hX
  iapply ((runB c (grid0.coords t) hc _ _ _ _ _ _ _ _ _ _ _ _ _ _ _ (Memref.isWhole_whole _) (iblk m c 0 t) (iblk m c 1 t) (iblk m c 2 t) (X0_3 m c t) xs).2.2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS]; · iexact HS
  iintro ⟨H0, H1, H2, H3, ⟨%e4, H4⟩, ⟨%e5, H5⟩, ⟨%e6, H6⟩, HS⟩
  isplitl [HS Hg]
  · isplitl [HS]
    · iexists _
      isplitr
      swap
      · unfold owns; iexists _; isplitr
        swap; · iexact HS
        ipureintro; rfl
      ipureintro
      rw [show (t.val + 1) % 2 = 1 - (grid0.coords t 0).val % 2 by rw [coord]; omega]
      exact runB_scratch c (grid0.coords t) _ _ _ _ _ _ _ _ _ _ _ _ _ _ _ _ (iblk m c 0 t) (iblk m c 1 t) (iblk m c 2 t) (X0_3 m c t) xs hc
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact whole_h _ _ _ _ _ (runB_h c (grid0.coords t) _ _ _ _ _ _ _ _ _ _ _ _ _ _ _ _ (iblk m c 0 t) (iblk m c 1 t) (iblk m c 2 t) (X0_3 m c t) xs hc _ hx)
  isplitl [H5]
  · unfold owns; iexists _; isplitr
    swap; · iexact H5
    ipureintro; exact slabs_read _ _ _ _ _ (runB_qg c (grid0.coords t) _ _ _ _ _ _ _ _ _ _ _ _ _ _ _ _ (iblk m c 0 t) (iblk m c 1 t) (iblk m c 2 t) (X0_3 m c t) xs hc _ hx)
  unfold owns; iexists _; isplitr
  swap; · iexact H6
  ipureintro; exact whole_kv _ _ _ _ _ (runB_kv c (grid0.coords t) _ _ _ _ _ _ _ _ _ _ _ _ _ _ _ _ (iblk m c 0 t) (iblk m c 1 t) (iblk m c 2 t) (X0_3 m c t) xs hc _ hx)

theorem body_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  refine triple_restated (P := pre m c t) ?_ rfl .rfl fun _ => .rfl
  by_cases h : t.val = 0
  · exact at_first m c t h
  · exact at_later m c t h

/-! ## The launch -/

theorem kept_in (c : Dev nD) : Pipeline.ΦA spec0 c ⊢ (dats m 0 c).Φ 0 := by
  rw [show (dats m 0 c).Φ 0 = kept m c 0 (Nat.zero_le _) from by dsimp only [dats]; rfl, kept_zero]

theorem kept_out (c : Dev nD) : (dats m 0 c).Φ (Fin.last cfg0.N) ⊢ Pipeline.ΦA spec0 c := by
  have e : (dats m 0 c).Φ (Fin.last cfg0.N) = kept m c (63 + 1) (by decide) := by dsimp only [dats]; rfl
  rw [e, kept_succ, rest_eq]
  iintro ⟨⟨%X, -, HS⟩, Hg⟩
  isplitl [HS]
  · iexists _; iexact HS
  iexact Hg

set_option backward.isDefEq.respectTransparency.types false in
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hin := kept_in m) (hout := kept_out m)

theorem run_frame : θ_run defs (onTc (τ := τ) (main (F := F))) (s₀ m ρ) (Pipeline.FramePost cfgs (dats m) 0 (V m)) :=
  (θ_run defs _ _).mono (fun _ h => h.1) (run_quiescent m ρ)

/-- The arguments end as they began, and every counter at zero. -/
theorem frame2 : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_frame m ρ)) ((θ_run defs _ _).mono (fun _ h => h.2) (run_quiescent m ρ))

end Cert.Kernel2Ideal.Inproj

end
-- ==== Proof.Twin.lean ====
/- The frames of the call `inproj_attn`: the kernel's text is the idealized kernel's, so its run is the same one. -/
module

public import proofs.«01_k».proof.Defs
public import proofs.«01_k».proof.Proof.Carry
public import proofs.«01_k».proof.Proof.Gen.Kernel2.Frame
public import proofs.«01_k».proof.Proof.Gen.Reference2Ideal.Run
public import Idealize.ShloMosaic.Adequacy

@[expose] public section

set_option maxRecDepth 16384

noncomputable section

namespace Cert.Proof.Twin

open Idealize.ShloMosaic Idealize.ShloMosaic.TcCoe Idealize.SL.Sem

theorem frame_pi2 : Cert.quiescent_Kernel2Ideal := fun m ρ _ => Cert.Kernel2Ideal.Inproj.frame2 m ρ

section text

variable [Cert.Kernel2.Facts] [Cert.Kernel2Ideal.Facts] {F : FTy → Type} [FloatOps F]

/-- The two programs' bodies are one. -/
theorem rows : Cert.Kernel2.defs₀ (F := F) = Cert.Kernel2Ideal.defs₀ (F := F) := by
  unfold Cert.Kernel2.defs₀ Cert.Kernel2Ideal.defs₀
  refine congrArg Defs.onTc (funext fun l => funext fun a => ?_)
  match l, a with
  | ⟨0, _⟩, (t, s) => rfl

theorem table : Cert.Kernel2.defs (F := F) = Cert.Kernel2Ideal.defs (F := F) := by
  unfold Cert.Kernel2.defs Cert.Kernel2Ideal.defs
  exact congrArg (Pipeline.defs _) rows

end text

theorem frame_p2 : Cert.quiescent_Kernel2 := by
  intro m ρ _
  rw [table]
  exact Cert.Kernel2Ideal.Inproj.frame2 (F := Bits) m ρ

theorem frame_ri2 : Cert.quiescent_Reference2Ideal := by
  intro m g _
  exact (θ_run (Cert.Reference2Ideal.defs (F := Ideal)) _ _).mono (fun r h => ⟨fun c => (h c).2.2.2, Idealize.ShloMosaic.sem_eq_zero_of_no_sems (by decide) r.2⟩)
    (Cert.Reference2Ideal.Value.run (F := Ideal) m g)

end Cert.Proof.Twin

end
-- ==== Proof.Entries.lean ====
/- What a point of `inproj_attn` leaves in its outputs, entry by entry. -/
module

public import proofs.«01_k».proof.Proof.Carry

@[expose] public section

set_option maxRecDepth 16384

noncomputable section

namespace Cert.Kernel2Ideal.Inproj

open Cert.Kernel2Ideal Cert.Kernel2Ideal.Gen Idealize.ShloMosaic Idealize.ShloMosaic.Tactic

def width : EReal := Ideal.ofBits .f32 0x45000000#32
def eps : EReal := Ideal.ofBits .f32 0x358637BD#32

/-- A row normed and scaled by the gain. -/
def rowUnit (x g : Fin 2048 → EReal) (n : Fin 2048) : EReal :=
  x n * Ideal.rsqrt (Ideal.div (∑ l : Fin 2048, x l * x l) width + eps) * g n

theorem piece_at (x : FVec Ideal S128x2048 .f32) (g : FVec Ideal S1x2048 .f32) (r : Fin 128) (n : Fin 2048) :
    k0_pay12 (F := Ideal) x g (ix3 0 r n) = rowUnit (fun l => x (ix2 r l)) (fun l => g (ix2 0 l)) n := by
  pointwise [k0_pay12]
  rfl

theorem normRows_at (x : FVec Ideal S512x2048 .f32) (g : FVec Ideal S1x2048 .f32) (r : Fin 512) (n : Fin 2048) :
    normRows (F := Ideal) x g (ix2 r n) = rowUnit (fun l => x (ix2 r l)) (fun l => g (ix2 0 l)) n := by
  unfold normRows
  refine (piece_at _ _ _ _).trans ?_
  refine congrArg (fun f => rowUnit f _ n) (funext fun l => congrArg (fun a => x (ix2 a l)) (Fin.ext ?_))
  show 128 * (r.val / 128) + r.val % 128 = r.val
  omega

theorem hOf_at (N : FVec Ideal S512x2048 .bf16) (r : Fin 512) (n : Fin 2048) : hOf (F := Ideal) N (ix2 r n) = N (ix2 r n) := by
  pointwise [hOf, k0_pay8, plane]

/-- The product of a block's rows with 512 columns of the weights. -/
def prod (h : FVec Ideal S512x2048 .bf16) (w : FVec Ideal S2048x512 .bf16) : FVec Ideal S512x512 .f32 :=
  matmul dot_S512x2048_S2048x512_S512x512_1_0_0_1_n_n none h w (constant S512x512 .f32 0x00000000#32)

theorem prod_at (N : FVec Ideal S512x2048 .bf16) (w : FVec Ideal S2048x4608 .bf16) (o : ℕ) (ho : o + 512 ≤ 4608) (r n : Fin 512) :
    prod (hOf (F := Ideal) N) (wAt (F := Ideal) w o ho) (ix2 r n) = ∑ l : Fin 2048, N (ix2 r l) * w (ix2 l (⟨o + n.val, by omega⟩ : Fin 4608)) := by
  have e : ∀ (h : FVec Ideal S512x2048 .bf16) (v : FVec Ideal S2048x512 .bf16), prod h v (ix2 r n) = ∑ l : Fin 2048, h (ix2 r l) * v (ix2 l n) := by
    intro h v
    pointwise [prod]
  rw [e]
  refine Finset.sum_congr rfl fun l _ => ?_
  rw [hOf_at]
  rfl

theorem kvOf_at (N : FVec Ideal S512x2048 .bf16) (w : FVec Ideal S2048x4608 .bf16) (r n : Fin 512) :
    kvOf (F := Ideal) N w (ix2 r n) = ∑ l : Fin 2048, N (ix2 r l) * w (ix2 l (⟨2048 + n.val, by omega⟩ : Fin 4608)) := by
  refine Eq.trans ?_ (prod_at N w 2048 (by decide) r n)
  unfold kvOf k0_pay15 k0_pay14
  rw [shapeCast_self]
  rfl

theorem pay11_eq (h : FVec Ideal S512x2048 .bf16) (w : FVec Ideal S2048x512 .bf16) : k0_pay11 (F := Ideal) h w = prod h w := by
  unfold k0_pay11; rw [shapeCast_self]; rfl

theorem pay13_eq (h : FVec Ideal S512x2048 .bf16) (w : FVec Ideal S2048x512 .bf16) : k0_pay13 (F := Ideal) h w = prod h w := by
  unfold k0_pay13; rw [shapeCast_self]; rfl

theorem pay17_eq (h : FVec Ideal S512x2048 .bf16) (w : FVec Ideal S2048x512 .bf16) : k0_pay17 (F := Ideal) h w = prod h w := by
  unfold k0_pay17; rw [shapeCast_self]; rfl

theorem pay18_eq (h : FVec Ideal S512x2048 .bf16) (w : FVec Ideal S2048x512 .bf16) : k0_pay18 (F := Ideal) h w = prod h w := by
  unfold k0_pay18; rw [shapeCast_self]; rfl

theorem pay20_eq (h : FVec Ideal S512x2048 .bf16) (w : FVec Ideal S2048x512 .bf16) : k0_pay20 (F := Ideal) h w = prod h w := by
  unfold k0_pay20; rw [shapeCast_self]; rfl

theorem pay21_eq (h : FVec Ideal S512x2048 .bf16) (w : FVec Ideal S2048x512 .bf16) : k0_pay21 (F := Ideal) h w = prod h w := by
  unfold k0_pay21; rw [shapeCast_self]; rfl

theorem pay9_eq (N : FVec Ideal S512x2048 .bf16) (w : FVec Ideal S2048x512 .bf16) : k0_pay9 (F := Ideal) (plane N) w = prod (hOf (F := Ideal) N) w := by
  unfold k0_pay9; rw [shapeCast_self]; rfl

theorem pay10_eq (N : FVec Ideal S512x2048 .bf16) (w : FVec Ideal S2048x512 .bf16) : k0_pay10 (F := Ideal) (plane N) w = prod (hOf (F := Ideal) N) w := by
  unfold k0_pay10; rw [shapeCast_self]; rfl

/-- The weight's column behind a column of the queries and gates. -/
def src (n : Fin 4096) : Fin 4608 := if n.val < 2048 then ⟨n.val, by omega⟩ else ⟨512 + n.val, by omega⟩

/-- The queries and gates of a block, all columns at once. -/
def qgAll (N : FVec Ideal S512x2048 .bf16) (w : FVec Ideal S2048x4608 .bf16) : FVec Ideal S512x4096 .bf16 :=
  fun y => ∑ l : Fin 2048, N (ix2 (y 0) l) * w (ix2 l (src (y 1)))

theorem slab_ok (N : FVec Ideal S512x2048 .bf16) (w : FVec Ideal S2048x4608 .bf16) (o o' : ℕ) (ho : o + 512 ≤ 4608) (hb)
    (hs : ∀ (n : Fin 512) (a : Fin 4096), a.val = o' + n.val → src a = (⟨o + n.val, by omega⟩ : Fin 4608)) (z : S512x512.Idx) :
    prod (hOf (F := Ideal) N) (wAt (F := Ideal) w o ho) z = qgAll N w ((Rect.unit (s := S512x4096) ![0, o'] S512x512.size hb).emb z) := by
  obtain ⟨r, n, rfl⟩ : ∃ (r n : Fin 512), z = ix2 r n := ⟨z 0, z 1, funext (fin2_cases rfl rfl)⟩
  rw [prod_at]
  refine Finset.sum_congr rfl fun l _ => congrArg₂ (· * ·) (congrArg (fun a => N (ix2 a l)) (Fin.ext ?_)) (congrArg (fun a => w (ix2 l a)) (hs n _ ?_).symm)
  · show r.val = 0 + 1 * r.val; omega
  · show o' + 1 * n.val = o' + n.val; omega

theorem src_low (o : ℕ) (ho : o + 512 ≤ 2048) (n : Fin 512) (a : Fin 4096) (h : a.val = o + n.val) : src a = (⟨o + n.val, by omega⟩ : Fin 4608) := by
  unfold src
  rw [if_pos (by omega)]
  exact Fin.ext h

theorem src_high (o o' : ℕ) (e : o = 512 + o') (h' : 2048 ≤ o') (ho : o + 512 ≤ 4608) (n : Fin 512) (a : Fin 4096) (h : a.val = o' + n.val) :
    src a = (⟨o + n.val, by omega⟩ : Fin 4608) := by
  unfold src
  rw [if_neg (by omega)]
  exact Fin.ext (by show 512 + a.val = o + n.val; omega)

theorem qgOf_at (N : FVec Ideal S512x2048 .bf16) (w : FVec Ideal S2048x4608 .bf16) (y : S512x4096.Idx) : qgOf (F := Ideal) N w y = qgAll N w y := by
  have hp : View.PiecesOf (qgAll N w) (slabs (F := Ideal) N w) := by
    unfold slabs
    rw [pay21_eq, pay20_eq, pay18_eq, pay17_eq, pay13_eq, pay11_eq, pay10_eq, pay9_eq]
    refine ⟨fun z => ?_, fun z => ?_, fun z => ?_, fun z => ?_, fun z => ?_, fun z => ?_, fun z => ?_, fun z => ?_, trivial⟩
    · exact slab_ok N w 4096 3584 (by decide) (by decide) (src_high _ _ rfl (by decide) (by decide)) z
    · exact slab_ok N w 3584 3072 (by decide) (by decide) (src_high _ _ rfl (by decide) (by decide)) z
    · exact slab_ok N w 3072 2560 (by decide) (by decide) (src_high _ _ rfl (by decide) (by decide)) z
    · exact slab_ok N w 2560 2048 (by decide) (by decide) (src_high _ _ rfl (by decide) (by decide)) z
    · exact slab_ok N w 1536 1536 (by decide) (by decide) (src_low _ (by decide)) z
    · exact slab_ok N w 1024 1024 (by decide) (by decide) (src_low _ (by decide)) z
    · exact slab_ok N w 512 512 (by decide) (by decide) (src_low _ (by decide)) z
    · exact slab_ok N w 0 0 (by decide) (by decide) (src_low _ (by decide)) z
  have e := View.canon_append_of_piecesOf (qgAll N w) [] (slabs (F := Ideal) N w) hp y (slabs_cover (F := Ideal) N w y)
  unfold qgOf
  rwa [List.append_nil] at e

end Cert.Kernel2Ideal.Inproj

end
-- ==== Proof.Given.lean ====
/- The blocks handed to `inproj_attn`, as entries of its arguments. -/
module

public import proofs.«01_k».proof.Proof.Entries
public import Idealize.ShloMosaic.Lib.StableHlo.ReadAt

@[expose] public section

set_option maxRecDepth 16384

noncomputable section

namespace Cert.Kernel2Ideal.Inproj

open Cert.Kernel2Ideal Cert.Kernel2Ideal.Gen Idealize.ShloMosaic Idealize.ShloMosaic.TcCoe Idealize.ShloMosaic.Tactic

variable (m : (ℓ : Loc nD τ sig) → Buf (Elt Ideal) ℓ)

/-- Where every window stands at a grid point. -/
theorem places : ∀ t : Fin cfg0.N,
    win0_0.index t = ![t.val, 0]
    ∧ win0_1.index t = ![min (t.val + 1) 63, 0]
    ∧ win0_2.index t = ![0, 0]
    ∧ win0_3.index t = ![0, 0]
    ∧ win0_4.index t = ![t.val, 0]
    ∧ win0_5.index t = ![t.val, 0]
    ∧ win0_6.index t = ![t.val, 0] :=
  (by decide +kernel : ∀ t : Fin grid0.N, _)

theorem points (t : Fin cfg0.N) : t.val < 64 := t.isLt

/-- A row of the flattened rows: its batch entry and its place in the sequence. -/
def rowOf (x : FVec Ideal S16x2048x2048 .f32) (R : Fin 32768) (l : Fin 2048) : EReal :=
  x (ix3 (⟨R.val / 2048, by omega⟩ : Fin 16) (⟨R.val % 2048, Nat.mod_lt _ (by decide)⟩ : Fin 2048) l)

/-- The flattened row a row of block `n` stands for. -/
def at512 (n : ℕ) (h : n < 64) (r : Fin 512) : Fin 32768 := ⟨512 * n + r.val, by omega⟩

theorem rows_arr (c : Dev nD) (R : Fin 32768) (l : Fin 2048) : V m c main_v0 (ix2 R l) = rowOf (m ((c : Thread nD τ).loc main_arg0)) R l := by
  unfold V rowOf
  after_reads_at
  all_goals pointwise

theorem gain_arr (c : Dev nD) (l : Fin 2048) : V m c main_v1 (ix2 (0 : Fin 1) l) = m ((c : Thread nD τ).loc main_arg1) (ix1 l) := by
  unfold V
  after_reads_at
  all_goals pointwise

theorem wide_arr (c : Dev nD) (k : Fin 2048) (l : Fin 9760) : V m c main_v2 (ix2 k l) = m ((c : Thread nD τ).loc main_arg2) (ix2 k l) := by
  unfold V
  after_reads_at
  all_goals pointwise

theorem own_block (c : Dev nD) (t : Fin cfg0.N) (r : Fin 512) (l : Fin 2048) :
    iblk m c 0 t (ix2 r l) = rowOf (m ((c : Thread nD τ).loc main_arg0)) (at512 t.val (points t) r) l := by
  obtain ⟨p0, -⟩ := places t
  refine Eq.trans ?_ (rows_arr m c _ l)
  blk_ext [iblk, at512, p0]

theorem next_block (c : Dev nD) (t : Fin cfg0.N) (r : Fin 512) (l : Fin 2048) :
    iblk m c 1 t (ix2 r l) = rowOf (m ((c : Thread nD τ).loc main_arg0)) (at512 (min (t.val + 1) 63) (by omega) r) l := by
  obtain ⟨-, p1, -⟩ := places t
  refine Eq.trans ?_ (rows_arr m c _ l)
  blk_ext [iblk, at512, p1]

theorem gain_block (c : Dev nD) (t : Fin cfg0.N) (l : Fin 2048) :
    iblk m c 2 t (ix2 (0 : Fin 1) l) = m ((c : Thread nD τ).loc main_arg1) (ix1 l) := by
  obtain ⟨-, -, p2, -⟩ := places t
  refine Eq.trans ?_ (gain_arr m c l)
  blk_ext [iblk, p2]

theorem wide_block (c : Dev nD) (t : Fin cfg0.N) (k : Fin 2048) (l : Fin 4608) :
    X0_3 m c t (ix2 k l) = m ((c : Thread nD τ).loc main_arg2) (ix2 k (⟨l.val, by omega⟩ : Fin 9760)) := by
  obtain ⟨-, -, -, p3, -⟩ := places t
  refine Eq.trans ?_ (wide_arr m c k _)
  unfold X0_3 Pipeline.Window.fill
  rw [dif_pos (moved0_3 t _)]
  blk_ext [iblk, p3]

/-- A row normed, of the arguments. -/
def unitOf (x : FVec Ideal S16x2048x2048 .f32) (g : FVec Ideal S2048 .f32) (R : Fin 32768) (n : Fin 2048) : EReal :=
  rowUnit (rowOf x R) (fun l => g (ix1 l)) n

theorem unit_congr {f f' g g' : Fin 2048 → EReal} (h1 : f = f') (h2 : g = g') (n : Fin 2048) : rowUnit f g n = rowUnit f' g' n := by
  rw [h1, h2]

/-- The rows held at a point are the point's rows, normed. -/
theorem held_at (c : Dev nD) (n : ℕ) (h : n < cfg0.N) (r : Fin 512) (l : Fin 2048) :
    held m c n h (ix2 r l) = unitOf (m ((c : Thread nD τ).loc main_arg0)) (m ((c : Thread nD τ).loc main_arg1)) (at512 n h r) l := by
  cases n with
  | zero =>
    unfold held
    refine (normRows_at _ _ r l).trans (unit_congr (funext fun k => own_block m c ⟨0, h⟩ r k) (funext fun k => gain_block m c ⟨0, h⟩ k) l)
  | succ n =>
    unfold held ahead
    refine (normRows_at _ _ r l).trans (unit_congr (funext fun k => (next_block m c ⟨n, _⟩ r k).trans ?_) (funext fun k => gain_block m c ⟨n, _⟩ k) l)
    have hh : n + 1 < 64 := h
    have e : at512 (min (n + 1) 63) (by omega) r = at512 (n + 1) h r := Fin.ext (by show 512 * min (n + 1) 63 + r.val = 512 * (n + 1) + r.val; omega)
    exact congrArg (fun R => rowOf _ R k) e

end Cert.Kernel2Ideal.Inproj

end
-- ==== Proof.RefUnit.lean ====
/- The reference of `inproj_attn` at an index. -/
module

public import proofs.«01_k».proof.Proof.Given
public import proofs.«01_k».proof.Proof.Gen.Reference2Ideal.Run

@[expose] public section

set_option maxRecDepth 16384

noncomputable section

namespace Cert.Reference2Ideal.Unit

open Cert.Reference2Ideal Cert.Reference2Ideal.Gen Idealize.ShloMosaic Idealize.ShloMosaic.Tactic
open Cert.Kernel2Ideal.Inproj (rowUnit rowOf unitOf width eps src)

/-- The reference's normed rows. -/
def normed (x : FVec Ideal S16x2048x2048 .f32) (g : FVec Ideal S2048 .f32) : FVec Ideal S16x2048x2048 .f32 :=
  mulf (mulf x (broadcastInDim S16x2048x2048 ![0, 1, 2] bcast_S16x2048x1_S16x2048x2048_0_1_2
    (Host.rsqrt (addf (Host.divf (broadcastInDim S16x2048x1 ![0, 1] bcast_S16x2048_S16x2048x1_0_1
        (Host.reduceAdd (mulf x x) (constant S_ .f32 0x00000000#32) reducesTo_S16x2048x2048_S16x2048_d2 h_S_))
      (broadcastInDim S16x2048x1 ![] bcast_S_S16x2048x1 (constant S_ .f32 0x45000000#32)))
      (broadcastInDim S16x2048x1 ![] bcast_S_S16x2048x1 (constant S_ .f32 0x358637BD#32))))))
    (broadcastInDim S16x2048x2048 ![0, 1, 2] bcast_S1x1x2048_S16x2048x2048_0_1_2 (broadcastInDim S1x1x2048 ![2] bcast_S2048_S1x1x2048_2 g))

/-- The reference's projection, over rows it is given. -/
def projected (h : FVec Ideal S16x2048x2048 .f32) (w : FVec Ideal S2048x9760 .f32) : FVec Ideal S16x2048x4608 .f32 :=
  Host.dotGeneral dot_S16x2048x2048_S2048x4608_S16x2048x4608_2_0_01_1_n_n none h (extractStridedSlice S2048x4608 ![0, 0] w slices_S2048x9760_S2048x4608_0_0)

def hRef (h : FVec Ideal S16x2048x2048 .f32) : FVec Ideal S32768x2048 .bf16 :=
  truncf .bf16 (shapeCast _ h shapeCasts_S16x2048x2048_S32768x2048) bitsLt_bf16_f32

def qgRef (p : FVec Ideal S16x2048x4608 .f32) : FVec Ideal S32768x4096 .bf16 :=
  truncf .bf16 (shapeCast _ (concatenate S16x2048x4096 2
    [⟨S16x2048x2048, extractStridedSlice S16x2048x2048 ![0, 0, 0] p slices_S16x2048x4608_S16x2048x2048_0_0_0⟩,
     ⟨S16x2048x2048, extractStridedSlice S16x2048x2048 ![0, 0, 2560] p slices_S16x2048x4608_S16x2048x2048_0_0_2560⟩]
    concatenates_S16x2048x2048_S16x2048x2048_S16x2048x4096_d2) shapeCasts_S16x2048x4096_S32768x4096) bitsLt_bf16_f32

def kvRef (p : FVec Ideal S16x2048x4608 .f32) : FVec Ideal S32768x512 .f32 :=
  shapeCast _ (extractStridedSlice S16x2048x512 ![0, 0, 2048] p slices_S16x2048x4608_S16x2048x512_0_0_2048) shapeCasts_S16x2048x512_S32768x512

theorem normed_at (x : FVec Ideal S16x2048x2048 .f32) (g : FVec Ideal S2048 .f32) (b : Fin 16) (t n : Fin 2048) :
    normed x g (ix3 b t n) = rowUnit (fun l => x (ix3 b t l)) (fun l => g (ix1 l)) n := by
  pointwise [normed]
  rfl

theorem projected_at (h : FVec Ideal S16x2048x2048 .f32) (w : FVec Ideal S2048x9760 .f32) (b : Fin 16) (t : Fin 2048) (n : Fin 4608) :
    projected h w (ix3 b t n) = ∑ l : Fin 2048, h (ix3 b t l) * w (ix2 l (⟨n.val, by omega⟩ : Fin 9760)) := by
  pointwise [projected]

theorem hRef_at (h : FVec Ideal S16x2048x2048 .f32) (R : Fin 32768) (n : Fin 2048) :
    hRef h (ix2 R n) = h (ix3 (⟨R.val / 2048, by omega⟩ : Fin 16) (⟨R.val % 2048, Nat.mod_lt _ (by decide)⟩ : Fin 2048) n) := by
  pointwise [hRef]

theorem qgRef_at (p : FVec Ideal S16x2048x4608 .f32) (R : Fin 32768) (n : Fin 4096) :
    qgRef p (ix2 R n) = p (ix3 (⟨R.val / 2048, by omega⟩ : Fin 16) (⟨R.val % 2048, Nat.mod_lt _ (by decide)⟩ : Fin 2048) (src n)) := by
  unfold src
  by_cases h : n.val < 2048
  · rw [if_pos h]
    pointwise [qgRef]
    rw [dif_pos h]
  · rw [if_neg h]
    pointwise [qgRef]
    rw [dif_neg h]
    exact congrArg (fun a => p (ix3 _ _ a)) (Fin.ext (by show 2560 + (n.val - 2048) = 512 + n.val; omega))

theorem kvRef_at (p : FVec Ideal S16x2048x4608 .f32) (R : Fin 32768) (n : Fin 512) :
    kvRef p (ix2 R n) = p (ix3 (⟨R.val / 2048, by omega⟩ : Fin 16) (⟨R.val % 2048, Nat.mod_lt _ (by decide)⟩ : Fin 2048) (⟨2048 + n.val, by omega⟩ : Fin 4608)) := by
  pointwise [kvRef]

end Cert.Reference2Ideal.Unit

end
-- ==== Proof.Tables.lean ====
/- The arrays `inproj_attn` leaves are its reference's. -/
module

public import proofs.«01_k».proof.Proof.RefUnit

@[expose] public section

set_option maxRecDepth 16384

noncomputable section

namespace Cert.Kernel2Ideal.Inproj

open Cert.Kernel2Ideal Cert.Kernel2Ideal.Gen Idealize.ShloMosaic Idealize.ShloMosaic.TcCoe Idealize.ShloMosaic.Tactic
open Cert.Reference2Ideal.Unit

variable (m : (ℓ : Loc nD τ sig) → Buf (Elt Ideal) ℓ)

/-- The reference's normed rows of the arguments. -/
abbrev nrm (c : Dev nD) := normed (m ((c : Thread nD τ).loc main_arg0)) (m ((c : Thread nD τ).loc main_arg1))

abbrev prj (c : Dev nD) := projected (nrm m c) (m ((c : Thread nD τ).loc main_arg2))

/-- The rows held at a point, as the reference's normed rows. -/
theorem held_ref (c : Dev nD) (t : Fin cfg0.N) (r : Fin 512) (l : Fin 2048) :
    held m c t.val t.isLt (ix2 r l) = hRef (nrm m c) (ix2 (at512 t.val (points t) r) l) := by
  rw [hRef_at]
  refine Eq.trans ?_ (normed_at _ _ _ _ _).symm
  exact held_at m c t.val t.isLt r l

theorem point4 (c : Dev nD) (t : Fin cfg0.N) (r : Fin 512) (n : Fin 2048) :
    hOf (held m c t.val t.isLt) (ix2 r n) = hRef (nrm m c) (ix2 (at512 t.val (points t) r) n) :=
  (hOf_at _ r n).trans (held_ref m c t r n)

theorem point5 (c : Dev nD) (t : Fin cfg0.N) (r : Fin 512) (n : Fin 4096) :
    qgOf (held m c t.val t.isLt) (X0_3 m c t) (ix2 r n) = qgRef (prj m c) (ix2 (at512 t.val (points t) r) n) := by
  rw [qgRef_at]
  refine Eq.trans ?_ (projected_at _ _ _ _ _).symm
  refine (qgOf_at _ _ _).trans (Finset.sum_congr rfl fun l _ => congrArg₂ (· * ·) ((held_ref m c t r l).trans (hRef_at _ _ _)) (wide_block m c t l _))

theorem point6 (c : Dev nD) (t : Fin cfg0.N) (r : Fin 512) (n : Fin 512) :
    kvOf (held m c t.val t.isLt) (X0_3 m c t) (ix2 r n) = kvRef (prj m c) (ix2 (at512 t.val (points t) r) n) := by
  rw [kvRef_at]
  refine Eq.trans ?_ (projected_at _ _ _ _ _).symm
  refine (kvOf_at _ _ r n).trans (Finset.sum_congr rfl fun l _ => congrArg₂ (· * ·) ((held_ref m c t r l).trans (hRef_at _ _ _)) (wide_block m c t l _))

theorem idx_pair (a b : ℕ) (x : (⟨2, ![a, b]⟩ : Shape).Idx) : x = ix2 (x 0) (x 1) := funext (fin2_cases rfl rfl)

theorem final4 (c : Dev nD) : (dats m 0 c).arrAt 4 cfg0.N = hRef (nrm m c) := by
  refine (dats m 0 c).arrAt_eq_of_covers 4 _ (by decide +kernel) fun t hf y => ?_
  have e : (dats m 0 c).flushed 4 t = (cfg0.win 4).cut (grid0.coords t) (hOf (held m c t.val t.isLt)) := by
    show (cfg0.win 4).cut (grid0.coords t) ((dats m 0 c).after 4 t) = _
    rw [after_4]
  refine (congrFun e y).trans ?_
  obtain ⟨-, -, -, -, p4, p5, p6⟩ := places t
  show hOf (held m c t.val t.isLt) ((cfg0.win 4).xinj (grid0.coords t) y) = _
  rw [idx_pair 512 2048 ((cfg0.win 4).xinj (grid0.coords t) y)]
  refine (point4 m c t _ _).trans (congrArg _ ?_)
  blk_ext [at512, p4]

theorem final5 (c : Dev nD) : (dats m 0 c).arrAt 5 cfg0.N = qgRef (prj m c) := by
  refine (dats m 0 c).arrAt_eq_of_covers 5 _ (by decide +kernel) fun t hf y => ?_
  have e : (dats m 0 c).flushed 5 t = (cfg0.win 5).cut (grid0.coords t) (qgOf (held m c t.val t.isLt) (X0_3 m c t)) := by
    show (cfg0.win 5).cut (grid0.coords t) ((dats m 0 c).after 5 t) = _
    rw [after_5]
  refine (congrFun e y).trans ?_
  obtain ⟨-, -, -, -, p4, p5, p6⟩ := places t
  show qgOf (held m c t.val t.isLt) (X0_3 m c t) ((cfg0.win 5).xinj (grid0.coords t) y) = _
  rw [idx_pair 512 4096 ((cfg0.win 5).xinj (grid0.coords t) y)]
  refine (point5 m c t _ _).trans (congrArg _ ?_)
  blk_ext [at512, p5]

theorem final6 (c : Dev nD) : (dats m 0 c).arrAt 6 cfg0.N = kvRef (prj m c) := by
  refine (dats m 0 c).arrAt_eq_of_covers 6 _ (by decide +kernel) fun t hf y => ?_
  have e : (dats m 0 c).flushed 6 t = (cfg0.win 6).cut (grid0.coords t) (kvOf (held m c t.val t.isLt) (X0_3 m c t)) := by
    show (cfg0.win 6).cut (grid0.coords t) ((dats m 0 c).after 6 t) = _
    rw [after_6]
  refine (congrFun e y).trans ?_
  obtain ⟨-, -, -, -, p4, p5, p6⟩ := places t
  show kvOf (held m c t.val t.isLt) (X0_3 m c t) ((cfg0.win 6).xinj (grid0.coords t) y) = _
  rw [idx_pair 512 512 ((cfg0.win 6).xinj (grid0.coords t) y)]
  refine (point6 m c t _ _).trans (congrArg _ ?_)
  blk_ext [at512, p6]

variable (ρ : Dev nD → PrngReg)

/-- The run leaves those arrays and its arguments. -/
theorem run_tables : θ_run defs (onTc (τ := τ) (main (F := Ideal))) ⟨m, fun _ => 0, ρ⟩ fun r => ∀ c : Dev nD,
      r.2.mem ((c : Thread nD τ).loc main_v3_0) = hRef (nrm m c)
      ∧ r.2.mem ((c : Thread nD τ).loc main_v3_1) = qgRef (prj m c)
      ∧ r.2.mem ((c : Thread nD τ).loc main_v3_2) = kvRef (prj m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h.1 c).1 4).trans (final4 m c), ((h.1 c).1 5).trans (final5 m c), ((h.1 c).1 6).trans (final6 m c), h.2.1 c⟩)
    (θ_run_and (run_frame m ρ) (frame2 m ρ))

end Cert.Kernel2Ideal.Inproj

end
-- ==== Proof.Second.lean ====
/- The value claim of the call `inproj_attn`. -/
module

public import proofs.«01_k».proof.Defs
public import proofs.«01_k».proof.Proof.Tables

@[expose] public section

set_option maxRecDepth 16384

noncomputable section

namespace Cert.Proof.Second

open Idealize.ShloMosaic Idealize.ShloMosaic.TcCoe Idealize.SL.Sem

/-- The call's three arrays are what its reference computes of the same arguments. -/
theorem algebraic : Cert.algebraic_Kernel2Ideal_Reference2Ideal := by
  intro m g m' g' _ hagree
  refine ⟨_, _, _, Cert.Kernel2Ideal.Inproj.run_tables m g, ?_⟩
  refine (θ_run Cert.Reference2Ideal.defs _ _).mono (fun r h c => ⟨(h c).1.trans ?_, (h c).2.1.trans ?_, (h c).2.2.1.trans ?_, (h c).2.2.2⟩)
    (Cert.Reference2Ideal.Value.run (F := Ideal) m' g')
  · obtain ⟨a0, a1, a2⟩ := hagree c
    rw [a0, a1]; rfl
  · obtain ⟨a0, a1, a2⟩ := hagree c
    rw [a0, a1, a2]; rfl
  · obtain ⟨a0, a1, a2⟩ := hagree c
    rw [a0, a1, a2]; rfl

end Cert.Proof.Second

end
-- ==== Proof.Merge.lean ====
/- The output projection of the decoding step, with its norm and residual: what a block computes, and the reference, entry by entry. -/
module

public import proofs.«01_k».proof.Proof.Gen.Kernel3Ideal.Value
public import proofs.«01_k».proof.Proof.Gen.Reference3Ideal.Run
public import Idealize.ShloMosaic.Lib.StableHlo.ReadAt
public import Idealize.ShloMosaic.Lib.Pointwise
public import Idealize.ShloMosaic.Lib.Pipeline.ValueKit
public import Idealize.ShloMosaic.Lib.Tactic.CleanTypes
public import Idealize.ShloMosaic.Lib.Tactic.IndexArith

@[expose] public section

set_option maxRecDepth 16384

noncomputable section

namespace Cert.Kernel3Ideal.Merge

open Cert.Kernel3Ideal Cert.Kernel3Ideal.Gen Idealize.ShloMosaic Idealize.ShloMosaic.TcCoe Idealize.ShloMosaic.Tactic

def width : EReal := Ideal.ofBits .f32 0x45000000#32
def eps : EReal := Ideal.ofBits .f32 0x358637BD#32

/-- A row of the projection normed and scaled, beside the row it is added to. -/
def normAdd (o x g : Fin 2048 → EReal) (n : Fin 2048) : EReal :=
  x n + o n * Ideal.rsqrt (Ideal.div (∑ l : Fin 2048, o l * o l) width + eps) * g n

/-- A row of both mixers through the two halves of the output weights. -/
def both (a s : Fin 2048 → EReal) (wa ws : Fin 2048 → Fin 2048 → EReal) (n : Fin 2048) : EReal :=
  (∑ l : Fin 2048, a l * wa l n) + ∑ l : Fin 2048, s l * ws l n

theorem pay_at (a s x : FVec Ideal S512x2048 .f32) (wa ws : FVec Ideal S2048x2048 .bf16) (g : FVec Ideal S1x2048 .f32) (r : Fin 512) (n : Fin 2048) :
    k0_pay1 (F := Ideal) a wa s ws x g (ix2 r n)
      = normAdd (both (fun l => a (ix2 r l)) (fun l => s (ix2 r l)) (fun l n => wa (ix2 l n)) (fun l n => ws (ix2 l n))) (fun l => x (ix2 r l)) (fun l => g (ix2 0 l)) n := by
  pointwise [k0_pay1]
  rfl

end Cert.Kernel3Ideal.Merge

namespace Cert.Reference3Ideal.Merge

open Cert.Reference3Ideal Cert.Reference3Ideal.Gen Idealize.ShloMosaic Idealize.ShloMosaic.Tactic
open Cert.Kernel3Ideal.Merge (normAdd both width eps)

/-- The reference's output projection. -/
def outOf (a s : FVec Ideal S128x8x2048 .f32) (w : FVec Ideal S4096x2048 .f32) : FVec Ideal S128x8x2048 .f32 :=
  Host.dotGeneral dot_S128x8x4096_S4096x2048_S128x8x2048_2_0_01_1_n_n none
    (concatenate S128x8x4096 2 [⟨S128x8x2048, a⟩, ⟨S128x8x2048, s⟩] concatenates_S128x8x2048_S128x8x2048_S128x8x4096_d2) w

/-- The reference's norm of it, and the residual. -/
def added (o x : FVec Ideal S128x8x2048 .f32) (g : FVec Ideal S2048 .f32) : FVec Ideal S1024x2048 .f32 :=
  shapeCast _ (addf x (mulf (mulf o (broadcastInDim S128x8x2048 ![0, 1, 2] bcast_S128x8x1_S128x8x2048_0_1_2
    (Host.rsqrt (addf (Host.divf (broadcastInDim S128x8x1 ![0, 1] bcast_S128x8_S128x8x1_0_1
        (Host.reduceAdd (mulf o o) (constant S_ .f32 0x00000000#32) reducesTo_S128x8x2048_S128x8_d2 h_S_))
      (broadcastInDim S128x8x1 ![] bcast_S_S128x8x1 (constant S_ .f32 0x45000000#32)))
      (broadcastInDim S128x8x1 ![] bcast_S_S128x8x1 (constant S_ .f32 0x358637BD#32))))))
    (broadcastInDim S128x8x2048 ![0, 1, 2] bcast_S1x1x2048_S128x8x2048_0_1_2 (broadcastInDim S1x1x2048 ![2] bcast_S2048_S1x1x2048_2 g)))) shapeCasts_S128x8x2048_S1024x2048

/-- A row of the flattened rows. -/
def rowOf (x : FVec Ideal S128x8x2048 .f32) (R : Fin 1024) (l : Fin 2048) : EReal :=
  x (ix3 (⟨R.val / 8, by omega⟩ : Fin 128) (⟨R.val % 8, Nat.mod_lt _ (by decide)⟩ : Fin 8) l)

theorem added_at (o x : FVec Ideal S128x8x2048 .f32) (g : FVec Ideal S2048 .f32) (R : Fin 1024) (n : Fin 2048) :
    added o x g (ix2 R n) = normAdd (rowOf o R) (rowOf x R) (fun l => g (ix1 l)) n := by
  pointwise [added]
  rfl

theorem outOf_at (a s : FVec Ideal S128x8x2048 .f32) (w : FVec Ideal S4096x2048 .f32) (R : Fin 1024) (n : Fin 2048) :
    rowOf (outOf a s w) R n = both (rowOf a R) (rowOf s R) (fun l n => w (ix2 (⟨l.val, by omega⟩ : Fin 4096) n)) (fun l n => w (ix2 (⟨2048 + l.val, by omega⟩ : Fin 4096) n)) n := by
  unfold rowOf
  pointwise [outOf]
  rfl

end Cert.Reference3Ideal.Merge

end
-- ==== Proof.Third.lean ====
/- The claims about the call `outproj`. -/
module

public import proofs.«01_k».proof.Defs
public import proofs.«01_k».proof.Proof.Merge
public import proofs.«01_k».proof.Proof.Gen.Kernel3.Frame
public import Idealize.ShloMosaic.Adequacy

@[expose] public section

set_option maxRecDepth 16384

noncomputable section

namespace Cert.Kernel3Ideal.Merge

open Cert.Kernel3Ideal Cert.Kernel3Ideal.Gen Idealize.ShloMosaic Idealize.ShloMosaic.TcCoe Idealize.ShloMosaic.Tactic
open Cert.Reference3Ideal.Merge (rowOf added outOf added_at outOf_at)

variable (m : (ℓ : Loc nD τ sig) → Buf (Elt Ideal) ℓ)

/-- Where every window stands at a grid point. -/
theorem places : ∀ t : Fin cfg0.N,
    win0_0.index t = ![t.val, 0]
    ∧ win0_1.index t = ![t.val, 0]
    ∧ win0_2.index t = ![t.val, 0]
    ∧ win0_3.index t = ![0, 0]
    ∧ win0_4.index t = ![1, 0]
    ∧ win0_5.index t = ![0, 0]
    ∧ win0_6.index t = ![t.val, 0] :=
  (by decide +kernel : ∀ t : Fin grid0.N, _)

theorem points (t : Fin cfg0.N) : t.val < 2 := t.isLt

/-- The flattened row a row of a block stands for. -/
def at512 (t : Fin cfg0.N) (r : Fin 512) : Fin 1024 := ⟨512 * t.val + r.val, by have := points t; omega⟩

theorem attn_arr (c : Dev nD) (R : Fin 1024) (l : Fin 2048) : V m c main_v0 (ix2 R l) = rowOf (m ((c : Thread nD τ).loc main_arg0)) R l := by
  unfold V rowOf
  after_reads_at
  all_goals pointwise

theorem ssm_arr (c : Dev nD) (R : Fin 1024) (l : Fin 2048) : V m c main_v1 (ix2 R l) = rowOf (m ((c : Thread nD τ).loc main_arg1)) R l := by
  unfold V rowOf
  after_reads_at
  all_goals pointwise

theorem x_arr (c : Dev nD) (R : Fin 1024) (l : Fin 2048) : V m c main_v2 (ix2 R l) = rowOf (m ((c : Thread nD τ).loc main_arg2)) R l := by
  unfold V rowOf
  after_reads_at
  all_goals pointwise

theorem wide_arr (c : Dev nD) (k : Fin 4096) (l : Fin 2048) : V m c main_v3 (ix2 k l) = m ((c : Thread nD τ).loc main_arg3) (ix2 k l) := by
  unfold V
  after_reads_at
  all_goals pointwise

theorem gain_arr (c : Dev nD) (l : Fin 2048) : V m c main_v4 (ix2 (0 : Fin 1) l) = m ((c : Thread nD τ).loc main_arg4) (ix1 l) := by
  unfold V
  after_reads_at
  all_goals pointwise

theorem attn_block (c : Dev nD) (t : Fin cfg0.N) (r : Fin 512) (l : Fin 2048) :
    iblk m c 0 t (ix2 r l) = rowOf (m ((c : Thread nD τ).loc main_arg0)) (at512 t r) l := by
  obtain ⟨p0, -⟩ := places t
  refine Eq.trans ?_ (attn_arr m c _ l)
  blk_ext [iblk, at512, p0]

theorem ssm_block (c : Dev nD) (t : Fin cfg0.N) (r : Fin 512) (l : Fin 2048) :
    iblk m c 1 t (ix2 r l) = rowOf (m ((c : Thread nD τ).loc main_arg1)) (at512 t r) l := by
  obtain ⟨-, p1, -⟩ := places t
  refine Eq.trans ?_ (ssm_arr m c _ l)
  blk_ext [iblk, at512, p1]

theorem x_block (c : Dev nD) (t : Fin cfg0.N) (r : Fin 512) (l : Fin 2048) :
    iblk m c 2 t (ix2 r l) = rowOf (m ((c : Thread nD τ).loc main_arg2)) (at512 t r) l := by
  obtain ⟨-, -, p2, -⟩ := places t
  refine Eq.trans ?_ (x_arr m c _ l)
  blk_ext [iblk, at512, p2]

theorem upper_block (c : Dev nD) (t : Fin cfg0.N) (k n : Fin 2048) :
    iblk m c 3 t (ix2 k n) = m ((c : Thread nD τ).loc main_arg3) (ix2 (⟨k.val, by omega⟩ : Fin 4096) n) := by
  obtain ⟨-, -, -, p3, -⟩ := places t
  refine Eq.trans ?_ (wide_arr m c _ n)
  blk_ext [iblk, p3]

theorem lower_block (c : Dev nD) (t : Fin cfg0.N) (k n : Fin 2048) :
    iblk m c 4 t (ix2 k n) = m ((c : Thread nD τ).loc main_arg3) (ix2 (⟨2048 + k.val, by omega⟩ : Fin 4096) n) := by
  obtain ⟨-, -, -, -, p4, -⟩ := places t
  refine Eq.trans ?_ (wide_arr m c _ n)
  blk_ext [iblk, p4]

theorem gain_block (c : Dev nD) (t : Fin cfg0.N) (l : Fin 2048) : iblk m c 5 t (ix2 (0 : Fin 1) l) = m ((c : Thread nD τ).loc main_arg4) (ix1 l) := by
  obtain ⟨-, -, -, -, -, p5, -⟩ := places t
  refine Eq.trans ?_ (gain_arr m c l)
  blk_ext [iblk, p5]

theorem out_eq (x0 x1 x2 : FVec Ideal S512x2048 .f32) (x3 x4 : FVec Ideal S2048x2048 .bf16) (x5 : FVec Ideal S1x2048 .f32) :
    out0_6 (F := Ideal) x0 x1 x2 x3 x4 x5 = k0_pay1 (F := Ideal) x0 x3 x1 x4 x2 x5 := by
  have z : (![0, 0] : Fin 2 → ℕ) = fun _ => 0 := funext fun a => by fin_cases a <;> rfl
  unfold out0_6
  rw [View.canon_unit_zero (S := S512x2048) z, View.ld_unit_zero (S := S512x2048) z, View.ld_unit_zero (S := S512x2048) z, View.ld_unit_zero (S := S512x2048) z,
    View.ld_unit_zero (S := S2048x2048) z, View.ld_unit_zero (S := S2048x2048) z, View.ld_unit_zero (S := S1x2048) z]

theorem add_congr {o o' x x' g g' : Fin 2048 → EReal} (h1 : o = o') (h2 : x = x') (h3 : g = g') (n : Fin 2048) : normAdd o x g n = normAdd o' x' g' n := by
  rw [h1, h2, h3]

theorem both_congr {a a' s s' : Fin 2048 → EReal} {v v' w w' : Fin 2048 → Fin 2048 → EReal} (h1 : a = a') (h2 : s = s') (h3 : v = v') (h4 : w = w') (n : Fin 2048) :
    both a s v w n = both a' s' v' w' n := by
  rw [h1, h2, h3, h4]

/-- The reference's array of the arguments. -/
abbrev res (c : Dev nD) := added (outOf (m ((c : Thread nD τ).loc main_arg0)) (m ((c : Thread nD τ).loc main_arg1)) (m ((c : Thread nD τ).loc main_arg3)))
  (m ((c : Thread nD τ).loc main_arg2)) (m ((c : Thread nD τ).loc main_arg4))

theorem point6 (c : Dev nD) (t : Fin cfg0.N) (r : Fin 512) (n : Fin 2048) :
    out0_6 (iblk m c 0 t) (iblk m c 1 t) (iblk m c 2 t) (iblk m c 3 t) (iblk m c 4 t) (iblk m c 5 t) (ix2 r n) = res m c (ix2 (at512 t r) n) := by
  refine (congrFun (out_eq _ _ _ _ _ _) _).trans ((pay_at _ _ _ _ _ _ r n).trans (Eq.trans ?_ (added_at _ _ _ _ n).symm))
  refine add_congr (funext fun k => ?_) (funext fun k => x_block m c t r k) (funext fun k => gain_block m c t k) n
  refine Eq.trans ?_ (outOf_at _ _ _ _ k).symm
  exact both_congr (funext fun l => attn_block m c t r l) (funext fun l => ssm_block m c t r l) (funext fun l => funext fun n => upper_block m c t l n)
    (funext fun l => funext fun n => lower_block m c t l n) k

theorem final6 (c : Dev nD) : (dats m 0 c).arrAt 6 cfg0.N = res m c := by
  refine (dats m 0 c).arrAt_eq_of_covers 6 _ (by decide +kernel) fun t hf y => ?_
  refine (congrFun (Cert.Kernel3Ideal.Value.flushed6 m c t) y).trans ?_
  obtain ⟨-, -, -, -, -, -, p6⟩ := places t
  have e : ∀ x : S512x2048.Idx, x = ix2 (x 0) (x 1) := fun x => funext fun a => by fin_cases a <;> rfl
  show out0_6 (iblk m c 0 t) (iblk m c 1 t) (iblk m c 2 t) (iblk m c 3 t) (iblk m c 4 t) (iblk m c 5 t) ((cfg0.win 6).xinj (grid0.coords t) y) = _
  rw [e ((cfg0.win 6).xinj (grid0.coords t) y)]
  refine (point6 m c t _ _).trans (congrArg _ ?_)
  blk_ext [at512, p6]

end Cert.Kernel3Ideal.Merge

namespace Cert.Proof.Third

open Idealize.ShloMosaic Idealize.ShloMosaic.TcCoe Idealize.SL.Sem

theorem frame_p3 : Cert.quiescent_Kernel3 := fun m ρ _ => Cert.Kernel3.Gen.frame m ρ

theorem frame_pi3 : Cert.quiescent_Kernel3Ideal := fun m ρ _ => Cert.Kernel3Ideal.Gen.frame m ρ

theorem frame_ri3 : Cert.quiescent_Reference3Ideal := by
  intro m g _
  exact (θ_run (Cert.Reference3Ideal.defs (F := Ideal)) _ _).mono (fun r h => ⟨fun c => (h c).2, Idealize.ShloMosaic.sem_eq_zero_of_no_sems (by decide) r.2⟩)
    (Cert.Reference3Ideal.Value.run (F := Ideal) m g)

/-- The call's array is what its reference computes of the same arguments. -/
theorem algebraic : Cert.algebraic_Kernel3Ideal_Reference3Ideal := by
  intro m g m' g' _ hagree
  refine ⟨_, Cert.Kernel3Ideal.Value.run_blocks (F := Ideal) m g, ?_⟩
  refine (θ_run Cert.Reference3Ideal.defs _ _).mono (fun r h c => ⟨(h c).1.trans ?_, (h c).2⟩) (Cert.Reference3Ideal.Value.run (F := Ideal) m' g')
  obtain ⟨a0, a1, a2, a3, a4⟩ := hagree c
  refine Eq.trans ?_ (Cert.Kernel3Ideal.Merge.final6 m c).symm
  rw [a0, a1, a2, a3, a4]; rfl

end Cert.Proof.Third

end
-- ==== Proof.Caches.lean ====
/- The rows a cache holds after a step: the reference's caches. -/
module

public import proofs.«01_k».proof.Proof.Gen.Reference4Ideal.Run
public import Idealize.ShloMosaic.Lib.StableHlo.ReadAt
public import Idealize.ShloMosaic.Lib.Pointwise
public import Idealize.ShloMosaic.Lib.Pipeline.ValueKit
public import Idealize.ShloMosaic.Lib.Tactic.CleanTypes
public import Idealize.ShloMosaic.Lib.Tactic.IndexArith

@[expose] public section

set_option maxRecDepth 16384

noncomputable section

namespace Cert.Reference4Ideal.Caches

open Cert.Reference4Ideal Cert.Reference4Ideal.Gen Idealize.ShloMosaic Idealize.ShloMosaic.Tactic

/-- The last 128 of the 128 rows held before and the 8 new ones. -/
def held {α : Type} (before : Fin 128 → Fin 256 → α) (new : Fin 8 → Fin 256 → α) (r : Fin 128) (l : Fin 256) : α :=
  if h : 8 + r.val < 128 then before ⟨8 + r.val, h⟩ l else new ⟨8 + r.val - 128, by omega⟩ l

variable {F : FTy → Type} [FloatOps F]

/-- The reference's cache of the keys. -/
def keysOf (b : FVec F S128x128x4x64 .f32) (kv : FVec F S128x8x512 .f32) : FVec F S128x128x256 .f32 :=
  shapeCast _ (extractStridedSlice S128x128x4x64 ![0, 8, 0, 0] (concatenate S128x136x4x64 1 [⟨S128x128x4x64, b⟩, ⟨S128x8x4x64, (shapeCast _ (extractStridedSlice S128x8x256 ![0, 0, 0] kv slices_S128x8x512_S128x8x256_0_0_0) shapeCasts_S128x8x256_S128x8x4x64)⟩] concatenates_S128x128x4x64_S128x8x4x64_S128x136x4x64_d1) slices_S128x136x4x64_S128x128x4x64_0_8_0_0) shapeCasts_S128x128x4x64_S128x128x256

/-- The reference's cache of the values. -/
def valuesOf (b : FVec F S128x128x4x64 .f32) (kv : FVec F S128x8x512 .f32) : FVec F S128x128x256 .f32 :=
  shapeCast _ (extractStridedSlice S128x128x4x64 ![0, 8, 0, 0] (concatenate S128x136x4x64 1 [⟨S128x128x4x64, b⟩, ⟨S128x8x4x64, (shapeCast _ (extractStridedSlice S128x8x256 ![0, 0, 256] kv slices_S128x8x512_S128x8x256_0_0_256) shapeCasts_S128x8x256_S128x8x4x64)⟩] concatenates_S128x128x4x64_S128x8x4x64_S128x136x4x64_d1) slices_S128x136x4x64_S128x128x4x64_0_8_0_0) shapeCasts_S128x128x4x64_S128x128x256

/-- A sequence's rows of a cache, its heads side by side. -/
def flat (b : FVec F S128x128x4x64 .f32) (n : Fin 128) (r : Fin 128) (l : Fin 256) : F .f32 :=
  b (ix4 n r (⟨l.val / 64, by omega⟩ : Fin 4) (⟨l.val % 64, by omega⟩ : Fin 64))

theorem keysOf_at (b : FVec F S128x128x4x64 .f32) (kv : FVec F S128x8x512 .f32) (n r : Fin 128) (l : Fin 256) :
    keysOf b kv (ix3 n r l) = held (flat b n) (fun t l => kv (ix3 n t (⟨l.val, by omega⟩ : Fin 512))) r l := by
  pointwise [keysOf, held, flat]

theorem valuesOf_at (b : FVec F S128x128x4x64 .f32) (kv : FVec F S128x8x512 .f32) (n r : Fin 128) (l : Fin 256) :
    valuesOf b kv (ix3 n r l) = held (flat b n) (fun t l => kv (ix3 n t (⟨256 + l.val, by omega⟩ : Fin 512))) r l := by
  pointwise [valuesOf, held, flat]

end Cert.Reference4Ideal.Caches

end
-- ==== Proof.CachesOut.lean ====
/- The caches the call `attn_step` leaves: what its body stores, and the block it makes. -/
module

public import proofs.«01_k».proof.Proof.Gen.Kernel4Ideal.Value
public import proofs.«01_k».proof.Proof.Caches
public import Idealize.ShloMosaic.Lib.Pipeline.ReadBack
public import Idealize.ShloMosaic.Lib.WholeRead

@[expose] public section

set_option maxRecDepth 16384

noncomputable section

namespace Cert.Kernel4Ideal.Caches

open Cert.Kernel4Ideal Cert.Kernel4Ideal.Gen Idealize.ShloMosaic Idealize.ShloMosaic.Tactic
open Cert.Reference4Ideal.Caches (held)

variable {F : FTy → Type} [FloatOps F]

/-- What a store to a cache writes: the last 128 of the 136 rows. -/
def cached (b : FVec F S1x128x256 .f32) (k : FVec F S1x8x256 .f32) : FVec F S1x128x256 .f32 :=
  shapeCast S1x128x256 (extractStridedSlice S128x256 ![8, 0] (concatenate S256x256 0 [⟨S128x256, shapeCast S128x256 b shapeCasts_S1x128x256_S128x256⟩,
    ⟨S8x256, shapeCast S8x256 k shapeCasts_S1x8x256_S8x256⟩, ⟨S120x256, k0_pay3 (F := F)⟩] concatenates_S128x256_S8x256_S120x256_S256x256_d0)
    slices_S256x256_o8_0_S128x256) shapeCasts_S128x256_S1x128x256

theorem cached_at (b : FVec F S1x128x256 .f32) (k : FVec F S1x8x256 .f32) (r : Fin 128) (l : Fin 256) :
    cached b k (ix3 0 r l) = held (fun r l => b (ix3 0 r l)) (fun t l => k (ix3 0 t l)) r l := by
  pointwise [cached, held]
  have h : 8 + r.val - 128 < 8 := by omega
  exact dite_congr rfl (fun _ => rfl) fun _ => dif_pos h

/-- A block of a cache, of the block of it before and the block of the new rows. -/
def heldBlock (b : FVec F S16x128x256 .f32) (k : FVec F S16x8x256 .f32) : FVec F S16x128x256 .f32 := fun y =>
  held (fun r l => b (ix3 (y 0) r l)) (fun t l => k (ix3 (y 0) t l)) (y 1) (y 2)

theorem canon_pieces {S : Shape} {e : EltTy} (G : S.Idx → Elt F e) (L : List (View.Piece (Elt F) S e)) (y : S.Idx) (h : View.PiecesOf G L)
    (hc : ∃ p ∈ L, y ∈ p.1.set) : View.canon L y = G y := by
  have e := View.canon_append_of_piecesOf G [] L h y hc
  rwa [List.append_nil] at e

theorem idx_unit (n m : ℕ) (x : (⟨3, ![1, n, m]⟩ : Shape).Idx) : x = ix3 (0 : Fin 1) (x 1 : Fin n) (x 2 : Fin m) := by
  funext a
  fin_cases a
  · exact Fin.ext (by have : (x 0).val < 1 := (x 0).isLt; show (x 0).val = 0; omega)
  · rfl
  · rfl

theorem held_congr {α : Type} {b b' : Fin 128 → Fin 256 → α} {k k' : Fin 8 → Fin 256 → α} {r r' : Fin 128} {l l' : Fin 256}
    (hb : b = b') (hk : k = k') (hr : r = r') (hl : l = l') : held b k r l = held b' k' r' l' := by
  rw [hb, hk, hr, hl]

theorem cached_ok (o : ℕ) (inb : ∀ a, (![o, 0, 0] : Fin 3 → Nat) a + S1x128x256.size a ≤ S16x128x256.size a)
    (inb' : ∀ a, (![o, 0, 0] : Fin 3 → Nat) a + S1x8x256.size a ≤ S16x8x256.size a)
    (a : Memref sig .tc .vmem S16x128x256 .f32) (ha : a.IsWhole) (d : Memref sig .tc .vmem S16x8x256 .f32) (hd : d.IsWhole)
    (x : FVec F S16x128x256 .f32) (z : FVec F S16x8x256 .f32) :
    ∀ j, cached (F := F) (View.readAt (Elt F) a.view (Rect.unit (s := S16x128x256) ![o, 0, 0] S1x128x256.size inb).toLoadRect (ha.unread x))
      (View.readAt (Elt F) d.view (Rect.unit (s := S16x8x256) ![o, 0, 0] S1x8x256.size inb').toLoadRect (hd.unread z)) j
      = heldBlock x z ((Rect.unit (s := S16x128x256) ![o, 0, 0] S1x128x256.size inb).emb j) := by
  intro j
  obtain ⟨r, l, rfl⟩ : ∃ (r : Fin 128) (l : Fin 256), j = ix3 0 r l := ⟨_, _, idx_unit _ _ j⟩
  rw [cached_at]
  refine held_congr (funext fun r => funext fun l => ?_) (funext fun t => funext fun l => ?_)
    (Fin.ext (by show r.val = 0 + 1 * r.val; omega)) (Fin.ext (by show l.val = 0 + 1 * l.val; omega))
  · refine (ha.readAt_unread (Val := Elt F) x _ _).trans (congrArg x (funext fun i => Fin.ext ?_))
    fin_cases i
    · rfl
    · show 0 + 1 * r.val = r.val; omega
    · show 0 + 1 * l.val = l.val; omega
  · refine (hd.readAt_unread (Val := Elt F) z _ _).trans (congrArg z (funext fun i => Fin.ext ?_))
    fin_cases i
    · rfl
    · show 0 + 1 * t.val = t.val; omega
    · show 0 + 1 * l.val = l.val; omega

variable (c : Dev nD) (i : grid0.Coords) (arg1 : Memref sig .tc .smem S32 .f32) (harg1 : arg1.IsWhole) (arg2 : Memref sig .tc .vmem S16x8x2048 .f32) (harg2 : arg2.IsWhole) (arg3 : Memref sig .tc .vmem S16x8x2048 .f32) (harg3 : arg3.IsWhole) (arg4 : Memref sig .tc .vmem S16x8x256 .f32) (harg4 : arg4.IsWhole) (arg5 : Memref sig .tc .vmem S16x8x256 .f32) (harg5 : arg5.IsWhole) (arg6 : Memref sig .tc .vmem S16x128x256 .f32) (harg6 : arg6.IsWhole) (arg7 : Memref sig .tc .vmem S16x128x256 .f32) (harg7 : arg7.IsWhole) (arg8 : Memref sig .tc .vmem S1x2048 .f32) (harg8 : arg8.IsWhole) (arg9 : Memref sig .tc .vmem S16x8x2048 .f32) (harg9 : arg9.IsWhole) (arg10 : Memref sig .tc .vmem S16x128x256 .f32) (harg10 : arg10.IsWhole) (arg11 : Memref sig .tc .vmem S16x128x256 .f32) (harg11 : arg11.IsWhole) (arg12 : Memref sig .tc .vmem S16x16x2048 .f32) (harg12 : arg12.IsWhole)
  (x0 : Vec F S32 .f32) (x1 : Vec F S16x8x2048 .f32) (x2 : Vec F S16x8x2048 .f32) (x3 : Vec F S16x8x256 .f32) (x4 : Vec F S16x8x256 .f32) (x5 : Vec F S16x128x256 .f32) (x6 : Vec F S16x128x256 .f32) (x7 : Vec F S1x2048 .f32)

theorem out9 : out0_A_9 c i arg1 harg1 arg2 harg2 arg3 harg3 arg4 harg4 arg5 harg5 arg6 harg6 arg7 harg7 arg8 harg8 arg9 harg9 arg10 harg10 arg11 harg11 arg12 harg12 x0 x1 x2 x3 x4 x5 x6 x7 = View.canon
     ([⟨Rect.unit (s := S16x128x256) ![15, 0, 0] S1x128x256.size inb_S16x128x256_S1x128x256_15_0_0, cached (View.readAt (Elt F) arg6.view (Rect.unit (s := S16x128x256) ![15, 0, 0] S1x128x256.size inb_S16x128x256_S1x128x256_15_0_0).toLoadRect (harg6.unread x5)) (View.readAt (Elt F) arg4.view (Rect.unit (s := S16x8x256) ![15, 0, 0] S1x8x256.size inb_S16x8x256_S1x8x256_15_0_0).toLoadRect (harg4.unread x3))⟩,
      ⟨Rect.unit (s := S16x128x256) ![14, 0, 0] S1x128x256.size inb_S16x128x256_S1x128x256_14_0_0, cached (View.readAt (Elt F) arg6.view (Rect.unit (s := S16x128x256) ![14, 0, 0] S1x128x256.size inb_S16x128x256_S1x128x256_14_0_0).toLoadRect (harg6.unread x5)) (View.readAt (Elt F) arg4.view (Rect.unit (s := S16x8x256) ![14, 0, 0] S1x8x256.size inb_S16x8x256_S1x8x256_14_0_0).toLoadRect (harg4.unread x3))⟩,
      ⟨Rect.unit (s := S16x128x256) ![13, 0, 0] S1x128x256.size inb_S16x128x256_S1x128x256_13_0_0, cached (View.readAt (Elt F) arg6.view (Rect.unit (s := S16x128x256) ![13, 0, 0] S1x128x256.size inb_S16x128x256_S1x128x256_13_0_0).toLoadRect (harg6.unread x5)) (View.readAt (Elt F) arg4.view (Rect.unit (s := S16x8x256) ![13, 0, 0] S1x8x256.size inb_S16x8x256_S1x8x256_13_0_0).toLoadRect (harg4.unread x3))⟩,
      ⟨Rect.unit (s := S16x128x256) ![12, 0, 0] S1x128x256.size inb_S16x128x256_S1x128x256_12_0_0, cached (View.readAt (Elt F) arg6.view (Rect.unit (s := S16x128x256) ![12, 0, 0] S1x128x256.size inb_S16x128x256_S1x128x256_12_0_0).toLoadRect (harg6.unread x5)) (View.readAt (Elt F) arg4.view (Rect.unit (s := S16x8x256) ![12, 0, 0] S1x8x256.size inb_S16x8x256_S1x8x256_12_0_0).toLoadRect (harg4.unread x3))⟩,
      ⟨Rect.unit (s := S16x128x256) ![11, 0, 0] S1x128x256.size inb_S16x128x256_S1x128x256_11_0_0, cached (View.readAt (Elt F) arg6.view (Rect.unit (s := S16x128x256) ![11, 0, 0] S1x128x256.size inb_S16x128x256_S1x128x256_11_0_0).toLoadRect (harg6.unread x5)) (View.readAt (Elt F) arg4.view (Rect.unit (s := S16x8x256) ![11, 0, 0] S1x8x256.size inb_S16x8x256_S1x8x256_11_0_0).toLoadRect (harg4.unread x3))⟩,
      ⟨Rect.unit (s := S16x128x256) ![10, 0, 0] S1x128x256.size inb_S16x128x256_S1x128x256_10_0_0, cached (View.readAt (Elt F) arg6.view (Rect.unit (s := S16x128x256) ![10, 0, 0] S1x128x256.size inb_S16x128x256_S1x128x256_10_0_0).toLoadRect (harg6.unread x5)) (View.readAt (Elt F) arg4.view (Rect.unit (s := S16x8x256) ![10, 0, 0] S1x8x256.size inb_S16x8x256_S1x8x256_10_0_0).toLoadRect (harg4.unread x3))⟩,
      ⟨Rect.unit (s := S16x128x256) ![9, 0, 0] S1x128x256.size inb_S16x128x256_S1x128x256_9_0_0, cached (View.readAt (Elt F) arg6.view (Rect.unit (s := S16x128x256) ![9, 0, 0] S1x128x256.size inb_S16x128x256_S1x128x256_9_0_0).toLoadRect (harg6.unread x5)) (View.readAt (Elt F) arg4.view (Rect.unit (s := S16x8x256) ![9, 0, 0] S1x8x256.size inb_S16x8x256_S1x8x256_9_0_0).toLoadRect (harg4.unread x3))⟩,
      ⟨Rect.unit (s := S16x128x256) ![8, 0, 0] S1x128x256.size inb_S16x128x256_S1x128x256_8_0_0, cached (View.readAt (Elt F) arg6.view (Rect.unit (s := S16x128x256) ![8, 0, 0] S1x128x256.size inb_S16x128x256_S1x128x256_8_0_0).toLoadRect (harg6.unread x5)) (View.readAt (Elt F) arg4.view (Rect.unit (s := S16x8x256) ![8, 0, 0] S1x8x256.size inb_S16x8x256_S1x8x256_8_0_0).toLoadRect (harg4.unread x3))⟩,
      ⟨Rect.unit (s := S16x128x256) ![7, 0, 0] S1x128x256.size inb_S16x128x256_S1x128x256_7_0_0, cached (View.readAt (Elt F) arg6.view (Rect.unit (s := S16x128x256) ![7, 0, 0] S1x128x256.size inb_S16x128x256_S1x128x256_7_0_0).toLoadRect (harg6.unread x5)) (View.readAt (Elt F) arg4.view (Rect.unit (s := S16x8x256) ![7, 0, 0] S1x8x256.size inb_S16x8x256_S1x8x256_7_0_0).toLoadRect (harg4.unread x3))⟩,
      ⟨Rect.unit (s := S16x128x256) ![6, 0, 0] S1x128x256.size inb_S16x128x256_S1x128x256_6_0_0, cached (View.readAt (Elt F) arg6.view (Rect.unit (s := S16x128x256) ![6, 0, 0] S1x128x256.size inb_S16x128x256_S1x128x256_6_0_0).toLoadRect (harg6.unread x5)) (View.readAt (Elt F) arg4.view (Rect.unit (s := S16x8x256) ![6, 0, 0] S1x8x256.size inb_S16x8x256_S1x8x256_6_0_0).toLoadRect (harg4.unread x3))⟩,
      ⟨Rect.unit (s := S16x128x256) ![5, 0, 0] S1x128x256.size inb_S16x128x256_S1x128x256_5_0_0, cached (View.readAt (Elt F) arg6.view (Rect.unit (s := S16x128x256) ![5, 0, 0] S1x128x256.size inb_S16x128x256_S1x128x256_5_0_0).toLoadRect (harg6.unread x5)) (View.readAt (Elt F) arg4.view (Rect.unit (s := S16x8x256) ![5, 0, 0] S1x8x256.size inb_S16x8x256_S1x8x256_5_0_0).toLoadRect (harg4.unread x3))⟩,
      ⟨Rect.unit (s := S16x128x256) ![4, 0, 0] S1x128x256.size inb_S16x128x256_S1x128x256_4_0_0, cached (View.readAt (Elt F) arg6.view (Rect.unit (s := S16x128x256) ![4, 0, 0] S1x128x256.size inb_S16x128x256_S1x128x256_4_0_0).toLoadRect (harg6.unread x5)) (View.readAt (Elt F) arg4.view (Rect.unit (s := S16x8x256) ![4, 0, 0] S1x8x256.size inb_S16x8x256_S1x8x256_4_0_0).toLoadRect (harg4.unread x3))⟩,
      ⟨Rect.unit (s := S16x128x256) ![3, 0, 0] S1x128x256.size inb_S16x128x256_S1x128x256_3_0_0, cached (View.readAt (Elt F) arg6.view (Rect.unit (s := S16x128x256) ![3, 0, 0] S1x128x256.size inb_S16x128x256_S1x128x256_3_0_0).toLoadRect (harg6.unread x5)) (View.readAt (Elt F) arg4.view (Rect.unit (s := S16x8x256) ![3, 0, 0] S1x8x256.size inb_S16x8x256_S1x8x256_3_0_0).toLoadRect (harg4.unread x3))⟩,
      ⟨Rect.unit (s := S16x128x256) ![2, 0, 0] S1x128x256.size inb_S16x128x256_S1x128x256_2_0_0, cached (View.readAt (Elt F) arg6.view (Rect.unit (s := S16x128x256) ![2, 0, 0] S1x128x256.size inb_S16x128x256_S1x128x256_2_0_0).toLoadRect (harg6.unread x5)) (View.readAt (Elt F) arg4.view (Rect.unit (s := S16x8x256) ![2, 0, 0] S1x8x256.size inb_S16x8x256_S1x8x256_2_0_0).toLoadRect (harg4.unread x3))⟩,
      ⟨Rect.unit (s := S16x128x256) ![1, 0, 0] S1x128x256.size inb_S16x128x256_S1x128x256_1_0_0, cached (View.readAt (Elt F) arg6.view (Rect.unit (s := S16x128x256) ![1, 0, 0] S1x128x256.size inb_S16x128x256_S1x128x256_1_0_0).toLoadRect (harg6.unread x5)) (View.readAt (Elt F) arg4.view (Rect.unit (s := S16x8x256) ![1, 0, 0] S1x8x256.size inb_S16x8x256_S1x8x256_1_0_0).toLoadRect (harg4.unread x3))⟩,
      ⟨Rect.unit (s := S16x128x256) ![0, 0, 0] S1x128x256.size inb_S16x128x256_S1x128x256_0_0_0, cached (View.readAt (Elt F) arg6.view (Rect.unit (s := S16x128x256) ![0, 0, 0] S1x128x256.size inb_S16x128x256_S1x128x256_0_0_0).toLoadRect (harg6.unread x5)) (View.readAt (Elt F) arg4.view (Rect.unit (s := S16x8x256) ![0, 0, 0] S1x8x256.size inb_S16x8x256_S1x8x256_0_0_0).toLoadRect (harg4.unread x3))⟩] : List (View.Piece (Elt F) S16x128x256 .f32)) := by
  unfold out0_A_9
  rw [View.read_writes_junk_eq_canon]
  sl_kernel_rfl

theorem out9_val (y : S16x128x256.Idx) : out0_A_9 c i arg1 harg1 arg2 harg2 arg3 harg3 arg4 harg4 arg5 harg5 arg6 harg6 arg7 harg7 arg8 harg8 arg9 harg9 arg10 harg10 arg11 harg11 arg12 harg12 x0 x1 x2 x3 x4 x5 x6 x7 y = heldBlock x5 x3 y := by
  rw [out9]
  refine canon_pieces (e := .f32) (heldBlock x5 x3) _ y ?_ ?_
  · exact ⟨cached_ok 15 inb_S16x128x256_S1x128x256_15_0_0 inb_S16x8x256_S1x8x256_15_0_0 arg6 harg6 arg4 harg4 x5 x3,
    cached_ok 14 inb_S16x128x256_S1x128x256_14_0_0 inb_S16x8x256_S1x8x256_14_0_0 arg6 harg6 arg4 harg4 x5 x3,
    cached_ok 13 inb_S16x128x256_S1x128x256_13_0_0 inb_S16x8x256_S1x8x256_13_0_0 arg6 harg6 arg4 harg4 x5 x3,
    cached_ok 12 inb_S16x128x256_S1x128x256_12_0_0 inb_S16x8x256_S1x8x256_12_0_0 arg6 harg6 arg4 harg4 x5 x3,
    cached_ok 11 inb_S16x128x256_S1x128x256_11_0_0 inb_S16x8x256_S1x8x256_11_0_0 arg6 harg6 arg4 harg4 x5 x3,
    cached_ok 10 inb_S16x128x256_S1x128x256_10_0_0 inb_S16x8x256_S1x8x256_10_0_0 arg6 harg6 arg4 harg4 x5 x3,
    cached_ok 9 inb_S16x128x256_S1x128x256_9_0_0 inb_S16x8x256_S1x8x256_9_0_0 arg6 harg6 arg4 harg4 x5 x3,
    cached_ok 8 inb_S16x128x256_S1x128x256_8_0_0 inb_S16x8x256_S1x8x256_8_0_0 arg6 harg6 arg4 harg4 x5 x3,
    cached_ok 7 inb_S16x128x256_S1x128x256_7_0_0 inb_S16x8x256_S1x8x256_7_0_0 arg6 harg6 arg4 harg4 x5 x3,
    cached_ok 6 inb_S16x128x256_S1x128x256_6_0_0 inb_S16x8x256_S1x8x256_6_0_0 arg6 harg6 arg4 harg4 x5 x3,
    cached_ok 5 inb_S16x128x256_S1x128x256_5_0_0 inb_S16x8x256_S1x8x256_5_0_0 arg6 harg6 arg4 harg4 x5 x3,
    cached_ok 4 inb_S16x128x256_S1x128x256_4_0_0 inb_S16x8x256_S1x8x256_4_0_0 arg6 harg6 arg4 harg4 x5 x3,
    cached_ok 3 inb_S16x128x256_S1x128x256_3_0_0 inb_S16x8x256_S1x8x256_3_0_0 arg6 harg6 arg4 harg4 x5 x3,
    cached_ok 2 inb_S16x128x256_S1x128x256_2_0_0 inb_S16x8x256_S1x8x256_2_0_0 arg6 harg6 arg4 harg4 x5 x3,
    cached_ok 1 inb_S16x128x256_S1x128x256_1_0_0 inb_S16x8x256_S1x8x256_1_0_0 arg6 harg6 arg4 harg4 x5 x3,
    cached_ok 0 inb_S16x128x256_S1x128x256_0_0_0 inb_S16x8x256_S1x8x256_0_0_0 arg6 harg6 arg4 harg4 x5 x3, trivial⟩
  · exact View.cover_of_tiledL (s := S16x128x256) _ S1x128x256.size (by sl_kernel_rfl) y

theorem out10 : out0_A_10 c i arg1 harg1 arg2 harg2 arg3 harg3 arg4 harg4 arg5 harg5 arg6 harg6 arg7 harg7 arg8 harg8 arg9 harg9 arg10 harg10 arg11 harg11 arg12 harg12 x0 x1 x2 x3 x4 x5 x6 x7 = View.canon
     ([⟨Rect.unit (s := S16x128x256) ![15, 0, 0] S1x128x256.size inb_S16x128x256_S1x128x256_15_0_0, cached (View.readAt (Elt F) arg7.view (Rect.unit (s := S16x128x256) ![15, 0, 0] S1x128x256.size inb_S16x128x256_S1x128x256_15_0_0).toLoadRect (harg7.unread x6)) (View.readAt (Elt F) arg5.view (Rect.unit (s := S16x8x256) ![15, 0, 0] S1x8x256.size inb_S16x8x256_S1x8x256_15_0_0).toLoadRect (harg5.unread x4))⟩,
      ⟨Rect.unit (s := S16x128x256) ![14, 0, 0] S1x128x256.size inb_S16x128x256_S1x128x256_14_0_0, cached (View.readAt (Elt F) arg7.view (Rect.unit (s := S16x128x256) ![14, 0, 0] S1x128x256.size inb_S16x128x256_S1x128x256_14_0_0).toLoadRect (harg7.unread x6)) (View.readAt (Elt F) arg5.view (Rect.unit (s := S16x8x256) ![14, 0, 0] S1x8x256.size inb_S16x8x256_S1x8x256_14_0_0).toLoadRect (harg5.unread x4))⟩,
      ⟨Rect.unit (s := S16x128x256) ![13, 0, 0] S1x128x256.size inb_S16x128x256_S1x128x256_13_0_0, cached (View.readAt (Elt F) arg7.view (Rect.unit (s := S16x128x256) ![13, 0, 0] S1x128x256.size inb_S16x128x256_S1x128x256_13_0_0).toLoadRect (harg7.unread x6)) (View.readAt (Elt F) arg5.view (Rect.unit (s := S16x8x256) ![13, 0, 0] S1x8x256.size inb_S16x8x256_S1x8x256_13_0_0).toLoadRect (harg5.unread x4))⟩,
      ⟨Rect.unit (s := S16x128x256) ![12, 0, 0] S1x128x256.size inb_S16x128x256_S1x128x256_12_0_0, cached (View.readAt (Elt F) arg7.view (Rect.unit (s := S16x128x256) ![12, 0, 0] S1x128x256.size inb_S16x128x256_S1x128x256_12_0_0).toLoadRect (harg7.unread x6)) (View.readAt (Elt F) arg5.view (Rect.unit (s := S16x8x256) ![12, 0, 0] S1x8x256.size inb_S16x8x256_S1x8x256_12_0_0).toLoadRect (harg5.unread x4))⟩,
      ⟨Rect.unit (s := S16x128x256) ![11, 0, 0] S1x128x256.size inb_S16x128x256_S1x128x256_11_0_0, cached (View.readAt (Elt F) arg7.view (Rect.unit (s := S16x128x256) ![11, 0, 0] S1x128x256.size inb_S16x128x256_S1x128x256_11_0_0).toLoadRect (harg7.unread x6)) (View.readAt (Elt F) arg5.view (Rect.unit (s := S16x8x256) ![11, 0, 0] S1x8x256.size inb_S16x8x256_S1x8x256_11_0_0).toLoadRect (harg5.unread x4))⟩,
      ⟨Rect.unit (s := S16x128x256) ![10, 0, 0] S1x128x256.size inb_S16x128x256_S1x128x256_10_0_0, cached (View.readAt (Elt F) arg7.view (Rect.unit (s := S16x128x256) ![10, 0, 0] S1x128x256.size inb_S16x128x256_S1x128x256_10_0_0).toLoadRect (harg7.unread x6)) (View.readAt (Elt F) arg5.view (Rect.unit (s := S16x8x256) ![10, 0, 0] S1x8x256.size inb_S16x8x256_S1x8x256_10_0_0).toLoadRect (harg5.unread x4))⟩,
      ⟨Rect.unit (s := S16x128x256) ![9, 0, 0] S1x128x256.size inb_S16x128x256_S1x128x256_9_0_0, cached (View.readAt (Elt F) arg7.view (Rect.unit (s := S16x128x256) ![9, 0, 0] S1x128x256.size inb_S16x128x256_S1x128x256_9_0_0).toLoadRect (harg7.unread x6)) (View.readAt (Elt F) arg5.view (Rect.unit (s := S16x8x256) ![9, 0, 0] S1x8x256.size inb_S16x8x256_S1x8x256_9_0_0).toLoadRect (harg5.unread x4))⟩,
      ⟨Rect.unit (s := S16x128x256) ![8, 0, 0] S1x128x256.size inb_S16x128x256_S1x128x256_8_0_0, cached (View.readAt (Elt F) arg7.view (Rect.unit (s := S16x128x256) ![8, 0, 0] S1x128x256.size inb_S16x128x256_S1x128x256_8_0_0).toLoadRect (harg7.unread x6)) (View.readAt (Elt F) arg5.view (Rect.unit (s := S16x8x256) ![8, 0, 0] S1x8x256.size inb_S16x8x256_S1x8x256_8_0_0).toLoadRect (harg5.unread x4))⟩,
      ⟨Rect.unit (s := S16x128x256) ![7, 0, 0] S1x128x256.size inb_S16x128x256_S1x128x256_7_0_0, cached (View.readAt (Elt F) arg7.view (Rect.unit (s := S16x128x256) ![7, 0, 0] S1x128x256.size inb_S16x128x256_S1x128x256_7_0_0).toLoadRect (harg7.unread x6)) (View.readAt (Elt F) arg5.view (Rect.unit (s := S16x8x256) ![7, 0, 0] S1x8x256.size inb_S16x8x256_S1x8x256_7_0_0).toLoadRect (harg5.unread x4))⟩,
      ⟨Rect.unit (s := S16x128x256) ![6, 0, 0] S1x128x256.size inb_S16x128x256_S1x128x256_6_0_0, cached (View.readAt (Elt F) arg7.view (Rect.unit (s := S16x128x256) ![6, 0, 0] S1x128x256.size inb_S16x128x256_S1x128x256_6_0_0).toLoadRect (harg7.unread x6)) (View.readAt (Elt F) arg5.view (Rect.unit (s := S16x8x256) ![6, 0, 0] S1x8x256.size inb_S16x8x256_S1x8x256_6_0_0).toLoadRect (harg5.unread x4))⟩,
      ⟨Rect.unit (s := S16x128x256) ![5, 0, 0] S1x128x256.size inb_S16x128x256_S1x128x256_5_0_0, cached (View.readAt (Elt F) arg7.view (Rect.unit (s := S16x128x256) ![5, 0, 0] S1x128x256.size inb_S16x128x256_S1x128x256_5_0_0).toLoadRect (harg7.unread x6)) (View.readAt (Elt F) arg5.view (Rect.unit (s := S16x8x256) ![5, 0, 0] S1x8x256.size inb_S16x8x256_S1x8x256_5_0_0).toLoadRect (harg5.unread x4))⟩,
      ⟨Rect.unit (s := S16x128x256) ![4, 0, 0] S1x128x256.size inb_S16x128x256_S1x128x256_4_0_0, cached (View.readAt (Elt F) arg7.view (Rect.unit (s := S16x128x256) ![4, 0, 0] S1x128x256.size inb_S16x128x256_S1x128x256_4_0_0).toLoadRect (harg7.unread x6)) (View.readAt (Elt F) arg5.view (Rect.unit (s := S16x8x256) ![4, 0, 0] S1x8x256.size inb_S16x8x256_S1x8x256_4_0_0).toLoadRect (harg5.unread x4))⟩,
      ⟨Rect.unit (s := S16x128x256) ![3, 0, 0] S1x128x256.size inb_S16x128x256_S1x128x256_3_0_0, cached (View.readAt (Elt F) arg7.view (Rect.unit (s := S16x128x256) ![3, 0, 0] S1x128x256.size inb_S16x128x256_S1x128x256_3_0_0).toLoadRect (harg7.unread x6)) (View.readAt (Elt F) arg5.view (Rect.unit (s := S16x8x256) ![3, 0, 0] S1x8x256.size inb_S16x8x256_S1x8x256_3_0_0).toLoadRect (harg5.unread x4))⟩,
      ⟨Rect.unit (s := S16x128x256) ![2, 0, 0] S1x128x256.size inb_S16x128x256_S1x128x256_2_0_0, cached (View.readAt (Elt F) arg7.view (Rect.unit (s := S16x128x256) ![2, 0, 0] S1x128x256.size inb_S16x128x256_S1x128x256_2_0_0).toLoadRect (harg7.unread x6)) (View.readAt (Elt F) arg5.view (Rect.unit (s := S16x8x256) ![2, 0, 0] S1x8x256.size inb_S16x8x256_S1x8x256_2_0_0).toLoadRect (harg5.unread x4))⟩,
      ⟨Rect.unit (s := S16x128x256) ![1, 0, 0] S1x128x256.size inb_S16x128x256_S1x128x256_1_0_0, cached (View.readAt (Elt F) arg7.view (Rect.unit (s := S16x128x256) ![1, 0, 0] S1x128x256.size inb_S16x128x256_S1x128x256_1_0_0).toLoadRect (harg7.unread x6)) (View.readAt (Elt F) arg5.view (Rect.unit (s := S16x8x256) ![1, 0, 0] S1x8x256.size inb_S16x8x256_S1x8x256_1_0_0).toLoadRect (harg5.unread x4))⟩,
      ⟨Rect.unit (s := S16x128x256) ![0, 0, 0] S1x128x256.size inb_S16x128x256_S1x128x256_0_0_0, cached (View.readAt (Elt F) arg7.view (Rect.unit (s := S16x128x256) ![0, 0, 0] S1x128x256.size inb_S16x128x256_S1x128x256_0_0_0).toLoadRect (harg7.unread x6)) (View.readAt (Elt F) arg5.view (Rect.unit (s := S16x8x256) ![0, 0, 0] S1x8x256.size inb_S16x8x256_S1x8x256_0_0_0).toLoadRect (harg5.unread x4))⟩] : List (View.Piece (Elt F) S16x128x256 .f32)) := by
  unfold out0_A_10
  rw [View.read_writes_junk_eq_canon]
  sl_kernel_rfl

theorem out10_val (y : S16x128x256.Idx) : out0_A_10 c i arg1 harg1 arg2 harg2 arg3 harg3 arg4 harg4 arg5 harg5 arg6 harg6 arg7 harg7 arg8 harg8 arg9 harg9 arg10 harg10 arg11 harg11 arg12 harg12 x0 x1 x2 x3 x4 x5 x6 x7 y = heldBlock x6 x4 y := by
  rw [out10]
  refine canon_pieces (e := .f32) (heldBlock x6 x4) _ y ?_ ?_
  · exact ⟨cached_ok 15 inb_S16x128x256_S1x128x256_15_0_0 inb_S16x8x256_S1x8x256_15_0_0 arg7 harg7 arg5 harg5 x6 x4,
    cached_ok 14 inb_S16x128x256_S1x128x256_14_0_0 inb_S16x8x256_S1x8x256_14_0_0 arg7 harg7 arg5 harg5 x6 x4,
    cached_ok 13 inb_S16x128x256_S1x128x256_13_0_0 inb_S16x8x256_S1x8x256_13_0_0 arg7 harg7 arg5 harg5 x6 x4,
    cached_ok 12 inb_S16x128x256_S1x128x256_12_0_0 inb_S16x8x256_S1x8x256_12_0_0 arg7 harg7 arg5 harg5 x6 x4,
    cached_ok 11 inb_S16x128x256_S1x128x256_11_0_0 inb_S16x8x256_S1x8x256_11_0_0 arg7 harg7 arg5 harg5 x6 x4,
    cached_ok 10 inb_S16x128x256_S1x128x256_10_0_0 inb_S16x8x256_S1x8x256_10_0_0 arg7 harg7 arg5 harg5 x6 x4,
    cached_ok 9 inb_S16x128x256_S1x128x256_9_0_0 inb_S16x8x256_S1x8x256_9_0_0 arg7 harg7 arg5 harg5 x6 x4,
    cached_ok 8 inb_S16x128x256_S1x128x256_8_0_0 inb_S16x8x256_S1x8x256_8_0_0 arg7 harg7 arg5 harg5 x6 x4,
    cached_ok 7 inb_S16x128x256_S1x128x256_7_0_0 inb_S16x8x256_S1x8x256_7_0_0 arg7 harg7 arg5 harg5 x6 x4,
    cached_ok 6 inb_S16x128x256_S1x128x256_6_0_0 inb_S16x8x256_S1x8x256_6_0_0 arg7 harg7 arg5 harg5 x6 x4,
    cached_ok 5 inb_S16x128x256_S1x128x256_5_0_0 inb_S16x8x256_S1x8x256_5_0_0 arg7 harg7 arg5 harg5 x6 x4,
    cached_ok 4 inb_S16x128x256_S1x128x256_4_0_0 inb_S16x8x256_S1x8x256_4_0_0 arg7 harg7 arg5 harg5 x6 x4,
    cached_ok 3 inb_S16x128x256_S1x128x256_3_0_0 inb_S16x8x256_S1x8x256_3_0_0 arg7 harg7 arg5 harg5 x6 x4,
    cached_ok 2 inb_S16x128x256_S1x128x256_2_0_0 inb_S16x8x256_S1x8x256_2_0_0 arg7 harg7 arg5 harg5 x6 x4,
    cached_ok 1 inb_S16x128x256_S1x128x256_1_0_0 inb_S16x8x256_S1x8x256_1_0_0 arg7 harg7 arg5 harg5 x6 x4,
    cached_ok 0 inb_S16x128x256_S1x128x256_0_0_0 inb_S16x8x256_S1x8x256_0_0_0 arg7 harg7 arg5 harg5 x6 x4, trivial⟩
  · exact View.cover_of_tiledL (s := S16x128x256) _ S1x128x256.size (by sl_kernel_rfl) y

end Cert.Kernel4Ideal.Caches

end
-- ==== Proof.Text4.lean ====
/- The kernel's text of the call `attn_step` is the idealized kernel's. -/
module

public import proofs.«01_k».proof.Kernel4
public import proofs.«01_k».proof.Kernel4Ideal

@[expose] public section

set_option maxRecDepth 16384

noncomputable section

namespace Cert.Proof.Fourth

open Idealize.ShloMosaic Idealize.ShloMosaic.TcCoe

section text

variable [Cert.Kernel4.Facts] [Cert.Kernel4Ideal.Facts] {F : FTy → Type} [FloatOps F]

/-- The two programs' bodies are one. -/
theorem rows : Cert.Kernel4.defs₀ (F := F) = Cert.Kernel4Ideal.defs₀ (F := F) := by
  unfold Cert.Kernel4.defs₀ Cert.Kernel4Ideal.defs₀
  refine congrArg Defs.onTc (funext fun l => funext fun a => ?_)
  match l, a with
  | ⟨0, _⟩, (t, s) => rfl

theorem table : Cert.Kernel4.defs (F := F) = Cert.Kernel4Ideal.defs (F := F) := by
  unfold Cert.Kernel4.defs Cert.Kernel4Ideal.defs
  exact congrArg (Pipeline.defs _) rows

end text

end Cert.Proof.Fourth

end
-- ==== Proof.Fourth.lean ====
/- The claims about the call `attn_step`: the caches. -/
module

public import proofs.«01_k».proof.Defs
public import proofs.«01_k».proof.Proof.CachesOut
public import proofs.«01_k».proof.Proof.Text4
public import proofs.«01_k».proof.Proof.Gen.Kernel4
public import Idealize.ShloMosaic.Adequacy

@[expose] public section

set_option maxRecDepth 16384

noncomputable section

namespace Cert.Kernel4Ideal.Caches

open Cert.Kernel4Ideal Cert.Kernel4Ideal.Gen Idealize.ShloMosaic Idealize.ShloMosaic.TcCoe Idealize.ShloMosaic.Tactic
open Cert.Reference4Ideal.Caches (held flat keysOf valuesOf keysOf_at valuesOf_at)

variable {F : FTy → Type} [FloatOps F]

variable (m : (ℓ : Loc nD τ sig) → Buf (Elt F) ℓ)

/-- Where the windows of the caches and of the new rows stand at a grid point. -/
theorem places : ∀ t : Fin cfg0.N,
    win0_3.index t = ![t.val, 0, 0]
    ∧ win0_4.index t = ![t.val, 0, 1]
    ∧ win0_5.index t = ![t.val, 0, 0]
    ∧ win0_6.index t = ![t.val, 0, 0]
    ∧ win0_9.index t = ![t.val, 0, 0]
    ∧ win0_10.index t = ![t.val, 0, 0] :=
  (by decide +kernel : ∀ t : Fin grid0.N, _)

theorem points (t : Fin cfg0.N) : t.val < 8 := t.isLt

/-- The sequence a sequence of a block stands for. -/
def seq (t : Fin cfg0.N) (b : Fin 16) : Fin 128 := ⟨16 * t.val + b.val, by have := points t; omega⟩

theorem keys_arr (c : Dev nD) (n r : Fin 128) (l : Fin 256) : V m c main_v0 (ix3 n r l) = flat (m ((c : Thread nD τ).loc main_arg2)) n r l := by
  unfold V flat
  after_reads_at
  all_goals pointwise

theorem values_arr (c : Dev nD) (n r : Fin 128) (l : Fin 256) : V m c main_v1 (ix3 n r l) = flat (m ((c : Thread nD τ).loc main_arg3)) n r l := by
  unfold V flat
  after_reads_at
  all_goals pointwise

theorem rows_arr (c : Dev nD) (n : Fin 128) (j : Fin 8) (l : Fin 512) : V m c main_arg1 (ix3 n j l) = m ((c : Thread nD τ).loc main_arg1) (ix3 n j l) :=
  congrFun (V_main_arg1 m c) _

theorem newKeys_block (c : Dev nD) (t : Fin cfg0.N) (b : Fin 16) (j : Fin 8) (l : Fin 256) :
    iblk m c 3 t (ix3 b j l) = m ((c : Thread nD τ).loc main_arg1) (ix3 (seq t b) j (⟨l.val, by omega⟩ : Fin 512)) := by
  obtain ⟨p3, -⟩ := places t
  refine Eq.trans ?_ (rows_arr m c _ j _)
  blk_ext [iblk, seq, p3]

theorem newValues_block (c : Dev nD) (t : Fin cfg0.N) (b : Fin 16) (j : Fin 8) (l : Fin 256) :
    iblk m c 4 t (ix3 b j l) = m ((c : Thread nD τ).loc main_arg1) (ix3 (seq t b) j (⟨256 + l.val, by omega⟩ : Fin 512)) := by
  obtain ⟨-, p4, -⟩ := places t
  refine Eq.trans ?_ (rows_arr m c _ j _)
  blk_ext [iblk, seq, p4]

theorem keys_block (c : Dev nD) (t : Fin cfg0.N) (b : Fin 16) (r : Fin 128) (l : Fin 256) :
    iblk m c 5 t (ix3 b r l) = flat (m ((c : Thread nD τ).loc main_arg2)) (seq t b) r l := by
  obtain ⟨-, -, p5, -⟩ := places t
  refine Eq.trans ?_ (keys_arr m c _ r l)
  blk_ext [iblk, seq, p5]

theorem values_block (c : Dev nD) (t : Fin cfg0.N) (b : Fin 16) (r : Fin 128) (l : Fin 256) :
    iblk m c 6 t (ix3 b r l) = flat (m ((c : Thread nD τ).loc main_arg3)) (seq t b) r l := by
  obtain ⟨-, -, -, p6, -⟩ := places t
  refine Eq.trans ?_ (values_arr m c _ r l)
  blk_ext [iblk, seq, p6]

theorem point9 (c : Dev nD) (t : Fin cfg0.N) (b : Fin 16) (r : Fin 128) (l : Fin 256) :
    heldBlock (iblk m c 5 t) (iblk m c 3 t) (ix3 b r l)
      = keysOf (m ((c : Thread nD τ).loc main_arg2)) (m ((c : Thread nD τ).loc main_arg1)) (ix3 (seq t b) r l) := by
  refine Eq.trans ?_ (keysOf_at _ _ _ r l).symm
  exact held_congr (funext fun r => funext fun l => keys_block m c t b r l) (funext fun j => funext fun l => newKeys_block m c t b j l) rfl rfl

theorem point10 (c : Dev nD) (t : Fin cfg0.N) (b : Fin 16) (r : Fin 128) (l : Fin 256) :
    heldBlock (iblk m c 6 t) (iblk m c 4 t) (ix3 b r l)
      = valuesOf (m ((c : Thread nD τ).loc main_arg3)) (m ((c : Thread nD τ).loc main_arg1)) (ix3 (seq t b) r l) := by
  refine Eq.trans ?_ (valuesOf_at _ _ _ r l).symm
  exact held_congr (funext fun r => funext fun l => values_block m c t b r l) (funext fun j => funext fun l => newValues_block m c t b j l) rfl rfl

theorem idx3 (x : S16x128x256.Idx) : x = ix3 (x 0) (x 1) (x 2) := funext fun a => by fin_cases a <;> rfl

theorem final9 (c : Dev nD) : (dats m 0 c).arrAt 9 cfg0.N = keysOf (m ((c : Thread nD τ).loc main_arg2)) (m ((c : Thread nD τ).loc main_arg1)) := by
  refine (dats m 0 c).arrAt_eq_of_covers 9 _ (by decide +kernel) fun t hf y => ?_
  refine (congrFun (Cert.Kernel4Ideal.Value.flushed9_A m c t) y).trans ?_
  refine (out9_val c (grid0.coords t) (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (ms0_7 t) (hs0_7 t) (ms0_8 t) (hs0_8 t) (ms0_9 t) (hs0_9 t) (ms0_10 t) (hs0_10 t) scM0_0 (Memref.isWhole_whole _)
    (iblk m c 0 t) (iblk m c 1 t) (iblk m c 2 t) (iblk m c 3 t) (iblk m c 4 t) (iblk m c 5 t) (iblk m c 6 t) (iblk m c 7 t)
    ((cfg0.win 9).xinj (grid0.coords t) y)).trans ?_
  obtain ⟨-, -, -, -, p9, -⟩ := places t
  rw [idx3 ((cfg0.win 9).xinj (grid0.coords t) y)]
  refine (point9 m c t _ _ _).trans (congrArg _ ?_)
  blk_ext [seq, p9]

theorem final10 (c : Dev nD) : (dats m 0 c).arrAt 10 cfg0.N = valuesOf (m ((c : Thread nD τ).loc main_arg3)) (m ((c : Thread nD τ).loc main_arg1)) := by
  refine (dats m 0 c).arrAt_eq_of_covers 10 _ (by decide +kernel) fun t hf y => ?_
  refine (congrFun (Cert.Kernel4Ideal.Value.flushed10_A m c t) y).trans ?_
  refine (out10_val c (grid0.coords t) (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (ms0_7 t) (hs0_7 t) (ms0_8 t) (hs0_8 t) (ms0_9 t) (hs0_9 t) (ms0_10 t) (hs0_10 t) scM0_0 (Memref.isWhole_whole _)
    (iblk m c 0 t) (iblk m c 1 t) (iblk m c 2 t) (iblk m c 3 t) (iblk m c 4 t) (iblk m c 5 t) (iblk m c 6 t) (iblk m c 7 t)
    ((cfg0.win 10).xinj (grid0.coords t) y)).trans ?_
  obtain ⟨-, -, -, -, -, p10⟩ := places t
  rw [idx3 ((cfg0.win 10).xinj (grid0.coords t) y)]
  refine (point10 m c t _ _ _).trans (congrArg _ ?_)
  blk_ext [seq, p10]

end Cert.Kernel4Ideal.Caches

namespace Cert.Proof.Fourth

open Idealize.ShloMosaic Idealize.ShloMosaic.TcCoe Idealize.SL.Sem

theorem frame_pi4 : Cert.quiescent_Kernel4Ideal := fun m ρ _ => Cert.Kernel4Ideal.Gen.frame m ρ

theorem frame_p4 : Cert.quiescent_Kernel4 := by
  intro m ρ _
  rw [table]
  exact Cert.Kernel4Ideal.Gen.frame (F := Bits) m ρ

theorem frame_ri4 : Cert.quiescent_Reference4Ideal := by
  intro m g _
  exact (θ_run (Cert.Reference4Ideal.defs (F := Ideal)) _ _).mono (fun r h => ⟨fun c => (h c).2.2, Idealize.ShloMosaic.sem_eq_zero_of_no_sems (by decide) r.2⟩)
    (Cert.Reference4Ideal.Value.run (F := Ideal) m g)

/-- The call's caches are what its reference computes of the same arguments. -/
theorem algebraic : Cert.algebraic_Kernel4Ideal_Reference4Ideal := by
  intro m g m' g' _ hagree
  refine ⟨_, _, (θ_run Cert.Kernel4Ideal.defs _ _).mono (fun r h c => (h c).2) (Cert.Kernel4Ideal.Value.run_blocks (F := Ideal) m g), ?_⟩
  refine (θ_run Cert.Reference4Ideal.defs _ _).mono (fun r h c => ⟨(h c).1.trans ?_, (h c).2.1.trans ?_, (h c).2.2⟩) (Cert.Reference4Ideal.Value.run (F := Ideal) m' g')
  · obtain ⟨a0, a1, a2, a3, a4, a5⟩ := hagree c
    refine Eq.trans ?_ (Cert.Kernel4Ideal.Caches.final9 m c).symm
    rw [a1, a2]; rfl
  · obtain ⟨a0, a1, a2, a3, a4, a5⟩ := hagree c
    refine Eq.trans ?_ (Cert.Kernel4Ideal.Caches.final10 m c).symm
    rw [a1, a3]; rfl

end Cert.Proof.Fourth

end
-- ==== Proof.Kept.lean ====
/- The rows of the convolution's inputs kept by the call `ssd_step`: what its body stores, and the reference's. -/
module

public import proofs.«01_k».proof.Proof.Gen.Kernel5Ideal.Value
public import proofs.«01_k».proof.Proof.Gen.Reference5Ideal.Run
public import Idealize.ShloMosaic.Lib.StableHlo.ReadAt
public import Idealize.ShloMosaic.Lib.Pointwise
public import Idealize.ShloMosaic.Lib.Pipeline.ValueKit
public import Idealize.ShloMosaic.Lib.WholeRead
public import Idealize.ShloMosaic.Lib.Tactic.CleanTypes
public import Idealize.ShloMosaic.Lib.Tactic.IndexArith

@[expose] public section

set_option maxRecDepth 16384

noncomputable section

namespace Cert.Reference5Ideal.Kept

open Cert.Reference5Ideal Cert.Reference5Ideal.Gen Idealize.ShloMosaic Idealize.ShloMosaic.Tactic

variable {F : FTy → Type} [FloatOps F]

/-- The reference's last three of the rows kept before and the new ones. -/
def lastOf (s : FVec F S128x3x3072 .f32) (x : FVec F S128x8x3072 .f32) : FVec F S128x3x3072 .f32 :=
  extractStridedSlice S128x3x3072 ![0, 8, 0] (concatenate S128x11x3072 1 [⟨S128x3x3072, s⟩, ⟨S128x8x3072, x⟩] concatenates_S128x3x3072_S128x8x3072_S128x11x3072_d1) slices_S128x11x3072_S128x3x3072_0_8_0

/-- Their columns of the inputs. -/
def xOf (s : FVec F S128x3x3072 .f32) (x : FVec F S128x8x3072 .f32) : FVec F S128x3x2048 .f32 :=
  extractStridedSlice S128x3x2048 ![0, 0, 0] (lastOf s x) slices_S128x3x3072_S128x3x2048_0_0_0

theorem xOf_at (s : FVec F S128x3x3072 .f32) (x : FVec F S128x8x3072 .f32) (n : Fin 128) (k : Fin 3) (l : Fin 2048) :
    xOf s x (ix3 n k l) = x (ix3 n (⟨5 + k.val, by omega⟩ : Fin 8) (⟨0 + l.val, by omega⟩ : Fin 3072)) := by
  have h : ¬ 8 + k.val < 3 := by omega
  pointwise [xOf, lastOf]
  rw [dif_neg h]
  exact congrArg x (congrArg₂ (ix3 n) (Fin.ext (by show 8 + k.val - 3 = 5 + k.val; omega)) rfl)

/-- Their columns of the `B`. -/
def bOf (s : FVec F S128x3x3072 .f32) (x : FVec F S128x8x3072 .f32) : FVec F S128x3x512 .f32 :=
  extractStridedSlice S128x3x512 ![0, 0, 2048] (lastOf s x) slices_S128x3x3072_S128x3x512_0_0_2048

theorem bOf_at (s : FVec F S128x3x3072 .f32) (x : FVec F S128x8x3072 .f32) (n : Fin 128) (k : Fin 3) (l : Fin 512) :
    bOf s x (ix3 n k l) = x (ix3 n (⟨5 + k.val, by omega⟩ : Fin 8) (⟨2048 + l.val, by omega⟩ : Fin 3072)) := by
  have h : ¬ 8 + k.val < 3 := by omega
  pointwise [bOf, lastOf]
  rw [dif_neg h]
  exact congrArg x (congrArg₂ (ix3 n) (Fin.ext (by show 8 + k.val - 3 = 5 + k.val; omega)) rfl)

/-- Their columns of the `C`. -/
def cOf (s : FVec F S128x3x3072 .f32) (x : FVec F S128x8x3072 .f32) : FVec F S128x3x512 .f32 :=
  extractStridedSlice S128x3x512 ![0, 0, 2560] (lastOf s x) slices_S128x3x3072_S128x3x512_0_0_2560

theorem cOf_at (s : FVec F S128x3x3072 .f32) (x : FVec F S128x8x3072 .f32) (n : Fin 128) (k : Fin 3) (l : Fin 512) :
    cOf s x (ix3 n k l) = x (ix3 n (⟨5 + k.val, by omega⟩ : Fin 8) (⟨2560 + l.val, by omega⟩ : Fin 3072)) := by
  have h : ¬ 8 + k.val < 3 := by omega
  pointwise [cOf, lastOf]
  rw [dif_neg h]
  exact congrArg x (congrArg₂ (ix3 n) (Fin.ext (by show 8 + k.val - 3 = 5 + k.val; omega)) rfl)

end Cert.Reference5Ideal.Kept

namespace Cert.Kernel5Ideal.Kept

open Cert.Kernel5Ideal Cert.Kernel5Ideal.Gen Idealize.ShloMosaic Idealize.ShloMosaic.Tactic

variable {F : FTy → Type} [FloatOps F]

theorem zero3 : (![0, 0, 0] : Fin 3 → ℕ) = fun _ => 0 := funext fun a => by fin_cases a <;> rfl

variable (c : Dev nD) (i : grid0.Coords) (arg1 : Memref sig .tc .vmem S8x8x2048 .f32) (harg1 : arg1.IsWhole) (arg2 : Memref sig .tc .vmem S8x8x2048 .f32) (harg2 : arg2.IsWhole) (arg3 : Memref sig .tc .vmem S8x8x512 .f32) (harg3 : arg3.IsWhole) (arg4 : Memref sig .tc .vmem S8x8x512 .f32) (harg4 : arg4.IsWhole) (arg5 : Memref sig .tc .vmem S8x8x128 .f32) (harg5 : arg5.IsWhole) (arg6 : Memref sig .tc .vmem S8x3x2048 .f32) (harg6 : arg6.IsWhole) (arg7 : Memref sig .tc .vmem S8x3x512 .f32) (harg7 : arg7.IsWhole) (arg8 : Memref sig .tc .vmem S8x3x512 .f32) (harg8 : arg8.IsWhole) (arg9 : Memref sig .tc .vmem S8x2048x128 .f32) (harg9 : arg9.IsWhole) (arg10 : Memref sig .tc .vmem S4x2048 .f32) (harg10 : arg10.IsWhole) (arg11 : Memref sig .tc .vmem S4x512 .f32) (harg11 : arg11.IsWhole) (arg12 : Memref sig .tc .vmem S4x512 .f32) (harg12 : arg12.IsWhole) (arg13 : Memref sig .tc .vmem S1x2048 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x128 .f32) (harg16 : arg16.IsWhole) (arg17 : Memref sig .tc .vmem S1x128 .f32) (harg17 : arg17.IsWhole) (arg18 : Memref sig .tc .vmem S1x2048 .f32) (harg18 : arg18.IsWhole) (arg19 : Memref sig .tc .vmem S1x2048 .f32) (harg19 : arg19.IsWhole) (arg20 : Memref sig .tc .vmem S8x8x2048 .f32) (harg20 : arg20.IsWhole) (arg21 : Memref sig .tc .vmem S8x3x2048 .f32) (harg21 : arg21.IsWhole) (arg22 : Memref sig .tc .vmem S8x3x512 .f32) (harg22 : arg22.IsWhole) (arg23 : Memref sig .tc .vmem S8x3x512 .f32) (harg23 : arg23.IsWhole) (arg24 : Memref sig .tc .vmem S8x2048x128 .f32) (harg24 : arg24.IsWhole) (arg25 : Memref sig .tc .vmem S8x16x2048 .f32) (harg25 : arg25.IsWhole) (arg26 : Memref sig .tc .vmem S8x16x512 .f32) (harg26 : arg26.IsWhole) (arg27 : Memref sig .tc .vmem S8x16x512 .f32) (harg27 : arg27.IsWhole) (arg28 : Memref sig .tc .vmem S128x2048 .f32) (harg28 : arg28.IsWhole) (arg29 : Memref sig .tc .vmem S128x512 .f32) (harg29 : arg29.IsWhole) (arg30 : Memref sig .tc .vmem S128x2048 .f32) (harg30 : arg30.IsWhole) (arg31 : Memref sig .tc .vmem S2048x128 .f32) (harg31 : arg31.IsWhole) (arg32 : Memref sig .tc .vmem S2048x128 .bf16) (harg32 : arg32.IsWhole)
  (x0 : Vec F S8x8x2048 .f32) (x1 : Vec F S8x8x2048 .f32) (x2 : Vec F S8x8x512 .f32) (x3 : Vec F S8x8x512 .f32) (x4 : Vec F S8x8x128 .f32) (x5 : Vec F S8x3x2048 .f32) (x6 : Vec F S8x3x512 .f32) (x7 : Vec F S8x3x512 .f32) (x8 : Vec F S8x2048x128 .f32) (x9 : Vec F S4x2048 .f32) (x10 : Vec F S4x512 .f32) (x11 : Vec F S4x512 .f32) (x12 : Vec F S1x2048 .f32) (x13 : Vec F S1x512 .f32) (x14 : Vec F S1x512 .f32) (x15 : Vec F S1x128 .f32) (x16 : Vec F S1x128 .f32) (x17 : Vec F S1x2048 .f32) (x18 : Vec F S1x2048 .f32)

theorem out20 : out0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17 x18 = View.canon
     ([⟨Rect.unit (s := S8x3x2048) ![0, 0, 0] S8x3x2048.size inb_S8x3x2048_S8x3x2048_0_0_0, arg25.view.readCov
        ([⟨Rect.unit (s := S8x16x2048) ![0, 8, 0] S8x8x2048.size inb_S8x16x2048_S8x8x2048_0_8_0, shapeCast S8x8x2048 (View.readAt (Elt F) arg2.view (Rect.unit (s := S8x8x2048) ![0, 0, 0] S8x8x2048.size inb_S8x8x2048_S8x8x2048_0_0_0).toLoadRect (harg2.unread x1)) shapeCasts_S8x8x2048_S8x8x2048⟩,
          ⟨Rect.unit (s := S8x16x2048) ![0, 5, 0] S8x3x2048.size inb_S8x16x2048_S8x3x2048_0_5_0, shapeCast S8x3x2048 (View.readAt (Elt F) arg6.view (Rect.unit (s := S8x3x2048) ![0, 0, 0] S8x3x2048.size inb_S8x3x2048_S8x3x2048_0_0_0).toLoadRect (harg6.unread x5)) shapeCasts_S8x3x2048_S8x3x2048⟩] : List (View.Piece (Elt F) S8x16x2048 .f32))
        (Rect.unit (s := S8x16x2048) ![0, 13, 0] S8x3x2048.size inb_S8x16x2048_S8x3x2048_0_13_0).toLoadRect⟩] : List (View.Piece (Elt F) S8x3x2048 .f32)) := by
  unfold out0_A_20
  rw [View.read_writes_junk_eq_canon]
  sl_kernel_rfl

theorem out20_val (b : Fin 8) (k : Fin 3) (l : Fin 2048) : out0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17 x18 (ix3 b k l) = x1 (ix3 b (⟨5 + k.val, by omega⟩ : Fin 8) l) := by
  rw [out20, View.canon_unit_zero (S := S8x3x2048) zero3, View.readCov_eq_canon']
  refine (congrArg _ (show (Rect.unit (s := S8x16x2048) ![0, 13, 0] S8x3x2048.size inb_S8x16x2048_S8x3x2048_0_13_0).toLoadRect.idx (ix3 b k l)
    = (Rect.unit (s := S8x16x2048) ![0, 8, 0] S8x8x2048.size inb_S8x16x2048_S8x8x2048_0_8_0).emb (ix3 b (⟨5 + k.val, by omega⟩ : Fin 8) l) from ?_)).trans
    ((View.canon_cons_emb _ _ _ _).trans ?_)
  · funext i
    fin_cases i
    · rfl
    · exact Fin.ext (by show 13 + 1 * k.val = 8 + 1 * (5 + k.val); omega)
    · rfl
  · refine (congrFun (shapeCast_self _ _) _).trans ?_
    refine (harg2.readAt_unread (Val := Elt F) x1 _ _).trans (congrArg x1 (funext fun i => Fin.ext ?_))
    fin_cases i
    · show 0 + 1 * b.val = b.val; omega
    · show 0 + 1 * (5 + k.val) = 5 + k.val; omega
    · show 0 + 1 * l.val = l.val; omega

theorem out21 : out0_A_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17 x18 = View.canon
     ([⟨Rect.unit (s := S8x3x512) ![0, 0, 0] S8x3x512.size inb_S8x3x512_S8x3x512_0_0_0, arg26.view.readCov
        ([⟨Rect.unit (s := S8x16x512) ![0, 8, 0] S8x8x512.size inb_S8x16x512_S8x8x512_0_8_0, shapeCast S8x8x512 (View.readAt (Elt F) arg3.view (Rect.unit (s := S8x8x512) ![0, 0, 0] S8x8x512.size inb_S8x8x512_S8x8x512_0_0_0).toLoadRect (harg3.unread x2)) shapeCasts_S8x8x512_S8x8x512⟩,
          ⟨Rect.unit (s := S8x16x512) ![0, 5, 0] S8x3x512.size inb_S8x16x512_S8x3x512_0_5_0, shapeCast S8x3x512 (View.readAt (Elt F) arg7.view (Rect.unit (s := S8x3x512) ![0, 0, 0] S8x3x512.size inb_S8x3x512_S8x3x512_0_0_0).toLoadRect (harg7.unread x6)) shapeCasts_S8x3x512_S8x3x512⟩] : List (View.Piece (Elt F) S8x16x512 .f32))
        (Rect.unit (s := S8x16x512) ![0, 13, 0] S8x3x512.size inb_S8x16x512_S8x3x512_0_13_0).toLoadRect⟩] : List (View.Piece (Elt F) S8x3x512 .f32)) := by
  unfold out0_A_21
  rw [View.read_writes_junk_eq_canon]
  sl_kernel_rfl

theorem out21_val (b : Fin 8) (k : Fin 3) (l : Fin 512) : out0_A_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17 x18 (ix3 b k l) = x2 (ix3 b (⟨5 + k.val, by omega⟩ : Fin 8) l) := by
  rw [out21, View.canon_unit_zero (S := S8x3x512) zero3, View.readCov_eq_canon']
  refine (congrArg _ (show (Rect.unit (s := S8x16x512) ![0, 13, 0] S8x3x512.size inb_S8x16x512_S8x3x512_0_13_0).toLoadRect.idx (ix3 b k l)
    = (Rect.unit (s := S8x16x512) ![0, 8, 0] S8x8x512.size inb_S8x16x512_S8x8x512_0_8_0).emb (ix3 b (⟨5 + k.val, by omega⟩ : Fin 8) l) from ?_)).trans
    ((View.canon_cons_emb _ _ _ _).trans ?_)
  · funext i
    fin_cases i
    · rfl
    · exact Fin.ext (by show 13 + 1 * k.val = 8 + 1 * (5 + k.val); omega)
    · rfl
  · refine (congrFun (shapeCast_self _ _) _).trans ?_
    refine (harg3.readAt_unread (Val := Elt F) x2 _ _).trans (congrArg x2 (funext fun i => Fin.ext ?_))
    fin_cases i
    · show 0 + 1 * b.val = b.val; omega
    · show 0 + 1 * (5 + k.val) = 5 + k.val; omega
    · show 0 + 1 * l.val = l.val; omega

theorem out22 : out0_A_22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17 x18 = View.canon
     ([⟨Rect.unit (s := S8x3x512) ![0, 0, 0] S8x3x512.size inb_S8x3x512_S8x3x512_0_0_0, arg27.view.readCov
        ([⟨Rect.unit (s := S8x16x512) ![0, 8, 0] S8x8x512.size inb_S8x16x512_S8x8x512_0_8_0, shapeCast S8x8x512 (View.readAt (Elt F) arg4.view (Rect.unit (s := S8x8x512) ![0, 0, 0] S8x8x512.size inb_S8x8x512_S8x8x512_0_0_0).toLoadRect (harg4.unread x3)) shapeCasts_S8x8x512_S8x8x512⟩,
          ⟨Rect.unit (s := S8x16x512) ![0, 5, 0] S8x3x512.size inb_S8x16x512_S8x3x512_0_5_0, shapeCast S8x3x512 (View.readAt (Elt F) arg8.view (Rect.unit (s := S8x3x512) ![0, 0, 0] S8x3x512.size inb_S8x3x512_S8x3x512_0_0_0).toLoadRect (harg8.unread x7)) shapeCasts_S8x3x512_S8x3x512⟩] : List (View.Piece (Elt F) S8x16x512 .f32))
        (Rect.unit (s := S8x16x512) ![0, 13, 0] S8x3x512.size inb_S8x16x512_S8x3x512_0_13_0).toLoadRect⟩] : List (View.Piece (Elt F) S8x3x512 .f32)) := by
  unfold out0_A_22
  rw [View.read_writes_junk_eq_canon]
  sl_kernel_rfl

theorem out22_val (b : Fin 8) (k : Fin 3) (l : Fin 512) : out0_A_22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17 x18 (ix3 b k l) = x3 (ix3 b (⟨5 + k.val, by omega⟩ : Fin 8) l) := by
  rw [out22, View.canon_unit_zero (S := S8x3x512) zero3, View.readCov_eq_canon']
  refine (congrArg _ (show (Rect.unit (s := S8x16x512) ![0, 13, 0] S8x3x512.size inb_S8x16x512_S8x3x512_0_13_0).toLoadRect.idx (ix3 b k l)
    = (Rect.unit (s := S8x16x512) ![0, 8, 0] S8x8x512.size inb_S8x16x512_S8x8x512_0_8_0).emb (ix3 b (⟨5 + k.val, by omega⟩ : Fin 8) l) from ?_)).trans
    ((View.canon_cons_emb _ _ _ _).trans ?_)
  · funext i
    fin_cases i
    · rfl
    · exact Fin.ext (by show 13 + 1 * k.val = 8 + 1 * (5 + k.val); omega)
    · rfl
  · refine (congrFun (shapeCast_self _ _) _).trans ?_
    refine (harg4.readAt_unread (Val := Elt F) x3 _ _).trans (congrArg x3 (funext fun i => Fin.ext ?_))
    fin_cases i
    · show 0 + 1 * b.val = b.val; omega
    · show 0 + 1 * (5 + k.val) = 5 + k.val; omega
    · show 0 + 1 * l.val = l.val; omega

end Cert.Kernel5Ideal.Kept

end
-- ==== Proof.Text5.lean ====
/- The kernel's text of the call `ssd_step` is the idealized kernel's. -/
module

public import proofs.«01_k».proof.Kernel5
public import proofs.«01_k».proof.Kernel5Ideal
public import Idealize.ShloMosaic.Adequacy
public import Idealize.ShloMosaic.Lib.Tactic

@[expose] public section

set_option maxRecDepth 16384

noncomputable section

namespace Cert.Proof.Fifth

open Idealize.ShloMosaic Idealize.ShloMosaic.TcCoe Idealize.ShloMosaic.Tactic

variable [Cert.Kernel5.Facts] [Cert.Kernel5Ideal.Facts] {F : FTy → Type} [FloatOps F]

/-- The two programs are one table. -/
theorem table : Cert.Kernel5.defs (F := F) = Cert.Kernel5Ideal.defs (F := F) := by
  sl_kernel_rfl

/-- And one host program. -/
theorem host : Cert.Kernel5.main (F := F) = Cert.Kernel5Ideal.main (F := F) := by
  sl_kernel_rfl

end Cert.Proof.Fifth

end
-- ==== Proof.Fifth.lean ====
/- The claims about the call `ssd_step`: the rows of the convolution's inputs it keeps. -/
module

public import proofs.«01_k».proof.Defs
public import proofs.«01_k».proof.Proof.Kept
public import proofs.«01_k».proof.Proof.Text5
public import proofs.«01_k».proof.Proof.Gen.Kernel5
public import Idealize.ShloMosaic.Adequacy

@[expose] public section

set_option maxRecDepth 16384

noncomputable section

namespace Cert.Kernel5Ideal.Kept

open Cert.Kernel5Ideal Cert.Kernel5Ideal.Gen Idealize.ShloMosaic Idealize.ShloMosaic.TcCoe Idealize.ShloMosaic.Tactic
open Cert.Reference5Ideal.Kept (xOf bOf cOf xOf_at bOf_at cOf_at)

variable {F : FTy → Type} [FloatOps F]

variable (m : (ℓ : Loc nD τ sig) → Buf (Elt F) ℓ)

/-- Where the windows of the new rows and of the kept ones stand at a grid point. -/
theorem places : ∀ t : Fin cfg0.N,
    win0_1.index t = ![t.val, 0, 0]
    ∧ win0_2.index t = ![t.val, 0, 4]
    ∧ win0_3.index t = ![t.val, 0, 5]
    ∧ win0_20.index t = ![t.val, 0, 0]
    ∧ win0_21.index t = ![t.val, 0, 0]
    ∧ win0_22.index t = ![t.val, 0, 0] :=
  (by decide +kernel : ∀ t : Fin grid0.N, _)

theorem points (t : Fin cfg0.N) : t.val < 16 := t.isLt

/-- The sequence a sequence of a block stands for. -/
def seq (t : Fin cfg0.N) (b : Fin 8) : Fin 128 := ⟨8 * t.val + b.val, by have := points t; omega⟩

theorem rows_arr (c : Dev nD) (n : Fin 128) (j : Fin 8) (l : Fin 3072) : V m c main_arg1 (ix3 n j l) = m ((c : Thread nD τ).loc main_arg1) (ix3 n j l) :=
  congrFun (V_main_arg1 m c) _

theorem x_block (c : Dev nD) (t : Fin cfg0.N) (b : Fin 8) (j : Fin 8) (l : Fin 2048) :
    X0_1 m c t (ix3 b j l) = m ((c : Thread nD τ).loc main_arg1) (ix3 (seq t b) j (⟨0 + l.val, by omega⟩ : Fin 3072)) := by
  obtain ⟨p, -⟩ := places t
  let y : ((cfg0.win 1).xblock (grid0.coords t)).Idx := fun a =>
    ⟨((ix3 b j l : S8x8x2048.Idx) a).val, lt_of_lt_of_eq ((ix3 b j l : S8x8x2048.Idx) a).isLt (xsize0_1 t a).symm⟩
  unfold X0_1
  refine ((cfg0.win 1).fill_xinj (grid0.coords t) dflt0_1 (iblk m c 1 t) y).trans ?_
  refine Eq.trans ?_ (rows_arr m c _ j _)
  blk_ext [iblk, seq, p, y]

theorem idx20 (x : S8x3x2048.Idx) : x = ix3 (x 0) (x 1) (x 2) := funext fun a => by fin_cases a <;> rfl

theorem final20 (c : Dev nD) : (dats m 0 c).arrAt 20 cfg0.N = xOf (m ((c : Thread nD τ).loc main_arg3)) (m ((c : Thread nD τ).loc main_arg1)) := by
  refine (dats m 0 c).arrAt_eq_of_covers 20 _ (by decide +kernel) fun t hf y => ?_
  refine (congrFun (Cert.Kernel5Ideal.Value.flushed20_A m c t) y).trans ?_
  refine (congrArg _ (idx20 ((cfg0.win 20).xinj (grid0.coords t) y))).trans ?_
  refine (out20_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (X0_1 m c t) (iblk m c 2 t) (iblk m c 3 t) (iblk m c 4 t) (X0_5 m c t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) _ _ _).trans ?_
  refine ((x_block m c t _ _ _).trans (xOf_at (m ((c : Thread nD τ).loc main_arg3)) (m ((c : Thread nD τ).loc main_arg1)) _ _ _).symm).trans (congrArg _ ?_)
  obtain ⟨-, -, -, p, -⟩ := places t
  blk_ext [seq, p]

theorem b_block (c : Dev nD) (t : Fin cfg0.N) (b : Fin 8) (j : Fin 8) (l : Fin 512) :
    iblk m c 2 t (ix3 b j l) = m ((c : Thread nD τ).loc main_arg1) (ix3 (seq t b) j (⟨2048 + l.val, by omega⟩ : Fin 3072)) := by
  obtain ⟨-, p, -⟩ := places t
  refine Eq.trans ?_ (rows_arr m c _ j _)
  blk_ext [iblk, seq, p]

theorem idx21 (x : S8x3x512.Idx) : x = ix3 (x 0) (x 1) (x 2) := funext fun a => by fin_cases a <;> rfl

theorem final21 (c : Dev nD) : (dats m 0 c).arrAt 21 cfg0.N = bOf (m ((c : Thread nD τ).loc main_arg3)) (m ((c : Thread nD τ).loc main_arg1)) := by
  refine (dats m 0 c).arrAt_eq_of_covers 21 _ (by decide +kernel) fun t hf y => ?_
  refine (congrFun (Cert.Kernel5Ideal.Value.flushed21_A m c t) y).trans ?_
  refine (congrArg _ (idx21 ((cfg0.win 21).xinj (grid0.coords t) y))).trans ?_
  refine (out21_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (X0_1 m c t) (iblk m c 2 t) (iblk m c 3 t) (iblk m c 4 t) (X0_5 m c t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) _ _ _).trans ?_
  refine ((b_block m c t _ _ _).trans (bOf_at (m ((c : Thread nD τ).loc main_arg3)) (m ((c : Thread nD τ).loc main_arg1)) _ _ _).symm).trans (congrArg _ ?_)
  obtain ⟨-, -, -, -, p, -⟩ := places t
  blk_ext [seq, p]

theorem c_block (c : Dev nD) (t : Fin cfg0.N) (b : Fin 8) (j : Fin 8) (l : Fin 512) :
    iblk m c 3 t (ix3 b j l) = m ((c : Thread nD τ).loc main_arg1) (ix3 (seq t b) j (⟨2560 + l.val, by omega⟩ : Fin 3072)) := by
  obtain ⟨-, -, p, -⟩ := places t
  refine Eq.trans ?_ (rows_arr m c _ j _)
  blk_ext [iblk, seq, p]

theorem idx22 (x : S8x3x512.Idx) : x = ix3 (x 0) (x 1) (x 2) := funext fun a => by fin_cases a <;> rfl

theorem final22 (c : Dev nD) : (dats m 0 c).arrAt 22 cfg0.N = cOf (m ((c : Thread nD τ).loc main_arg3)) (m ((c : Thread nD τ).loc main_arg1)) := by
  refine (dats m 0 c).arrAt_eq_of_covers 22 _ (by decide +kernel) fun t hf y => ?_
  refine (congrFun (Cert.Kernel5Ideal.Value.flushed22_A m c t) y).trans ?_
  refine (congrArg _ (idx22 ((cfg0.win 22).xinj (grid0.coords t) y))).trans ?_
  refine (out22_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (X0_1 m c t) (iblk m c 2 t) (iblk m c 3 t) (iblk m c 4 t) (X0_5 m c t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) _ _ _).trans ?_
  refine ((c_block m c t _ _ _).trans (cOf_at (m ((c : Thread nD τ).loc main_arg3)) (m ((c : Thread nD τ).loc main_arg1)) _ _ _).symm).trans (congrArg _ ?_)
  obtain ⟨-, -, -, -, -, p⟩ := places t
  blk_ext [seq, p]

end Cert.Kernel5Ideal.Kept

namespace Cert.Proof.Fifth

open Idealize.ShloMosaic Idealize.ShloMosaic.TcCoe Idealize.SL.Sem

theorem frame_pi5 : Cert.quiescent_Kernel5Ideal := fun m ρ _ => Cert.Kernel5Ideal.Gen.frame m ρ

set_option maxHeartbeats 2000000 in
theorem frame_p5 : Cert.quiescent_Kernel5 := by
  intro m ρ _
  rw [table, host]
  exact Cert.Kernel5Ideal.Gen.frame (F := Bits) m ρ

theorem frame_ri5 : Cert.quiescent_Reference5Ideal := by
  intro m g _
  exact (θ_run (Cert.Reference5Ideal.defs (F := Ideal)) _ _).mono (fun r h => ⟨fun c => (h c).2.2.2, Idealize.ShloMosaic.sem_eq_zero_of_no_sems (by decide) r.2⟩)
    (Cert.Reference5Ideal.Value.run (F := Ideal) m g)

/-- The rows the call keeps are what its reference keeps of the same arguments. -/
theorem algebraic : Cert.algebraic_Kernel5Ideal_Reference5Ideal := by
  intro m g m' g' _ hagree
  refine ⟨_, _, _, (θ_run Cert.Kernel5Ideal.defs _ _).mono (fun r h c => ⟨(h c).2.1, (h c).2.2.1, (h c).2.2.2.1, (h c).2.2.2.2.2⟩)
    (Cert.Kernel5Ideal.Value.run_blocks (F := Ideal) m g), ?_⟩
  refine (θ_run Cert.Reference5Ideal.defs _ _).mono (fun r h c => ⟨(h c).1.trans ?_, (h c).2.1.trans ?_, (h c).2.2.1.trans ?_, (h c).2.2.2⟩)
    (Cert.Reference5Ideal.Value.run (F := Ideal) m' g')
  · obtain ⟨a0, a1, a2, a3, -⟩ := hagree c
    refine Eq.trans ?_ (Cert.Kernel5Ideal.Kept.final20 m c).symm
    rw [a1, a3]; rfl
  · obtain ⟨a0, a1, a2, a3, -⟩ := hagree c
    refine Eq.trans ?_ (Cert.Kernel5Ideal.Kept.final21 m c).symm
    rw [a1, a3]; rfl
  · obtain ⟨a0, a1, a2, a3, -⟩ := hagree c
    refine Eq.trans ?_ (Cert.Kernel5Ideal.Kept.final22 m c).symm
    rw [a1, a3]; rfl

end Cert.Proof.Fifth

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Pre_finite_scores
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Skeleton
public import proofs.«01_k».proof.Proof.Gen.Reference2Ideal
public import proofs.«01_k».proof.Proof.Gen.Reference2Ideal.Run
public import proofs.«01_k».proof.Proof.Gen.Kernel3Ideal.Value
public import proofs.«01_k».proof.Proof.Gen.Kernel3.Frame
public import proofs.«01_k».proof.Proof.Gen.Reference3Ideal.Run
public import proofs.«01_k».proof.Proof.Gen.Kernel4
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5Ideal.Value
public import proofs.«01_k».proof.Proof.Gen.Reference5Ideal.Run
public import proofs.«01_k».proof.Proof.Claims
public import proofs.«01_k».proof.Proof.Twin
public import proofs.«01_k».proof.Proof.Second
public import proofs.«01_k».proof.Proof.Third
public import proofs.«01_k».proof.Proof.Fourth
public import proofs.«01_k».proof.Proof.Fifth
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts, Cert.Kernel5.Gen.facts,
    Cert.Kernel5Ideal.Gen.facts, Cert.Reference5Ideal.Gen.facts, Cert.Pre_finite_scores.Gen.facts,
    Claims.frame_p, Claims.frame_pi, Claims.frame_pi_finite, Claims.frame_ri, Claims.frame_ri_finite,
    Twin.frame_p2, Twin.frame_pi2, Twin.frame_ri2, Third.frame_p3, Third.frame_pi3, Third.frame_ri3,
    Fourth.frame_p4, Fourth.frame_pi4, Fourth.frame_ri4, Fifth.frame_p5, Fifth.frame_pi5, Fifth.frame_ri5,
    Claims.preserves, Claims.algebraic, trivial, Second.algebraic, trivial, Third.algebraic,
    trivial, Fourth.algebraic, trivial, Fifth.algebraic⟩

end Cert.Proof

end
